-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)) (v5 : (c : Dev Cert.KernelIdeal.nD) → Buf (Elt Ideal) ((c.tc : Thread Cert.KernelIdeal.nD Cert.KernelIdeal.τ).loc Cert.KernelIdeal.main_v20_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_v20_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v43) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S2048x1x256 : Shape := ⟨3, ![2048, 1, 256]⟩
abbrev S_ : Shape := ⟨0, ![]⟩

class Facts : Prop where
  bcast_S_S2048x1x256 : S_.BroadcastsInDim S2048x1x256 (![] : Fin 0 → Fin S2048x1x256.rank)

variable [Facts]

def fn_part1 {F : FTy → Type} [FloatOps F] (main_arg6 : FVec F S2048x1x256 .f32) (main_v2 : IVec S2048x1x256 1) (main_v5 : IVec S2048x1x256 1) (main_v8 : IVec S2048x1x256 1) (main_v11 : IVec S2048x1x256 1) (main_v14 : IVec S2048x1x256 1) (main_v17 : IVec S2048x1x256 1) : IVec S2048x1x256 1 × IVec S2048x1x256 1 × IVec S2048x1x256 1 × IVec S2048x1x256 1 × IVec S2048x1x256 1 × IVec S2048x1x256 1 × IVec S2048x1x256 1 :=
  let main_v18 : FVec F S2048x1x256 .f32 := Host.absf main_arg6
  let main_cst_5 : FVec F S_ .f32 := constant S_ .f32 0x7F800000#32
  let main_v19 : FVec F S2048x1x256 .f32 := broadcastInDim S2048x1x256 ![] bcast_S_S2048x1x256 main_cst_5
  let main_v20 : IVec S2048x1x256 1 := cmpf .olt main_v18 main_v19
  (main_v2, main_v5, main_v8, main_v11, main_v14, main_v17, main_v20)

def fn {F : FTy → Type} [FloatOps F] (main_arg0 : FVec F S2048x1x256 .f32) (main_arg1 : FVec F S2048x1x256 .f32) (main_arg2 : FVec F S2048x1x256 .f32) (main_arg3 : FVec F S2048x1x256 .f32) (main_arg4 : FVec F S2048x1x256 .f32) (main_arg5 : FVec F S2048x1x256 .f32) (main_arg6 : FVec F S2048x1x256 .f32) : IVec S2048x1x256 1 × IVec S2048x1x256 1 × IVec S2048x1x256 1 × IVec S2048x1x256 1 × IVec S2048x1x256 1 × IVec S2048x1x256 1 × IVec S2048x1x256 1 :=
  let main_v0 : FVec F S2048x1x256 .f32 := Host.absf main_arg0
  let main_cst : FVec F S_ .f32 := constant S_ .f32 0x7F800000#32
  let main_v1 : FVec F S2048x1x256 .f32 := broadcastInDim S2048x1x256 ![] bcast_S_S2048x1x256 main_cst
  let main_v2 : IVec S2048x1x256 1 := cmpf .olt main_v0 main_v1
  let main_v3 : FVec F S2048x1x256 .f32 := Host.absf main_arg1
  let main_cst_0 : FVec F S_ .f32 := constant S_ .f32 0x7F800000#32
  let main_v4 : FVec F S2048x1x256 .f32 := broadcastInDim S2048x1x256 ![] bcast_S_S2048x1x256 main_cst_0
  let main_v5 : IVec S2048x1x256 1 := cmpf .olt main_v3 main_v4
  let main_v6 : FVec F S2048x1x256 .f32 := Host.absf main_arg2
  let main_cst_1 : FVec F S_ .f32 := constant S_ .f32 0x7F800000#32
  let main_v7 : FVec F S2048x1x256 .f32 := broadcastInDim S2048x1x256 ![] bcast_S_S2048x1x256 main_cst_1
  let main_v8 : IVec S2048x1x256 1 := cmpf .olt main_v6 main_v7
  let main_v9 : FVec F S2048x1x256 .f32 := Host.absf main_arg3
  let main_cst_2 : FVec F S_ .f32 := constant S_ .f32 0x7F800000#32
  let main_v10 : FVec F S2048x1x256 .f32 := broadcastInDim S2048x1x256 ![] bcast_S_S2048x1x256 main_cst_2
  let main_v11 : IVec S2048x1x256 1 := cmpf .olt main_v9 main_v10
  let main_v12 : FVec F S2048x1x256 .f32 := Host.absf main_arg4
  let main_cst_3 : FVec F S_ .f32 := constant S_ .f32 0x7F800000#32
  let main_v13 : FVec F S2048x1x256 .f32 := broadcastInDim S2048x1x256 ![] bcast_S_S2048x1x256 main_cst_3
  let main_v14 : IVec S2048x1x256 1 := cmpf .olt main_v12 main_v13
  let main_v15 : FVec F S2048x1x256 .f32 := Host.absf main_arg5
  let main_cst_4 : FVec F S_ .f32 := constant S_ .f32 0x7F800000#32
  let main_v16 : FVec F S2048x1x256 .f32 := broadcastInDim S2048x1x256 ![] bcast_S_S2048x1x256 main_cst_4
  let main_v17 : IVec S2048x1x256 1 := cmpf .olt main_v15 main_v16
  fn_part1 (F := F) main_arg6 main_v2 main_v5 main_v8 main_v11 main_v14 main_v17
-- ==== Kernel.lean ====
abbrev S2048x1x256 : Shape := ⟨3, ![2048, 1, 256]⟩
abbrev S64x256 : Shape := ⟨2, ![64, 256]⟩
abbrev S_ : Shape := ⟨0, ![]⟩
abbrev S4x64x64 : Shape := ⟨3, ![4, 64, 64]⟩
abbrev S2048x4x64 : Shape := ⟨3, ![2048, 4, 64]⟩
abbrev S2048x4x64x64 : Shape := ⟨4, ![2048, 4, 64, 64]⟩
abbrev S1x4x64 : Shape := ⟨3, ![1, 4, 64]⟩
abbrev S4x64 : Shape := ⟨2, ![4, 64]⟩
abbrev S4x1x64 : Shape := ⟨3, ![4, 1, 64]⟩
abbrev S4x64x1 : Shape := ⟨3, ![4, 64, 1]⟩
abbrev S1x4x64x64 : Shape := ⟨4, ![1, 4, 64, 64]⟩
abbrev S2048x64x4x64 : Shape := ⟨4, ![2048, 64, 4, 64]⟩
abbrev S2048x64x256 : Shape := ⟨3, ![2048, 64, 256]⟩
abbrev S2048x4x64x1 : Shape := ⟨4, ![2048, 4, 64, 1]⟩
abbrev S64x1x256 : Shape := ⟨3, ![64, 1, 256]⟩
abbrev S64x64x256 : Shape := ⟨3, ![64, 64, 256]⟩
abbrev S1x1x256 : Shape := ⟨3, ![1, 1, 256]⟩
abbrev S1x256 : Shape := ⟨2, ![1, 256]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x64x256 : Shape := ⟨3, ![1, 64, 256]⟩
abbrev S256 : Shape := ⟨1, ![256]⟩

abbrev nBuf : Space → Nat
  | .hbm => 99
  | .vmem => 32
  | .smem => 0
  | _ => 0

abbrev bufTy : (tb : Table) → Fin (tcTables nBuf tb) → BufTy
  | .hbm, ⟨0, _⟩ => ⟨S2048x1x256, .f32⟩
  | .hbm, ⟨1, _⟩ => ⟨S2048x1x256, .f32⟩
  | .hbm, ⟨2, _⟩ => ⟨S2048x1x256, .f32⟩
  | .hbm, ⟨3, _⟩ => ⟨S2048x1x256, .f32⟩
  | .hbm, ⟨4, _⟩ => ⟨S2048x1x256, .f32⟩
  | .hbm, ⟨5, _⟩ => ⟨S2048x1x256, .f32⟩
  | .hbm, ⟨6, _⟩ => ⟨S2048x1x256, .f32⟩
  | .hbm, ⟨7, _⟩ => ⟨S64x256, .f32⟩
  | .hbm, ⟨8, _⟩ => ⟨S_, .f32⟩
  | .hbm, ⟨9, _⟩ => ⟨S4x64x64, .f32⟩
  | .hbm, ⟨10, _⟩ => ⟨S2048x4x64, .f32⟩
  | .hbm, ⟨11, _⟩ => ⟨S2048x4x64, .f32⟩
  | .hbm, ⟨12, _⟩ => ⟨S2048x4x64, .f32⟩
  | .hbm, ⟨13, _⟩ => ⟨S2048x4x64, .f32⟩
  | .hbm, ⟨14, _⟩ => ⟨S2048x4x64, .f32⟩
  | .hbm, ⟨15, _⟩ => ⟨S_, .f32⟩
  | .hbm, ⟨16, _⟩ => ⟨S2048x4x64x64, .f32⟩
  | .hbm, ⟨17, _⟩ => ⟨S_, .f32⟩
  | .hbm, ⟨18, _⟩ => ⟨S2048x4x64, .f32⟩
  | .hbm, ⟨19, _⟩ => ⟨S_, .i32⟩
  | .hbm, ⟨20, _⟩ => ⟨S2048x4x64, .f32⟩
  | .hbm, ⟨21, _⟩ => ⟨S2048x4x64, .f32⟩
  | .hbm, ⟨22, _⟩ => ⟨S2048x4x64, .f32⟩
  | .hbm, ⟨23, _⟩ => ⟨S2048x4x64, .f32⟩
  | .hbm, ⟨24, _⟩ => ⟨S2048x4x64, .f32⟩
  | .hbm, ⟨25, _⟩ => ⟨S_, .i32⟩
  | .hbm, ⟨26, _⟩ => ⟨S4x64x64, .f32⟩
  | .hbm, ⟨27, _⟩ => ⟨S2048x4x64x64, .f32⟩
  | .hbm, ⟨28, _⟩ => ⟨S2048x4x64, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x4x64, .f32⟩
  | .hbm, ⟨34, _⟩ => ⟨S4x64, .f32⟩
  | .hbm, ⟨35, _⟩ => ⟨S_, .i32⟩
  | .hbm, ⟨36, _⟩ => ⟨S_, .i32⟩
  | .hbm, ⟨37, _⟩ => ⟨S1x4x64, .f32⟩
  | .hbm, ⟨38, _⟩ => ⟨S4x64, .f32⟩
  | .hbm, ⟨39, _⟩ => ⟨S_, .i32⟩
  | .hbm, ⟨40, _⟩ => ⟨S_, .i32⟩
  | .hbm, ⟨41, _⟩ => ⟨S1x4x64, .f32⟩
  | .hbm, ⟨42, _⟩ => ⟨S4x64, .f32⟩
  | .hbm, ⟨43, _⟩ => ⟨S_, .i32⟩
  | .hbm, ⟨44, _⟩ => ⟨S_, .i32⟩
  | .hbm, ⟨45, _⟩ => ⟨S1x4x64, .f32⟩
  | .hbm, ⟨46, _⟩ => ⟨S4x64, .f32⟩
  | .hbm, ⟨47, _⟩ => ⟨S_, .i32⟩
  | .hbm, ⟨48, _⟩ => ⟨S_, .i32⟩
  | .hbm, ⟨49, _⟩ => ⟨S1x4x64, .f32⟩
  | .hbm, ⟨50, _⟩ => ⟨S4x64, .f32⟩
  | .hbm, ⟨51, _⟩ => ⟨S4x1x64, .f32⟩
  | .hbm, ⟨52, _⟩ => ⟨S4x64x64, .f32⟩
  | .hbm, ⟨53, _⟩ => ⟨S4x64x64, .f32⟩
  | .hbm, ⟨54, _⟩ => ⟨S_, .f32⟩
  | .hbm, ⟨55, _⟩ => ⟨S4x64, .f32⟩
  | .hbm, ⟨56, _⟩ => ⟨S4x1x64, .f32⟩
  | .hbm, ⟨57, _⟩ => ⟨S4x64x64, .f32⟩
  | .hbm, ⟨58, _⟩ => ⟨S4x64x64, .f32⟩
  | .hbm, ⟨59, _⟩ => ⟨S4x64x1, .f32⟩
  | .hbm, ⟨60, _⟩ => ⟨S4x1x64, .f32⟩
  | .hbm, ⟨61, _⟩ => ⟨S4x64x64, .f32⟩
  | .hbm, ⟨62, _⟩ => ⟨S4x64x64, .f32⟩
  | .hbm, ⟨63, _⟩ => ⟨S4x64x64, .f32⟩
  | .hbm, ⟨64, _⟩ => ⟨S4x64x64, .f32⟩
  | .hbm, ⟨65, _⟩ => ⟨S4x64x1, .f32⟩
  | .hbm, ⟨66, _⟩ => ⟨S4x1x64, .f32⟩
  | .hbm, ⟨67, _⟩ => ⟨S4x64x64, .f32⟩
  | .hbm, ⟨68, _⟩ => ⟨S4x64x64, .f32⟩
  | .hbm, ⟨69, _⟩ => ⟨S4x64x64, .f32⟩
  | .hbm, ⟨70, _⟩ => ⟨S4x64x64, .f32⟩
  | .hbm, ⟨71, _⟩ => ⟨S1x4x64x64, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S2048x4x64x64, .f32⟩
  | .hbm, ⟨76, _⟩ => ⟨S1x4x64, .f32⟩
  | .hbm, ⟨77, _⟩ => ⟨S_, .i32⟩
  | .hbm, ⟨78, _⟩ => ⟨S_, .i32⟩
  | .hbm, ⟨79, _⟩ => ⟨S2048x4x64, .f32⟩
  | .hbm, ⟨80, _⟩ => ⟨S_, .i32⟩
  | .hbm, ⟨81, _⟩ => ⟨S_, .i32⟩
  | .hbm, ⟨82, _⟩ => ⟨S2048x64x4x64, .f32⟩
  | .hbm, ⟨83, _⟩ => ⟨S2048x64x256, .f32⟩
  | .hbm, ⟨84, _⟩ => ⟨S2048x4x64x1, .f32⟩
  | .hbm, ⟨85, _⟩ => ⟨S2048x4x64x64, .f32⟩
  | .hbm, ⟨86, _⟩ => ⟨S2048x64x4x64, .f32⟩
  | .hbm, ⟨87, _⟩ => ⟨S2048x64x256, .f32⟩
  | .hbm, ⟨88, _⟩ => ⟨S2048x4x64, .f32⟩
  | .hbm, ⟨89, _⟩ => ⟨S2048x4x64x1, .f32⟩
  | .hbm, ⟨90, _⟩ => ⟨S2048x4x64x64, .f32⟩
  | .hbm, ⟨91, _⟩ => ⟨S2048x64x4x64, .f32⟩
  | .hbm, ⟨92, _⟩ => ⟨S2048x64x256, .f32⟩
  | .hbm, ⟨93, _⟩ => ⟨S2048x1x256, .f32⟩
  | .hbm, ⟨94, _⟩ => ⟨S2048x1x256, .f32⟩
  | .hbm, ⟨95, _⟩ => ⟨S2048x1x256, .f32⟩
  | .hbm, ⟨96, _⟩ => ⟨S2048x1x256, .f32⟩
  | .hbm, ⟨97, _⟩ => ⟨S2048x1x256, .f32⟩
  | .hbm, ⟨98, _⟩ => ⟨S2048x1x256, .f32⟩
  | .local _ .vmem, ⟨0, _⟩ => ⟨S64x1x256, .f32⟩
  | .local _ .vmem, ⟨1, _⟩ => ⟨S64x1x256, .f32⟩
  | .local _ .vmem, ⟨2, _⟩ => ⟨S64x1x256, .f32⟩
  | .local _ .vmem, ⟨3, _⟩ => ⟨S64x1x256, .f32⟩
  | .local _ .vmem, ⟨4, _⟩ => ⟨S64x1x256, .f32⟩
  | .local _ .vmem, ⟨5, _⟩ => ⟨S64x1x256, .f32⟩
  | .local _ .vmem, ⟨6, _⟩ => ⟨S64x1x256, .f32⟩
  | .local _ .vmem, ⟨7, _⟩ => ⟨S64x1x256, .f32⟩
  | .local _ .vmem, ⟨8, _⟩ => ⟨S64x1x256, .f32⟩
  | .local _ .vmem, ⟨9, _⟩ => ⟨S64x1x256, .f32⟩
  | .local _ .vmem, ⟨10, _⟩ => ⟨S64x64x256, .f32⟩
  | .local _ .vmem, ⟨11, _⟩ => ⟨S64x64x256, .f32⟩
  | .local _ .vmem, ⟨12, _⟩ => ⟨S64x64x256, .f32⟩
  | .local _ .vmem, ⟨13, _⟩ => ⟨S64x64x256, .f32⟩
  | .local _ .vmem, ⟨14, _⟩ => ⟨S64x64x256, .f32⟩
  | .local _ .vmem, ⟨15, _⟩ => ⟨S64x64x256, .f32⟩
  | .local _ .vmem, ⟨16, _⟩ => ⟨S64x1x256, .f32⟩
  | .local _ .vmem, ⟨17, _⟩ => ⟨S64x1x256, .f32⟩
  | .local _ .vmem, ⟨18, _⟩ => ⟨S64x256, .f32⟩
  | .local _ .vmem, ⟨19, _⟩ => ⟨S64x1x256, .f32⟩
  | .local _ .vmem, ⟨20, _⟩ => ⟨S64x1x256, .f32⟩
  | .local _ .vmem, ⟨21, _⟩ => ⟨S64x1x256, .f32⟩
  | .local _ .vmem, ⟨22, _⟩ => ⟨S64x1x256, .f32⟩
  | .local _ .vmem, ⟨23, _⟩ => ⟨S64x1x256, .f32⟩
  | .local _ .vmem, ⟨24, _⟩ => ⟨S64x1x256, .f32⟩
  | .local _ .vmem, ⟨25, _⟩ => ⟨S64x1x256, .f32⟩
  | .local _ .vmem, ⟨26, _⟩ => ⟨S64x1x256, .f32⟩
  | .local _ .vmem, ⟨27, _⟩ => ⟨S64x1x256, .f32⟩
  | .local _ .vmem, ⟨28, _⟩ => ⟨S64x1x256, .f32⟩
  | .local _ .vmem, ⟨29, _⟩ => ⟨S64x1x256, .f32⟩
  | .local _ .vmem, ⟨30, _⟩ => ⟨S64x1x256, .f32⟩
  | .local _ .vmem, ⟨31, _⟩ => ⟨S64x256, .f32⟩
  | _, _ => ⟨S2048x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_c : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev main_while0c_c_11 : Ref sig .tc := ⟨.hbm, 29, rfl⟩
abbrev main_while0c_v21 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v21 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_v0 : Ref sig .tc := ⟨.hbm, 37, rfl⟩
abbrev main_while0b_v22 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_v0 : Ref sig .tc := ⟨.hbm, 41, rfl⟩
abbrev main_while0b_v23 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_v0 : Ref sig .tc := ⟨.hbm, 45, rfl⟩
abbrev main_while0b_v24 : Ref sig .tc := ⟨.hbm, 46, rfl⟩
abbrev main_while0b_call4_c : Ref sig .tc := ⟨.hbm, 47, rfl⟩
abbrev main_while0b_call4_c_0 : Ref sig .tc := ⟨.hbm, 48, rfl⟩
abbrev main_while0b_call4_v0 : Ref sig .tc := ⟨.hbm, 49, rfl⟩
abbrev main_while0b_v25 : Ref sig .tc := ⟨.hbm, 50, rfl⟩
abbrev main_while0b_v26 : Ref sig .tc := ⟨.hbm, 51, rfl⟩
abbrev main_while0b_v27 : Ref sig .tc := ⟨.hbm, 52, rfl⟩
abbrev main_while0b_v28 : Ref sig .tc := ⟨.hbm, 53, rfl⟩
abbrev main_while0b_cst_11 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_v35 : Ref sig .tc := ⟨.hbm, 61, rfl⟩
abbrev main_while0b_v36 : Ref sig .tc := ⟨.hbm, 62, rfl⟩
abbrev main_while0b_v37 : Ref sig .tc := ⟨.hbm, 63, rfl⟩
abbrev main_while0b_v38 : Ref sig .tc := ⟨.hbm, 64, rfl⟩
abbrev main_while0b_v39 : Ref sig .tc := ⟨.hbm, 65, rfl⟩
abbrev main_while0b_v40 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_call5_v0 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_c_1 : Ref sig .tc := ⟨.hbm, 74, rfl⟩
abbrev main_while0b_v45 : Ref sig .tc := ⟨.hbm, 75, rfl⟩
abbrev main_while0b_call6_v0 : Ref sig .tc := ⟨.hbm, 76, rfl⟩
abbrev main_while0b_call6_c : Ref sig .tc := ⟨.hbm, 77, rfl⟩
abbrev main_while0b_call6_c_0 : Ref sig .tc := ⟨.hbm, 78, rfl⟩
abbrev main_while0b_v46 : Ref sig .tc := ⟨.hbm, 79, rfl⟩
abbrev main_while0b_c_12 : Ref sig .tc := ⟨.hbm, 80, rfl⟩
abbrev main_while0b_v47 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_v20_0 : Ref sig .tc := ⟨.hbm, 93, rfl⟩
abbrev main_v20_1 : Ref sig .tc := ⟨.hbm, 94, rfl⟩
abbrev main_v20_2 : Ref sig .tc := ⟨.hbm, 95, rfl⟩
abbrev main_v20_3 : Ref sig .tc := ⟨.hbm, 96, rfl⟩
abbrev main_v20_4 : Ref sig .tc := ⟨.hbm, 97, rfl⟩
abbrev main_v20_5 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev main_while0_count : Scf.Loop 32 := ⟨0#32, 2048#32, 1#32⟩

abbrev grid0 : Pipeline.Grid := ⟨1, ![32], ![false]⟩

@[reducible] def k0_t1_loop : Scf.Loop 32 :=
  let c0_i32_11 : BitVec 32 := 0#32
  let c8_i32 : BitVec 32 := 8#32
  let v47 : BitVec 32 := Scalar.addi c0_i32_11 c8_i32
  let c1_i32 : BitVec 32 := 1#32
  ⟨c0_i32_11, v47, c1_i32⟩
def k0_off1 (k0_t1 : Fin k0_t1_loop.trips) (c0_i32_16 : BitVec 32) : Fin 3 → Nat :=
  let c63_i32 : BitVec 32 := 63#32
  let c0_i32_11 : BitVec 32 := 0#32
  let c1_i32 : BitVec 32 := 1#32
  let arg18 : BitVec 32 := Scf.iv c0_i32_11 c1_i32 k0_t1
  let c8_i32_15 : BitVec 32 := 8#32
  let v52 : BitVec 32 := Scalar.muli arg18 c8_i32_15
  let v53 : BitVec 32 := Scalar.addi v52 c0_i32_16
  let v54 : BitVec 32 := Scalar.subi c63_i32 v53
  let v55 : Index := Scalar.indexCast v54
  let c0_17 : Index := 0#32
  let c0_18 : Index := 0#32
  ![v55.toNat, 0, 0]
def k0_off2 (k0_t1 : Fin k0_t1_loop.trips) (c0_i32_16 : BitVec 32) : Fin 3 → Nat :=
  let c63_i32 : BitVec 32 := 63#32
  let c0_i32_11 : BitVec 32 := 0#32
  let c1_i32 : BitVec 32 := 1#32
  let arg18 : BitVec 32 := Scf.iv c0_i32_11 c1_i32 k0_t1
  let c8_i32_15 : BitVec 32 := 8#32
  let v52 : BitVec 32 := Scalar.muli arg18 c8_i32_15
  let v53 : BitVec 32 := Scalar.addi v52 c0_i32_16
  let v54 : BitVec 32 := Scalar.subi c63_i32 v53
  let v58 : Index := Scalar.indexCast v54
  let c0_19 : Index := 0#32
  let c0_20 : Index := 0#32
  ![v58.toNat, 0, 0]
def k0_off3 (k0_t1 : Fin k0_t1_loop.trips) (c0_i32_16 : BitVec 32) : Fin 3 → Nat :=
  let c63_i32 : BitVec 32 := 63#32
  let c0_i32_11 : BitVec 32 := 0#32
  let c1_i32 : BitVec 32 := 1#32
  let arg18 : BitVec 32 := Scf.iv c0_i32_11 c1_i32 k0_t1
  let c8_i32_15 : BitVec 32 := 8#32
  let v52 : BitVec 32 := Scalar.muli arg18 c8_i32_15
  let v53 : BitVec 32 := Scalar.addi v52 c0_i32_16
  let v54 : BitVec 32 := Scalar.subi c63_i32 v53
  let c1_i32_40 : BitVec 32 := 1#32
  let v122 : BitVec 32 := Scalar.subi v54 c1_i32_40
  let c0_i32_41 : BitVec 32 := 0#32
  let v123 : BitVec 32 := Scalar.maxsi v122 c0_i32_41
  let v124 : Index := Scalar.indexCast v123
  let c0_42 : Index := 0#32
  let c0_43 : Index := 0#32
  ![v124.toNat, 0, 0]
def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S2048x1x256 : Shape := ⟨3, ![2048, 1, 256]⟩
abbrev S1x2048x4x64 : Shape := ⟨4, ![1, 2048, 4, 64]⟩
abbrev S2048x1x4x64 : Shape := ⟨4, ![2048, 1, 4, 64]⟩
abbrev S_ : Shape := ⟨0, ![]⟩
abbrev S1x4x64x64 : Shape := ⟨4, ![1, 4, 64, 64]⟩
abbrev S2048x1x4x1x64 : Shape := ⟨5, ![2048, 1, 4, 1, 64]⟩
abbrev S2048x1x4x64x64 : Shape := ⟨5, ![2048, 1, 4, 64, 64]⟩
abbrev S2048x1x4x64x1 : Shape := ⟨5, ![2048, 1, 4, 64, 1]⟩
abbrev S1x1x4x64 : Shape := ⟨4, ![1, 1, 4, 64]⟩
abbrev S1x4x64 : Shape := ⟨3, ![1, 4, 64]⟩
abbrev S1x4x1x64 : Shape := ⟨4, ![1, 4, 1, 64]⟩
abbrev S1x4x64x1 : Shape := ⟨4, ![1, 4, 64, 1]⟩
abbrev S1x1x4x1x64 : Shape := ⟨5, ![1, 1, 4, 1, 64]⟩
abbrev S1x1x4x64x64 : Shape := ⟨5, ![1, 1, 4, 64, 64]⟩
abbrev S1x1x4x64x1 : Shape := ⟨5, ![1, 1, 4, 64, 1]⟩
abbrev S4x64 : Shape := ⟨2, ![4, 64]⟩

abbrev nBuf : Space → Nat
  | .hbm => 389
  | .vmem => 0
  | .smem => 0
  | _ => 0

abbrev hbmTy0_0 (i : Nat) : BufTy := match i % 128 with
  | 0 => ⟨S2048x1x256, .f32⟩
  | 1 => ⟨S2048x1x256, .f32⟩
  | 2 => ⟨S2048x1x256, .f32⟩
  | 3 => ⟨S2048x1x256, .f32⟩
  | 4 => ⟨S2048x1x256, .f32⟩
  | 5 => ⟨S2048x1x256, .f32⟩
  | 6 => ⟨S2048x1x256, .f32⟩
  | 7 => ⟨S1x2048x4x64, .f32⟩
  | 8 => ⟨S1x2048x4x64, .f32⟩
  | 9 => ⟨S1x2048x4x64, .f32⟩
  | 10 => ⟨S1x2048x4x64, .f32⟩
  | 11 => ⟨S1x2048x4x64, .f32⟩
  | 12 => ⟨S1x2048x4x64, .f32⟩
  | 13 => ⟨S2048x1x4x64, .f32⟩
  | 14 => ⟨S2048x1x4x64, .f32⟩
  | 15 => ⟨S2048x1x4x64, .f32⟩
  | 16 => ⟨S2048x1x4x64, .f32⟩
  | 17 => ⟨S2048x1x4x64, .f32⟩
  | 18 => ⟨S2048x1x4x64, .f32⟩
  | 19 => ⟨S_, .f32⟩
  | 20 => ⟨S1x4x64x64, .f32⟩
  | 21 => ⟨S_, .f32⟩
  | 22 => ⟨S2048x1x4x64, .f32⟩
  | 23 => ⟨S_, .f32⟩
  | 24 => ⟨S2048x1x4x1x64, .f32⟩
  | 25 => ⟨S_, .f32⟩
  | 26 => ⟨S2048x1x4x64x64, .f32⟩
  | 27 => ⟨S_, .f32⟩
  | 28 => ⟨S2048x1x4x1x64, .f32⟩
  | 29 => ⟨S_, .f32⟩
  | 30 => ⟨S2048x1x4x1x64, .f32⟩
  | 31 => ⟨S_, .f32⟩
  | 32 => ⟨S2048x1x4x64x1, .f32⟩
  | 33 => ⟨S_, .f32⟩
  | 34 => ⟨S2048x1x4x1x64, .f32⟩
  | 35 => ⟨S_, .f32⟩
  | 36 => ⟨S2048x1x4x64x1, .f32⟩
  | 37 => ⟨S_, .f32⟩
  | 38 => ⟨S2048x1x4x1x64, .f32⟩
  | 39 => ⟨S_, .f32⟩
  | 40 => ⟨S2048x1x4x64x64, .f32⟩
  | 41 => ⟨S_, .i32⟩
  | 42 => ⟨S2048x1x4x64, .f32⟩
  | 43 => ⟨S2048x1x4x64, .f32⟩
  | 44 => ⟨S2048x1x4x64, .f32⟩
  | 45 => ⟨S2048x1x4x64, .f32⟩
  | 46 => ⟨S2048x1x4x64, .f32⟩
  | 47 => ⟨S2048x1x4x64, .f32⟩
  | 48 => ⟨S_, .i32⟩
  | 49 => ⟨S1x4x64x64, .f32⟩
  | 50 => ⟨S2048x1x4x64, .f32⟩
  | 51 => ⟨S2048x1x4x1x64, .f32⟩
  | 52 => ⟨S2048x1x4x64x64, .f32⟩
  | 53 => ⟨S2048x1x4x1x64, .f32⟩
  | 54 => ⟨S2048x1x4x1x64, .f32⟩
  | 55 => ⟨S2048x1x4x64x1, .f32⟩
  | 56 => ⟨S2048x1x4x1x64, .f32⟩
  | 57 => ⟨S2048x1x4x64x1, .f32⟩
  | 58 => ⟨S2048x1x4x1x64, .f32⟩
  | 59 => ⟨S2048x1x4x64x64, .f32⟩
  | 60 => ⟨S_, .i32⟩
  | 61 => ⟨S_, .i1⟩
  | 62 => ⟨S_, .i32⟩
  | 63 => ⟨S_, .i32⟩
  | 64 => ⟨S_, .i32⟩
  | 65 => ⟨S1x1x4x64, .f32⟩
  | 66 => ⟨S1x4x64, .f32⟩
  | 67 => ⟨S_, .i32⟩
  | 68 => ⟨S_, .i32⟩
  | 69 => ⟨S_, .i32⟩
  | 70 => ⟨S1x1x4x64, .f32⟩
  | 71 => ⟨S1x4x64, .f32⟩
  | 72 => ⟨S_, .i32⟩
  | 73 => ⟨S_, .i32⟩
  | 74 => ⟨S_, .i32⟩
  | 75 => ⟨S1x1x4x64, .f32⟩
  | 76 => ⟨S1x4x64, .f32⟩
  | 77 => ⟨S_, .i32⟩
  | 78 => ⟨S_, .i32⟩
  | 79 => ⟨S_, .i32⟩
  | 80 => ⟨S1x1x4x64, .f32⟩
  | 81 => ⟨S1x4x64, .f32⟩
  | 82 => ⟨S_, .i32⟩
  | 83 => ⟨S_, .i32⟩
  | 84 => ⟨S_, .i32⟩
  | 85 => ⟨S1x1x4x64, .f32⟩
  | 86 => ⟨S1x4x64, .f32⟩
  | 87 => ⟨S_, .i32⟩
  | 88 => ⟨S_, .i32⟩
  | 89 => ⟨S_, .i32⟩
  | 90 => ⟨S1x1x4x64, .f32⟩
  | 91 => ⟨S1x4x64, .f32⟩
  | 92 => ⟨S1x4x1x64, .f32⟩
  | 93 => ⟨S1x4x64x64, .f32⟩
  | 94 => ⟨S1x4x64x64, .f32⟩
  | 95 => ⟨S_, .f32⟩
  | 96 => ⟨S1x4x64, .f32⟩
  | 97 => ⟨S1x4x1x64, .f32⟩
  | 98 => ⟨S1x4x64x64, .f32⟩
  | 99 => ⟨S1x4x64x64, .f32⟩
  | 100 => ⟨S1x4x64x1, .f32⟩
  | 101 => ⟨S1x4x1x64, .f32⟩
  | 102 => ⟨S1x4x64x64, .f32⟩
  | 103 => ⟨S1x4x64x64, .f32⟩
  | 104 => ⟨S1x4x64x64, .f32⟩
  | 105 => ⟨S1x4x64x64, .f32⟩
  | 106 => ⟨S1x4x64x1, .f32⟩
  | 107 => ⟨S1x4x1x64, .f32⟩
  | 108 => ⟨S1x4x64x64, .f32⟩
  | 109 => ⟨S1x4x64x64, .f32⟩
  | 110 => ⟨S1x4x64x64, .f32⟩
  | 111 => ⟨S1x4x64x64, .f32⟩
  | 112 => ⟨S1x4x1x64, .f32⟩
  | 113 => ⟨S1x4x64x64, .f32⟩
  | 114 => ⟨S1x4x64x64, .f32⟩
  | 115 => ⟨S_, .f32⟩
  | 116 => ⟨S1x4x64, .f32⟩
  | 117 => ⟨S1x1x4x64, .f32⟩
  | 118 => ⟨S_, .i32⟩
  | 119 => ⟨S_, .i32⟩
  | 120 => ⟨S_, .i32⟩
  | 121 => ⟨S2048x1x4x64, .f32⟩
  | 122 => ⟨S1x1x4x1x64, .f32⟩
  | 123 => ⟨S_, .i32⟩
  | 124 => ⟨S_, .i32⟩
  | 125 => ⟨S_, .i32⟩
  | 126 => ⟨S_, .i32⟩
  | 127 => ⟨S2048x1x4x1x64, .f32⟩
  | _ => ⟨S2048x1x256, .f32⟩

abbrev hbmTy0_1 (i : Nat) : BufTy := match i % 128 with
  | 0 => ⟨S1x1x4x64x64, .f32⟩
  | 1 => ⟨S_, .i32⟩
  | 2 => ⟨S_, .i32⟩
  | 3 => ⟨S_, .i32⟩
  | 4 => ⟨S_, .i32⟩
  | 5 => ⟨S2048x1x4x64x64, .f32⟩
  | 6 => ⟨S1x1x4x1x64, .f32⟩
  | 7 => ⟨S_, .i32⟩
  | 8 => ⟨S_, .i32⟩
  | 9 => ⟨S_, .i32⟩
  | 10 => ⟨S_, .i32⟩
  | 11 => ⟨S2048x1x4x1x64, .f32⟩
  | 12 => ⟨S1x1x4x1x64, .f32⟩
  | 13 => ⟨S_, .i32⟩
  | 14 => ⟨S_, .i32⟩
  | 15 => ⟨S_, .i32⟩
  | 16 => ⟨S_, .i32⟩
  | 17 => ⟨S2048x1x4x1x64, .f32⟩
  | 18 => ⟨S1x1x4x64x1, .f32⟩
  | 19 => ⟨S_, .i32⟩
  | 20 => ⟨S_, .i32⟩
  | 21 => ⟨S_, .i32⟩
  | 22 => ⟨S_, .i32⟩
  | 23 => ⟨S2048x1x4x64x1, .f32⟩
  | 24 => ⟨S1x1x4x1x64, .f32⟩
  | 25 => ⟨S_, .i32⟩
  | 26 => ⟨S_, .i32⟩
  | 27 => ⟨S_, .i32⟩
  | 28 => ⟨S_, .i32⟩
  | 29 => ⟨S2048x1x4x1x64, .f32⟩
  | 30 => ⟨S1x1x4x64x1, .f32⟩
  | 31 => ⟨S_, .i32⟩
  | 32 => ⟨S_, .i32⟩
  | 33 => ⟨S_, .i32⟩
  | 34 => ⟨S_, .i32⟩
  | 35 => ⟨S2048x1x4x64x1, .f32⟩
  | 36 => ⟨S1x1x4x1x64, .f32⟩
  | 37 => ⟨S_, .i32⟩
  | 38 => ⟨S_, .i32⟩
  | 39 => ⟨S_, .i32⟩
  | 40 => ⟨S_, .i32⟩
  | 41 => ⟨S2048x1x4x1x64, .f32⟩
  | 42 => ⟨S1x1x4x64x64, .f32⟩
  | 43 => ⟨S_, .i32⟩
  | 44 => ⟨S_, .i32⟩
  | 45 => ⟨S_, .i32⟩
  | 46 => ⟨S_, .i32⟩
  | 47 => ⟨S2048x1x4x64x64, .f32⟩
  | 48 => ⟨S_, .i32⟩
  | 49 => ⟨S_, .i32⟩
  | 50 => ⟨S1x2048x4x64, .f32⟩
  | 51 => ⟨S2048x1x256, .f32⟩
  | 52 => ⟨S_, .f32⟩
  | 53 => ⟨S1x4x64x64, .f32⟩
  | 54 => ⟨S1x2048x4x64, .f32⟩
  | 55 => ⟨S2048x1x4x64, .f32⟩
  | 56 => ⟨S_, .f32⟩
  | 57 => ⟨S1x4x64x64, .f32⟩
  | 58 => ⟨S_, .f32⟩
  | 59 => ⟨S2048x1x4x64, .f32⟩
  | 60 => ⟨S_, .f32⟩
  | 61 => ⟨S2048x1x4x64, .f32⟩
  | 62 => ⟨S_, .f32⟩
  | 63 => ⟨S2048x1x4x64, .f32⟩
  | 64 => ⟨S_, .f32⟩
  | 65 => ⟨S2048x1x4x64, .f32⟩
  | 66 => ⟨S_, .f32⟩
  | 67 => ⟨S2048x1x4x64, .f32⟩
  | 68 => ⟨S_, .f32⟩
  | 69 => ⟨S2048x1x4x64, .f32⟩
  | 70 => ⟨S_, .i32⟩
  | 71 => ⟨S2048x1x4x64, .f32⟩
  | 72 => ⟨S2048x1x4x1x64, .f32⟩
  | 73 => ⟨S2048x1x4x64x64, .f32⟩
  | 74 => ⟨S2048x1x4x1x64, .f32⟩
  | 75 => ⟨S2048x1x4x1x64, .f32⟩
  | 76 => ⟨S2048x1x4x64x1, .f32⟩
  | 77 => ⟨S2048x1x4x1x64, .f32⟩
  | 78 => ⟨S2048x1x4x64x1, .f32⟩
  | 79 => ⟨S2048x1x4x1x64, .f32⟩
  | 80 => ⟨S2048x1x4x64x64, .f32⟩
  | 81 => ⟨S_, .i32⟩
  | 82 => ⟨S1x4x64x64, .f32⟩
  | 83 => ⟨S2048x1x4x64, .f32⟩
  | 84 => ⟨S2048x1x4x64, .f32⟩
  | 85 => ⟨S2048x1x4x64, .f32⟩
  | 86 => ⟨S2048x1x4x64, .f32⟩
  | 87 => ⟨S2048x1x4x64, .f32⟩
  | 88 => ⟨S2048x1x4x64, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S1x1x4x64, .f32⟩
  | 99 => ⟨S1x4x64, .f32⟩
  | 100 => ⟨S_, .i32⟩
  | 101 => ⟨S_, .i32⟩
  | 102 => ⟨S_, .i32⟩
  | 103 => ⟨S_, .i32⟩
  | 104 => ⟨S1x1x4x1x64, .f32⟩
  | 105 => ⟨S1x4x1x64, .f32⟩
  | 106 => ⟨S_, .i32⟩
  | 107 => ⟨S_, .i32⟩
  | 108 => ⟨S_, .i32⟩
  | 109 => ⟨S_, .i32⟩
  | 110 => ⟨S1x1x4x64x64, .f32⟩
  | 111 => ⟨S1x4x64x64, .f32⟩
  | 112 => ⟨S_, .i32⟩
  | 113 => ⟨S_, .i32⟩
  | 114 => ⟨S_, .i32⟩
  | 115 => ⟨S_, .i32⟩
  | 116 => ⟨S1x1x4x1x64, .f32⟩
  | 117 => ⟨S1x4x1x64, .f32⟩
  | 118 => ⟨S_, .i32⟩
  | 119 => ⟨S_, .i32⟩
  | 120 => ⟨S_, .i32⟩
  | 121 => ⟨S_, .i32⟩
  | 122 => ⟨S1x1x4x1x64, .f32⟩
  | 123 => ⟨S1x4x1x64, .f32⟩
  | 124 => ⟨S_, .i32⟩
  | 125 => ⟨S_, .i32⟩
  | 126 => ⟨S_, .i32⟩
  | 127 => ⟨S_, .i32⟩
  | _ => ⟨S2048x1x256, .f32⟩

abbrev hbmTy0_2 (i : Nat) : BufTy := match i % 128 with
  | 0 => ⟨S1x1x4x64x1, .f32⟩
  | 1 => ⟨S1x4x64x1, .f32⟩
  | 2 => ⟨S_, .i32⟩
  | 3 => ⟨S_, .i32⟩
  | 4 => ⟨S_, .i32⟩
  | 5 => ⟨S_, .i32⟩
  | 6 => ⟨S1x1x4x1x64, .f32⟩
  | 7 => ⟨S1x4x1x64, .f32⟩
  | 8 => ⟨S_, .i32⟩
  | 9 => ⟨S_, .i32⟩
  | 10 => ⟨S_, .i32⟩
  | 11 => ⟨S_, .i32⟩
  | 12 => ⟨S1x1x4x64x1, .f32⟩
  | 13 => ⟨S1x4x64x1, .f32⟩
  | 14 => ⟨S_, .i32⟩
  | 15 => ⟨S_, .i32⟩
  | 16 => ⟨S_, .i32⟩
  | 17 => ⟨S_, .i32⟩
  | 18 => ⟨S1x1x4x1x64, .f32⟩
  | 19 => ⟨S1x4x1x64, .f32⟩
  | 20 => ⟨S_, .i32⟩
  | 21 => ⟨S_, .i32⟩
  | 22 => ⟨S_, .i32⟩
  | 23 => ⟨S_, .i32⟩
  | 24 => ⟨S1x1x4x64x64, .f32⟩
  | 25 => ⟨S1x4x64x64, .f32⟩
  | 26 => ⟨S1x4x64x64, .f32⟩
  | 27 => ⟨S1x4x64x64, .f32⟩
  | 28 => ⟨S_, .f32⟩
  | 29 => ⟨S1x4x64, .f32⟩
  | 30 => ⟨S1x4x1x64, .f32⟩
  | 31 => ⟨S1x4x64x64, .f32⟩
  | 32 => ⟨S1x4x64x64, .f32⟩
  | 33 => ⟨S1x4x64x64, .f32⟩
  | 34 => ⟨S_, .f32⟩
  | 35 => ⟨S4x64, .f32⟩
  | 36 => ⟨S1x4x64, .f32⟩
  | 37 => ⟨S1x4x64x64, .f32⟩
  | 38 => ⟨S1x4x64x64, .f32⟩
  | 39 => ⟨S_, .f32⟩
  | 40 => ⟨S1x4x64, .f32⟩
  | 41 => ⟨S1x4x1x64, .f32⟩
  | 42 => ⟨S1x4x64x64, .f32⟩
  | 43 => ⟨S1x4x64x64, .f32⟩
  | 44 => ⟨S_, .f32⟩
  | 45 => ⟨S1x4x64, .f32⟩
  | 46 => ⟨S1x4x64x1, .f32⟩
  | 47 => ⟨S_, .f32⟩
  | 48 => ⟨S4x64, .f32⟩
  | 49 => ⟨S1x4x64, .f32⟩
  | 50 => ⟨S_, .f32⟩
  | 51 => ⟨S4x64, .f32⟩
  | 52 => ⟨S1x4x64, .f32⟩
  | 53 => ⟨S1x4x64x64, .f32⟩
  | 54 => ⟨S1x4x64x64, .f32⟩
  | 55 => ⟨S_, .f32⟩
  | 56 => ⟨S1x4x64, .f32⟩
  | 57 => ⟨S1x4x1x64, .f32⟩
  | 58 => ⟨S1x4x64x64, .f32⟩
  | 59 => ⟨S1x4x64x64, .f32⟩
  | 60 => ⟨S_, .f32⟩
  | 61 => ⟨S1x4x64, .f32⟩
  | 62 => ⟨S1x4x64x1, .f32⟩
  | 63 => ⟨S_, .f32⟩
  | 64 => ⟨S4x64, .f32⟩
  | 65 => ⟨S1x4x64, .f32⟩
  | 66 => ⟨S_, .f32⟩
  | 67 => ⟨S4x64, .f32⟩
  | 68 => ⟨S1x4x64, .f32⟩
  | 69 => ⟨S1x4x64x64, .f32⟩
  | 70 => ⟨S_, .f32⟩
  | 71 => ⟨S1x4x64, .f32⟩
  | 72 => ⟨S1x4x1x64, .f32⟩
  | 73 => ⟨S1x4x64x64, .f32⟩
  | 74 => ⟨S1x4x64x64, .f32⟩
  | 75 => ⟨S_, .f32⟩
  | 76 => ⟨S4x64, .f32⟩
  | 77 => ⟨S1x4x64, .f32⟩
  | 78 => ⟨S1x4x64x64, .f32⟩
  | 79 => ⟨S1x4x64x64, .f32⟩
  | 80 => ⟨S_, .f32⟩
  | 81 => ⟨S1x4x64, .f32⟩
  | 82 => ⟨S1x4x1x64, .f32⟩
  | 83 => ⟨S1x4x64x64, .f32⟩
  | 84 => ⟨S1x4x64x64, .f32⟩
  | 85 => ⟨S1x4x64x64, .f32⟩
  | 86 => ⟨S_, .f32⟩
  | 87 => ⟨S4x64, .f32⟩
  | 88 => ⟨S1x4x64, .f32⟩
  | 89 => ⟨S1x1x4x64, .f32⟩
  | 90 => ⟨S_, .i32⟩
  | 91 => ⟨S_, .i32⟩
  | 92 => ⟨S_, .i32⟩
  | 93 => ⟨S2048x1x4x64, .f32⟩
  | 94 => ⟨S1x1x4x64, .f32⟩
  | 95 => ⟨S_, .i32⟩
  | 96 => ⟨S_, .i32⟩
  | 97 => ⟨S_, .i32⟩
  | 98 => ⟨S2048x1x4x64, .f32⟩
  | 99 => ⟨S1x1x4x64, .f32⟩
  | 100 => ⟨S_, .i32⟩
  | 101 => ⟨S_, .i32⟩
  | 102 => ⟨S_, .i32⟩
  | 103 => ⟨S2048x1x4x64, .f32⟩
  | 104 => ⟨S1x1x4x64, .f32⟩
  | 105 => ⟨S_, .i32⟩
  | 106 => ⟨S_, .i32⟩
  | 107 => ⟨S_, .i32⟩
  | 108 => ⟨S2048x1x4x64, .f32⟩
  | 109 => ⟨S1x1x4x64, .f32⟩
  | 110 => ⟨S_, .i32⟩
  | 111 => ⟨S_, .i32⟩
  | 112 => ⟨S_, .i32⟩
  | 113 => ⟨S2048x1x4x64, .f32⟩
  | 114 => ⟨S1x1x4x64, .f32⟩
  | 115 => ⟨S_, .i32⟩
  | 116 => ⟨S_, .i32⟩
  | 117 => ⟨S_, .i32⟩
  | 118 => ⟨S2048x1x4x64, .f32⟩
  | 119 => ⟨S_, .i32⟩
  | 120 => ⟨S_, .i32⟩
  | 121 => ⟨S1x2048x4x64, .f32⟩
  | 122 => ⟨S1x2048x4x64, .f32⟩
  | 123 => ⟨S1x2048x4x64, .f32⟩
  | 124 => ⟨S1x2048x4x64, .f32⟩
  | 125 => ⟨S1x2048x4x64, .f32⟩
  | 126 => ⟨S1x2048x4x64, .f32⟩
  | 127 => ⟨S2048x1x256, .f32⟩
  | _ => ⟨S2048x1x256, .f32⟩

abbrev hbmTy0_3 (i : Nat) : BufTy := match i % 128 with
  | 0 => ⟨S2048x1x256, .f32⟩
  | 1 => ⟨S2048x1x256, .f32⟩
  | 2 => ⟨S2048x1x256, .f32⟩
  | 3 => ⟨S2048x1x256, .f32⟩
  | 4 => ⟨S2048x1x256, .f32⟩
  | _ => ⟨S2048x1x256, .f32⟩

abbrev hbmTy (i : Nat) : BufTy := match i / 128 with
  | 0 => hbmTy0_0 i
  | 1 => hbmTy0_1 i
  | 2 => hbmTy0_2 i
  | 3 => hbmTy0_3 i
  | _ => ⟨S2048x1x256, .f32⟩

abbrev bufTy : (tb : Table) → Fin (tcTables nBuf tb) → BufTy
  | .hbm, ⟨i, _⟩ => hbmTy i
  | _, _ => ⟨S2048x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_c : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_v23_3 : Ref sig .tc := ⟨.hbm, 45, rfl⟩
abbrev main_v23_4 : Ref sig .tc := ⟨.hbm, 46, rfl⟩
abbrev main_v23_5 : Ref sig .tc := ⟨.hbm, 47, rfl⟩
abbrev main_v23_6 : Ref sig .tc := ⟨.hbm, 48, rfl⟩
abbrev main_v23_7 : Ref sig .tc := ⟨.hbm, 49, rfl⟩
abbrev main_v23_8 : Ref sig .tc := ⟨.hbm, 50, rfl⟩
abbrev main_v23_9 : Ref sig .tc := ⟨.hbm, 51, rfl⟩
abbrev main_v23_10 : Ref sig .tc := ⟨.hbm, 52, rfl⟩
abbrev main_v23_11 : Ref sig .tc := ⟨.hbm, 53, rfl⟩
abbrev main_v23_12 : Ref sig .tc := ⟨.hbm, 54, rfl⟩
abbrev main_v23_13 : Ref sig .tc := ⟨.hbm, 55, rfl⟩
abbrev main_v23_14 : Ref sig .tc := ⟨.hbm, 56, rfl⟩
abbrev main_v23_15 : Ref sig .tc := ⟨.hbm, 57, rfl⟩
abbrev main_v23_16 : Ref sig .tc := ⟨.hbm, 58, rfl⟩
abbrev main_v23_17 : Ref sig .tc := ⟨.hbm, 59, rfl⟩
abbrev main_while0c_c_36 : Ref sig .tc := ⟨.hbm, 60, rfl⟩
abbrev main_while0c_v49 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_c_1 : Ref sig .tc := ⟨.hbm, 64, rfl⟩
abbrev main_while0b_call0_v0 : Ref sig .tc := ⟨.hbm, 65, rfl⟩
abbrev main_while0b_v49 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_call1_v0 : Ref sig .tc := ⟨.hbm, 70, rfl⟩
abbrev main_while0b_v50 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_v0 : Ref sig .tc := ⟨.hbm, 75, rfl⟩
abbrev main_while0b_v51 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_v0 : Ref sig .tc := ⟨.hbm, 80, rfl⟩
abbrev main_while0b_v52 : Ref sig .tc := ⟨.hbm, 81, rfl⟩
abbrev main_while0b_call4_c : Ref sig .tc := ⟨.hbm, 82, rfl⟩
abbrev main_while0b_call4_c_0 : Ref sig .tc := ⟨.hbm, 83, rfl⟩
abbrev main_while0b_call4_c_1 : Ref sig .tc := ⟨.hbm, 84, rfl⟩
abbrev main_while0b_call4_v0 : Ref sig .tc := ⟨.hbm, 85, rfl⟩
abbrev main_while0b_v53 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_v0 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_cst_36 : Ref sig .tc := ⟨.hbm, 95, rfl⟩
abbrev main_while0b_v58 : Ref sig .tc := ⟨.hbm, 96, rfl⟩
abbrev main_while0b_v59 : Ref sig .tc := ⟨.hbm, 97, rfl⟩
abbrev main_while0b_v60 : Ref sig .tc := ⟨.hbm, 98, rfl⟩
abbrev main_while0b_v61 : Ref sig .tc := ⟨.hbm, 99, rfl⟩
abbrev main_while0b_v62 : Ref sig .tc := ⟨.hbm, 100, rfl⟩
abbrev main_while0b_v63 : Ref sig .tc := ⟨.hbm, 101, rfl⟩
abbrev main_while0b_v64 : Ref sig .tc := ⟨.hbm, 102, rfl⟩
abbrev main_while0b_v65 : Ref sig .tc := ⟨.hbm, 103, rfl⟩
abbrev main_while0b_v66 : Ref sig .tc := ⟨.hbm, 104, rfl⟩
abbrev main_while0b_v67 : Ref sig .tc := ⟨.hbm, 105, rfl⟩
abbrev main_while0b_v68 : Ref sig .tc := ⟨.hbm, 106, rfl⟩
abbrev main_while0b_v69 : Ref sig .tc := ⟨.hbm, 107, rfl⟩
abbrev main_while0b_v70 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_cst_37 : Ref sig .tc := ⟨.hbm, 115, rfl⟩
abbrev main_while0b_v77 : Ref sig .tc := ⟨.hbm, 116, rfl⟩
abbrev main_while0b_call6_v0 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_v78 : Ref sig .tc := ⟨.hbm, 121, rfl⟩
abbrev main_while0b_call7_v0 : Ref sig .tc := ⟨.hbm, 122, rfl⟩
abbrev main_while0b_call7_c : Ref sig .tc := ⟨.hbm, 123, rfl⟩
abbrev main_while0b_call7_c_0 : Ref sig .tc := ⟨.hbm, 124, rfl⟩
abbrev main_while0b_call7_c_1 : Ref sig .tc := ⟨.hbm, 125, rfl⟩
abbrev main_while0b_call7_c_2 : Ref sig .tc := ⟨.hbm, 126, rfl⟩
abbrev main_while0b_v79 : Ref sig .tc := ⟨.hbm, 127, rfl⟩
abbrev main_while0b_call8_v0 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_v80 : Ref sig .tc := ⟨.hbm, 133, rfl⟩
abbrev main_while0b_call9_v0 : Ref sig .tc := ⟨.hbm, 134, rfl⟩
abbrev main_while0b_call9_c : Ref sig .tc := ⟨.hbm, 135, rfl⟩
abbrev main_while0b_call9_c_0 : Ref sig .tc := ⟨.hbm, 136, rfl⟩
abbrev main_while0b_call9_c_1 : Ref sig .tc := ⟨.hbm, 137, rfl⟩
abbrev main_while0b_call9_c_2 : Ref sig .tc := ⟨.hbm, 138, rfl⟩
abbrev main_while0b_v81 : Ref sig .tc := ⟨.hbm, 139, rfl⟩
abbrev main_while0b_call10_v0 : Ref sig .tc := ⟨.hbm, 140, rfl⟩
abbrev main_while0b_call10_c : Ref sig .tc := ⟨.hbm, 141, rfl⟩
abbrev main_while0b_call10_c_0 : Ref sig .tc := ⟨.hbm, 142, rfl⟩
abbrev main_while0b_call10_c_1 : Ref sig .tc := ⟨.hbm, 143, rfl⟩
abbrev main_while0b_call10_c_2 : Ref sig .tc := ⟨.hbm, 144, rfl⟩
abbrev main_while0b_v82 : Ref sig .tc := ⟨.hbm, 145, rfl⟩
abbrev main_while0b_call11_v0 : Ref sig .tc := ⟨.hbm, 146, rfl⟩
abbrev main_while0b_call11_c : Ref sig .tc := ⟨.hbm, 147, rfl⟩
abbrev main_while0b_call11_c_0 : Ref sig .tc := ⟨.hbm, 148, rfl⟩
abbrev main_while0b_call11_c_1 : Ref sig .tc := ⟨.hbm, 149, rfl⟩
abbrev main_while0b_call11_c_2 : Ref sig .tc := ⟨.hbm, 150, rfl⟩
abbrev main_while0b_v83 : Ref sig .tc := ⟨.hbm, 151, rfl⟩
abbrev main_while0b_call12_v0 : Ref sig .tc := ⟨.hbm, 152, rfl⟩
abbrev main_while0b_call12_c : Ref sig .tc := ⟨.hbm, 153, rfl⟩
abbrev main_while0b_call12_c_0 : Ref sig .tc := ⟨.hbm, 154, rfl⟩
abbrev main_while0b_call12_c_1 : Ref sig .tc := ⟨.hbm, 155, rfl⟩
abbrev main_while0b_call12_c_2 : Ref sig .tc := ⟨.hbm, 156, rfl⟩
abbrev main_while0b_v84 : Ref sig .tc := ⟨.hbm, 157, rfl⟩
abbrev main_while0b_call13_v0 : Ref sig .tc := ⟨.hbm, 158, rfl⟩
abbrev main_while0b_call13_c : Ref sig .tc := ⟨.hbm, 159, rfl⟩
abbrev main_while0b_call13_c_0 : Ref sig .tc := ⟨.hbm, 160, rfl⟩
abbrev main_while0b_call13_c_1 : Ref sig .tc := ⟨.hbm, 161, rfl⟩
abbrev main_while0b_call13_c_2 : Ref sig .tc := ⟨.hbm, 162, rfl⟩
abbrev main_while0b_v85 : Ref sig .tc := ⟨.hbm, 163, rfl⟩
abbrev main_while0b_call14_v0 : Ref sig .tc := ⟨.hbm, 164, rfl⟩
abbrev main_while0b_call14_c : Ref sig .tc := ⟨.hbm, 165, rfl⟩
abbrev main_while0b_call14_c_0 : Ref sig .tc := ⟨.hbm, 166, rfl⟩
abbrev main_while0b_call14_c_1 : Ref sig .tc := ⟨.hbm, 167, rfl⟩
abbrev main_while0b_call14_c_2 : Ref sig .tc := ⟨.hbm, 168, rfl⟩
abbrev main_while0b_v86 : Ref sig .tc := ⟨.hbm, 169, rfl⟩
abbrev main_while0b_call15_v0 : Ref sig .tc := ⟨.hbm, 170, rfl⟩
abbrev main_while0b_call15_c : Ref sig .tc := ⟨.hbm, 171, rfl⟩
abbrev main_while0b_call15_c_0 : Ref sig .tc := ⟨.hbm, 172, rfl⟩
abbrev main_while0b_call15_c_1 : Ref sig .tc := ⟨.hbm, 173, rfl⟩
abbrev main_while0b_call15_c_2 : Ref sig .tc := ⟨.hbm, 174, rfl⟩
abbrev main_while0b_v87 : Ref sig .tc := ⟨.hbm, 175, rfl⟩
abbrev main_while0b_c_38 : Ref sig .tc := ⟨.hbm, 176, rfl⟩
abbrev main_while0b_v88 : Ref sig .tc := ⟨.hbm, 177, rfl⟩
abbrev main_v24 : Ref sig .tc := ⟨.hbm, 178, rfl⟩
abbrev main_v25 : Ref sig .tc := ⟨.hbm, 179, rfl⟩
abbrev main_cst_10 : Ref sig .tc := ⟨.hbm, 180, rfl⟩
abbrev main_v26 : Ref sig .tc := ⟨.hbm, 181, rfl⟩
abbrev main_v27 : Ref sig .tc := ⟨.hbm, 182, rfl⟩
abbrev main_v28 : Ref sig .tc := ⟨.hbm, 183, rfl⟩
abbrev main_cst_11 : Ref sig .tc := ⟨.hbm, 184, rfl⟩
abbrev main_v29 : Ref sig .tc := ⟨.hbm, 185, rfl⟩
abbrev main_cst_12 : Ref sig .tc := ⟨.hbm, 186, rfl⟩
abbrev main_v30 : Ref sig .tc := ⟨.hbm, 187, rfl⟩
abbrev main_cst_13 : Ref sig .tc := ⟨.hbm, 188, rfl⟩
abbrev main_v31 : Ref sig .tc := ⟨.hbm, 189, rfl⟩
abbrev main_cst_14 : Ref sig .tc := ⟨.hbm, 190, rfl⟩
abbrev main_v32 : Ref sig .tc := ⟨.hbm, 191, rfl⟩
abbrev main_cst_15 : Ref sig .tc := ⟨.hbm, 192, rfl⟩
abbrev main_v33 : Ref sig .tc := ⟨.hbm, 193, rfl⟩
abbrev main_cst_16 : Ref sig .tc := ⟨.hbm, 194, rfl⟩
abbrev main_v34 : Ref sig .tc := ⟨.hbm, 195, rfl⟩
abbrev main_cst_17 : Ref sig .tc := ⟨.hbm, 196, rfl⟩
abbrev main_v35 : Ref sig .tc := ⟨.hbm, 197, rfl⟩
abbrev main_c_18 : Ref sig .tc := ⟨.hbm, 198, rfl⟩
abbrev main_v36_0 : Ref sig .tc := ⟨.hbm, 199, rfl⟩
abbrev main_v36_1 : Ref sig .tc := ⟨.hbm, 200, rfl⟩
abbrev main_v36_2 : Ref sig .tc := ⟨.hbm, 201, rfl⟩
abbrev main_v36_3 : Ref sig .tc := ⟨.hbm, 202, rfl⟩
abbrev main_v36_4 : Ref sig .tc := ⟨.hbm, 203, rfl⟩
abbrev main_v36_5 : Ref sig .tc := ⟨.hbm, 204, rfl⟩
abbrev main_v36_6 : Ref sig .tc := ⟨.hbm, 205, rfl⟩
abbrev main_v36_7 : Ref sig .tc := ⟨.hbm, 206, rfl⟩
abbrev main_v36_8 : Ref sig .tc := ⟨.hbm, 207, rfl⟩
abbrev main_v36_9 : Ref sig .tc := ⟨.hbm, 208, rfl⟩
abbrev main_v36_10 : Ref sig .tc := ⟨.hbm, 209, rfl⟩
abbrev main_v36_11 : Ref sig .tc := ⟨.hbm, 210, rfl⟩
abbrev main_v36_12 : Ref sig .tc := ⟨.hbm, 211, rfl⟩
abbrev main_v36_13 : Ref sig .tc := ⟨.hbm, 212, rfl⟩
abbrev main_v36_14 : Ref sig .tc := ⟨.hbm, 213, rfl⟩
abbrev main_v36_15 : Ref sig .tc := ⟨.hbm, 214, rfl⟩
abbrev main_v36_16 : Ref sig .tc := ⟨.hbm, 215, rfl⟩
abbrev main_v36_17 : Ref sig .tc := ⟨.hbm, 216, rfl⟩
abbrev main_while1c_c_36 : Ref sig .tc := ⟨.hbm, 217, rfl⟩
abbrev main_while1c_v49 : Ref sig .tc := ⟨.hbm, 218, rfl⟩
abbrev main_while1b_c_36 : Ref sig .tc := ⟨.hbm, 219, rfl⟩
abbrev main_while1b_v49 : Ref sig .tc := ⟨.hbm, 220, rfl⟩
abbrev main_while1b_c_37 : Ref sig .tc := ⟨.hbm, 221, rfl⟩
abbrev main_while1b_v50 : Ref sig .tc := ⟨.hbm, 222, rfl⟩
abbrev main_while1b_call16_c : Ref sig .tc := ⟨.hbm, 223, rfl⟩
abbrev main_while1b_call16_c_0 : Ref sig .tc := ⟨.hbm, 224, rfl⟩
abbrev main_while1b_call16_c_1 : Ref sig .tc := ⟨.hbm, 225, rfl⟩
abbrev main_while1b_call16_v0 : Ref sig .tc := ⟨.hbm, 226, rfl⟩
abbrev main_while1b_v51 : Ref sig .tc := ⟨.hbm, 227, rfl⟩
abbrev main_while1b_call17_c : Ref sig .tc := ⟨.hbm, 228, rfl⟩
abbrev main_while1b_call17_c_0 : Ref sig .tc := ⟨.hbm, 229, rfl⟩
abbrev main_while1b_call17_c_1 : Ref sig .tc := ⟨.hbm, 230, rfl⟩
abbrev main_while1b_call17_c_2 : Ref sig .tc := ⟨.hbm, 231, rfl⟩
abbrev main_while1b_call17_v0 : Ref sig .tc := ⟨.hbm, 232, rfl⟩
abbrev main_while1b_v52 : Ref sig .tc := ⟨.hbm, 233, rfl⟩
abbrev main_while1b_call18_c : Ref sig .tc := ⟨.hbm, 234, rfl⟩
abbrev main_while1b_call18_c_0 : Ref sig .tc := ⟨.hbm, 235, rfl⟩
abbrev main_while1b_call18_c_1 : Ref sig .tc := ⟨.hbm, 236, rfl⟩
abbrev main_while1b_call18_c_2 : Ref sig .tc := ⟨.hbm, 237, rfl⟩
abbrev main_while1b_call18_v0 : Ref sig .tc := ⟨.hbm, 238, rfl⟩
abbrev main_while1b_v53 : Ref sig .tc := ⟨.hbm, 239, rfl⟩
abbrev main_while1b_call19_c : Ref sig .tc := ⟨.hbm, 240, rfl⟩
abbrev main_while1b_call19_c_0 : Ref sig .tc := ⟨.hbm, 241, rfl⟩
abbrev main_while1b_call19_c_1 : Ref sig .tc := ⟨.hbm, 242, rfl⟩
abbrev main_while1b_call19_c_2 : Ref sig .tc := ⟨.hbm, 243, rfl⟩
abbrev main_while1b_call19_v0 : Ref sig .tc := ⟨.hbm, 244, rfl⟩
abbrev main_while1b_v54 : Ref sig .tc := ⟨.hbm, 245, rfl⟩
abbrev main_while1b_call20_c : Ref sig .tc := ⟨.hbm, 246, rfl⟩
abbrev main_while1b_call20_c_0 : Ref sig .tc := ⟨.hbm, 247, rfl⟩
abbrev main_while1b_call20_c_1 : Ref sig .tc := ⟨.hbm, 248, rfl⟩
abbrev main_while1b_call20_c_2 : Ref sig .tc := ⟨.hbm, 249, rfl⟩
abbrev main_while1b_call20_v0 : Ref sig .tc := ⟨.hbm, 250, rfl⟩
abbrev main_while1b_v55 : Ref sig .tc := ⟨.hbm, 251, rfl⟩
abbrev main_while1b_call21_c : Ref sig .tc := ⟨.hbm, 252, rfl⟩
abbrev main_while1b_call21_c_0 : Ref sig .tc := ⟨.hbm, 253, rfl⟩
abbrev main_while1b_call21_c_1 : Ref sig .tc := ⟨.hbm, 254, rfl⟩
abbrev main_while1b_call21_c_2 : Ref sig .tc := ⟨.hbm, 255, rfl⟩
abbrev main_while1b_call21_v0 : Ref sig .tc := ⟨.hbm, 256, rfl⟩
abbrev main_while1b_v56 : Ref sig .tc := ⟨.hbm, 257, rfl⟩
abbrev main_while1b_call22_c : Ref sig .tc := ⟨.hbm, 258, rfl⟩
abbrev main_while1b_call22_c_0 : Ref sig .tc := ⟨.hbm, 259, rfl⟩
abbrev main_while1b_call22_c_1 : Ref sig .tc := ⟨.hbm, 260, rfl⟩
abbrev main_while1b_call22_c_2 : Ref sig .tc := ⟨.hbm, 261, rfl⟩
abbrev main_while1b_call22_v0 : Ref sig .tc := ⟨.hbm, 262, rfl⟩
abbrev main_while1b_v57 : Ref sig .tc := ⟨.hbm, 263, rfl⟩
abbrev main_while1b_call23_c : Ref sig .tc := ⟨.hbm, 264, rfl⟩
abbrev main_while1b_call23_c_0 : Ref sig .tc := ⟨.hbm, 265, rfl⟩
abbrev main_while1b_call23_c_1 : Ref sig .tc := ⟨.hbm, 266, rfl⟩
abbrev main_while1b_call23_c_2 : Ref sig .tc := ⟨.hbm, 267, rfl⟩
abbrev main_while1b_call23_v0 : Ref sig .tc := ⟨.hbm, 268, rfl⟩
abbrev main_while1b_v58 : Ref sig .tc := ⟨.hbm, 269, rfl⟩
abbrev main_while1b_call24_c : Ref sig .tc := ⟨.hbm, 270, rfl⟩
abbrev main_while1b_call24_c_0 : Ref sig .tc := ⟨.hbm, 271, rfl⟩
abbrev main_while1b_call24_c_1 : Ref sig .tc := ⟨.hbm, 272, rfl⟩
abbrev main_while1b_call24_c_2 : Ref sig .tc := ⟨.hbm, 273, rfl⟩
abbrev main_while1b_call24_v0 : Ref sig .tc := ⟨.hbm, 274, rfl⟩
abbrev main_while1b_v59 : Ref sig .tc := ⟨.hbm, 275, rfl⟩
abbrev main_while1b_call25_c : Ref sig .tc := ⟨.hbm, 276, rfl⟩
abbrev main_while1b_call25_c_0 : Ref sig .tc := ⟨.hbm, 277, rfl⟩
abbrev main_while1b_call25_c_1 : Ref sig .tc := ⟨.hbm, 278, rfl⟩
abbrev main_while1b_call25_c_2 : Ref sig .tc := ⟨.hbm, 279, rfl⟩
abbrev main_while1b_call25_v0 : Ref sig .tc := ⟨.hbm, 280, rfl⟩
abbrev main_while1b_v60 : Ref sig .tc := ⟨.hbm, 281, rfl⟩
abbrev main_while1b_v61 : Ref sig .tc := ⟨.hbm, 282, rfl⟩
abbrev main_while1b_v62 : Ref sig .tc := ⟨.hbm, 283, rfl⟩
abbrev main_while1b_cst_38 : Ref sig .tc := ⟨.hbm, 284, rfl⟩
abbrev main_while1b_v63 : Ref sig .tc := ⟨.hbm, 285, rfl⟩
abbrev main_while1b_v64 : Ref sig .tc := ⟨.hbm, 286, rfl⟩
abbrev main_while1b_v65 : Ref sig .tc := ⟨.hbm, 287, rfl⟩
abbrev main_while1b_v66 : Ref sig .tc := ⟨.hbm, 288, rfl⟩
abbrev main_while1b_v67 : Ref sig .tc := ⟨.hbm, 289, rfl⟩
abbrev main_while1b_cst_39 : Ref sig .tc := ⟨.hbm, 290, rfl⟩
abbrev main_while1b_v68 : Ref sig .tc := ⟨.hbm, 291, rfl⟩
abbrev main_while1b_v69 : Ref sig .tc := ⟨.hbm, 292, rfl⟩
abbrev main_while1b_v70 : Ref sig .tc := ⟨.hbm, 293, rfl⟩
abbrev main_while1b_v71 : Ref sig .tc := ⟨.hbm, 294, rfl⟩
abbrev main_while1b_cst_40 : Ref sig .tc := ⟨.hbm, 295, rfl⟩
abbrev main_while1b_v72 : Ref sig .tc := ⟨.hbm, 296, rfl⟩
abbrev main_while1b_v73 : Ref sig .tc := ⟨.hbm, 297, rfl⟩
abbrev main_while1b_v74 : Ref sig .tc := ⟨.hbm, 298, rfl⟩
abbrev main_while1b_v75 : Ref sig .tc := ⟨.hbm, 299, rfl⟩
abbrev main_while1b_cst_41 : Ref sig .tc := ⟨.hbm, 300, rfl⟩
abbrev main_while1b_v76 : Ref sig .tc := ⟨.hbm, 301, rfl⟩
abbrev main_while1b_v77 : Ref sig .tc := ⟨.hbm, 302, rfl⟩
abbrev main_while1b_cst_42 : Ref sig .tc := ⟨.hbm, 303, rfl⟩
abbrev main_while1b_v78 : Ref sig .tc := ⟨.hbm, 304, rfl⟩
abbrev main_while1b_v79 : Ref sig .tc := ⟨.hbm, 305, rfl⟩
abbrev main_while1b_cst_43 : Ref sig .tc := ⟨.hbm, 306, rfl⟩
abbrev main_while1b_v80 : Ref sig .tc := ⟨.hbm, 307, rfl⟩
abbrev main_while1b_v81 : Ref sig .tc := ⟨.hbm, 308, rfl⟩
abbrev main_while1b_v82 : Ref sig .tc := ⟨.hbm, 309, rfl⟩
abbrev main_while1b_v83 : Ref sig .tc := ⟨.hbm, 310, rfl⟩
abbrev main_while1b_cst_44 : Ref sig .tc := ⟨.hbm, 311, rfl⟩
abbrev main_while1b_v84 : Ref sig .tc := ⟨.hbm, 312, rfl⟩
abbrev main_while1b_v85 : Ref sig .tc := ⟨.hbm, 313, rfl⟩
abbrev main_while1b_v86 : Ref sig .tc := ⟨.hbm, 314, rfl⟩
abbrev main_while1b_v87 : Ref sig .tc := ⟨.hbm, 315, rfl⟩
abbrev main_while1b_cst_45 : Ref sig .tc := ⟨.hbm, 316, rfl⟩
abbrev main_while1b_v88 : Ref sig .tc := ⟨.hbm, 317, rfl⟩
abbrev main_while1b_v89 : Ref sig .tc := ⟨.hbm, 318, rfl⟩
abbrev main_while1b_cst_46 : Ref sig .tc := ⟨.hbm, 319, rfl⟩
abbrev main_while1b_v90 : Ref sig .tc := ⟨.hbm, 320, rfl⟩
abbrev main_while1b_v91 : Ref sig .tc := ⟨.hbm, 321, rfl⟩
abbrev main_while1b_cst_47 : Ref sig .tc := ⟨.hbm, 322, rfl⟩
abbrev main_while1b_v92 : Ref sig .tc := ⟨.hbm, 323, rfl⟩
abbrev main_while1b_v93 : Ref sig .tc := ⟨.hbm, 324, rfl⟩
abbrev main_while1b_v94 : Ref sig .tc := ⟨.hbm, 325, rfl⟩
abbrev main_while1b_cst_48 : Ref sig .tc := ⟨.hbm, 326, rfl⟩
abbrev main_while1b_v95 : Ref sig .tc := ⟨.hbm, 327, rfl⟩
abbrev main_while1b_v96 : Ref sig .tc := ⟨.hbm, 328, rfl⟩
abbrev main_while1b_v97 : Ref sig .tc := ⟨.hbm, 329, rfl⟩
abbrev main_while1b_v98 : Ref sig .tc := ⟨.hbm, 330, rfl⟩
abbrev main_while1b_cst_49 : Ref sig .tc := ⟨.hbm, 331, rfl⟩
abbrev main_while1b_v99 : Ref sig .tc := ⟨.hbm, 332, rfl⟩
abbrev main_while1b_v100 : Ref sig .tc := ⟨.hbm, 333, rfl⟩
abbrev main_while1b_v101 : Ref sig .tc := ⟨.hbm, 334, rfl⟩
abbrev main_while1b_v102 : Ref sig .tc := ⟨.hbm, 335, rfl⟩
abbrev main_while1b_cst_50 : Ref sig .tc := ⟨.hbm, 336, rfl⟩
abbrev main_while1b_v103 : Ref sig .tc := ⟨.hbm, 337, rfl⟩
abbrev main_while1b_v104 : Ref sig .tc := ⟨.hbm, 338, rfl⟩
abbrev main_while1b_v105 : Ref sig .tc := ⟨.hbm, 339, rfl⟩
abbrev main_while1b_v106 : Ref sig .tc := ⟨.hbm, 340, rfl⟩
abbrev main_while1b_v107 : Ref sig .tc := ⟨.hbm, 341, rfl⟩
abbrev main_while1b_cst_51 : Ref sig .tc := ⟨.hbm, 342, rfl⟩
abbrev main_while1b_v108 : Ref sig .tc := ⟨.hbm, 343, rfl⟩
abbrev main_while1b_v109 : Ref sig .tc := ⟨.hbm, 344, rfl⟩
abbrev main_while1b_call26_v0 : Ref sig .tc := ⟨.hbm, 345, rfl⟩
abbrev main_while1b_call26_c : Ref sig .tc := ⟨.hbm, 346, rfl⟩
abbrev main_while1b_call26_c_0 : Ref sig .tc := ⟨.hbm, 347, rfl⟩
abbrev main_while1b_call26_c_1 : Ref sig .tc := ⟨.hbm, 348, rfl⟩
abbrev main_while1b_v110 : Ref sig .tc := ⟨.hbm, 349, rfl⟩
abbrev main_while1b_call27_v0 : Ref sig .tc := ⟨.hbm, 350, rfl⟩
abbrev main_while1b_call27_c : Ref sig .tc := ⟨.hbm, 351, rfl⟩
abbrev main_while1b_call27_c_0 : Ref sig .tc := ⟨.hbm, 352, rfl⟩
abbrev main_while1b_call27_c_1 : Ref sig .tc := ⟨.hbm, 353, rfl⟩
abbrev main_while1b_v111 : Ref sig .tc := ⟨.hbm, 354, rfl⟩
abbrev main_while1b_call28_v0 : Ref sig .tc := ⟨.hbm, 355, rfl⟩
abbrev main_while1b_call28_c : Ref sig .tc := ⟨.hbm, 356, rfl⟩
abbrev main_while1b_call28_c_0 : Ref sig .tc := ⟨.hbm, 357, rfl⟩
abbrev main_while1b_call28_c_1 : Ref sig .tc := ⟨.hbm, 358, rfl⟩
abbrev main_while1b_v112 : Ref sig .tc := ⟨.hbm, 359, rfl⟩
abbrev main_while1b_call29_v0 : Ref sig .tc := ⟨.hbm, 360, rfl⟩
abbrev main_while1b_call29_c : Ref sig .tc := ⟨.hbm, 361, rfl⟩
abbrev main_while1b_call29_c_0 : Ref sig .tc := ⟨.hbm, 362, rfl⟩
abbrev main_while1b_call29_c_1 : Ref sig .tc := ⟨.hbm, 363, rfl⟩
abbrev main_while1b_v113 : Ref sig .tc := ⟨.hbm, 364, rfl⟩
abbrev main_while1b_call30_v0 : Ref sig .tc := ⟨.hbm, 365, rfl⟩
abbrev main_while1b_call30_c : Ref sig .tc := ⟨.hbm, 366, rfl⟩
abbrev main_while1b_call30_c_0 : Ref sig .tc := ⟨.hbm, 367, rfl⟩
abbrev main_while1b_call30_c_1 : Ref sig .tc := ⟨.hbm, 368, rfl⟩
abbrev main_while1b_v114 : Ref sig .tc := ⟨.hbm, 369, rfl⟩
abbrev main_while1b_call31_v0 : Ref sig .tc := ⟨.hbm, 370, rfl⟩
abbrev main_while1b_call31_c : Ref sig .tc := ⟨.hbm, 371, rfl⟩
abbrev main_while1b_call31_c_0 : Ref sig .tc := ⟨.hbm, 372, rfl⟩
abbrev main_while1b_call31_c_1 : Ref sig .tc := ⟨.hbm, 373, rfl⟩
abbrev main_while1b_v115 : Ref sig .tc := ⟨.hbm, 374, rfl⟩
abbrev main_while1b_c_52 : Ref sig .tc := ⟨.hbm, 375, rfl⟩
abbrev main_while1b_v116 : Ref sig .tc := ⟨.hbm, 376, rfl⟩
abbrev main_v37 : Ref sig .tc := ⟨.hbm, 377, rfl⟩
abbrev main_v38 : Ref sig .tc := ⟨.hbm, 378, rfl⟩
abbrev main_v39 : Ref sig .tc := ⟨.hbm, 379, rfl⟩
abbrev main_v40 : Ref sig .tc := ⟨.hbm, 380, rfl⟩
abbrev main_v41 : Ref sig .tc := ⟨.hbm, 381, rfl⟩
abbrev main_v42 : Ref sig .tc := ⟨.hbm, 382, rfl⟩
abbrev main_v43 : Ref sig .tc := ⟨.hbm, 383, rfl⟩
abbrev main_v44 : Ref sig .tc := ⟨.hbm, 384, rfl⟩
abbrev main_v45 : Ref sig .tc := ⟨.hbm, 385, rfl⟩
abbrev main_v46 : Ref sig .tc := ⟨.hbm, 386, rfl⟩
abbrev main_v47 : Ref sig .tc := ⟨.hbm, 387, rfl⟩
abbrev main_v48 : Ref sig .tc := ⟨.hbm, 388, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x4096 : Shape := ⟨2, ![2048, 4096]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S4096x1024, .bf16⟩
  | .hbm, ⟨4, _⟩ => ⟨S2048x4096, .bf16⟩
  | .hbm, ⟨5, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S1024x4096 : Shape := ⟨2, ![1024, 4096]⟩
abbrev S2048x4096 : Shape := ⟨2, ![2048, 4096]⟩
abbrev S1024x8x512 : Shape := ⟨3, ![1024, 8, 512]⟩
abbrev S8x1024x512 : Shape := ⟨3, ![8, 1024, 512]⟩
abbrev S2048x1024 : Shape := ⟨2, ![2048, 1024]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S2048x4096, .bf16⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x4096 : Shape := ⟨2, ![1024, 4096]⟩
abbrev S2048x4096 : Shape := ⟨2, ![2048, 4096]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x4096, .bf16⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x4096, .f32⟩
  | .hbm, ⟨6, _⟩ => ⟨S2048x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x1024 : Shape := ⟨2, ![2048, 1024]⟩
abbrev S2048x4096 : Shape := ⟨2, ![2048, 4096]⟩
abbrev S8x1024x512 : Shape := ⟨3, ![8, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S2048x1024, .bf16⟩
  | .hbm, ⟨3, _⟩ => ⟨S8x1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S2048x4096, .f32⟩
  | .hbm, ⟨6, _⟩ => ⟨S4096x1024, .f32⟩
  | .hbm, ⟨7, _⟩ => ⟨S1024x4096, .f32⟩
  | .hbm, ⟨8, _⟩ => ⟨S1024x8x512, .f32⟩
  | .hbm, ⟨9, _⟩ => ⟨S8x1024x512, .f32⟩
  | .hbm, ⟨10, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S2048x1024, .bf16⟩
  | .hbm, ⟨6, _⟩ => ⟨S2048x4096, .bf16⟩
  | .hbm, ⟨7, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .bf16⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩
abbrev S1024x1024 : Shape := ⟨2, ![1024, 1024]⟩
abbrev S1024x512 : Shape := ⟨2, ![1024, 512]⟩

abbrev nBuf : Space → Nat
  | .hbm => 10
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S4096x1024, .bf16⟩
  | .hbm, ⟨9, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel8.lean ====
abbrev S2048x1024 : Shape := ⟨2, ![2048, 1024]⟩
abbrev S1024x3072 : Shape := ⟨2, ![1024, 3072]⟩
abbrev S3072x1024 : Shape := ⟨2, ![3072, 1024]⟩
abbrev S2048x3072 : Shape := ⟨2, ![2048, 3072]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x1024, .bf16⟩
  | .hbm, ⟨3, _⟩ => ⟨S3072x1024, .f32⟩
  | .hbm, ⟨4, _⟩ => ⟨S3072x1024, .bf16⟩
  | .hbm, ⟨5, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S1024x3072 : Shape := ⟨2, ![1024, 3072]⟩
abbrev S2048x3072 : Shape := ⟨2, ![2048, 3072]⟩
abbrev S3072x1024 : Shape := ⟨2, ![3072, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x3072, .f32⟩
  | .hbm, ⟨1, _⟩ => ⟨S2048x3072, .f32⟩
  | .hbm, ⟨2, _⟩ => ⟨S3072x1024, .f32⟩
  | .hbm, ⟨3, _⟩ => ⟨S3072x1024, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S1024x3072 : Shape := ⟨2, ![1024, 3072]⟩
abbrev S2048x3072 : Shape := ⟨2, ![2048, 3072]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S2048x3072, .f32⟩
  | .hbm, ⟨2, _⟩ => ⟨S_, .f32⟩
  | .hbm, ⟨3, _⟩ => ⟨S2048x1024, .f32⟩
  | .hbm, ⟨4, _⟩ => ⟨S2048x3072, .f32⟩
  | .hbm, ⟨5, _⟩ => ⟨S2048x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2048x1024 : Shape := ⟨2, ![2048, 1024]⟩
abbrev S2048x3072 : Shape := ⟨2, ![2048, 3072]⟩
abbrev S3072x1024 : Shape := ⟨2, ![3072, 1024]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S2048x1024, .bf16⟩
  | .hbm, ⟨3, _⟩ => ⟨S3072x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S_, .f32⟩
  | .hbm, ⟨3, _⟩ => ⟨S1024x3072, .f32⟩
  | .hbm, ⟨4, _⟩ => ⟨S2048x3072, .f32⟩
  | .hbm, ⟨5, _⟩ => ⟨S3072x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S1024x1024 : Shape := ⟨2, ![1024, 1024]⟩
abbrev S2048x1024 : Shape := ⟨2, ![2048, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S1024x1024, .bf16⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Step.lean ====
/- One step of the backward recurrence as the kernel computes it, as a function of the values it reads. -/
module

public import proofs.«01_k».proof.Proof.Gen.KernelIdeal
public import Idealize.ShloMosaic.Lib.Pipeline.FrameBody

@[expose] public section

set_option maxRecDepth 16384

noncomputable section

namespace Cert.KernelIdeal.Scan

open Idealize.ShloMosaic Idealize.ShloMosaic.TcCoe
open Idealize.SL Idealize.SL.Sem Cert.KernelIdeal.Gen

variable {F : FTy → Type} [FloatOps F]

/-- The lanes of the first of the two heads of a tile. -/
def lowMask : IVec S64x128 1 :=
  broadcastTo S64x128 (shapeCast S1x128 (cmpi .slt (iota .tc S1x128 32 [1] iota_S1x128_d1_w32) (broadcast S1x128 64#32)) shapeCasts_S1x128_S1x128)
    broadcasts_S1x128_S64x128

/-- A tile with the second head's lanes at zero. -/
def lowPart (x : FVec F S64x128 .f32) : FVec F S64x128 .f32 :=
  select lowMask x (broadcast S64x128 (Scalar.ofBits .f32 0x00000000#32))

/-- Each row's sum over a tile's lanes, in every lane. -/
def laneSum (x : FVec F S64x128 .f32) : FVec F S64x128 .f32 :=
  broadcastTo S64x128 (shapeCast S64x1 (shapeCast S64x1 (multiReduction .add [1] S64 x 0x00000000#32 reduces_S64x128_S64 (.inl rfl) rfl)
    shapeCasts_S64_S64x1) shapeCasts_S64x1_S64x1) broadcasts_S64x1_S64x128

/-- Each row's sum over a head's lanes, in every lane of the head; one tile of two heads. -/
def tileSum (x : FVec F S64x128 .f32) : FVec F S64x128 .f32 :=
  select lowMask (laneSum (lowPart x)) (laneSum (subf x (lowPart x)))

/-- Each row's sum over a head's lanes, in every lane of the head. -/
def rowSum (x : FVec F S64x256 .f32) : FVec F S64x256 .f32 :=
  concatenate S64x256 1 [⟨S64x128, tileSum (extractStridedSlice S64x128 ![0, 0] x slices_S64x256_o0_0_S64x128)⟩,
    ⟨S64x128, tileSum (extractStridedSlice S64x128 ![0, 128] x slices_S64x256_o0_128_S64x128)⟩] concatenates_S64x128_S64x128_S64x256_d1

/-- A row of a vector block, in every row of a matrix. -/
def wide (v : Vec F S1x1x256 .f32) : FVec F S64x256 .f32 :=
  broadcastTo S64x256 (shapeCast S1x256 v shapeCasts_S1x1x256_S1x256) broadcasts_S1x256_S64x256

/-- A row of a matrix block, as a matrix. -/
def mat (v : Vec F S1x64x256 .f32) : FVec F S64x256 .f32 := shapeCast S64x256 v shapeCasts_S1x64x256_S64x256

/-- The sum over a matrix's rows, as a row of a vector block. -/
def colSum (x : FVec F S64x256 .f32) : FVec F S1x1x256 .f32 :=
  shapeCast S1x1x256 (shapeCast S1x256 (multiReduction .add [0] S256 x 0x00000000#32 reduces_S64x256_S256 (.inl rfl) rfl) shapeCasts_S256_S1x256)
    shapeCasts_S1x256_S1x1x256

/-- What one step reads: the row of each vector at its time, the row of `dy` one time before, and the saved matrices. -/
structure Rows (F : FTy → Type) [FloatOps F] where
  r : Vec F S1x1x256 .f32
  w : Vec F S1x1x256 .f32
  k : Vec F S1x1x256 .f32
  a : Vec F S1x1x256 .f32
  b : Vec F S1x1x256 .f32
  st : Vec F S1x64x256 .f32
  sa : Vec F S1x64x256 .f32
  vc : Vec F S1x64x256 .f32
  dy : Vec F S1x1x256 .f32

/-- What a step hands to the next: the state's cotangent and the next `dy` as a column. -/
abbrev Carry (F : FTy → Type) [FloatOps F] := Vec F S64x256 .f32 × FVec F S64x256 .f32

variable (dg : Vec F S64x256 .f32) (R : Rows F) (c : Carry F)

/-- A row of `dy` as a column in every lane of each head. -/
def dyCol (y : Vec F S1x1x256 .f32) : FVec F S64x256 .f32 := rowSum (mulf dg (wide y))
/-- The cotangent of the state after the step. -/
def dS : FVec F S64x256 .f32 := addf c.1 (mulf c.2 (wide R.r))
/-- The cotangent of the state's product with `a`. -/
def dSa : FVec F S64x256 .f32 := rowSum (mulf (dS R c) (wide R.b))
/-- The state after the step. -/
def sNew : FVec F S64x256 .f32 := addf (addf (mulf (mat R.st) (wide R.w)) (mulf (mat R.sa) (wide R.b))) (mulf (mat R.vc) (wide R.k))
def rowR : FVec F S1x1x256 .f32 := colSum (mulf (sNew R) c.2)
def rowW : FVec F S1x1x256 .f32 := colSum (mulf (dS R c) (mat R.st))
def rowK : FVec F S1x1x256 .f32 := colSum (mulf (dS R c) (mat R.vc))
def rowV : FVec F S1x1x256 .f32 := colSum (mulf (rowSum (mulf (dS R c) (wide R.k))) dg)
def rowA : FVec F S1x1x256 .f32 := colSum (mulf (mat R.st) (dSa R c))
def rowB : FVec F S1x1x256 .f32 := colSum (mulf (dS R c) (mat R.sa))
/-- The carry after the step. -/
def next : Carry F := (addf (mulf (dS R c) (wide R.w)) (mulf (dSa R c) (wide R.a)), dyCol dg R.dy)

/-- The blocks of one grid point: 64 times of each array. -/
structure Blocks (F : FTy → Type) [FloatOps F] where
  r : Vec F S64x1x256 .f32
  w : Vec F S64x1x256 .f32
  k : Vec F S64x1x256 .f32
  a : Vec F S64x1x256 .f32
  b : Vec F S64x1x256 .f32
  st : Vec F S64x64x256 .f32
  sa : Vec F S64x64x256 .f32
  vc : Vec F S64x64x256 .f32
  dy : Vec F S64x1x256 .f32

/-- What the step `j` of trip `k` reads of the blocks. -/
def Blocks.rows (x : Blocks F) (k : Fin k0_t1_loop.trips) (j : Fin 8) : Rows F where
  r := View.ld x.r (Rect.unit (k0_off2 k (BitVec.ofNat 32 j.val)) S1x1x256.size (k0_off2_inb k j))
  w := View.ld x.w (Rect.unit (k0_off2 k (BitVec.ofNat 32 j.val)) S1x1x256.size (k0_off2_inb k j))
  k := View.ld x.k (Rect.unit (k0_off2 k (BitVec.ofNat 32 j.val)) S1x1x256.size (k0_off2_inb k j))
  a := View.ld x.a (Rect.unit (k0_off2 k (BitVec.ofNat 32 j.val)) S1x1x256.size (k0_off2_inb k j))
  b := View.ld x.b (Rect.unit (k0_off2 k (BitVec.ofNat 32 j.val)) S1x1x256.size (k0_off2_inb k j))
  st := View.ld x.st (Rect.unit (k0_off1 k (BitVec.ofNat 32 j.val)) S1x64x256.size (k0_off1_inb k j))
  sa := View.ld x.sa (Rect.unit (k0_off1 k (BitVec.ofNat 32 j.val)) S1x64x256.size (k0_off1_inb k j))
  vc := View.ld x.vc (Rect.unit (k0_off1 k (BitVec.ofNat 32 j.val)) S1x64x256.size (k0_off1_inb k j))
  dy := View.ld x.dy (Rect.unit (k0_off3 k (BitVec.ofNat 32 j.val)) S1x1x256.size (k0_off3_inb k j))

end Cert.KernelIdeal.Scan

end
-- ==== Proof.Trip.lean ====
/- One trip of the kernel's loop is eight steps of the recurrence, and it stores each step's six rows. -/
module

public import proofs.«01_k».proof.Proof.Gen.KernelIdeal.Loops
public import proofs.«01_k».proof.Proof.Step

@[expose] public section

set_option maxRecDepth 16384

noncomputable section

namespace Cert.KernelIdeal.Scan

open Idealize.ShloMosaic Idealize.ShloMosaic.TcCoe
open Idealize.SL Idealize.SL.Sem Cert.KernelIdeal.Gen

variable {F : FTy → Type} [FloatOps F]

/-- The carry before step `j` of trip `k`, from the carry `acc` before the trip. -/
def tripCarry (dg : Vec F S64x256 .f32) (x : Blocks F) (k : Fin k0_t1_loop.trips) (acc : Carry F) : ℕ → Carry F
  | 0 => acc
  | j + 1 => next dg (x.rows k (Fin.ofNat 8 j)) (tripCarry dg x k acc j)

/-- The piece step `j` of trip `k` stores. -/
def tripPiece (x : Blocks F) (row : Rows F → Carry F → FVec F S1x1x256 .f32) (dg : Vec F S64x256 .f32) (k : Fin k0_t1_loop.trips) (acc : Carry F)
    (j : Fin 8) : View.Piece (Elt F) S64x1x256 .f32 :=
  ⟨Rect.unit (k0_off2 k (BitVec.ofNat 32 j.val)) S1x1x256.size (k0_off2_inb k j), row (x.rows k j) (tripCarry dg x k acc j.val)⟩

/-- The eight pieces of trip `k`, last first. -/
def tripPieces (x : Blocks F) (row : Rows F → Carry F → FVec F S1x1x256 .f32) (dg : Vec F S64x256 .f32) (k : Fin k0_t1_loop.trips) (acc : Carry F) :
    List (View.Piece (Elt F) S64x1x256 .f32) :=
  [tripPiece x row dg k acc 7, tripPiece x row dg k acc 6, tripPiece x row dg k acc 5, tripPiece x row dg k acc 4,
    tripPiece x row dg k acc 3, tripPiece x row dg k acc 2, tripPiece x row dg k acc 1, tripPiece x row dg k acc 0]

variable (𝒱 : Variants) (c : Dev nD) (bd : Option 𝒱.V) (i : grid0.Coords)
  (arg1 : Memref sig .tc .vmem S64x1x256 .f32) (harg1 : arg1.IsWhole) (arg2 : Memref sig .tc .vmem S64x1x256 .f32) (harg2 : arg2.IsWhole)
  (arg3 : Memref sig .tc .vmem S64x1x256 .f32) (harg3 : arg3.IsWhole) (arg4 : Memref sig .tc .vmem S64x1x256 .f32) (harg4 : arg4.IsWhole)
  (arg5 : Memref sig .tc .vmem S64x1x256 .f32) (harg5 : arg5.IsWhole) (arg6 : Memref sig .tc .vmem S64x64x256 .f32) (harg6 : arg6.IsWhole)
  (arg7 : Memref sig .tc .vmem S64x64x256 .f32) (harg7 : arg7.IsWhole) (arg8 : Memref sig .tc .vmem S64x64x256 .f32) (harg8 : arg8.IsWhole)
  (arg9 : Memref sig .tc .vmem S64x1x256 .f32) (harg9 : arg9.IsWhole) (arg10 : Memref sig .tc .vmem S64x256 .f32) (harg10 : arg10.IsWhole)
  (arg11 : Memref sig .tc .vmem S64x1x256 .f32) (harg11 : arg11.IsWhole) (arg12 : Memref sig .tc .vmem S64x1x256 .f32) (harg12 : arg12.IsWhole)
  (arg13 : Memref sig .tc .vmem S64x1x256 .f32) (harg13 : arg13.IsWhole) (arg14 : Memref sig .tc .vmem S64x1x256 .f32) (harg14 : arg14.IsWhole)
  (arg15 : Memref sig .tc .vmem S64x1x256 .f32) (harg15 : arg15.IsWhole) (arg16 : Memref sig .tc .vmem S64x1x256 .f32) (harg16 : arg16.IsWhole)
  (arg17 : Memref sig .tc .vmem S64x256 .f32) (harg17 : arg17.IsWhole) (v3 : Vec F S64x256 .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X7 : BufTy.Contents (Elt F) arg7.view.ty) (X8 : BufTy.Contents (Elt F) arg8.view.ty) (X9 : BufTy.Contents (Elt F) arg9.view.ty)

/-- The blocks a point's nine loaded buffers hold. -/
def blocksOf : Blocks F where
  r := arg1.view.read (Elt F) X1
  w := arg2.view.read (Elt F) X2
  k := arg3.view.read (Elt F) X3
  a := arg4.view.read (Elt F) X4
  b := arg5.view.read (Elt F) X5
  st := arg6.view.read (Elt F) X6
  sa := arg7.view.read (Elt F) X7
  vc := arg8.view.read (Elt F) X8
  dy := arg9.view.read (Elt F) X9

theorem tripCarry_succ (dg : Vec F S64x256 .f32) (x : Blocks F) (k : Fin k0_t1_loop.trips) (acc : Carry F) (j : ℕ) :
    tripCarry dg x k acc (j + 1) = next dg (x.rows k (Fin.ofNat 8 j)) (tripCarry dg x k acc j) := rfl

theorem tripCarry_zero (dg : Vec F S64x256 .f32) (x : Blocks F) (k : Fin k0_t1_loop.trips) (acc : Carry F) : tripCarry dg x k acc 0 = acc := rfl

attribute [local irreducible] tripCarry

section Steps

variable (k : Fin k0_t1_loop.trips) (acc : Carry F) (x : Blocks F)
  (hx : x = blocksOf arg1 arg2 arg3 arg4 arg5 arg6 arg7 arg8 arg9 X1 X2 X3 X4 X5 X6 X7 X8 X9)

include hx

theorem y0 : trip_k0_t1.sl.r_16 arg9 v3 X9 k = (tripCarry v3 x k acc 1).2 := by
  subst hx; rw [tripCarry_succ]; rfl
theorem y1 : trip_k0_t1.sl.r_40 arg9 v3 X9 k = (tripCarry v3 x k acc 2).2 := by
  subst hx; rw [tripCarry_succ]; rfl
theorem y2 : trip_k0_t1.sl.r_54 arg9 v3 X9 k = (tripCarry v3 x k acc 3).2 := by
  subst hx; rw [tripCarry_succ]; rfl
theorem y3 : trip_k0_t1.sl.r_74 arg9 v3 X9 k = (tripCarry v3 x k acc 4).2 := by
  subst hx; rw [tripCarry_succ]; rfl
theorem y4 : trip_k0_t1.sl.r_93 arg9 v3 X9 k = (tripCarry v3 x k acc 5).2 := by
  subst hx; rw [tripCarry_succ]; rfl
theorem y5 : trip_k0_t1.sl.r_108 arg9 v3 X9 k = (tripCarry v3 x k acc 6).2 := by
  subst hx; rw [tripCarry_succ]; rfl
theorem y6 : trip_k0_t1.sl.r_128 arg9 v3 X9 k = (tripCarry v3 x k acc 7).2 := by
  subst hx; rw [tripCarry_succ]; rfl
theorem y7 : trip_k0_t1.sl.r_142 arg9 v3 X9 k = (tripCarry v3 x k acc 8).2 := by
  subst hx; rw [tripCarry_succ]; rfl
theorem s0 : trip_k0_t1.sl.r_5 arg1 X1 k acc = dS (x.rows k 0) (tripCarry v3 x k acc 0) := by
  subst hx; rw [tripCarry_zero]; rfl
theorem t0 : trip_k0_t1.sl.r_9 arg1 arg5 X1 X5 k acc = dSa (x.rows k 0) (tripCarry v3 x k acc 0) := by
  unfold trip_k0_t1.sl.r_9 trip_k0_t1.sl.r_6 trip_k0_t1.sl.r_7 trip_k0_t1.sl.r_8; subst hx; rw [tripCarry_zero]; rfl
theorem n0 : trip_k0_t1.sl.r_23 arg1 arg2 arg4 arg5 X1 X2 X4 X5 k acc = (tripCarry v3 x k acc 1).1 := by
  unfold trip_k0_t1.sl.r_23; rw [s0 (hx := hx) (v3 := v3), t0 (hx := hx) (v3 := v3)]; subst hx; rw [tripCarry_succ (j := 0)]; rfl
theorem s1 : trip_k0_t1.sl.r_30 arg1 arg2 arg4 arg5 arg9 v3 X1 X2 X4 X5 X9 k acc = dS (x.rows k 1) (tripCarry v3 x k acc 1) := by
  unfold trip_k0_t1.sl.r_30; rw [y0 (hx := hx) (acc := acc), n0 (hx := hx) (v3 := v3)]; subst hx; rfl
theorem t1 : trip_k0_t1.sl.r_34 arg1 arg2 arg4 arg5 arg9 v3 X1 X2 X4 X5 X9 k acc = dSa (x.rows k 1) (tripCarry v3 x k acc 1) := by
  unfold trip_k0_t1.sl.r_34 trip_k0_t1.sl.r_31 trip_k0_t1.sl.r_32 trip_k0_t1.sl.r_33; simp only [y0 (hx := hx) (acc := acc), n0 (hx := hx) (v3 := v3)]; subst hx; rfl
theorem s2 : trip_k0_t1.sl.r_49 arg1 arg2 arg4 arg5 arg9 v3 X1 X2 X4 X5 X9 k acc = dS (x.rows k 2) (tripCarry v3 x k acc 2) := by
  unfold trip_k0_t1.sl.r_49; rw [y1 (hx := hx) (acc := acc), s1 (hx := hx) (v3 := v3), t1 (hx := hx) (v3 := v3)]; subst hx; rw [tripCarry_succ (j := 1)]; rfl
theorem t2 : trip_k0_t1.sl.r_51 arg1 arg2 arg4 arg5 arg9 v3 X1 X2 X4 X5 X9 k acc = dSa (x.rows k 2) (tripCarry v3 x k acc 2) := by
  unfold trip_k0_t1.sl.r_51 trip_k0_t1.sl.r_50; simp only [y1 (hx := hx) (acc := acc), s1 (hx := hx) (v3 := v3), t1 (hx := hx) (v3 := v3)]; subst hx; rw [tripCarry_succ (j := 1)]; rfl
theorem n2 : trip_k0_t1.sl.r_59 arg1 arg2 arg4 arg5 arg9 v3 X1 X2 X4 X5 X9 k acc = (tripCarry v3 x k acc 3).1 := by
  unfold trip_k0_t1.sl.r_59; rw [s2 (hx := hx) (v3 := v3), t2 (hx := hx) (v3 := v3)]; subst hx; rw [tripCarry_succ (j := 2)]; rfl
theorem s3 : trip_k0_t1.sl.r_65 arg1 arg2 arg4 arg5 arg9 v3 X1 X2 X4 X5 X9 k acc = dS (x.rows k 3) (tripCarry v3 x k acc 3) := by
  unfold trip_k0_t1.sl.r_65; rw [y2 (hx := hx) (acc := acc), n2 (hx := hx) (v3 := v3)]; subst hx; rfl
theorem t3 : trip_k0_t1.sl.r_68 arg1 arg2 arg4 arg5 arg9 v3 X1 X2 X4 X5 X9 k acc = dSa (x.rows k 3) (tripCarry v3 x k acc 3) := by
  unfold trip_k0_t1.sl.r_68 trip_k0_t1.sl.r_66 trip_k0_t1.sl.r_67; simp only [y2 (hx := hx) (acc := acc), n2 (hx := hx) (v3 := v3)]; subst hx; rfl
theorem n3 : trip_k0_t1.sl.r_79 arg1 arg2 arg4 arg5 arg9 v3 X1 X2 X4 X5 X9 k acc = (tripCarry v3 x k acc 4).1 := by
  unfold trip_k0_t1.sl.r_79; rw [s3 (hx := hx) (v3 := v3), t3 (hx := hx) (v3 := v3)]; subst hx; rw [tripCarry_succ (j := 3)]; rfl
theorem s4 : trip_k0_t1.sl.r_86 arg1 arg2 arg4 arg5 arg9 v3 X1 X2 X4 X5 X9 k acc = dS (x.rows k 4) (tripCarry v3 x k acc 4) := by
  unfold trip_k0_t1.sl.r_86; rw [y3 (hx := hx) (acc := acc), n3 (hx := hx) (v3 := v3)]; subst hx; rfl
theorem t4 : trip_k0_t1.sl.r_87 arg1 arg2 arg4 arg5 arg9 v3 X1 X2 X4 X5 X9 k acc = dSa (x.rows k 4) (tripCarry v3 x k acc 4) := by
  unfold trip_k0_t1.sl.r_87; simp only [y3 (hx := hx) (acc := acc), n3 (hx := hx) (v3 := v3)]; subst hx; rfl
theorem s5 : trip_k0_t1.sl.r_101 arg1 arg2 arg4 arg5 arg9 v3 X1 X2 X4 X5 X9 k acc = dS (x.rows k 5) (tripCarry v3 x k acc 5) := by
  unfold trip_k0_t1.sl.r_101; rw [y4 (hx := hx) (acc := acc), s4 (hx := hx) (v3 := v3), t4 (hx := hx) (v3 := v3)]; subst hx; rw [tripCarry_succ (j := 4)]; rfl
theorem t5 : trip_k0_t1.sl.r_104 arg1 arg2 arg4 arg5 arg9 v3 X1 X2 X4 X5 X9 k acc = dSa (x.rows k 5) (tripCarry v3 x k acc 5) := by
  unfold trip_k0_t1.sl.r_104 trip_k0_t1.sl.r_102 trip_k0_t1.sl.r_103; simp only [y4 (hx := hx) (acc := acc), s4 (hx := hx) (v3 := v3), t4 (hx := hx) (v3 := v3)]; subst hx; rw [tripCarry_succ (j := 4)]; rfl
theorem n5 : trip_k0_t1.sl.r_113 arg1 arg2 arg4 arg5 arg9 v3 X1 X2 X4 X5 X9 k acc = (tripCarry v3 x k acc 6).1 := by
  unfold trip_k0_t1.sl.r_113; rw [s5 (hx := hx) (v3 := v3), t5 (hx := hx) (v3 := v3)]; subst hx; rw [tripCarry_succ (j := 5)]; rfl
theorem s6 : trip_k0_t1.sl.r_119 arg1 arg2 arg4 arg5 arg9 v3 X1 X2 X4 X5 X9 k acc = dS (x.rows k 6) (tripCarry v3 x k acc 6) := by
  unfold trip_k0_t1.sl.r_119; rw [y5 (hx := hx) (acc := acc), n5 (hx := hx) (v3 := v3)]; subst hx; rfl
theorem t6 : trip_k0_t1.sl.r_123 arg1 arg2 arg4 arg5 arg9 v3 X1 X2 X4 X5 X9 k acc = dSa (x.rows k 6) (tripCarry v3 x k acc 6) := by
  unfold trip_k0_t1.sl.r_123 trip_k0_t1.sl.r_120 trip_k0_t1.sl.r_121 trip_k0_t1.sl.r_122; simp only [y5 (hx := hx) (acc := acc), n5 (hx := hx) (v3 := v3)]; subst hx; rfl
theorem n6 : trip_k0_t1.sl.r_131 arg1 arg2 arg4 arg5 arg9 v3 X1 X2 X4 X5 X9 k acc = (tripCarry v3 x k acc 7).1 := by
  unfold trip_k0_t1.sl.r_131; rw [s6 (hx := hx) (v3 := v3), t6 (hx := hx) (v3 := v3)]; subst hx; rw [tripCarry_succ (j := 6)]; rfl
theorem s7 : trip_k0_t1.sl.r_138 arg1 arg2 arg4 arg5 arg9 v3 X1 X2 X4 X5 X9 k acc = dS (x.rows k 7) (tripCarry v3 x k acc 7) := by
  unfold trip_k0_t1.sl.r_138; rw [y6 (hx := hx) (acc := acc), n6 (hx := hx) (v3 := v3)]; subst hx; rfl
theorem t7 : trip_k0_t1.sl.r_139 arg1 arg2 arg4 arg5 arg9 v3 X1 X2 X4 X5 X9 k acc = dSa (x.rows k 7) (tripCarry v3 x k acc 7) := by
  unfold trip_k0_t1.sl.r_139; simp only [y6 (hx := hx) (acc := acc), n6 (hx := hx) (v3 := v3)]; subst hx; rfl

end Steps

end Cert.KernelIdeal.Scan

end
-- ==== Proof.TripOut.lean ====
/- One trip of the kernel's loop is eight steps of the recurrence, and it stores each step's six rows. -/
module

public import proofs.«01_k».proof.Proof.Trip

@[expose] public section

set_option maxRecDepth 16384

noncomputable section

namespace Cert.KernelIdeal.Scan

open Idealize.ShloMosaic Idealize.ShloMosaic.TcCoe
open Idealize.SL Idealize.SL.Sem Cert.KernelIdeal.Gen

variable {F : FTy → Type} [FloatOps F]

variable (𝒱 : Variants) (c : Dev nD) (bd : Option 𝒱.V) (i : grid0.Coords)
  (arg1 : Memref sig .tc .vmem S64x1x256 .f32) (harg1 : arg1.IsWhole) (arg2 : Memref sig .tc .vmem S64x1x256 .f32) (harg2 : arg2.IsWhole)
  (arg3 : Memref sig .tc .vmem S64x1x256 .f32) (harg3 : arg3.IsWhole) (arg4 : Memref sig .tc .vmem S64x1x256 .f32) (harg4 : arg4.IsWhole)
  (arg5 : Memref sig .tc .vmem S64x1x256 .f32) (harg5 : arg5.IsWhole) (arg6 : Memref sig .tc .vmem S64x64x256 .f32) (harg6 : arg6.IsWhole)
  (arg7 : Memref sig .tc .vmem S64x64x256 .f32) (harg7 : arg7.IsWhole) (arg8 : Memref sig .tc .vmem S64x64x256 .f32) (harg8 : arg8.IsWhole)
  (arg9 : Memref sig .tc .vmem S64x1x256 .f32) (harg9 : arg9.IsWhole) (arg10 : Memref sig .tc .vmem S64x256 .f32) (harg10 : arg10.IsWhole)
  (arg11 : Memref sig .tc .vmem S64x1x256 .f32) (harg11 : arg11.IsWhole) (arg12 : Memref sig .tc .vmem S64x1x256 .f32) (harg12 : arg12.IsWhole)
  (arg13 : Memref sig .tc .vmem S64x1x256 .f32) (harg13 : arg13.IsWhole) (arg14 : Memref sig .tc .vmem S64x1x256 .f32) (harg14 : arg14.IsWhole)
  (arg15 : Memref sig .tc .vmem S64x1x256 .f32) (harg15 : arg15.IsWhole) (arg16 : Memref sig .tc .vmem S64x1x256 .f32) (harg16 : arg16.IsWhole)
  (arg17 : Memref sig .tc .vmem S64x256 .f32) (harg17 : arg17.IsWhole) (v3 : Vec F S64x256 .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X7 : BufTy.Contents (Elt F) arg7.view.ty) (X8 : BufTy.Contents (Elt F) arg8.view.ty) (X9 : BufTy.Contents (Elt F) arg9.view.ty)

theorem tripPiece_zero (x : Blocks F) (row : Rows F → Carry F → FVec F S1x1x256 .f32) (dg : Vec F S64x256 .f32) (k : Fin k0_t1_loop.trips) (acc : Carry F) :
    tripPiece x row dg k acc 0 = ⟨Rect.unit (k0_off2 k (BitVec.ofNat 32 (0 : Fin 8).val)) S1x1x256.size (k0_off2_inb k 0), row (x.rows k 0) acc⟩ := rfl

attribute [local irreducible] tripCarry

theorem list8 {α : Type _} {a0 a1 a2 a3 a4 a5 a6 a7 b0 b1 b2 b3 b4 b5 b6 b7 : α} (h0 : a0 = b0) (h1 : a1 = b1) (h2 : a2 = b2) (h3 : a3 = b3)
    (h4 : a4 = b4) (h5 : a5 = b5) (h6 : a6 = b6) (h7 : a7 = b7) : [a0, a1, a2, a3, a4, a5, a6, a7] = [b0, b1, b2, b3, b4, b5, b6, b7] := by
  subst h0 h1 h2 h3 h4 h5 h6 h7; rfl

set_option maxHeartbeats 1000000 in
theorem trip_carry (k : Fin k0_t1_loop.trips) (acc : Carry F) (x : Blocks F)
    (hx : x = blocksOf arg1 arg2 arg3 arg4 arg5 arg6 arg7 arg8 arg9 X1 X2 X3 X4 X5 X6 X7 X8 X9) :
    let t := trip_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 k
    t.1 acc = tripCarry v3 x k acc 8 := by
  delta trip_k0_t1
  intro t
  show (_ : Carry F) = _
  dsimp only [tripCarry_zero, t]
  exact Prod.ext (by rw [s7 (hx := hx) (v3 := v3), t7 (hx := hx) (v3 := v3), tripCarry_succ (j := 7)]; subst hx; rfl) (y7 (hx := hx) (acc := acc) ..)

set_option maxHeartbeats 1000000 in
theorem trip_r (k : Fin k0_t1_loop.trips) (acc : Carry F) (x : Blocks F)
    (hx : x = blocksOf arg1 arg2 arg3 arg4 arg5 arg6 arg7 arg8 arg9 X1 X2 X3 X4 X5 X6 X7 X8 X9) :
    let t := trip_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 k
    t.2.1 acc = tripPieces x rowR v3 k acc := by
  delta trip_k0_t1
  intro t
  show (_ : List _) = _
  dsimp only [tripCarry_zero, t]
  simp only [tripCarry_zero, trip_k0_t1.sl.r_109, trip_k0_t1.sl.r_55, trip_k0_t1.sl.r_143, y0 (hx := hx) (acc := acc), y1 (hx := hx) (acc := acc), y2 (hx := hx) (acc := acc), y3 (hx := hx) (acc := acc), y4 (hx := hx) (acc := acc), y5 (hx := hx) (acc := acc), y6 (hx := hx) (acc := acc)]
  rw [tripPieces, tripPiece_zero]; subst hx
  exact list8 rfl rfl rfl rfl rfl rfl rfl rfl

set_option maxHeartbeats 1000000 in
theorem trip_w (k : Fin k0_t1_loop.trips) (acc : Carry F) (x : Blocks F)
    (hx : x = blocksOf arg1 arg2 arg3 arg4 arg5 arg6 arg7 arg8 arg9 X1 X2 X3 X4 X5 X6 X7 X8 X9) :
    let t := trip_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 k
    t.2.2.1 acc = tripPieces x rowW v3 k acc := by
  delta trip_k0_t1
  intro t
  show (_ : List _) = _
  dsimp only [tripCarry_zero, t]
  simp only [tripCarry_zero, trip_k0_t1.sl.r_41, s1 (hx := hx) (v3 := v3), s2 (hx := hx) (v3 := v3), s3 (hx := hx) (v3 := v3), s4 (hx := hx) (v3 := v3), s5 (hx := hx) (v3 := v3), s6 (hx := hx) (v3 := v3), s7 (hx := hx) (v3 := v3)]
  rw [tripPieces, tripPiece_zero]; subst hx
  exact list8 rfl rfl rfl rfl rfl rfl rfl rfl

set_option maxHeartbeats 1000000 in
theorem trip_k (k : Fin k0_t1_loop.trips) (acc : Carry F) (x : Blocks F)
    (hx : x = blocksOf arg1 arg2 arg3 arg4 arg5 arg6 arg7 arg8 arg9 X1 X2 X3 X4 X5 X6 X7 X8 X9) :
    let t := trip_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 k
    t.2.2.2.1 acc = tripPieces x rowK v3 k acc := by
  delta trip_k0_t1
  intro t
  show (_ : List _) = _
  dsimp only [tripCarry_zero, t]
  simp only [tripCarry_zero, trip_k0_t1.sl.r_17, s0 (hx := hx) (v3 := v3), s1 (hx := hx) (v3 := v3), s2 (hx := hx) (v3 := v3), s3 (hx := hx) (v3 := v3), s4 (hx := hx) (v3 := v3), s5 (hx := hx) (v3 := v3), s6 (hx := hx) (v3 := v3), s7 (hx := hx) (v3 := v3)]
  rw [tripPieces, tripPiece_zero]; subst hx
  exact list8 rfl rfl rfl rfl rfl rfl rfl rfl

set_option maxHeartbeats 1000000 in
theorem trip_v (k : Fin k0_t1_loop.trips) (acc : Carry F) (x : Blocks F)
    (hx : x = blocksOf arg1 arg2 arg3 arg4 arg5 arg6 arg7 arg8 arg9 X1 X2 X3 X4 X5 X6 X7 X8 X9) :
    let t := trip_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 k
    t.2.2.2.2.1 acc = tripPieces x (rowV v3) v3 k acc := by
  delta trip_k0_t1
  intro t
  show (_ : List _) = _
  dsimp only [tripCarry_zero, t]
  simp only [tripCarry_zero, trip_k0_t1.sl.r_58, trip_k0_t1.sl.r_94, trip_k0_t1.sl.r_20, trip_k0_t1.sl.r_110, trip_k0_t1.sl.r_57, trip_k0_t1.sl.r_19, trip_k0_t1.sl.r_145, trip_k0_t1.sl.r_144, trip_k0_t1.sl.r_21, trip_k0_t1.sl.r_43, trip_k0_t1.sl.r_56, trip_k0_t1.sl.r_112, trip_k0_t1.sl.r_111, trip_k0_t1.sl.r_77, trip_k0_t1.sl.r_130, trip_k0_t1.sl.r_22, trip_k0_t1.sl.r_76, trip_k0_t1.sl.r_78, s0 (hx := hx) (v3 := v3), s1 (hx := hx) (v3 := v3), s2 (hx := hx) (v3 := v3), s3 (hx := hx) (v3 := v3), s4 (hx := hx) (v3 := v3), s5 (hx := hx) (v3 := v3), s6 (hx := hx) (v3 := v3), s7 (hx := hx) (v3 := v3)]
  rw [tripPieces, tripPiece_zero]; subst hx
  exact list8 rfl rfl rfl rfl rfl rfl rfl rfl

set_option maxHeartbeats 1000000 in
theorem trip_a (k : Fin k0_t1_loop.trips) (acc : Carry F) (x : Blocks F)
    (hx : x = blocksOf arg1 arg2 arg3 arg4 arg5 arg6 arg7 arg8 arg9 X1 X2 X3 X4 X5 X6 X7 X8 X9) :
    let t := trip_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 k
    t.2.2.2.2.2.1 acc = tripPieces x rowA v3 k acc := by
  delta trip_k0_t1
  intro t
  show (_ : List _) = _
  dsimp only [tripCarry_zero, t]
  simp only [tripCarry_zero, trip_k0_t1.sl.r_95, t0 (hx := hx) (v3 := v3), t1 (hx := hx) (v3 := v3), t2 (hx := hx) (v3 := v3), t3 (hx := hx) (v3 := v3), t4 (hx := hx) (v3 := v3), t5 (hx := hx) (v3 := v3), t6 (hx := hx) (v3 := v3), t7 (hx := hx) (v3 := v3)]
  rw [tripPieces, tripPiece_zero]; subst hx
  exact list8 rfl rfl rfl rfl rfl rfl rfl rfl

set_option maxHeartbeats 1000000 in
theorem trip_b (k : Fin k0_t1_loop.trips) (acc : Carry F) (x : Blocks F)
    (hx : x = blocksOf arg1 arg2 arg3 arg4 arg5 arg6 arg7 arg8 arg9 X1 X2 X3 X4 X5 X6 X7 X8 X9) :
    let t := trip_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 k
    t.2.2.2.2.2.2.1 acc = tripPieces x rowB v3 k acc := by
  delta trip_k0_t1
  intro t
  show (_ : List _) = _
  dsimp only [tripCarry_zero, t]
  simp only [tripCarry_zero, trip_k0_t1.sl.r_75, trip_k0_t1.sl.r_129, s0 (hx := hx) (v3 := v3), s1 (hx := hx) (v3 := v3), s2 (hx := hx) (v3 := v3), s3 (hx := hx) (v3 := v3), s4 (hx := hx) (v3 := v3), s5 (hx := hx) (v3 := v3), s6 (hx := hx) (v3 := v3), s7 (hx := hx) (v3 := v3)]
  rw [tripPieces, tripPiece_zero]; subst hx
  exact list8 rfl rfl rfl rfl rfl rfl rfl rfl

end Cert.KernelIdeal.Scan

end
-- ==== Proof.Chunk.lean ====
/- A block of 64 times: the carry before each of its steps, and the rows its steps leave in each output. -/
module

public import proofs.«01_k».proof.Proof.Trip
public import Idealize.ShloMosaic.Lib.Pipeline.Value

@[expose] public section

set_option maxRecDepth 16384

noncomputable section

namespace Cert.KernelIdeal.Scan

open Idealize.ShloMosaic Idealize.ShloMosaic.TcCoe
open Idealize.SL Idealize.SL.Sem Cert.KernelIdeal.Gen

variable {F : FTy → Type} [FloatOps F]

theorem trips_eq : k0_t1_loop.trips = 8 := by decide +kernel

/-- The trip that step `n` of a block belongs to. -/
def tripAt (n : ℕ) : Fin k0_t1_loop.trips := ⟨n / 8 % 8, by rw [trips_eq]; omega⟩

/-- What step `n` of a block reads. -/
def Blocks.at (x : Blocks F) (n : ℕ) : Rows F := x.rows (tripAt n) (Fin.ofNat 8 n)

/-- The carry before step `n` of a block, from the carry before its first. -/
def carryAt (dg : Vec F S64x256 .f32) (x : Blocks F) (c : Carry F) : ℕ → Carry F
  | 0 => c
  | n + 1 => next dg (x.at n) (carryAt dg x c n)

/-- A row of a block as an index into the row alone. -/
def rowIdx (y : S64x1x256.Idx) : S1x1x256.Idx := fun a => match a with
  | 0 => ⟨0, by decide⟩
  | 1 => ⟨0, by decide⟩
  | 2 => y 2

/-- The block an output's rows make: time `63 - n` is step `n`'s. -/
def outBlock (row : Rows F → Carry F → FVec F S1x1x256 .f32) (dg : Vec F S64x256 .f32) (x : Blocks F) (c : Carry F) : Vec F S64x1x256 .f32 :=
  fun y => row (x.at (63 - (y 0).val)) (carryAt dg x c (63 - (y 0).val)) (rowIdx y)

variable (dg : Vec F S64x256 .f32) (x : Blocks F) (c : Carry F) (row : Rows F → Carry F → FVec F S1x1x256 .f32)

theorem at_eq (k : Fin k0_t1_loop.trips) (j : ℕ) (hj : j < 8) : x.at (8 * k.val + j) = x.rows k (Fin.ofNat 8 j) := by
  have hk : k.val < 8 := trips_eq ▸ k.isLt
  have h1 : tripAt (8 * k.val + j) = k := Fin.ext (by show (8 * k.val + j) / 8 % 8 = k.val; omega)
  have h2 : Fin.ofNat 8 (8 * k.val + j) = Fin.ofNat 8 j := Fin.ext (by show (8 * k.val + j) % 8 = j % 8; omega)
  rw [Blocks.at, h1, h2]

theorem tripCarry_eq (k : Fin k0_t1_loop.trips) : ∀ j : ℕ, j ≤ 8 →
    tripCarry dg x k (carryAt dg x c (8 * k.val)) j = carryAt dg x c (8 * k.val + j)
  | 0, _ => rfl
  | j + 1, hj => by
    rw [tripCarry_succ, tripCarry_eq k j (by omega), ← at_eq x k j (by omega)]; rfl

/-- The pieces the first trips store, last first. -/
def piecesTo : ℕ → List (View.Piece (Elt F) S64x1x256 .f32)
  | 0 => []
  | k + 1 => tripPieces x row dg (tripAt (8 * k)) (carryAt dg x c (8 * k)) ++ piecesTo k

theorem mem_tripPieces (k : Fin k0_t1_loop.trips) (acc : Carry F) (j : Fin 8) : tripPiece x row dg k acc j ∈ tripPieces x row dg k acc := by
  fin_cases j <;> simp [tripPieces]

theorem of_mem_tripPieces {k : Fin k0_t1_loop.trips} {acc : Carry F} {p : View.Piece (Elt F) S64x1x256 .f32}
    (h : p ∈ tripPieces x row dg k acc) : ∃ j, p = tripPiece x row dg k acc j := by
  simp only [tripPieces, List.mem_cons, List.not_mem_nil, or_false] at h
  rcases h with h | h | h | h | h | h | h | h <;> exact ⟨_, h⟩

theorem mem_piecesTo (k : Fin k0_t1_loop.trips) (j : Fin 8) : ∀ K : ℕ, k.val < K →
    tripPiece x row dg k (carryAt dg x c (8 * k.val)) j ∈ piecesTo dg x c row K
  | 0, h => absurd h (by omega)
  | K + 1, h => by
    rw [piecesTo, List.mem_append]
    rcases Nat.lt_succ_iff_lt_or_eq.mp h with h | h
    · exact .inr (mem_piecesTo k j K h)
    · have hk : k.val < 8 := trips_eq ▸ k.isLt
      have : tripAt (8 * K) = k := Fin.ext (by show 8 * K / 8 % 8 = k.val; omega)
      rw [this, ← h]; exact .inl (mem_tripPieces ..)

theorem of_mem_piecesTo {p : View.Piece (Elt F) S64x1x256 .f32} : ∀ K : ℕ, K ≤ 8 → p ∈ piecesTo dg x c row K →
    ∃ (k : Fin k0_t1_loop.trips) (j : Fin 8), p = tripPiece x row dg k (carryAt dg x c (8 * k.val)) j
  | 0, _, h => absurd h (by simp [piecesTo])
  | K + 1, hK, h => by
    rw [piecesTo, List.mem_append] at h
    rcases h with h | h
    · obtain ⟨j, h⟩ := of_mem_tripPieces dg x row h
      refine ⟨tripAt (8 * K), j, ?_⟩
      have : (tripAt (8 * K)).val = K := by show 8 * K / 8 % 8 = K; omega
      rw [this]; exact h
    · exact of_mem_piecesTo K (by omega) h

/-- Where a row of a block lies. -/
theorem row_emb {off : Fin 3 → ℕ} {t : ℕ} (ho : off = ![t, 0, 0]) (inb) (y : S1x1x256.Idx) :
    ((Rect.unit (s := S64x1x256) off S1x1x256.size inb).emb y 0).val = t
      ∧ rowIdx ((Rect.unit (s := S64x1x256) off S1x1x256.size inb).emb y) = y := by
  subst ho
  have e0 : (y 0).val < 1 := (y 0).isLt
  have e1 : (y 1).val < 1 := (y 1).isLt
  refine ⟨?_, funext fun a => match a with
    | 0 => Fin.ext (by show 0 = (y 0).val; omega)
    | 1 => Fin.ext (by show 0 = (y 1).val; omega)
    | 2 => Fin.ext ?_⟩
  · rw [Rect.emb_apply]; show t + 1 * (y 0).val = _; omega
  · show ((Rect.unit (s := S64x1x256) _ S1x1x256.size inb).emb y 2).val = _
    rw [Rect.emb_apply]; show 0 + 1 * (y 2).val = _; omega

/-- A piece is a row of the block the rows make. -/
theorem piece_eq (k : Fin k0_t1_loop.trips) (j : Fin 8) (y : S1x1x256.Idx) :
    row (x.rows k j) (tripCarry dg x k (carryAt dg x c (8 * k.val)) j.val) y
      = outBlock row dg x c ((Rect.unit (s := S64x1x256) (k0_off2 k (BitVec.ofNat 32 j.val)) S1x1x256.size (k0_off2_inb k j)).emb y) := by
  have hk : k.val < 8 := trips_eq ▸ k.isLt
  obtain ⟨h0, hy⟩ := row_emb (k0_off2_eq k j) (k0_off2_inb k j) y
  have hn : 63 - (63 - (8 * k.val + j.val)) = 8 * k.val + j.val := by omega
  rw [outBlock, hy, h0, hn, at_eq x k j.val j.isLt, ← tripCarry_eq dg x c k j.val (by omega), show Fin.ofNat 8 j.val = j from Fin.ext (Nat.mod_eq_of_lt j.isLt)]

theorem piecesTo_cover (y : S64x1x256.Idx) : ∃ p ∈ piecesTo dg x c row 8, y ∈ p.1.set := by
  have h0 : (y 0).val < 64 := (y 0).isLt
  have h1 : (y 1).val < 1 := (y 1).isLt
  have h2 : (y 2).val < 256 := (y 2).isLt
  let k : Fin k0_t1_loop.trips := tripAt (63 - (y 0).val)
  have hk : k.val = (63 - (y 0).val) / 8 % 8 := rfl
  let j : Fin 8 := Fin.ofNat 8 (63 - (y 0).val)
  have hj : j.val = (63 - (y 0).val) % 8 := rfl
  refine ⟨_, mem_piecesTo dg x c row k j 8 (trips_eq ▸ k.isLt), (Rect.mem_set_unit (inb := k0_off2_inb k j)).mpr ?_⟩
  rw [k0_off2_eq]
  intro a
  fin_cases a
  · show 63 - (8 * k.val + j.val) ≤ (y 0).val ∧ (y 0).val < 63 - (8 * k.val + j.val) + 1; omega
  · show 0 ≤ (y 1).val ∧ (y 1).val < 0 + 1; omega
  · show 0 ≤ (y 2).val ∧ (y 2).val < 0 + 256; omega

/-- After the eight trips a buffer reads as the block the rows make. -/
theorem read_piecesTo [∀ e, Nonempty (Elt F e)] {κ : Kind} {sp : Space} (v : View sig κ sp S64x1x256 .f32) (f : v.ty.Contents (Elt F)) :
    v.read (Elt F) (v.writes (Elt F) f (piecesTo dg x c row 8)) = outBlock row dg x c := by
  rw [View.read_writes_eq_canon v f _ (piecesTo_cover dg x c row)]
  funext y
  refine View.canon_apply_of_pieces (outBlock row dg x c) _ ?_ y (piecesTo_cover dg x c row y)
  intro p hp z
  obtain ⟨k, j, rfl⟩ := of_mem_piecesTo dg x c row 8 le_rfl hp
  exact piece_eq dg x c row k j z

end Cert.KernelIdeal.Scan

end
-- ==== Proof.State.lean ====
/- The state of the counted loop before each trip: the carry is the one after eight times as many steps, and each
   output holds the rows of the steps taken so far. -/
module

public import proofs.«01_k».proof.Proof.TripOut
public import proofs.«01_k».proof.Proof.Chunk

@[expose] public section

set_option maxRecDepth 16384

noncomputable section

namespace Cert.KernelIdeal.Scan

open Idealize.ShloMosaic Idealize.ShloMosaic.TcCoe
open Idealize.SL Idealize.SL.Sem Cert.KernelIdeal.Gen

variable {F : FTy → Type} [FloatOps F]

variable (𝒱 : Variants) (c : Dev nD) (bd : Option 𝒱.V) (i : grid0.Coords)
  (arg1 : Memref sig .tc .vmem S64x1x256 .f32) (harg1 : arg1.IsWhole) (arg2 : Memref sig .tc .vmem S64x1x256 .f32) (harg2 : arg2.IsWhole)
  (arg3 : Memref sig .tc .vmem S64x1x256 .f32) (harg3 : arg3.IsWhole) (arg4 : Memref sig .tc .vmem S64x1x256 .f32) (harg4 : arg4.IsWhole)
  (arg5 : Memref sig .tc .vmem S64x1x256 .f32) (harg5 : arg5.IsWhole) (arg6 : Memref sig .tc .vmem S64x64x256 .f32) (harg6 : arg6.IsWhole)
  (arg7 : Memref sig .tc .vmem S64x64x256 .f32) (harg7 : arg7.IsWhole) (arg8 : Memref sig .tc .vmem S64x64x256 .f32) (harg8 : arg8.IsWhole)
  (arg9 : Memref sig .tc .vmem S64x1x256 .f32) (harg9 : arg9.IsWhole) (arg10 : Memref sig .tc .vmem S64x256 .f32) (harg10 : arg10.IsWhole)
  (arg11 : Memref sig .tc .vmem S64x1x256 .f32) (harg11 : arg11.IsWhole) (arg12 : Memref sig .tc .vmem S64x1x256 .f32) (harg12 : arg12.IsWhole)
  (arg13 : Memref sig .tc .vmem S64x1x256 .f32) (harg13 : arg13.IsWhole) (arg14 : Memref sig .tc .vmem S64x1x256 .f32) (harg14 : arg14.IsWhole)
  (arg15 : Memref sig .tc .vmem S64x1x256 .f32) (harg15 : arg15.IsWhole) (arg16 : Memref sig .tc .vmem S64x1x256 .f32) (harg16 : arg16.IsWhole)
  (arg17 : Memref sig .tc .vmem S64x256 .f32) (harg17 : arg17.IsWhole) (v3 : Vec F S64x256 .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X7 : BufTy.Contents (Elt F) arg7.view.ty) (X8 : BufTy.Contents (Elt F) arg8.view.ty) (X9 : BufTy.Contents (Elt F) arg9.view.ty)

theorem tripAt_mul (k : Fin k0_t1_loop.trips) : tripAt (8 * k.val) = k := by
  have hk : k.val < 8 := trips_eq ▸ k.isLt
  apply Fin.ext
  show 8 * k.val / 8 % 8 = k.val
  omega

theorem st_eq (x : Blocks F) (hx : x = blocksOf arg1 arg2 arg3 arg4 arg5 arg6 arg7 arg8 arg9 X1 X2 X3 X4 X5 X6 X7 X8 X9) (init : Carry F) :
    ∀ K : ℕ, K ≤ 8 → st_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 init K
      = (carryAt v3 x init (8 * K), piecesTo v3 x init rowR K, piecesTo v3 x init rowW K, piecesTo v3 x init rowK K,
          piecesTo v3 x init (rowV v3) K, piecesTo v3 x init rowA K, piecesTo v3 x init rowB K) := by
  intro K
  induction K with
  | zero => intro _; rfl
  | succ K ih =>
    intro hK
    have hlt : K < k0_t1_loop.trips := by rw [trips_eq]; omega
    obtain ⟨k, rfl⟩ : ∃ k : Fin k0_t1_loop.trips, k.val = K := ⟨⟨K, hlt⟩, rfl⟩
    have hs := st_k0_t1_succ (F := F) 𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 v3 X1 X2 X3 X4 X5 X6 X7 X8 X9 init k
    rw [ih (by omega)] at hs
    refine hs.trans ?_
    have ht := tripAt_mul k
    have hp : ∀ row : Rows F → Carry F → FVec F S1x1x256 .f32, piecesTo v3 x init row (k.val + 1)
        = tripPieces x row v3 k (carryAt v3 x init (8 * k.val)) ++ piecesTo v3 x init row k.val := by
      intro row; rw [piecesTo, ht]
    refine Prod.ext ?_ (Prod.ext ?_ (Prod.ext ?_ (Prod.ext ?_ (Prod.ext ?_ (Prod.ext ?_ ?_)))))
    · exact (trip_carry (hx := hx) ..).trans (tripCarry_eq v3 x init k 8 le_rfl)
    · exact (congrArg (· ++ piecesTo v3 x init rowR k.val) (trip_r (hx := hx) ..)).trans (hp rowR).symm
    · exact (congrArg (· ++ piecesTo v3 x init rowW k.val) (trip_w (hx := hx) ..)).trans (hp rowW).symm
    · exact (congrArg (· ++ piecesTo v3 x init rowK k.val) (trip_k (hx := hx) ..)).trans (hp rowK).symm
    · exact (congrArg (· ++ piecesTo v3 x init (rowV v3) k.val) (trip_v (hx := hx) ..)).trans (hp (rowV v3)).symm
    · exact (congrArg (· ++ piecesTo v3 x init rowA k.val) (trip_a (hx := hx) ..)).trans (hp rowA).symm
    · exact (congrArg (· ++ piecesTo v3 x init rowB k.val) (trip_b (hx := hx) ..)).trans (hp rowB).symm

end Cert.KernelIdeal.Scan

end
-- ==== Proof.Body.lean ====
/- What the kernel's body leaves at one grid point: the loop's last state in terms of the blocks it reads. -/
module

public import proofs.«01_k».proof.Proof.State
public import Idealize.ShloMosaic.Lib.Pipeline.RegionsLoop
public import Idealize.ShloMosaic.Lib.Tactic

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The carry a grid point starts from: the cotangent of the state, and the last row of the output's cotangent. -/
def start (dg : Vec F S64x256 .f32) (x : Blocks F) (S : Vec F S64x256 .f32) : Carry F :=
  (S, dyCol dg (View.ld x.dy (Rect.unit (s := S64x1x256) ![63, 0, 0] S1x1x256.size inb_S64x1x256_S1x1x256_63_0_0)))
/-- One output's block. -/
def made (row : Rows F → Carry F → FVec F S1x1x256 .f32) (dg : Vec F S64x256 .f32) (x : Blocks F) (S : Vec F S64x256 .f32) : Vec F S64x1x256 .f32 :=
  outBlock row dg x (start dg x S)
/-- The cotangent of the state before the chunk. -/
def left (dg : Vec F S64x256 .f32) (x : Blocks F) (S : Vec F S64x256 .f32) : Vec F S64x256 .f32 := (carryAt dg x (start dg x S) 64).1

/-- The first grid point's test. -/
abbrev cond0 (i : grid0.Coords) : Prop := (Scalar.cmpi .ne (Scalar.extui (Scalar.cmpi .eq (BitVec.ofNat 32 (i 0).val) 0#32)) 0#32) = 1#1

theorem zero2 : (![0, 0] : Fin 2 → ℕ) = fun _ => 0 := by funext a; fin_cases a <;> rfl

/-- A load of a whole buffer reads what it holds. -/
theorem load_whole {m : Memref sig .tc .vmem S64x256 .f32} (hm : m.IsWhole) (X : Vec F S64x256 .f32) :
    View.readAt (Elt F) m.view (Rect.unit (s := S64x256) ![0, 0] S64x256.size inb_S64x256_S64x256_0_0).toLoadRect (hm.unread X) = X := by
  rw [View.readAt_eq_ld, hm.read_unread]; exact View.ld_unit_zero zero2 _ X

/-- A load of the last row. -/
theorem load_row {m : Memref sig .tc .vmem S64x1x256 .f32} (hm : m.IsWhole) (X : Vec F S64x1x256 .f32) :
    View.readAt (Elt F) m.view (Rect.unit (s := S64x1x256) ![63, 0, 0] S1x1x256.size inb_S64x1x256_S1x1x256_63_0_0).toLoadRect (hm.unread X)
      = View.ld X (Rect.unit (s := S64x1x256) ![63, 0, 0] S1x1x256.size inb_S64x1x256_S1x1x256_63_0_0) := by
  rw [View.readAt_eq_ld, hm.read_unread]

theorem mem_whole (y : S64x256.Idx) : y ∈ (Rect.unit (s := S64x256) ![0, 0] S64x256.size inb_S64x256_S64x256_0_0).set :=
  View.mem_set_unit_zero zero2 _ y

/-- A store of the whole buffer leaves what it stores, whatever was stored before. -/
theorem store_whole {m : Memref sig .tc .vmem S64x256 .f32} (g : BufTy.Contents (Elt F) m.view.ty) (X : Vec F S64x256 .f32)
    (L : List (View.Piece (Elt F) S64x256 .f32)) :
    m.view.read (Elt F) (m.view.writes (Elt F) g (⟨Rect.unit (s := S64x256) ![0, 0] S64x256.size inb_S64x256_S64x256_0_0, X⟩ :: L)) = X := by
  rw [View.read_writes_eq_canon m.view g _ fun y => ⟨⟨Rect.unit (s := S64x256) ![0, 0] S64x256.size inb_S64x256_S64x256_0_0, X⟩, List.mem_cons_self, mem_whole y⟩]
  exact View.canon_cons_unit_zero zero2 _ X L

theorem start_eq (dg : Vec F S64x256 .f32) (x : Blocks F) (S : Vec F S64x256 .f32) {v5 : Vec F S1x1x256 .f32}
    (h : v5 = View.ld x.dy (Rect.unit (s := S64x1x256) ![63, 0, 0] S1x1x256.size inb_S64x1x256_S1x1x256_63_0_0)) :
    ((S, k0_pay1 (k0_pay243 dg v5) (k0_pay246 dg v5) k0_pay247 (k0_pay248 dg v5)) : Carry F) = start dg x S := by
  subst h; rfl

/-- The loop's state after its last trip. -/
theorem st_end (c : Dev nD) (i : grid0.Coords) (arg1 : Memref sig .tc .vmem S64x1x256 .f32) (harg1 : arg1.IsWhole) (arg2 : Memref sig .tc .vmem S64x1x256 .f32) (harg2 : arg2.IsWhole) (arg3 : Memref sig .tc .vmem S64x1x256 .f32) (harg3 : arg3.IsWhole)
    (arg4 : Memref sig .tc .vmem S64x1x256 .f32) (harg4 : arg4.IsWhole) (arg5 : Memref sig .tc .vmem S64x1x256 .f32) (harg5 : arg5.IsWhole) (arg6 : Memref sig .tc .vmem S64x64x256 .f32) (harg6 : arg6.IsWhole)
    (arg7 : Memref sig .tc .vmem S64x64x256 .f32) (harg7 : arg7.IsWhole) (arg8 : Memref sig .tc .vmem S64x64x256 .f32) (harg8 : arg8.IsWhole) (arg9 : Memref sig .tc .vmem S64x1x256 .f32) (harg9 : arg9.IsWhole)
    (arg10 : Memref sig .tc .vmem S64x256 .f32) (harg10 : arg10.IsWhole) (arg11 : Memref sig .tc .vmem S64x1x256 .f32) (harg11 : arg11.IsWhole) (arg12 : Memref sig .tc .vmem S64x1x256 .f32) (harg12 : arg12.IsWhole)
    (arg13 : Memref sig .tc .vmem S64x1x256 .f32) (harg13 : arg13.IsWhole) (arg14 : Memref sig .tc .vmem S64x1x256 .f32) (harg14 : arg14.IsWhole) (arg15 : Memref sig .tc .vmem S64x1x256 .f32) (harg15 : arg15.IsWhole)
    (arg16 : Memref sig .tc .vmem S64x1x256 .f32) (harg16 : arg16.IsWhole) (arg17 : Memref sig .tc .vmem S64x256 .f32) (harg17 : arg17.IsWhole)
    (x : Blocks F) (dg S v3 : Vec F S64x256 .f32) (init : Carry F) (h3 : v3 = dg) (hi : init = start dg x S) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 (harg1.unread x.r) (harg2.unread x.w) (harg3.unread x.k) (harg4.unread x.a) (harg5.unread x.b) (harg6.unread x.st) (harg7.unread x.sa) (harg8.unread x.vc) (harg9.unread x.dy) init (Scf.trips k0_t1_loop.lb k0_t1_loop.ub k0_t1_loop.st)
      = (carryAt dg x (start dg x S) 64, piecesTo dg x (start dg x S) rowR 8, piecesTo dg x (start dg x S) rowW 8, piecesTo dg x (start dg x S) rowK 8,
          piecesTo dg x (start dg x S) (rowV dg) 8, piecesTo dg x (start dg x S) rowA 8, piecesTo dg x (start dg x S) rowB 8) := by
  subst h3 hi
  refine (congrArg (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 (harg1.unread x.r) (harg2.unread x.w) (harg3.unread x.k) (harg4.unread x.a) (harg5.unread x.b) (harg6.unread x.st) (harg7.unread x.sa) (harg8.unread x.vc) (harg9.unread x.dy) (start v3 x S)) trips_eq).trans ?_
  have hx : x = blocksOf arg1 arg2 arg3 arg4 arg5 arg6 arg7 arg8 arg9 (harg1.unread x.r) (harg2.unread x.w) (harg3.unread x.k) (harg4.unread x.a) (harg5.unread x.b) (harg6.unread x.st) (harg7.unread x.sa) (harg8.unread x.vc) (harg9.unread x.dy) := by
    unfold blocksOf
    simp only [harg1.read_unread, harg2.read_unread, harg3.read_unread, harg4.read_unread, harg5.read_unread, harg6.read_unread, harg7.read_unread, harg8.read_unread, harg9.read_unread]
  exact st_eq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 (harg1.unread x.r) (harg2.unread x.w) (harg3.unread x.k) (harg4.unread x.a) (harg5.unread x.b) (harg6.unread x.st) (harg7.unread x.sa) (harg8.unread x.vc) (harg9.unread x.dy) x hx (start v3 x S) 8 le_rfl

end Cert.KernelIdeal.Scan

end
-- ==== Proof.RunFirst.lean ====
/- The kernel's body run at the first grid point: from the blocks of the operands and the cotangent of the state it leaves
   the six output blocks and the cotangent of the state before the chunk. -/
module

public import proofs.«01_k».proof.Proof.Body

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
theorem run_first (c : Dev nD) (i : grid0.Coords) (arg1 : Memref sig .tc .vmem S64x1x256 .f32) (harg1 : arg1.IsWhole) (arg2 : Memref sig .tc .vmem S64x1x256 .f32) (harg2 : arg2.IsWhole) (arg3 : Memref sig .tc .vmem S64x1x256 .f32) (harg3 : arg3.IsWhole)
    (arg4 : Memref sig .tc .vmem S64x1x256 .f32) (harg4 : arg4.IsWhole) (arg5 : Memref sig .tc .vmem S64x1x256 .f32) (harg5 : arg5.IsWhole) (arg6 : Memref sig .tc .vmem S64x64x256 .f32) (harg6 : arg6.IsWhole)
    (arg7 : Memref sig .tc .vmem S64x64x256 .f32) (harg7 : arg7.IsWhole) (arg8 : Memref sig .tc .vmem S64x64x256 .f32) (harg8 : arg8.IsWhole) (arg9 : Memref sig .tc .vmem S64x1x256 .f32) (harg9 : arg9.IsWhole)
    (arg10 : Memref sig .tc .vmem S64x256 .f32) (harg10 : arg10.IsWhole) (arg11 : Memref sig .tc .vmem S64x1x256 .f32) (harg11 : arg11.IsWhole) (arg12 : Memref sig .tc .vmem S64x1x256 .f32) (harg12 : arg12.IsWhole)
    (arg13 : Memref sig .tc .vmem S64x1x256 .f32) (harg13 : arg13.IsWhole) (arg14 : Memref sig .tc .vmem S64x1x256 .f32) (harg14 : arg14.IsWhole) (arg15 : Memref sig .tc .vmem S64x1x256 .f32) (harg15 : arg15.IsWhole)
    (arg16 : Memref sig .tc .vmem S64x1x256 .f32) (harg16 : arg16.IsWhole) (arg17 : Memref sig .tc .vmem S64x256 .f32) (harg17 : arg17.IsWhole)
    (hc0 : cond0 i) (x : Blocks F) (dg : Vec F S64x256 .f32)  :
    ∀ (E : Set ℕ) (K : PUnit → sProp 𝕄),
        iprop(owns (c : Thread nD τ) arg1 fullShare x.r ∗ owns (c : Thread nD τ) arg2 fullShare x.w ∗ owns (c : Thread nD τ) arg3 fullShare x.k ∗ owns (c : Thread nD τ) arg4 fullShare x.a ∗ owns (c : Thread nD τ) arg5 fullShare x.b ∗ owns (c : Thread nD τ) arg6 fullShare x.st ∗ owns (c : Thread nD τ) arg7 fullShare x.sa ∗ owns (c : Thread nD τ) arg8 fullShare x.vc ∗ owns (c : Thread nD τ) arg9 fullShare x.dy
          ∗ owns (c : Thread nD τ) arg10 fullShare dg ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (∃ d, owns (c : Thread nD τ) arg17 fullShare d)
          ∗ (iprop(owns (c : Thread nD τ) arg1 fullShare x.r ∗ owns (c : Thread nD τ) arg2 fullShare x.w ∗ owns (c : Thread nD τ) arg3 fullShare x.k ∗ owns (c : Thread nD τ) arg4 fullShare x.a ∗ owns (c : Thread nD τ) arg5 fullShare x.b ∗ owns (c : Thread nD τ) arg6 fullShare x.st ∗ owns (c : Thread nD τ) arg7 fullShare x.sa ∗ owns (c : Thread nD τ) arg8 fullShare x.vc ∗ owns (c : Thread nD τ) arg9 fullShare x.dy
          ∗ owns (c : Thread nD τ) arg10 fullShare dg ∗ owns (c : Thread nD τ) arg11 fullShare (made rowR dg x k0_pay240) ∗ owns (c : Thread nD τ) arg12 fullShare (made rowW dg x k0_pay240) ∗ owns (c : Thread nD τ) arg13 fullShare (made rowK dg x k0_pay240) ∗ owns (c : Thread nD τ) arg14 fullShare (made (rowV dg) dg x k0_pay240) ∗ owns (c : Thread nD τ) arg15 fullShare (made rowA dg x k0_pay240) ∗ owns (c : Thread nD τ) arg16 fullShare (made rowB dg x k0_pay240)
          ∗ owns (c : Thread nD τ) arg17 fullShare (left dg x k0_pay240)) -∗ K ⟨⟩))
          ⊢ wp frame (wpE (defs₀ (F := F)) Variants.none c none) E (cc0_l0_scan_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_l0_scan_b_eq_skeleton]; unfold cc0_l0_scan_b_skel
  simp only [k0_part38_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0)
  sl_step
  have h3 : run_first.sl.r c arg10 harg10 dg = dg := by delta run_first.sl.r; exact load_whole harg10 dg
  have hv : run_first.sl.v4 c arg17 = k0_pay240 (F := F) := by delta run_first.sl.v4; exact View.readCov_unit_zero _ zero2 _ _
  have hi : (run_first.sl.v4 c arg17, k0_pay1 (run_first.sl.r_1 c arg9 harg9 arg10 harg10 x dg)
      (run_first.sl.r_2 c arg9 harg9 arg10 harg10 x dg) k0_pay247 (run_first.sl.r_3 c arg9 harg9 arg10 harg10 x dg)) = start dg x k0_pay240 := by
    rw [hv]
    delta run_first.sl.r_1 run_first.sl.r_2 run_first.sl.r_3
    rw [load_whole harg10 dg]
    exact start_eq dg x k0_pay240 (load_row harg9 x.dy)
  have hst := st_end c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x dg k0_pay240 _ _ h3 hi
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; exact (congrArg (fun t => arg11.view.read (Elt F) (arg11.view.writes (Elt F) f10 t.2.1)) hst).trans (read_piecesTo _ _ _ _ _ _)
  isplitl [H11]
  · iexists _; isplitr; swap; · iexact H11
    ipureintro; exact (congrArg (fun t => arg12.view.read (Elt F) (arg12.view.writes (Elt F) f11 t.2.2.1)) hst).trans (read_piecesTo _ _ _ _ _ _)
  isplitl [H12]
  · iexists _; isplitr; swap; · iexact H12
    ipureintro; exact (congrArg (fun t => arg13.view.read (Elt F) (arg13.view.writes (Elt F) f12 t.2.2.2.1)) hst).trans (read_piecesTo _ _ _ _ _ _)
  isplitl [H13]
  · iexists _; isplitr; swap; · iexact H13
    ipureintro; exact (congrArg (fun t => arg14.view.read (Elt F) (arg14.view.writes (Elt F) f13 t.2.2.2.2.1)) hst).trans (read_piecesTo _ _ _ _ _ _)
  isplitl [H14]
  · iexists _; isplitr; swap; · iexact H14
    ipureintro; exact (congrArg (fun t => arg15.view.read (Elt F) (arg15.view.writes (Elt F) f14 t.2.2.2.2.2.1)) hst).trans (read_piecesTo _ _ _ _ _ _)
  isplitl [H15]
  · iexists _; isplitr; swap; · iexact H15
    ipureintro; exact (congrArg (fun t => arg16.view.read (Elt F) (arg16.view.writes (Elt F) f15 t.2.2.2.2.2.2)) hst).trans (read_piecesTo _ _ _ _ _ _)
  iexists _; isplitr; swap; · iexact HS0
  ipureintro; exact (store_whole _ _ _).trans ((shapeCast_self _ _).trans (congrArg (fun t => t.1.1) hst))

end Cert.KernelIdeal.Scan

end
-- ==== Proof.RunNext.lean ====
/- The kernel's body run at a grid point after the first: from the blocks of the operands and the cotangent of the state it leaves
   the six output blocks and the cotangent of the state before the chunk. -/
module

public import proofs.«01_k».proof.Proof.Body

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
theorem run_next (c : Dev nD) (i : grid0.Coords) (arg1 : Memref sig .tc .vmem S64x1x256 .f32) (harg1 : arg1.IsWhole) (arg2 : Memref sig .tc .vmem S64x1x256 .f32) (harg2 : arg2.IsWhole) (arg3 : Memref sig .tc .vmem S64x1x256 .f32) (harg3 : arg3.IsWhole)
    (arg4 : Memref sig .tc .vmem S64x1x256 .f32) (harg4 : arg4.IsWhole) (arg5 : Memref sig .tc .vmem S64x1x256 .f32) (harg5 : arg5.IsWhole) (arg6 : Memref sig .tc .vmem S64x64x256 .f32) (harg6 : arg6.IsWhole)
    (arg7 : Memref sig .tc .vmem S64x64x256 .f32) (harg7 : arg7.IsWhole) (arg8 : Memref sig .tc .vmem S64x64x256 .f32) (harg8 : arg8.IsWhole) (arg9 : Memref sig .tc .vmem S64x1x256 .f32) (harg9 : arg9.IsWhole)
    (arg10 : Memref sig .tc .vmem S64x256 .f32) (harg10 : arg10.IsWhole) (arg11 : Memref sig .tc .vmem S64x1x256 .f32) (harg11 : arg11.IsWhole) (arg12 : Memref sig .tc .vmem S64x1x256 .f32) (harg12 : arg12.IsWhole)
    (arg13 : Memref sig .tc .vmem S64x1x256 .f32) (harg13 : arg13.IsWhole) (arg14 : Memref sig .tc .vmem S64x1x256 .f32) (harg14 : arg14.IsWhole) (arg15 : Memref sig .tc .vmem S64x1x256 .f32) (harg15 : arg15.IsWhole)
    (arg16 : Memref sig .tc .vmem S64x1x256 .f32) (harg16 : arg16.IsWhole) (arg17 : Memref sig .tc .vmem S64x256 .f32) (harg17 : arg17.IsWhole)
    (hc0 : ¬ cond0 i) (x : Blocks F) (dg : Vec F S64x256 .f32) (S : Vec F S64x256 .f32) :
    ∀ (E : Set ℕ) (K : PUnit → sProp 𝕄),
        iprop(owns (c : Thread nD τ) arg1 fullShare x.r ∗ owns (c : Thread nD τ) arg2 fullShare x.w ∗ owns (c : Thread nD τ) arg3 fullShare x.k ∗ owns (c : Thread nD τ) arg4 fullShare x.a ∗ owns (c : Thread nD τ) arg5 fullShare x.b ∗ owns (c : Thread nD τ) arg6 fullShare x.st ∗ owns (c : Thread nD τ) arg7 fullShare x.sa ∗ owns (c : Thread nD τ) arg8 fullShare x.vc ∗ owns (c : Thread nD τ) arg9 fullShare x.dy
          ∗ owns (c : Thread nD τ) arg10 fullShare dg ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ owns (c : Thread nD τ) arg17 fullShare S
          ∗ (iprop(owns (c : Thread nD τ) arg1 fullShare x.r ∗ owns (c : Thread nD τ) arg2 fullShare x.w ∗ owns (c : Thread nD τ) arg3 fullShare x.k ∗ owns (c : Thread nD τ) arg4 fullShare x.a ∗ owns (c : Thread nD τ) arg5 fullShare x.b ∗ owns (c : Thread nD τ) arg6 fullShare x.st ∗ owns (c : Thread nD τ) arg7 fullShare x.sa ∗ owns (c : Thread nD τ) arg8 fullShare x.vc ∗ owns (c : Thread nD τ) arg9 fullShare x.dy
          ∗ owns (c : Thread nD τ) arg10 fullShare dg ∗ owns (c : Thread nD τ) arg11 fullShare (made rowR dg x S) ∗ owns (c : Thread nD τ) arg12 fullShare (made rowW dg x S) ∗ owns (c : Thread nD τ) arg13 fullShare (made rowK dg x S) ∗ owns (c : Thread nD τ) arg14 fullShare (made (rowV dg) dg x S) ∗ owns (c : Thread nD τ) arg15 fullShare (made rowA dg x S) ∗ owns (c : Thread nD τ) arg16 fullShare (made rowB dg x S)
          ∗ owns (c : Thread nD τ) arg17 fullShare (left dg x S)) -∗ K ⟨⟩))
          ⊢ wp frame (wpE (defs₀ (F := F)) Variants.none c none) E (cc0_l0_scan_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_l0_scan_b_eq_skeleton]; unfold cc0_l0_scan_b_skel
  simp only [k0_part38_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg17.eq_unread hfs0
  sl_exec (disch := first | sl_exact hc0)
  sl_step
  have h3 : run_next.sl.r c arg10 harg10 dg = dg := by delta run_next.sl.r; exact load_whole harg10 dg
  have hi : (run_next.sl.r_1 c arg17 harg17 S, k0_pay1 (run_next.sl.r_2 c arg9 harg9 arg10 harg10 x dg)
      (run_next.sl.r_3 c arg9 harg9 arg10 harg10 x dg) k0_pay247 (run_next.sl.r_4 c arg9 harg9 arg10 harg10 x dg)) = start dg x S := by
    delta run_next.sl.r_1 run_next.sl.r_2 run_next.sl.r_3 run_next.sl.r_4
    rw [load_whole harg17 S, load_whole harg10 dg]
    exact start_eq dg x S (load_row harg9 x.dy)
  have hst := st_end c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x dg S _ _ h3 hi
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; exact (congrArg (fun t => arg11.view.read (Elt F) (arg11.view.writes (Elt F) f10 t.2.1)) hst).trans (read_piecesTo _ _ _ _ _ _)
  isplitl [H11]
  · iexists _; isplitr; swap; · iexact H11
    ipureintro; exact (congrArg (fun t => arg12.view.read (Elt F) (arg12.view.writes (Elt F) f11 t.2.2.1)) hst).trans (read_piecesTo _ _ _ _ _ _)
  isplitl [H12]
  · iexists _; isplitr; swap; · iexact H12
    ipureintro; exact (congrArg (fun t => arg13.view.read (Elt F) (arg13.view.writes (Elt F) f12 t.2.2.2.1)) hst).trans (read_piecesTo _ _ _ _ _ _)
  isplitl [H13]
  · iexists _; isplitr; swap; · iexact H13
    ipureintro; exact (congrArg (fun t => arg14.view.read (Elt F) (arg14.view.writes (Elt F) f13 t.2.2.2.2.1)) hst).trans (read_piecesTo _ _ _ _ _ _)
  isplitl [H14]
  · iexists _; isplitr; swap; · iexact H14
    ipureintro; exact (congrArg (fun t => arg15.view.read (Elt F) (arg15.view.writes (Elt F) f14 t.2.2.2.2.2.1)) hst).trans (read_piecesTo _ _ _ _ _ _)
  isplitl [H15]
  · iexists _; isplitr; swap; · iexact H15
    ipureintro; exact (congrArg (fun t => arg16.view.read (Elt F) (arg16.view.writes (Elt F) f15 t.2.2.2.2.2.2)) hst).trans (read_piecesTo _ _ _ _ _ _)
  iexists _; isplitr; swap; · iexact HS0
  ipureintro; exact (store_whole _ _ _).trans ((shapeCast_self _ _).trans (congrArg (fun t => t.1.1) hst))

end Cert.KernelIdeal.Scan

end
-- ==== Proof.Data.lean ====
/- What the pipeline's buffers hold at every grid point: each operand's block, the outputs' blocks, and the cotangent of the
   state carried from point to point. -/
module

public import proofs.«01_k».proof.Proof.RunFirst
public import proofs.«01_k».proof.Proof.RunNext
public import proofs.«01_k».proof.Proof.Gen.KernelIdeal.Regions

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The operands' blocks at point `t`. -/
def blocks (c : Dev nD) (t : Fin cfg0.N) : Blocks F where
  r := iblk V c 0 t
  w := iblk V c 1 t
  k := iblk V c 2 t
  a := iblk V c 3 t
  b := iblk V c 4 t
  st := iblk V c 5 t
  sa := iblk V c 6 t
  vc := iblk V c 7 t
  dy := iblk V c 8 t
/-- The mask of the heads' diagonals. -/
def dgAt (c : Dev nD) (t : Fin cfg0.N) : Vec F S64x256 .f32 := iblk V c 9 t

/-- The cotangent of the state carried into point `n`. -/
def stateAt (c : Dev nD) : ℕ → Vec F S64x256 .f32
  | 0 => k0_pay240
  | n + 1 => if h : n < cfg0.N then left (dgAt V c ⟨n, h⟩) (blocks V c ⟨n, h⟩) (stateAt c n) else k0_pay240

theorem stateAt_succ (c : Dev nD) (t : Fin cfg0.N) :
    stateAt V c (t.val + 1) = left (dgAt V c t) (blocks V c t) (stateAt V c t.val) := by
  rw [stateAt, dif_pos t.isLt]

/-- The first point is where the body's test holds. -/
theorem cond0_iff : ∀ t : Fin cfg0.N, cond0 (grid0.coords t) ↔ t.val = 0 := by
  intro t
  have ht : t.val < 32 := Nat.lt_of_lt_of_eq t.isLt N_0
  have e0 : (grid0.coords t 0).val = t.val / 1 % 32 := Pipeline.Grid.coords_val t 0 (by decide) rfl
  have e1 : (grid0.coords t 0).val = t.val := by omega
  simp only [cond0, e1]
  exact (by decide : ∀ n : Fin 32, (Scalar.cmpi .ne (Scalar.extui (Scalar.cmpi .eq (BitVec.ofNat 32 n.val) 0#32)) 0#32) = 1#1 ↔ n.val = 0) ⟨t.val, ht⟩

abbrev ms0 (t : Fin cfg0.N) : Memref sig .tc .vmem S64x1x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x1x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x64x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x64x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S64x1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x1x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S64x1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S64x1x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S64x1x256 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x1x256 .f32 := win0_15.stage (cfg0.slots t 15)
abbrev hs15 (t : Fin cfg0.N) : (ms15 t).IsWhole := hstage0_15 ((cfg0.slots t 15).cast nbuf0_15)
/-- The scratch buffer. -/
abbrev scM : Memref sig .tc .vmem S64x256 .f32 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; rfl

/-- The invariant before point `n`: the scratch holds the carried cotangent, from the second point on. -/
def Phi (c : Dev nD) : ℕ → sProp 𝕄
  | 0 => iprop(∃ d, owns (c : Thread nD τ) scM fullShare d)
  | n + 1 => owns (c : Thread nD τ) scM fullShare (stateAt V c (n + 1))

/-- The proof data of the region, its arrays at `V`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => made rowR (dgAt V c t) (blocks V c t) (stateAt V c t.val)
    | ⟨11, _⟩ => made rowW (dgAt V c t) (blocks V c t) (stateAt V c t.val)
    | ⟨12, _⟩ => made rowK (dgAt V c t) (blocks V c t) (stateAt V c t.val)
    | ⟨13, _⟩ => made (rowV (dgAt V c t)) (dgAt V c t) (blocks V c t) (stateAt V c t.val)
    | ⟨14, _⟩ => made rowA (dgAt V c t) (blocks V c t) (stateAt V c t.val)
    | ⟨15, _⟩ => made rowB (dgAt V c t) (blocks V c t) (stateAt V c t.val)
    | ⟨_ + 16, h⟩ => absurd h (Nat.not_lt.2 (Nat.le_add_left _ _))
  Φ t := Phi V c t.val
  q _ := fullShare
  owed _ := 0

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = iblk V c 9 t := by dsimp only [dat]
theorem after10 (c : Dev nD) (t : Fin cfg0.N) : (dat V c).after 10 t = made rowR (dgAt V c t) (blocks V c t) (stateAt V c t.val) := by dsimp only [dat]
theorem after11 (c : Dev nD) (t : Fin cfg0.N) : (dat V c).after 11 t = made rowW (dgAt V c t) (blocks V c t) (stateAt V c t.val) := by dsimp only [dat]
theorem after12 (c : Dev nD) (t : Fin cfg0.N) : (dat V c).after 12 t = made rowK (dgAt V c t) (blocks V c t) (stateAt V c t.val) := by dsimp only [dat]
theorem after13 (c : Dev nD) (t : Fin cfg0.N) : (dat V c).after 13 t = made (rowV (dgAt V c t)) (dgAt V c t) (blocks V c t) (stateAt V c t.val) := by dsimp only [dat]
theorem after14 (c : Dev nD) (t : Fin cfg0.N) : (dat V c).after 14 t = made rowA (dgAt V c t) (blocks V c t) (stateAt V c t.val) := by dsimp only [dat]
theorem after15 (c : Dev nD) (t : Fin cfg0.N) : (dat V c).after 15 t = made rowB (dgAt V c t) (blocks V c t) (stateAt V c t.val) := by dsimp only [dat]

theorem before0 (c : Dev nD) (t : Fin cfg0.N) (d) : (dat V c).before 0 t d = iblk V c 0 t :=
  ((dat V c).before_in_eq_fetched 0 rfl (fun _ => rfl) (fun _ _ _ => rfl) (fun t => by rw [after0]; rfl) t d).trans rfl
theorem before1 (c : Dev nD) (t : Fin cfg0.N) (d) : (dat V c).before 1 t d = iblk V c 1 t :=
  ((dat V c).before_in_eq_fetched 1 rfl (fun _ => rfl) (fun _ _ _ => rfl) (fun t => by rw [after1]; rfl) t d).trans rfl
theorem before2 (c : Dev nD) (t : Fin cfg0.N) (d) : (dat V c).before 2 t d = iblk V c 2 t :=
  ((dat V c).before_in_eq_fetched 2 rfl (fun _ => rfl) (fun _ _ _ => rfl) (fun t => by rw [after2]; rfl) t d).trans rfl
theorem before3 (c : Dev nD) (t : Fin cfg0.N) (d) : (dat V c).before 3 t d = iblk V c 3 t :=
  ((dat V c).before_in_eq_fetched 3 rfl (fun _ => rfl) (fun _ _ _ => rfl) (fun t => by rw [after3]; rfl) t d).trans rfl
theorem before4 (c : Dev nD) (t : Fin cfg0.N) (d) : (dat V c).before 4 t d = iblk V c 4 t :=
  ((dat V c).before_in_eq_fetched 4 rfl (fun _ => rfl) (fun _ _ _ => rfl) (fun t => by rw [after4]; rfl) t d).trans rfl
theorem before5 (c : Dev nD) (t : Fin cfg0.N) (d) : (dat V c).before 5 t d = iblk V c 5 t :=
  ((dat V c).before_in_eq_fetched 5 rfl (fun _ => rfl) (fun _ _ _ => rfl) (fun t => by rw [after5]; rfl) t d).trans rfl
theorem before6 (c : Dev nD) (t : Fin cfg0.N) (d) : (dat V c).before 6 t d = iblk V c 6 t :=
  ((dat V c).before_in_eq_fetched 6 rfl (fun _ => rfl) (fun _ _ _ => rfl) (fun t => by rw [after6]; rfl) t d).trans rfl
theorem before7 (c : Dev nD) (t : Fin cfg0.N) (d) : (dat V c).before 7 t d = iblk V c 7 t :=
  ((dat V c).before_in_eq_fetched 7 rfl (fun _ => rfl) (fun _ _ _ => rfl) (fun t => by rw [after7]; rfl) t d).trans rfl
theorem before8 (c : Dev nD) (t : Fin cfg0.N) (d) : (dat V c).before 8 t d = iblk V c 8 t :=
  ((dat V c).before_in_eq_fetched 8 rfl (fun _ => rfl) (fun _ _ _ => rfl) (fun t => by rw [after8]; rfl) t d).trans rfl
theorem before9 (c : Dev nD) (t : Fin cfg0.N) (d) : (dat V c).before 9 t d = iblk V c 9 t :=
  ((dat V c).before_in_eq_fetched 9 rfl (fun _ => rfl) (fun _ _ _ => rfl) (fun t => by rw [after9]; rfl) t d).trans rfl

end Cert.KernelIdeal.Scan

end
-- ==== Proof.Point.lean ====
/- The kernel's body at a grid point takes the buffers from what they hold before it to what they hold after. -/
module

public import proofs.«01_k».proof.Proof.Data
public import proofs.«01_k».proof.Proof.Gen.KernelIdeal.Points

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is given at point `t`. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d))
    ∗ (∃ d, owns (c : Thread nD τ) (ms13 t) fullShare ((dat V c).before 13 t d))
    ∗ (∃ d, owns (c : Thread nD τ) (ms14 t) fullShare ((dat V c).before 14 t d))
    ∗ (∃ d, owns (c : Thread nD τ) (ms15 t) fullShare ((dat V c).before 15 t d)))
/-- What it hands back. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t)
    ∗ owns (c : Thread nD τ) (ms11 t) fullShare ((dat V c).after 11 t)
    ∗ owns (c : Thread nD τ) (ms12 t) fullShare ((dat V c).after 12 t)
    ∗ owns (c : Thread nD τ) (ms13 t) fullShare ((dat V c).after 13 t)
    ∗ owns (c : Thread nD τ) (ms14 t) fullShare ((dat V c).after 14 t)
    ∗ owns (c : Thread nD τ) (ms15 t) fullShare ((dat V c).after 15 t))

set_option maxHeartbeats 12800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8, before9]
  rw [show (dat V c).owesAt () t.succ = (dat V c).owesAt () t.castSucc from rfl, after0, after1, after2, after3, after4, after5, after6, after7, after8, after9, after10, after11, after12, after13, after14, after15]
  rw [show (dat V c).Φ t.succ = owns (c : Thread nD τ) scM fullShare (stateAt V c (t.val + 1)) from rfl, stateAt_succ]
  by_cases h0 : t.val = 0
  · rw [show (dat V c).Φ t.castSucc = Phi V c t.val from rfl, h0, Phi, stateAt]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) ((cond0_iff t).mpr h0) (blocks V c t) (dgAt V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    iintro ⟨H0, H1, H2, H3, H4, H5, H6, H7, H8, H9, H10, H11, H12, H13, H14, H15, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · obtain ⟨n, hn⟩ := Nat.exists_eq_succ_of_ne_zero h0
    rw [show (dat V c).Φ t.castSucc = Phi V c t.val from rfl, show Phi V c t.val = owns (c : Thread nD τ) scM fullShare (stateAt V c t.val) from by rw [hn]; rfl]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_next c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) (fun h => h0 ((cond0_iff t).mp h)) (blocks V c t) (dgAt V c t) (stateAt V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    iintro ⟨H0, H1, H2, H3, H4, H5, H6, H7, H8, H9, H10, H11, H12, H13, H14, H15, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Scan

end
-- ==== Proof.Region.lean ====
/- The kernel's launch as one segment of the program: entered with every buffer at a valuation, left with the six outputs' arrays
   replaced by what the pipeline wrote. -/
module

public import proofs.«01_k».proof.Proof.Point

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Gen.Cond (adm)

variable (V : (c : Dev nD) → (b : Ref sig .tc) → Buf (Elt F) ((c : Thread nD τ).loc b))

/-- The one pipeline's proof data. -/
def pdats (p : Fin 1) (c : Dev nD) : Dat τ (Elt F) Unit ℕ (UR sig nD τ) ℕ (Pipeline.pin (pcfgs (F := F)) adm p) c :=
  match p with
  | ⟨0, _⟩ => dat V c

/-- No core owes another anything. -/
abbrev L : GSem nD τ sig → Finset Unit := fun _ => ∅
abbrev lv : GSem nD τ sig → Unit → ℕ := fun _ _ => 0

/-- What a core holds beside its buffers between the program's items. -/
abbrev rest (c : Dev nD) : sProp 𝕄 := iprop(∃ W, owes (c : Thread nD τ) (0 : CellTallies nD τ sig Unit) W)

/-- The scoped buffers the pipeline does not stage are the scratch. -/
theorem scopedRest_eq (c : Dev nD) : (Pipeline.scopedRest (Ix := Unit) (Name := ℕ) (U := UR sig nD τ) (Lvl := ℕ) (Val := Elt F) spec0 c : sProp 𝕄)
    = iprop(∃ d, owns (c : Thread nD τ) scM fullShare d) := by
  rw [scopedRest0_eq]; simp only [scM, owns_whole]; rfl

theorem isOut_lt : ∀ w : Fin cfg0.W, w.val < 10 → (cfg0.win w).isOut = false := by
  intro w hw
  fin_cases w <;> first | rfl | (exfalso; revert hw; decide)

/-- The arrays of the outputs. -/
def outArr (w : Fin cfg0.W) (c : Dev nD) : Buf (Elt F) ((c : Thread nD τ).loc (Pipeline.arrRef spec0 w)) := (dat V c).arrAt w cfg0.N

variable (Vp : (c : Dev nD) → (b : Ref sig .tc) → Buf (Elt F) ((c : Thread nD τ).loc b))

set_option backward.isDefEq.respectTransparency.types false in
def reg (hin : ∀ c (w : Fin cfg0.W), w.val < 10 → Vp c (Pipeline.arrRef spec0 w) = V c (Pipeline.arrRef spec0 w))
    (hout : ∀ c (w : Fin cfg0.W), 10 ≤ w.val → Vp c (Pipeline.arrRef spec0 w) = outArr V w c)
    (hne : ∀ c (b : Ref sig .tc), (∀ w : Fin cfg0.W, b ≠ Pipeline.arrRef spec0 w) → Vp c b = V c b) :
    Pipeline.RegionSeg (pcfgs (F := F)) adm (pdats V) () defs₀ Variants.none L lv 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ rest (F := F) c)
  post c := iprop(unscopedBufs c (Vp c) ∗ rest (F := F) c)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = iprop(∃ d, owns (c : Thread nD τ) scM fullShare d) from rfl]
    have h := BIBase.Entails.of_eq (scopedRest_eq (F := F) c)
    iintro ⟨-, -, Hr⟩
    ihave H := h $$ Hr
    iexact H
  hout c := by
    rw [Pipeline.ownSems0_none, show (pdats V 0 c).Φ (Fin.last _) = owns (c : Thread nD τ) scM fullShare (stateAt V c cfg0.N) from rfl]
    have h := BIBase.Entails.of_eq (scopedRest_eq (F := F) c).symm
    iintro Hr
    isplitr; · iempintro
    isplitr; · iempintro
    iapply h
    iexists _; iexact Hr
  hexit c := by
    have hjoin := Pipeline.unscopedBufs_of_arrays (p := 0) (pcfgs (F := F)) adm (Ix := Unit) (Name := ℕ) (U := UR sig nD τ) (Lvl := ℕ) launch0.win launch0.arr_whole c
      (pdats V) ((pdats V 0 c).share_full fun _ => rfl) (V c) (Vp c) ((pdats V 0 c).arrAt · cfg0.N)
      (fun w => by
        by_cases hw : w.val < 10
        · exact ((dat V c).arrAt_in w (isOut_lt w hw) _).trans (hin c w hw).symm
        · exact (hout c w (by omega)).symm)
      (fun b hb => hne c b fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Scan

end
-- ==== Proof.Loop.lean ====
/- The recurrence on the host: the counter its condition reads, what its trips leave alone, and the loop as one segment. -/
module

public import proofs.«01_k».proof.Proof.Region
public import Idealize.ShloMosaic.Lib.StableHlo.RunLoop
public import Idealize.ShloMosaic.Lib.Scf.ExitTest

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Gen.Cond (adm)
open Idealize.ShloMosaic.Pipeline (CSeg Ticket ucRefs)
open Idealize.ShloMosaic.StableHlo (after afterL atTrip held Plain)

/-- The condition's two operations: the bound, and the comparison. -/
abbrev condOps : List (HloOp τ sig (Elt F)) :=
  [ StableHlo.nullary main_while0c_c_11 (constantI S_ 32 2048#32),
    StableHlo.binary main_v8_5 main_while0c_c_11 main_while0c_v21 (cmpi .slt : (⟨S_, .i32⟩ : BufTy).Contents (Elt F) → (⟨S_, .i32⟩ : BufTy).Contents (Elt F) → (⟨S_, .i1⟩ : BufTy).Contents (Elt F)) ]

/-- The body's stretches of operations. -/
abbrev bodyI : List (List (HloOp τ sig (Elt F))) :=
  [while0Ops0, while0Ops0_1, while0Ops0_2, while0Ops0_3, while0Ops0_4, while0Ops0_5, while0Ops0_6, while0Ops0_7, while0Ops0_8]

theorem bodyI_plain : Plain (bodyI (F := F)) :=
  .cons while0Ops0_sub <| .cons while0Ops0_1_sub <| .cons while0Ops0_2_sub <| .cons while0Ops0_3_sub <| .cons while0Ops0_4_sub <|
    .cons while0Ops0_5_sub <| .cons while0Ops0_6_sub <| .cons while0Ops0_7_sub <| .cons while0Ops0_8_sub .nil

/-- What the condition writes. -/
abbrev condW : List (Ref sig .tc) := [main_while0c_c_11, main_while0c_v21]

/-- What the body writes before it stores its carried values. -/
abbrev workW : List (Ref sig .tc) :=
  [main_while0b_call0_c, main_while0b_call0_c_0, main_while0b_call0_v0, main_while0b_v21, main_while0b_call1_c, main_while0b_call1_c_0, main_while0b_call1_v0, main_while0b_v22, main_while0b_call2_c, main_while0b_call2_c_0, main_while0b_call2_v0, main_while0b_v23, main_while0b_call3_c, main_while0b_call3_c_0, main_while0b_call3_v0, main_while0b_v24, main_while0b_call4_c, main_while0b_call4_c_0, main_while0b_call4_v0, main_while0b_v25, main_while0b_v26, main_while0b_v27, main_while0b_v28, main_while0b_cst_11, main_while0b_v29, main_while0b_v30, main_while0b_v31, main_while0b_v32, main_while0b_v33, main_while0b_v34, main_while0b_v35, main_while0b_v36, main_while0b_v37, main_while0b_v38, main_while0b_v39, main_while0b_v40, main_while0b_v41, main_while0b_v42, main_while0b_v43, main_while0b_v44, main_while0b_call5_v0, main_while0b_call5_c, main_while0b_call5_c_0, main_while0b_call5_c_1, main_while0b_v45, main_while0b_call6_v0, main_while0b_call6_c, main_while0b_call6_c_0, main_while0b_v46]

/-- What the body's last stretch writes. -/
abbrev lastW : List (Ref sig .tc) := [main_while0b_c_12, main_while0b_v47, main_v8_5, main_v8_6, main_v8_7, main_v8_8]

theorem condOps_writes : (condOps (F := F)).Forall fun op => op.writes ⊆ (condW.map (Proc.devRef (τ := τ) .tc)).toFinset :=
  StableHlo.forall_writes_sub_of_map rfl

/-- The body's operations but for its last stretch. -/
abbrev workOps : List (HloOp τ sig (Elt F)) :=
  while0Ops0 ++ (while0Ops0_1 ++ (while0Ops0_2 ++ (while0Ops0_3 ++ (while0Ops0_4 ++ (while0Ops0_5 ++ (while0Ops0_6 ++ while0Ops0_7))))))

theorem workOps_writes : (workOps (F := F)).Forall fun op => op.writes ⊆ (workW.map (Proc.devRef (τ := τ) .tc)).toFinset :=
  StableHlo.forall_writes_sub_of_map rfl

theorem lastOps_writes : (while0Ops0_8 (F := F)).Forall fun op => op.writes ⊆ (lastW.map (Proc.devRef (τ := τ) .tc)).toFinset :=
  StableHlo.forall_writes_sub_of_map rfl

/-- One pass of the body, its working operations first. -/
theorem afterL_bodyI (W : Valuation τ sig (Elt F)) : afterL bodyI W = after while0Ops0_8 (after workOps W) := by
  simp only [bodyI, workOps, StableHlo.afterL_cons, StableHlo.afterL_nil, StableHlo.after_append]

variable (W₀ : Dev nD → Valuation τ sig (Elt F))

/-- A buffer the body's trips do not write keeps its contents. -/
theorem atTrip_of (r : Ref sig .tc) (h0 : r ∉ condW) (h1 : r ∉ workW) (h2 : r ∉ lastW) (c : Dev nD) (k : ℕ) :
    atTrip condOps bodyI W₀ k c r = W₀ c r := by
  induction k with
  | zero => rfl
  | succ k ih =>
    rw [StableHlo.atTrip_succ, afterL_bodyI, StableHlo.after_of_writes_sub _ _ lastOps_writes h2, StableHlo.after_of_writes_sub _ _ workOps_writes h1,
      StableHlo.after_of_writes_sub _ _ condOps_writes h0, ih]

/-- The last stretch adds one to the counter. -/
theorem last_counter (W : Valuation τ sig (Elt F)) :
    after while0Ops0_8 W main_v8_5 = addi (show (⟨S_, .i32⟩ : BufTy).Contents (Elt F) from W main_v8_5) (constantI S_ 32 1#32) := by
  simp only [while0Ops0_8, StableHlo.after_cons, StableHlo.after_nil]
  rw [StableHlo.unary_result_ne _ _ _ _ (by decide), StableHlo.unary_result_ne _ _ _ _ (by decide), StableHlo.unary_result_ne _ _ _ _ (by decide),
    StableHlo.unary_result, StableHlo.binary_result, StableHlo.nullary_result, StableHlo.nullary_result_ne _ _ _ _ (by decide)]
  · rfl
  all_goals decide

/-- The counter before the k-th run of the condition. -/
theorem counter_eq (h0 : ∀ c, W₀ c main_v8_5 = fun _ => (0#32 : BitVec 32)) (c : Dev nD) (k : ℕ) :
    atTrip condOps bodyI W₀ k c main_v8_5 = fun _ => BitVec.ofNat 32 k := by
  induction k with
  | zero => exact h0 c
  | succ k ih =>
    rw [StableHlo.atTrip_succ, afterL_bodyI, last_counter, StableHlo.after_of_writes_sub _ _ workOps_writes (by decide),
      StableHlo.after_of_writes_sub _ _ condOps_writes (by decide), ih]
    funext i
    show BitVec.ofNat 32 k + 1#32 = BitVec.ofNat 32 (k + 1)
    rw [BitVec.ofNat_add]

/-- The comparison with the bound. -/
theorem pred_iff (k : ℕ) (hk : k ≤ 2048) : IntOp.cmpi .slt (BitVec.ofNat 32 k) 2048#32 = 1#1 ↔ k < 2048 := by
  have ht : Scf.trips (0#32) (2048#32) (1#32) = 2048 := by decide
  have h := Scf.cmpi_slt_iv_ub_iff (lb := 0#32) (ub := 2048#32) (st := 1#32) (by decide) (k := k) (by rw [ht]; exact hk)
  rw [ht, show Scf.iv (0#32) (1#32) k = BitVec.ofNat 32 k by simp [Scf.iv]] at h
  exact h

-- a rule stated for any thread unifies at the TensorCore's thread only by unfolding plain definitions
set_option backward.isDefEq.respectTransparency.types false in
/-- The condition, run for the k-th time: it holds exactly before the 2048th. -/
theorem cond_spec (R : Dev nD → sProp 𝕄) (h0 : ∀ c, W₀ c main_v8_5 = fun _ => (0#32 : BitVec 32)) :
    StableHlo.LoopCond (pcfgs (F := F)) defs₀ Variants.none loops R (main_while0_cond (F := F)) condOps bodyI W₀ 2048 := by
  intro k hk c bd
  have hctr := counter_eq W₀ h0 c k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W₀ k c) main_v8_5 HostLoop.idx0)
        (HloOp.result _ (atTrip condOps bodyI W₀ k c) main_while0c_c_11 HostLoop.idx0) = 1#1) (k < 2048)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

end Cert.KernelIdeal.Scan

end
-- ==== Proof.Run.lean ====
/- The whole program's run: every buffer's last contents, and what follows of the arguments and of the six results. -/
module

public import proofs.«01_k».proof.Proof.Loop

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Gen.Cond (adm tk V0 V1 seg0_T V1_of hostOps0_fresh hostOps0_1_fresh hostOps0_1_writes hostOps0_W hostOps0_1_W argRefs args1 args3 args4 regions_no_unscoped)
open Idealize.ShloMosaic.Pipeline (CSeg Ticket ucRefs)
open Idealize.ShloMosaic.StableHlo (after afterL atTrip held Plain)

variable (m : (ℓ : Loc nD τ sig) → Buf (Elt F) ℓ)

/-- The buffers after the host's recurrence. -/
def Wl (c : Dev nD) : Valuation τ sig (Elt F) := after condOps (atTrip condOps bodyI (V1 m) 2048 c)
/-- The buffers the kernel is launched on. -/
def Wk (c : Dev nD) : Valuation τ sig (Elt F) := after hostOps0_1 (Wl m c)
/-- The same by TensorCore reference. -/
abbrev V (c : Dev nD) (b : Ref sig .tc) : Buf (Elt F) ((c : Thread nD τ).loc b) := Wk m c b
/-- The results' arrays. -/
abbrev outRefs : List (Ref sig .tc) := [main_v20_0, main_v20_1, main_v20_2, main_v20_3, main_v20_4, main_v20_5]
/-- The buffers at the end: the results as the pipeline wrote them. -/
def Wend (c : Dev nD) : Valuation τ sig (Elt F) := Function.update (Function.update (Function.update (Function.update (Function.update (Function.update (Wk m c) main_v20_0 (outArr (V m) (10 : Fin 16) c)) main_v20_1 (outArr (V m) (11 : Fin 16) c)) main_v20_2 (outArr (V m) (12 : Fin 16) c)) main_v20_3 (outArr (V m) (13 : Fin 16) c)) main_v20_4 (outArr (V m) (14 : Fin 16) c)) main_v20_5 (outArr (V m) (15 : Fin 16) c)

theorem Wend_of (c : Dev nD) (r : Ref sig .tc) (h : r ∉ outRefs) : Wend m c r = Wk m c r := by
  have hn : ∀ r' ∈ outRefs, (Proc.devRef .tc r : DevRef τ sig) ≠ Proc.devRef .tc r' := fun r' hr' he => h (Proc.devRef_injective _ he ▸ hr')
  unfold Wend
  rw [Function.update_of_ne (hn main_v20_5 (by decide)), Function.update_of_ne (hn main_v20_4 (by decide)), Function.update_of_ne (hn main_v20_3 (by decide)), Function.update_of_ne (hn main_v20_2 (by decide)), Function.update_of_ne (hn main_v20_1 (by decide)), Function.update_of_ne (hn main_v20_0 (by decide))]

theorem in_not_out : ∀ w : Fin cfg0.W, w.val < 10 → Pipeline.arrRef spec0 w ∉ outRefs := by decide

theorem not_out (r : Ref sig .tc) (h : ∀ w : Fin cfg0.W, r ≠ Pipeline.arrRef spec0 w) : r ∉ outRefs := by
  intro hr
  simp only [outRefs, List.mem_cons, List.not_mem_nil, or_false] at hr
  rcases hr with hr | hr | hr | hr | hr | hr
  · exact h (10 : Fin 16) hr
  · exact h (11 : Fin 16) hr
  · exact h (12 : Fin 16) hr
  · exact h (13 : Fin 16) hr
  · exact h (14 : Fin 16) hr
  · exact h (15 : Fin 16) hr

theorem Wend_0 (c : Dev nD) : Wend m c main_v20_0 = outArr (V m) (10 : Fin 16) c := by
  unfold Wend
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]

theorem Wend_1 (c : Dev nD) : Wend m c main_v20_1 = outArr (V m) (11 : Fin 16) c := by
  unfold Wend
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]

theorem Wend_2 (c : Dev nD) : Wend m c main_v20_2 = outArr (V m) (12 : Fin 16) c := by
  unfold Wend
  rw [Function.update_of_ne (StableHlo.devRef_ne_of_ne (by decide)), Function.update_of_ne (StableHlo.devRef_ne_of_ne (by decide)), Function.update_of_ne (StableHlo.devRef_ne_of_ne (by decide)), Function.update_self]

theorem Wend_3 (c : Dev nD) : Wend m c main_v20_3 = outArr (V m) (13 : Fin 16) c := by
  unfold Wend
  rw [Function.update_of_ne (StableHlo.devRef_ne_of_ne (by decide)), Function.update_of_ne (StableHlo.devRef_ne_of_ne (by decide)), Function.update_self]

theorem Wend_4 (c : Dev nD) : Wend m c main_v20_4 = outArr (V m) (14 : Fin 16) c := by
  unfold Wend
  rw [Function.update_of_ne (StableHlo.devRef_ne_of_ne (by decide)), Function.update_self]

theorem Wend_5 (c : Dev nD) : Wend m c main_v20_5 = outArr (V m) (15 : Fin 16) c := by
  unfold Wend
  rw [Function.update_self]

theorem Wend_out (c : Dev nD) (w : Fin cfg0.W) (hw : 10 ≤ w.val) : Wend m c (Pipeline.arrRef spec0 w) = outArr (V m) w c := by
  obtain ⟨v, hv⟩ := w
  have hv' : v < 16 := hv
  have h : v = 10 ∨ v = 11 ∨ v = 12 ∨ v = 13 ∨ v = 14 ∨ v = 15 := by simp only at hw; omega
  rcases h with rfl | rfl | rfl | rfl | rfl | rfl
  · exact Wend_0 m c
  · exact Wend_1 m c
  · exact Wend_2 m c
  · exact Wend_3 m c
  · exact Wend_4 m c
  · exact Wend_5 m c

/-- A buffer no item of the program writes keeps what it held at the launch. -/
theorem Wk_of (c : Dev nD) (r : Ref sig .tc) (h0 : r ∉ hostOps0_W) (h1 : r ∉ condW) (h2 : r ∉ workW) (h3 : r ∉ lastW) (h4 : r ∉ hostOps0_1_W) :
    Wk m c r = m (c, Proc.devRef .tc r) := by
  unfold Wk Wl
  rw [StableHlo.after_of_writes_sub _ _ hostOps0_1_writes h4, StableHlo.after_of_writes_sub _ _ condOps_writes h1, atTrip_of _ r h1 h2 h3, V1_of m c r h0]

theorem args_loop : ∀ a ∈ argRefs, a ∉ condW ∧ a ∉ workW ∧ a ∉ lastW := ListAll.forall_mem_of_all_decide (by decide +kernel)

theorem Wk_args (c : Dev nD) (a : Ref sig .tc) (ha : a ∈ argRefs) : Wk m c a = m ((c : Thread nD τ).loc a) :=
  Wk_of m c a (args1 a ha) (args_loop a ha).1 (args_loop a ha).2.1 (args_loop a ha).2.2 (args3 a ha)

theorem Wend_args (c : Dev nD) (a : Ref sig .tc) (ha : a ∈ argRefs) : Wend m c a = m ((c : Thread nD τ).loc a) :=
  (Wend_of m c a (args4 a ha)).trans (Wk_args m c a ha)

/-- The counter is launched at zero. -/
theorem counter0 (c : Dev nD) : V1 m c main_v8_5 = fun _ => (0#32 : BitVec 32) := by
  show after hostOps0 (V0 m c) main_v8_5 = _
  simp only [hostOps0, StableHlo.after_cons, StableHlo.after_nil]
  rw [StableHlo.unary_result_ne _ _ _ _ (by decide), StableHlo.unary_result_ne _ _ _ _ (by decide), StableHlo.unary_result_ne _ _ _ _ (by decide),
    StableHlo.unary_result, StableHlo.unary_result_ne _ _ _ _ (by decide), StableHlo.unary_result_ne _ _ _ _ (by decide), StableHlo.unary_result_ne _ _ _ _ (by decide),
    StableHlo.unary_result_ne _ _ _ _ (by decide), StableHlo.unary_result_ne _ _ _ _ (by decide), StableHlo.nullary_result]
  · rfl
  all_goals decide

/-- The one ticket. -/
abbrev tick := tk (Ix := Unit) (U := UR sig nD τ) (Lvl := ℕ) (fun _ => pdats (V m)) (fun _ => emb₁)

/-- The program's items as segments. -/
def items : List (CSeg (Ix := Unit) (Name := ℕ) (U := UR sig nD τ) (Lvl := ℕ) (pcfgs (F := F)) adm defs₀ Variants.none L lv loops (tick m)) :=
  [ CSeg.ofOps _ _ _ _ _ _ _ _ (ucRefs τ sig) hostOps0
      (fun op h => Pipeline.sub_ucRefs op ((List.forall_iff_forall_mem.mp hostOps0_sub) op h))
      (fun op h => (List.forall_iff_forall_mem.mp hostOps0_fresh) op h) (V0 m) (rest (F := F)),
    StableHlo.loopSeg _ _ _ _ _ _ _ _ 0 main_while0_cond main_while0_body rfl condOps bodyI bodyI_plain while0_body_chain 2048 (V1 m) (rest (F := F))
      (cond_spec (V1 m) (rest (F := F)) (counter0 m)),
    CSeg.ofOps _ _ _ _ _ _ _ _ (ucRefs τ sig) hostOps0_1
      (fun op h => Pipeline.sub_ucRefs op ((List.forall_iff_forall_mem.mp hostOps0_1_sub) op h))
      (fun op h => (List.forall_iff_forall_mem.mp hostOps0_1_fresh) op h) (Wl m) (rest (F := F)),
    CSeg.region _ _ () cellOf_inj _ _ _ _ _ _ (0 : Fin 1)
      (reg (V m) (fun c b => Wend m c b) (fun c w hw => Wend_of m c _ (in_not_out w hw)) (Wend_out m)
        (fun c b hb => Wend_of m c b (not_out b hb))) ]

-- the kit's implicit arguments are found by unfolding plain definitions in a metavariable's type
set_option backward.isDefEq.respectTransparency.types false in
/-- Every fair run ends with each buffer at its last contents and every counter at zero. -/
theorem run_main (ρ : Dev nD → PrngReg) :
    θ_run defs (onTc (τ := τ) (main (F := F))) ⟨m, fun _ => 0, ρ⟩ (fun r =>
      (∀ c : Dev nD, ∀ b ∈ ucRefs τ sig, r.2.mem (c, b) = Wend m c b) ∧ r.2.sem = fun _ => 0) := by
  have hub (c : Dev nD) (W : Valuation τ sig (Elt F)) :
      (unscopedBufs (Ix := Unit) (Name := ℕ) (U := UR sig nD τ) (Lvl := ℕ) c (fun b => W b) : sProp 𝕄) = held (c : Thread nD τ) (ucRefs τ sig) W :=
    Pipeline.unscopedBufs_held c W
  refine Pipeline.θ_run_regions_loop_kit_dev_sems (pcfgs (F := F)) adm cellOf_inj defs₀ Variants.none L lv loops (tick m) m ρ main
    (fun _ => items m)
    (fun c Q => by
      rewrite [main_chain c, CSeg.runL,
        show (items m).map CSeg.prog = [
          StableHlo.seq hostOps0,
          HostLoop.enter 0,
          StableHlo.seq hostOps0_1,
          Prog.lift (.customCall (HostLoop.inner (Pipeline.entry 0)) ()) ] from rfl]
      exact .rfl)
    (fun c => by
      refine List.pairwise_cons.mpr ⟨fun _ _ => Finset.disjoint_empty_left _, List.pairwise_cons.mpr ⟨fun _ _ => ?_,
        List.pairwise_cons.mpr ⟨fun _ _ => Finset.disjoint_empty_left _, List.pairwise_singleton ..⟩⟩⟩
      rw [StableHlo.loopSeg_T]; exact Finset.disjoint_empty_left _)
    (fun _ => 0) (fun _ _ => rfl) (fun _ => BI.emp)
    (initOf (Pipeline.cells (Pipeline.pin (pcfgs (F := F)) adm) cellOf_inj) (Pipeline.launchToks (Pipeline.pin (pcfgs (F := F)) adm) cellOf_inj))
    ?_
    (fun c => iprop(held (c : Thread nD τ) (ucRefs τ sig) (V0 m c) ∗ rest (F := F) c))
    (fun c => held (c : Thread nD τ) (ucRefs τ sig) (Wend m c))
    (fun c => ⟨.rfl, .rfl, .rfl, sep_mono (BIBase.Entails.of_eq (hub c (Wk m c)).symm) .rfl, sep_mono (BIBase.Entails.of_eq (hub c (Wend m c))) .rfl⟩)
    ?_ (fun c s => ∀ b ∈ ucRefs τ sig, s.mem (c, b) = Wend m c b)
    (fun c s' => ?_) (fun _ h hz => ⟨h, funext fun g => hz g (.inr (regions_no_unscoped g.2))⟩)
  · iintro Hu; imodintro
    isplitl [Hu]
    · rw [show (Finset.univ : Finset (Fin 1)) = {0} from rfl, BI.bigSep_singleton]
      iapply (show (ownU _ : sProp 𝕄) ⊢ BI.own (emb₁ (initOf (Pipeline.cells (Pipeline.pin (pcfgs (F := F)) adm) cellOf_inj)
        (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Entails.trans (?_ : _ ⊢ bigSep Finset.univ fun c : Dev nD => iprop(held (c : Thread nD τ) (ucRefs τ sig) (V0 m c) ∗ rest (F := F) c)) BI.fupd_intro
    have h1 (c : Dev nD) : (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ iprop(held (c : Thread nD τ) (ucRefs τ sig) (V0 m c) ∗ rest (F := F) c) := by
      have h := BIBase.Entails.of_eq (hub c (V0 m c))
      iintro ⟨Hb, -, HO, -⟩
      isplitl [Hb]; · iapply h; iexact Hb
      iexists _; iexact HO
    have hmono : (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄))
        ⊢ bigSep Finset.univ fun c : Dev nD => iprop(held (c : Thread nD τ) (ucRefs τ sig) (V0 m c) ∗ rest (F := F) c) :=
      bigSep_mono fun c _ => h1 c
    iintro ⟨H, -⟩
    iapply hmono
    iexact H
  · unfold StableHlo.held
    iintro ⟨Hh, HSI⟩
    ihave Hr := (pointsTo_read_all (ucRefs τ sig) (fun b => ((c : Thread nD τ).1, b)) (Wend m c) s') $$ [Hh HSI]
    · isplitl [Hh] <;> iassumption
    icases Hr with ⟨%h, HSI⟩
    imodintro
    isplitr
    · ipureintro; exact h
    · iexact HSI

/-- A TensorCore reference that is not scoped is among the buffers `run_main` speaks of. -/
theorem uc (b : Ref sig .tc) (h : (Proc.devRef .tc b : DevRef τ sig).isScoped = false) : (Proc.devRef .tc b : DevRef τ sig) ∈ ucRefs τ sig :=
  StableHlo.devRef_mem_ucRefs b h

/-- The frame: the arguments end as launched, every counter at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (h.1 c _ (uc main_arg0 (by decide))).trans (Wend_args m c main_arg0 (by decide)),
    (h.1 c _ (uc main_arg1 (by decide))).trans (Wend_args m c main_arg1 (by decide)),
    (h.1 c _ (uc main_arg2 (by decide))).trans (Wend_args m c main_arg2 (by decide)),
    (h.1 c _ (uc main_arg3 (by decide))).trans (Wend_args m c main_arg3 (by decide)),
    (h.1 c _ (uc main_arg4 (by decide))).trans (Wend_args m c main_arg4 (by decide)),
    (h.1 c _ (uc main_arg5 (by decide))).trans (Wend_args m c main_arg5 (by decide)),
    (h.1 c _ (uc main_arg6 (by decide))).trans (Wend_args m c main_arg6 (by decide))⟩, h.2⟩) (run_main m ρ)

end Cert.KernelIdeal.Scan

end
-- ==== Proof.Bits.lean ====
module

public import proofs.«01_k».proof.Defs
public import proofs.«01_k».proof.Proof.Gen.Kernel
public import proofs.«01_k».proof.Proof.Run
public import Idealize.ShloMosaic.Lib.Pipeline.Regions

@[expose] public section

set_option maxRecDepth 16384

noncomputable section

namespace Cert.KernelIdeal.Scan

open Idealize.ShloMosaic Idealize.SL.Sem Cert.KernelIdeal

/-- The frame of the idealized program's text, its floats read as bits. -/
def FrameBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frameBits : FrameBits := fun m ρ _ => frame_run (F := Bits) m ρ

/-- The kernel's program is the same text under another name: its frame is the one above. -/
theorem kernel_eq : FrameBits = Cert.quiescent_Kernel (hKernel := Cert.Kernel.Gen.facts) := by chain_rfl

end Cert.KernelIdeal.Scan

end
-- ==== Proof.RefOps.lean ====
/-
  The reference program's operations, listed in the order it runs them.
-/
module

public import proofs.«01_k».proof.ReferenceIdeal
public import proofs.«01_k».proof.Proof.Gen.ReferenceIdeal
public import Idealize.ShloMosaic.Lib.StableHlo.RunLoop

@[expose] public section

set_option maxRecDepth 16384

noncomputable section

namespace Cert.ReferenceIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal.Gen

variable {F : FTy → Type} [FloatOps F]

/-- What runs before the first loop. -/
abbrev preOps : List (HloOp τ sig (Elt F)) :=
  [ StableHlo.reshape main_arg0 main_v0 (rfl : (.f32 : EltTy) = .f32) shapeCasts_S2048x1x256_S1x2048x4x64,
    StableHlo.reshape main_arg1 main_v1 (rfl : (.f32 : EltTy) = .f32) shapeCasts_S2048x1x256_S1x2048x4x64,
    StableHlo.reshape main_arg2 main_v2 (rfl : (.f32 : EltTy) = .f32) shapeCasts_S2048x1x256_S1x2048x4x64,
    StableHlo.reshape main_arg3 main_v3 (rfl : (.f32 : EltTy) = .f32) shapeCasts_S2048x1x256_S1x2048x4x64,
    StableHlo.reshape main_arg4 main_v4 (rfl : (.f32 : EltTy) = .f32) shapeCasts_S2048x1x256_S1x2048x4x64,
    StableHlo.reshape main_arg5 main_v5 (rfl : (.f32 : EltTy) = .f32) shapeCasts_S2048x1x256_S1x2048x4x64,
    StableHlo.unary main_v0 main_v6 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v1 main_v7 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v2 main_v8 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v3 main_v9 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v4 main_v10 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v5 main_v11 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.nullary main_cst (constant S_ .f32 0x00000000#32),
    StableHlo.unary main_cst main_v12 (broadcastInDim S1x4x64x64 ![] bcast_S_S1x4x64x64 : (⟨S_, .f32⟩ : BufTy).Contents (Elt F) → (⟨S1x4x64x64, .f32⟩ : BufTy).Contents (Elt F)),
    StableHlo.nullary main_cst_0 (constant S_ .f32 0x00000000#32),
    StableHlo.unary main_cst_0 main_v13 (broadcastInDim S2048x1x4x64 ![] bcast_S_S2048x1x4x64 : (⟨S_, .f32⟩ : BufTy).Contents (Elt F) → (⟨S2048x1x4x64, .f32⟩ : BufTy).Contents (Elt F)),
    StableHlo.nullary main_cst_1 (constant S_ .f32 0x00000000#32),
    StableHlo.unary main_cst_1 main_v14 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_2 (constant S_ .f32 0x00000000#32),
    StableHlo.unary main_cst_2 main_v15 (broadcastInDim S2048x1x4x64x64 ![] bcast_S_S2048x1x4x64x64 : (⟨S_, .f32⟩ : BufTy).Contents (Elt F) → (⟨S2048x1x4x64x64, .f32⟩ : BufTy).Contents (Elt F)),
    StableHlo.nullary main_cst_3 (constant S_ .f32 0x00000000#32),
    StableHlo.unary main_cst_3 main_v16 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_4 (constant S_ .f32 0x00000000#32),
    StableHlo.unary main_cst_4 main_v17 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_5 (constant S_ .f32 0x00000000#32),
    StableHlo.unary main_cst_5 main_v18 (broadcastInDim S2048x1x4x64x1 ![] bcast_S_S2048x1x4x64x1 : (⟨S_, .f32⟩ : BufTy).Contents (Elt F) → (⟨S2048x1x4x64x1, .f32⟩ : BufTy).Contents (Elt F)),
    StableHlo.nullary main_cst_6 (constant S_ .f32 0x00000000#32),
    StableHlo.unary main_cst_6 main_v19 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_7 (constant S_ .f32 0x00000000#32),
    StableHlo.unary main_cst_7 main_v20 (broadcastInDim S2048x1x4x64x1 ![] bcast_S_S2048x1x4x64x1 : (⟨S_, .f32⟩ : BufTy).Contents (Elt F) → (⟨S2048x1x4x64x1, .f32⟩ : BufTy).Contents (Elt F)),
    StableHlo.nullary main_cst_8 (constant S_ .f32 0x00000000#32),
    StableHlo.unary main_cst_8 main_v21 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_9 (constant S_ .f32 0x00000000#32),
    StableHlo.unary main_cst_9 main_v22 (broadcastInDim S2048x1x4x64x64 ![] bcast_S_S2048x1x4x64x64 : (⟨S_, .f32⟩ : BufTy).Contents (Elt F) → (⟨S2048x1x4x64x64, .f32⟩ : BufTy).Contents (Elt F)),
    StableHlo.nullary main_c (constantI S_ 32 0#32),
    StableHlo.unary main_v6 main_v23_0 id,
    StableHlo.unary main_v7 main_v23_1 id,
    StableHlo.unary main_v8 main_v23_2 id,
    StableHlo.unary main_v9 main_v23_3 id,
    StableHlo.unary main_v10 main_v23_4 id,
    StableHlo.unary main_v11 main_v23_5 id,
    StableHlo.unary main_c main_v23_6 id,
    StableHlo.unary main_v12 main_v23_7 id,
    StableHlo.unary main_v13 main_v23_8 id,
    StableHlo.unary main_v14 main_v23_9 id,
    StableHlo.unary main_v15 main_v23_10 id,
    StableHlo.unary main_v16 main_v23_11 id,
    StableHlo.unary main_v17 main_v23_12 id,
    StableHlo.unary main_v18 main_v23_13 id,
    StableHlo.unary main_v19 main_v23_14 id,
    StableHlo.unary main_v20 main_v23_15 id,
    StableHlo.unary main_v21 main_v23_16 id,
    StableHlo.unary main_v22 main_v23_17 id ]
theorem preOps_sub : (preOps : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- What runs between the loops, its first part. -/
abbrev midOpsA : List (HloOp τ sig (Elt F)) :=
  [ StableHlo.unary main_v23_8 main_v24 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.reshape main_v24 main_v25 (rfl : (.f32 : EltTy) = .f32) shapeCasts_S1x2048x4x64_S2048x1x256,
    StableHlo.nullary main_cst_10 (constant S_ .f32 0x00000000#32),
    StableHlo.unary main_cst_10 main_v26 (broadcastInDim S1x4x64x64 ![] bcast_S_S1x4x64x64 : (⟨S_, .f32⟩ : BufTy).Contents (Elt F) → (⟨S1x4x64x64, .f32⟩ : BufTy).Contents (Elt F)),
    StableHlo.reshape main_arg6 main_v27 (rfl : (.f32 : EltTy) = .f32) shapeCasts_S2048x1x256_S1x2048x4x64,
    StableHlo.unary main_v27 main_v28 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)) ]
theorem midOpsA_sub : (midOpsA : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub ..⟩

/-- What runs between the loops, its second part. -/
abbrev midOpsB : List (HloOp τ sig (Elt F)) :=
  [ StableHlo.nullary main_cst_11 (constant S_ .f32 0x00000000#32),
    StableHlo.unary main_cst_11 main_v29 (broadcastInDim S1x4x64x64 ![] bcast_S_S1x4x64x64 : (⟨S_, .f32⟩ : BufTy).Contents (Elt F) → (⟨S1x4x64x64, .f32⟩ : BufTy).Contents (Elt F)),
    StableHlo.nullary main_cst_12 (constant S_ .f32 0x00000000#32),
    StableHlo.unary main_cst_12 main_v30 (broadcastInDim S2048x1x4x64 ![] bcast_S_S2048x1x4x64 : (⟨S_, .f32⟩ : BufTy).Contents (Elt F) → (⟨S2048x1x4x64, .f32⟩ : BufTy).Contents (Elt F)),
    StableHlo.nullary main_cst_13 (constant S_ .f32 0x00000000#32),
    StableHlo.unary main_cst_13 main_v31 (broadcastInDim S2048x1x4x64 ![] bcast_S_S2048x1x4x64 : (⟨S_, .f32⟩ : BufTy).Contents (Elt F) → (⟨S2048x1x4x64, .f32⟩ : BufTy).Contents (Elt F)),
    StableHlo.nullary main_cst_14 (constant S_ .f32 0x00000000#32),
    StableHlo.unary main_cst_14 main_v32 (broadcastInDim S2048x1x4x64 ![] bcast_S_S2048x1x4x64 : (⟨S_, .f32⟩ : BufTy).Contents (Elt F) → (⟨S2048x1x4x64, .f32⟩ : BufTy).Contents (Elt F)),
    StableHlo.nullary main_cst_15 (constant S_ .f32 0x00000000#32),
    StableHlo.unary main_cst_15 main_v33 (broadcastInDim S2048x1x4x64 ![] bcast_S_S2048x1x4x64 : (⟨S_, .f32⟩ : BufTy).Contents (Elt F) → (⟨S2048x1x4x64, .f32⟩ : BufTy).Contents (Elt F)),
    StableHlo.nullary main_cst_16 (constant S_ .f32 0x00000000#32),
    StableHlo.unary main_cst_16 main_v34 (broadcastInDim S2048x1x4x64 ![] bcast_S_S2048x1x4x64 : (⟨S_, .f32⟩ : BufTy).Contents (Elt F) → (⟨S2048x1x4x64, .f32⟩ : BufTy).Contents (Elt F)),
    StableHlo.nullary main_cst_17 (constant S_ .f32 0x00000000#32),
    StableHlo.unary main_cst_17 main_v35 (broadcastInDim S2048x1x4x64 ![] bcast_S_S2048x1x4x64 : (⟨S_, .f32⟩ : BufTy).Contents (Elt F) → (⟨S2048x1x4x64, .f32⟩ : BufTy).Contents (Elt F)),
    StableHlo.nullary main_c_18 (constantI S_ 32 0#32),
    StableHlo.unary main_v28 main_v36_0 id,
    StableHlo.unary main_v23_9 main_v36_1 id,
    StableHlo.unary main_v23_10 main_v36_2 id,
    StableHlo.unary main_v23_11 main_v36_3 id,
    StableHlo.unary main_v23_12 main_v36_4 id,
    StableHlo.unary main_v23_13 main_v36_5 id,
    StableHlo.unary main_v23_14 main_v36_6 id,
    StableHlo.unary main_v23_15 main_v36_7 id,
    StableHlo.unary main_v23_16 main_v36_8 id,
    StableHlo.unary main_v23_17 main_v36_9 id,
    StableHlo.unary main_c_18 main_v36_10 id,
    StableHlo.unary main_v29 main_v36_11 id,
    StableHlo.unary main_v30 main_v36_12 id,
    StableHlo.unary main_v31 main_v36_13 id,
    StableHlo.unary main_v32 main_v36_14 id,
    StableHlo.unary main_v33 main_v36_15 id,
    StableHlo.unary main_v34 main_v36_16 id,
    StableHlo.unary main_v35 main_v36_17 id ]
theorem midOpsB_sub : (midOpsB : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- What runs after the second loop. -/
abbrev postOps : List (HloOp τ sig (Elt F)) :=
  [ StableHlo.unary main_v36_17 main_v37 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v36_16 main_v38 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v36_15 main_v39 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v36_14 main_v40 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v36_13 main_v41 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v36_12 main_v42 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.reshape main_v37 main_v43 (rfl : (.f32 : EltTy) = .f32) shapeCasts_S1x2048x4x64_S2048x1x256,
    StableHlo.reshape main_v38 main_v44 (rfl : (.f32 : EltTy) = .f32) shapeCasts_S1x2048x4x64_S2048x1x256,
    StableHlo.reshape main_v39 main_v45 (rfl : (.f32 : EltTy) = .f32) shapeCasts_S1x2048x4x64_S2048x1x256,
    StableHlo.reshape main_v40 main_v46 (rfl : (.f32 : EltTy) = .f32) shapeCasts_S1x2048x4x64_S2048x1x256,
    StableHlo.reshape main_v41 main_v47 (rfl : (.f32 : EltTy) = .f32) shapeCasts_S1x2048x4x64_S2048x1x256,
    StableHlo.reshape main_v42 main_v48 (rfl : (.f32 : EltTy) = .f32) shapeCasts_S1x2048x4x64_S2048x1x256 ]
theorem postOps_sub : (postOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub ..⟩

/-- The program is the chain of its stretches and its loops. -/
theorem main_chain (c : Dev nD) : main (F := F) c = (Pipeline.chain
  [ StableHlo.seq preOps,
    HostLoop.enter 0,
    StableHlo.seq midOpsA,
    StableHlo.seq midOpsB,
    HostLoop.enter 1,
    StableHlo.seq postOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, StableHlo.chain_seq_cons, Pipeline.chain_cons, StableHlo.chain_seq_cons]
  chain_rfl

/-- A stretch of the first loop's body. -/
abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v23_0 : StableHlo.TRef sig ⟨S2048x1x4x64, .f32⟩) ![(.of main_v23_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x1x4x64, .f32⟩) (fun x i => Host.dynamicSlice S1x1x4x64 x (fun k => (i k (Shape.Idx.first h_S_)).toInt) sliceFits_S2048x1x4x64_S1x1x4x64),
    StableHlo.TRef.reshape (.of main_while0b_call0_v0 : StableHlo.TRef sig ⟨S1x1x4x64, .f32⟩) (.of main_while0b_v49 : StableHlo.TRef sig ⟨S1x4x64, .f32⟩) (rfl : (.f32 : EltTy) = .f32) shapeCasts_S1x1x4x64_S1x4x64 ]
theorem fwd0_sub : (fwd0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- A stretch of the first loop's body. -/
abbrev fwd1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v23_1 : StableHlo.TRef sig ⟨S2048x1x4x64, .f32⟩) ![(.of main_v23_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x1x4x64, .f32⟩) (fun x i => Host.dynamicSlice S1x1x4x64 x (fun k => (i k (Shape.Idx.first h_S_)).toInt) sliceFits_S2048x1x4x64_S1x1x4x64),
    StableHlo.TRef.reshape (.of main_while0b_call1_v0 : StableHlo.TRef sig ⟨S1x1x4x64, .f32⟩) (.of main_while0b_v50 : StableHlo.TRef sig ⟨S1x4x64, .f32⟩) (rfl : (.f32 : EltTy) = .f32) shapeCasts_S1x1x4x64_S1x4x64 ]
theorem fwd1_sub : (fwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- A stretch of the first loop's body. -/
abbrev fwd2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v23_2 : StableHlo.TRef sig ⟨S2048x1x4x64, .f32⟩) ![(.of main_v23_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x1x4x64, .f32⟩) (fun x i => Host.dynamicSlice S1x1x4x64 x (fun k => (i k (Shape.Idx.first h_S_)).toInt) sliceFits_S2048x1x4x64_S1x1x4x64),
    StableHlo.TRef.reshape (.of main_while0b_call2_v0 : StableHlo.TRef sig ⟨S1x1x4x64, .f32⟩) (.of main_while0b_v51 : StableHlo.TRef sig ⟨S1x4x64, .f32⟩) (rfl : (.f32 : EltTy) = .f32) shapeCasts_S1x1x4x64_S1x4x64 ]
theorem fwd2_sub : (fwd2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- A stretch of the first loop's body. -/
abbrev fwd3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v23_3 : StableHlo.TRef sig ⟨S2048x1x4x64, .f32⟩) ![(.of main_v23_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x1x4x64, .f32⟩) (fun x i => Host.dynamicSlice S1x1x4x64 x (fun k => (i k (Shape.Idx.first h_S_)).toInt) sliceFits_S2048x1x4x64_S1x1x4x64),
    StableHlo.TRef.reshape (.of main_while0b_call3_v0 : StableHlo.TRef sig ⟨S1x1x4x64, .f32⟩) (.of main_while0b_v52 : StableHlo.TRef sig ⟨S1x4x64, .f32⟩) (rfl : (.f32 : EltTy) = .f32) shapeCasts_S1x1x4x64_S1x4x64 ]
theorem fwd3_sub : (fwd3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- A stretch of the first loop's body. -/
abbrev fwd4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v23_4 : StableHlo.TRef sig ⟨S2048x1x4x64, .f32⟩) ![(.of main_v23_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x1x4x64, .f32⟩) (fun x i => Host.dynamicSlice S1x1x4x64 x (fun k => (i k (Shape.Idx.first h_S_)).toInt) sliceFits_S2048x1x4x64_S1x1x4x64),
    StableHlo.TRef.reshape (.of main_while0b_call4_v0 : StableHlo.TRef sig ⟨S1x1x4x64, .f32⟩) (.of main_while0b_v53 : StableHlo.TRef sig ⟨S1x4x64, .f32⟩) (rfl : (.f32 : EltTy) = .f32) shapeCasts_S1x1x4x64_S1x4x64 ]
theorem fwd4_sub : (fwd4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- A stretch of the first loop's body. -/
abbrev fwd5 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v23_5 : StableHlo.TRef sig ⟨S2048x1x4x64, .f32⟩) ![(.of main_v23_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x1x4x64, .f32⟩) (fun x i => Host.dynamicSlice S1x1x4x64 x (fun k => (i k (Shape.Idx.first h_S_)).toInt) sliceFits_S2048x1x4x64_S1x1x4x64),
    StableHlo.TRef.reshape (.of main_while0b_call5_v0 : StableHlo.TRef sig ⟨S1x1x4x64, .f32⟩) (.of main_while0b_v54 : StableHlo.TRef sig ⟨S1x4x64, .f32⟩) (rfl : (.f32 : EltTy) = .f32) shapeCasts_S1x1x4x64_S1x4x64 ]
theorem fwd5_sub : (fwd5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- A stretch of the first loop's body. -/
abbrev fwd6 : List (HloOp τ sig (Elt F)) :=
  [ StableHlo.unary main_while0b_v53 main_while0b_v55 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v55 main_while0b_v56 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_v23_7 main_while0b_v56 main_while0b_v57 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while0b_cst_36 (constant S_ .f32 0x00000000#32),
    StableHlo.binary main_while0b_v57 main_while0b_cst_36 main_while0b_v58 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)),
    StableHlo.unary main_while0b_v50 main_while0b_v59 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v59 main_while0b_v60 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_v23_7 main_while0b_v60 main_while0b_v61 (mulf : (⟨S1x4x64x64, .f32⟩ : BufTy).Contents (Elt F) → (⟨S1x4x64x64, .f32⟩ : BufTy).Contents (Elt F) → (⟨S1x4x64x64, .f32⟩ : BufTy).Contents (Elt F)),
    StableHlo.unary main_while0b_v58 main_while0b_v62 (broadcastInDim S1x4x64x1 ![0, 1, 2] bcast_S1x4x64_S1x4x64x1_0_1_2 : (⟨S1x4x64, .f32⟩ : BufTy).Contents (Elt F) → (⟨S1x4x64x1, .f32⟩ : BufTy).Contents (Elt F)),
    StableHlo.unary main_while0b_v54 main_while0b_v63 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v62 main_while0b_v64 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.unary main_while0b_v63 main_while0b_v65 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while0b_v64 main_while0b_v65 main_while0b_v66 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_while0b_v61 main_while0b_v66 main_while0b_v67 (addf : (⟨S1x4x64x64, .f32⟩ : BufTy).Contents (Elt F) → (⟨S1x4x64x64, .f32⟩ : BufTy).Contents (Elt F) → (⟨S1x4x64x64, .f32⟩ : BufTy).Contents (Elt F)),
    StableHlo.unary main_while0b_v52 main_while0b_v68 (broadcastInDim S1x4x64x1 ![0, 1, 2] bcast_S1x4x64_S1x4x64x1_0_1_2 : (⟨S1x4x64, .f32⟩ : BufTy).Contents (Elt F) → (⟨S1x4x64x1, .f32⟩ : BufTy).Contents (Elt F)),
    StableHlo.unary main_while0b_v51 main_while0b_v69 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v68 main_while0b_v70 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.unary main_while0b_v69 main_while0b_v71 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while0b_v70 main_while0b_v71 main_while0b_v72 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_while0b_v67 main_while0b_v72 main_while0b_v73 (addf : (⟨S1x4x64x64, .f32⟩ : BufTy).Contents (Elt F) → (⟨S1x4x64x64, .f32⟩ : BufTy).Contents (Elt F) → (⟨S1x4x64x64, .f32⟩ : BufTy).Contents (Elt F)),
    StableHlo.unary main_while0b_v49 main_while0b_v74 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v74 main_while0b_v75 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while0b_v73 main_while0b_v75 main_while0b_v76 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while0b_cst_37 (constant S_ .f32 0x00000000#32),
    StableHlo.binary main_while0b_v76 main_while0b_cst_37 main_while0b_v77 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)) ]
theorem fwd6_sub : (fwd6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub ..⟩

/-- A stretch of the first loop's body. -/
abbrev fwd7 : List (HloOp τ sig (Elt F)) :=
  [ StableHlo.TRef.unary (.of main_while0b_v77 : StableHlo.TRef sig ⟨S1x4x64, .f32⟩) (.of main_while0b_call6_v0 : StableHlo.TRef sig ⟨S1x1x4x64, .f32⟩) (broadcastInDim S1x1x4x64 ![1, 2, 3] bcast_S1x4x64_S1x1x4x64_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v23_8 : StableHlo.TRef sig ⟨S2048x1x4x64, .f32⟩) (.of main_while0b_call6_v0 : StableHlo.TRef sig ⟨S1x1x4x64, .f32⟩) ![(.of main_v23_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v78 : StableHlo.TRef sig ⟨S2048x1x4x64, .f32⟩) (fun x u i => Host.dynamicUpdateSlice x u (fun k => (i k (Shape.Idx.first h_S_)).toInt) updateFits_S2048x1x4x64_S1x1x4x64) ]
theorem fwd7_sub : (fwd7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- A stretch of the first loop's body. -/
abbrev fwd8 : List (HloOp τ sig (Elt F)) :=
  [ StableHlo.TRef.unary (.of main_while0b_v55 : StableHlo.TRef sig ⟨S1x4x1x64, .f32⟩) (.of main_while0b_call7_v0 : StableHlo.TRef sig ⟨S1x1x4x1x64, .f32⟩) (broadcastInDim S1x1x4x1x64 ![1, 2, 3, 4] bcast_S1x4x1x64_S1x1x4x1x64_1_2_3_4),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.nullary (.of main_while0b_call7_c_2 : StableHlo.TRef sig ⟨S_, .i32⟩) (constantI S_ 32 0#32),
    StableHlo.TRef.binaryIndexed (.of main_v23_9 : StableHlo.TRef sig ⟨S2048x1x4x1x64, .f32⟩) (.of main_while0b_call7_v0 : StableHlo.TRef sig ⟨S1x1x4x1x64, .f32⟩) ![(.of main_v23_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩), (.of main_while0b_call7_c_2 : StableHlo.TRef sig ⟨S_, .i32⟩)] (.of main_while0b_v79 : StableHlo.TRef sig ⟨S2048x1x4x1x64, .f32⟩) (fun x u i => Host.dynamicUpdateSlice x u (fun k => (i k (Shape.Idx.first h_S_)).toInt) updateFits_S2048x1x4x1x64_S1x1x4x1x64) ]
theorem fwd8_sub : (fwd8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd9 : List (HloOp τ sig (Elt F)) :=
  [ StableHlo.TRef.unary (.of main_v23_7 : StableHlo.TRef sig ⟨S1x4x64x64, .f32⟩) (.of main_while0b_call8_v0 : StableHlo.TRef sig ⟨S1x1x4x64x64, .f32⟩) (broadcastInDim S1x1x4x64x64 ![1, 2, 3, 4] bcast_S1x4x64x64_S1x1x4x64x64_1_2_3_4),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.nullary (.of main_while0b_call8_c_2 : StableHlo.TRef sig ⟨S_, .i32⟩) (constantI S_ 32 0#32),
    StableHlo.TRef.binaryIndexed (.of main_v23_10 : StableHlo.TRef sig ⟨S2048x1x4x64x64, .f32⟩) (.of main_while0b_call8_v0 : StableHlo.TRef sig ⟨S1x1x4x64x64, .f32⟩) ![(.of main_v23_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩), (.of main_while0b_call8_c_2 : StableHlo.TRef sig ⟨S_, .i32⟩)] (.of main_while0b_v80 : StableHlo.TRef sig ⟨S2048x1x4x64x64, .f32⟩) (fun x u i => Host.dynamicUpdateSlice x u (fun k => (i k (Shape.Idx.first h_S_)).toInt) updateFits_S2048x1x4x64x64_S1x1x4x64x64) ]
theorem fwd9_sub : (fwd9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd10 : List (HloOp τ sig (Elt F)) :=
  [ StableHlo.TRef.unary (.of main_while0b_v59 : StableHlo.TRef sig ⟨S1x4x1x64, .f32⟩) (.of main_while0b_call9_v0 : StableHlo.TRef sig ⟨S1x1x4x1x64, .f32⟩) (broadcastInDim S1x1x4x1x64 ![1, 2, 3, 4] bcast_S1x4x1x64_S1x1x4x1x64_1_2_3_4),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.nullary (.of main_while0b_call9_c_2 : StableHlo.TRef sig ⟨S_, .i32⟩) (constantI S_ 32 0#32),
    StableHlo.TRef.binaryIndexed (.of main_v23_11 : StableHlo.TRef sig ⟨S2048x1x4x1x64, .f32⟩) (.of main_while0b_call9_v0 : StableHlo.TRef sig ⟨S1x1x4x1x64, .f32⟩) ![(.of main_v23_6 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩), (.of main_while0b_call9_c_2 : StableHlo.TRef sig ⟨S_, .i32⟩)] (.of main_while0b_v81 : StableHlo.TRef sig ⟨S2048x1x4x1x64, .f32⟩) (fun x u i => Host.dynamicUpdateSlice x u (fun k => (i k (Shape.Idx.first h_S_)).toInt) updateFits_S2048x1x4x1x64_S1x1x4x1x64) ]
theorem fwd10_sub : (fwd10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd11 : List (HloOp τ sig (Elt F)) :=
  [ StableHlo.TRef.unary (.of main_while0b_v63 : StableHlo.TRef sig ⟨S1x4x1x64, .f32⟩) (.of main_while0b_call10_v0 : StableHlo.TRef sig ⟨S1x1x4x1x64, .f32⟩) (broadcastInDim S1x1x4x1x64 ![1, 2, 3, 4] bcast_S1x4x1x64_S1x1x4x1x64_1_2_3_4),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.nullary (.of main_while0b_call10_c_2 : StableHlo.TRef sig ⟨S_, .i32⟩) (constantI S_ 32 0#32),
    StableHlo.TRef.binaryIndexed (.of main_v23_12 : StableHlo.TRef sig ⟨S2048x1x4x1x64, .f32⟩) (.of main_while0b_call10_v0 : StableHlo.TRef sig ⟨S1x1x4x1x64, .f32⟩) ![(.of main_v23_6 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩), (.of main_while0b_call10_c_2 : StableHlo.TRef sig ⟨S_, .i32⟩)] (.of main_while0b_v82 : StableHlo.TRef sig ⟨S2048x1x4x1x64, .f32⟩) (fun x u i => Host.dynamicUpdateSlice x u (fun k => (i k (Shape.Idx.first h_S_)).toInt) updateFits_S2048x1x4x1x64_S1x1x4x1x64) ]
theorem fwd11_sub : (fwd11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd12 : List (HloOp τ sig (Elt F)) :=
  [ StableHlo.TRef.unary (.of main_while0b_v62 : StableHlo.TRef sig ⟨S1x4x64x1, .f32⟩) (.of main_while0b_call11_v0 : StableHlo.TRef sig ⟨S1x1x4x64x1, .f32⟩) (broadcastInDim S1x1x4x64x1 ![1, 2, 3, 4] bcast_S1x4x64x1_S1x1x4x64x1_1_2_3_4),
    StableHlo.TRef.nullary (.of main_while0b_call11_c : StableHlo.TRef sig ⟨S_, .i32⟩) (constantI S_ 32 0#32),
    StableHlo.TRef.nullary (.of main_while0b_call11_c_0 : StableHlo.TRef sig ⟨S_, .i32⟩) (constantI S_ 32 0#32),
    StableHlo.TRef.nullary (.of main_while0b_call11_c_1 : StableHlo.TRef sig ⟨S_, .i32⟩) (constantI S_ 32 0#32),
    StableHlo.TRef.nullary (.of main_while0b_call11_c_2 : StableHlo.TRef sig ⟨S_, .i32⟩) (constantI S_ 32 0#32),
    StableHlo.TRef.binaryIndexed (.of main_v23_13 : StableHlo.TRef sig ⟨S2048x1x4x64x1, .f32⟩) (.of main_while0b_call11_v0 : StableHlo.TRef sig ⟨S1x1x4x64x1, .f32⟩) ![(.of main_v23_6 : StableHlo.TRef sig ⟨S_, .i32⟩), (.of main_while0b_call11_c : StableHlo.TRef sig ⟨S_, .i32⟩), (.of main_while0b_call11_c_0 : StableHlo.TRef sig ⟨S_, .i32⟩), (.of main_while0b_call11_c_1 : StableHlo.TRef sig ⟨S_, .i32⟩), (.of main_while0b_call11_c_2 : StableHlo.TRef sig ⟨S_, .i32⟩)] (.of main_while0b_v83 : StableHlo.TRef sig ⟨S2048x1x4x64x1, .f32⟩) (fun x u i => Host.dynamicUpdateSlice x u (fun k => (i k (Shape.Idx.first h_S_)).toInt) updateFits_S2048x1x4x64x1_S1x1x4x64x1) ]
theorem fwd12_sub : (fwd12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd13 : List (HloOp τ sig (Elt F)) :=
  [ StableHlo.TRef.unary (.of main_while0b_v69 : StableHlo.TRef sig ⟨S1x4x1x64, .f32⟩) (.of main_while0b_call12_v0 : StableHlo.TRef sig ⟨S1x1x4x1x64, .f32⟩) (broadcastInDim S1x1x4x1x64 ![1, 2, 3, 4] bcast_S1x4x1x64_S1x1x4x1x64_1_2_3_4),
    StableHlo.TRef.nullary (.of main_while0b_call12_c : StableHlo.TRef sig ⟨S_, .i32⟩) (constantI S_ 32 0#32),
    StableHlo.TRef.nullary (.of main_while0b_call12_c_0 : StableHlo.TRef sig ⟨S_, .i32⟩) (constantI S_ 32 0#32),
    StableHlo.TRef.nullary (.of main_while0b_call12_c_1 : StableHlo.TRef sig ⟨S_, .i32⟩) (constantI S_ 32 0#32),
    StableHlo.TRef.nullary (.of main_while0b_call12_c_2 : StableHlo.TRef sig ⟨S_, .i32⟩) (constantI S_ 32 0#32),
    StableHlo.TRef.binaryIndexed (.of main_v23_14 : StableHlo.TRef sig ⟨S2048x1x4x1x64, .f32⟩) (.of main_while0b_call12_v0 : StableHlo.TRef sig ⟨S1x1x4x1x64, .f32⟩) ![(.of main_v23_6 : StableHlo.TRef sig ⟨S_, .i32⟩), (.of main_while0b_call12_c : StableHlo.TRef sig ⟨S_, .i32⟩), (.of main_while0b_call12_c_0 : StableHlo.TRef sig ⟨S_, .i32⟩), (.of main_while0b_call12_c_1 : StableHlo.TRef sig ⟨S_, .i32⟩), (.of main_while0b_call12_c_2 : StableHlo.TRef sig ⟨S_, .i32⟩)] (.of main_while0b_v84 : StableHlo.TRef sig ⟨S2048x1x4x1x64, .f32⟩) (fun x u i => Host.dynamicUpdateSlice x u (fun k => (i k (Shape.Idx.first h_S_)).toInt) updateFits_S2048x1x4x1x64_S1x1x4x1x64) ]
theorem fwd13_sub : (fwd13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd14 : List (HloOp τ sig (Elt F)) :=
  [ StableHlo.TRef.unary (.of main_while0b_v68 : StableHlo.TRef sig ⟨S1x4x64x1, .f32⟩) (.of main_while0b_call13_v0 : StableHlo.TRef sig ⟨S1x1x4x64x1, .f32⟩) (broadcastInDim S1x1x4x64x1 ![1, 2, 3, 4] bcast_S1x4x64x1_S1x1x4x64x1_1_2_3_4),
    StableHlo.TRef.nullary (.of main_while0b_call13_c : StableHlo.TRef sig ⟨S_, .i32⟩) (constantI S_ 32 0#32),
    StableHlo.TRef.nullary (.of main_while0b_call13_c_0 : StableHlo.TRef sig ⟨S_, .i32⟩) (constantI S_ 32 0#32),
    StableHlo.TRef.nullary (.of main_while0b_call13_c_1 : StableHlo.TRef sig ⟨S_, .i32⟩) (constantI S_ 32 0#32),
    StableHlo.TRef.nullary (.of main_while0b_call13_c_2 : StableHlo.TRef sig ⟨S_, .i32⟩) (constantI S_ 32 0#32),
    StableHlo.TRef.binaryIndexed (.of main_v23_15 : StableHlo.TRef sig ⟨S2048x1x4x64x1, .f32⟩) (.of main_while0b_call13_v0 : StableHlo.TRef sig ⟨S1x1x4x64x1, .f32⟩) ![(.of main_v23_6 : StableHlo.TRef sig ⟨S_, .i32⟩), (.of main_while0b_call13_c : StableHlo.TRef sig ⟨S_, .i32⟩), (.of main_while0b_call13_c_0 : StableHlo.TRef sig ⟨S_, .i32⟩), (.of main_while0b_call13_c_1 : StableHlo.TRef sig ⟨S_, .i32⟩), (.of main_while0b_call13_c_2 : StableHlo.TRef sig ⟨S_, .i32⟩)] (.of main_while0b_v85 : StableHlo.TRef sig ⟨S2048x1x4x64x1, .f32⟩) (fun x u i => Host.dynamicUpdateSlice x u (fun k => (i k (Shape.Idx.first h_S_)).toInt) updateFits_S2048x1x4x64x1_S1x1x4x64x1) ]
theorem fwd14_sub : (fwd14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd15 : List (HloOp τ sig (Elt F)) :=
  [ StableHlo.TRef.unary (.of main_while0b_v74 : StableHlo.TRef sig ⟨S1x4x1x64, .f32⟩) (.of main_while0b_call14_v0 : StableHlo.TRef sig ⟨S1x1x4x1x64, .f32⟩) (broadcastInDim S1x1x4x1x64 ![1, 2, 3, 4] bcast_S1x4x1x64_S1x1x4x1x64_1_2_3_4),
    StableHlo.TRef.nullary (.of main_while0b_call14_c : StableHlo.TRef sig ⟨S_, .i32⟩) (constantI S_ 32 0#32),
    StableHlo.TRef.nullary (.of main_while0b_call14_c_0 : StableHlo.TRef sig ⟨S_, .i32⟩) (constantI S_ 32 0#32),
    StableHlo.TRef.nullary (.of main_while0b_call14_c_1 : StableHlo.TRef sig ⟨S_, .i32⟩) (constantI S_ 32 0#32),
    StableHlo.TRef.nullary (.of main_while0b_call14_c_2 : StableHlo.TRef sig ⟨S_, .i32⟩) (constantI S_ 32 0#32),
    StableHlo.TRef.binaryIndexed (.of main_v23_16 : StableHlo.TRef sig ⟨S2048x1x4x1x64, .f32⟩) (.of main_while0b_call14_v0 : StableHlo.TRef sig ⟨S1x1x4x1x64, .f32⟩) ![(.of main_v23_6 : StableHlo.TRef sig ⟨S_, .i32⟩), (.of main_while0b_call14_c : StableHlo.TRef sig ⟨S_, .i32⟩), (.of main_while0b_call14_c_0 : StableHlo.TRef sig ⟨S_, .i32⟩), (.of main_while0b_call14_c_1 : StableHlo.TRef sig ⟨S_, .i32⟩), (.of main_while0b_call14_c_2 : StableHlo.TRef sig ⟨S_, .i32⟩)] (.of main_while0b_v86 : StableHlo.TRef sig ⟨S2048x1x4x1x64, .f32⟩) (fun x u i => Host.dynamicUpdateSlice x u (fun k => (i k (Shape.Idx.first h_S_)).toInt) updateFits_S2048x1x4x1x64_S1x1x4x1x64) ]
theorem fwd15_sub : (fwd15 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd16 : List (HloOp τ sig (Elt F)) :=
  [ StableHlo.TRef.unary (.of main_while0b_v73 : StableHlo.TRef sig ⟨S1x4x64x64, .f32⟩) (.of main_while0b_call15_v0 : StableHlo.TRef sig ⟨S1x1x4x64x64, .f32⟩) (broadcastInDim S1x1x4x64x64 ![1, 2, 3, 4] bcast_S1x4x64x64_S1x1x4x64x64_1_2_3_4),
    StableHlo.TRef.nullary (.of main_while0b_call15_c : StableHlo.TRef sig ⟨S_, .i32⟩) (constantI S_ 32 0#32),
    StableHlo.TRef.nullary (.of main_while0b_call15_c_0 : StableHlo.TRef sig ⟨S_, .i32⟩) (constantI S_ 32 0#32),
    StableHlo.TRef.nullary (.of main_while0b_call15_c_1 : StableHlo.TRef sig ⟨S_, .i32⟩) (constantI S_ 32 0#32),
    StableHlo.TRef.nullary (.of main_while0b_call15_c_2 : StableHlo.TRef sig ⟨S_, .i32⟩) (constantI S_ 32 0#32),
    StableHlo.TRef.binaryIndexed (.of main_v23_17 : StableHlo.TRef sig ⟨S2048x1x4x64x64, .f32⟩) (.of main_while0b_call15_v0 : StableHlo.TRef sig ⟨S1x1x4x64x64, .f32⟩) ![(.of main_v23_6 : StableHlo.TRef sig ⟨S_, .i32⟩), (.of main_while0b_call15_c : StableHlo.TRef sig ⟨S_, .i32⟩), (.of main_while0b_call15_c_0 : StableHlo.TRef sig ⟨S_, .i32⟩), (.of main_while0b_call15_c_1 : StableHlo.TRef sig ⟨S_, .i32⟩), (.of main_while0b_call15_c_2 : StableHlo.TRef sig ⟨S_, .i32⟩)] (.of main_while0b_v87 : StableHlo.TRef sig ⟨S2048x1x4x64x64, .f32⟩) (fun x u i => Host.dynamicUpdateSlice x u (fun k => (i k (Shape.Idx.first h_S_)).toInt) updateFits_S2048x1x4x64x64_S1x1x4x64x64) ]
theorem fwd16_sub : (fwd16 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- A stretch of the first loop's body. -/
abbrev fwd17 : List (HloOp τ sig (Elt F)) :=
  [ StableHlo.nullary main_while0b_c_38 (constantI S_ 32 1#32),
    StableHlo.binary main_v23_6 main_while0b_c_38 main_while0b_v88 (addi : (⟨S_, .i32⟩ : BufTy).Contents (Elt F) → (⟨S_, .i32⟩ : BufTy).Contents (Elt F) → (⟨S_, .i32⟩ : BufTy).Contents (Elt F)),
    StableHlo.unary main_while0b_v88 main_v23_6 id,
    StableHlo.unary main_while0b_v73 main_v23_7 id,
    StableHlo.unary main_while0b_v78 main_v23_8 id,
    StableHlo.unary main_while0b_v79 main_v23_9 id,
    StableHlo.unary main_while0b_v80 main_v23_10 id,
    StableHlo.unary main_while0b_v81 main_v23_11 id,
    StableHlo.unary main_while0b_v82 main_v23_12 id,
    StableHlo.unary main_while0b_v83 main_v23_13 id,
    StableHlo.unary main_while0b_v84 main_v23_14 id,
    StableHlo.unary main_while0b_v85 main_v23_15 id,
    StableHlo.unary main_while0b_v86 main_v23_16 id ]
theorem fwd17_sub : (fwd17 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- A stretch of the first loop's body. -/
abbrev fwd18 : List (HloOp τ sig (Elt F)) :=
  [ StableHlo.unary main_while0b_v87 main_v23_17 id ]
theorem fwd18_sub : (fwd18 : List (HloOp τ sig (Elt F))).Forall fun op => op.bufs ⊆ StableHlo.tcRefs τ sig :=
  StableHlo.unary_bufs_sub ..

/-- The first loop's body is the chain of its stretches. -/
theorem fwd_chain : main_while0_body (F := F) = (Pipeline.chain
  [ StableHlo.seq fwd0,
    StableHlo.seq fwd1,
    StableHlo.seq fwd2,
    StableHlo.seq fwd3,
    StableHlo.seq fwd4,
    StableHlo.seq fwd5,
    StableHlo.seq fwd6,
    StableHlo.seq fwd7,
    StableHlo.seq fwd8,
    StableHlo.seq fwd9,
    StableHlo.seq fwd10,
    StableHlo.seq fwd11,
    StableHlo.seq fwd12,
    StableHlo.seq fwd13,
    StableHlo.seq fwd14,
    StableHlo.seq fwd15,
    StableHlo.seq fwd16,
    StableHlo.seq fwd17,
    StableHlo.seq fwd18 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, Pipeline.chain_cons, Pipeline.chain_cons, Pipeline.chain_cons, Pipeline.chain_cons, StableHlo.chain_seq_cons, StableHlo.chain_seq_cons]
  chain_rfl

/-- The first loop's body. -/
abbrev fwdI : List (List (HloOp τ sig (Elt F))) :=
  [fwd0, fwd1, fwd2, fwd3, fwd4, fwd5, fwd6, fwd7, fwd8, fwd9, fwd10, fwd11, fwd12, fwd13, fwd14, fwd15, fwd16, fwd17, fwd18]

theorem fwdI_plain : StableHlo.Plain (fwdI (F := F)) :=
  .cons fwd0_sub <|
    .cons fwd1_sub <|
    .cons fwd2_sub <|
    .cons fwd3_sub <|
    .cons fwd4_sub <|
    .cons fwd5_sub <|
    .cons fwd6_sub <|
    .cons fwd7_sub <|
    .cons fwd8_sub <|
    .cons fwd9_sub <|
    .cons fwd10_sub <|
    .cons fwd11_sub <|
    .cons fwd12_sub <|
    .cons fwd13_sub <|
    .cons fwd14_sub <|
    .cons fwd15_sub <|
    .cons fwd16_sub <|
    .cons fwd17_sub <|
    .cons fwd18_sub .nil

/-- A stretch of the second loop's body. -/
abbrev bwd0 : List (HloOp τ sig (Elt F)) :=
  [ StableHlo.nullary main_while1b_c_36 (constantI S_ 32 2048#32),
    StableHlo.binary main_while1b_c_36 main_v36_10 main_while1b_v49 (subi : (⟨S_, .i32⟩ : BufTy).Contents (Elt F) → (⟨S_, .i32⟩ : BufTy).Contents (Elt F) → (⟨S_, .i32⟩ : BufTy).Contents (Elt F)),
    StableHlo.nullary main_while1b_c_37 (constantI S_ 32 1#32),
    StableHlo.binary main_while1b_v49 main_while1b_c_37 main_while1b_v50 (subi : (⟨S_, .i32⟩ : BufTy).Contents (Elt F) → (⟨S_, .i32⟩ : BufTy).Contents (Elt F) → (⟨S_, .i32⟩ : BufTy).Contents (Elt F)) ]
theorem bwd0_sub : (bwd0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- A stretch of the second loop's body. -/
abbrev bwd1 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v36_0 : StableHlo.TRef sig ⟨S2048x1x4x64, .f32⟩) ![(.of main_while1b_v50 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x1x4x64, .f32⟩) (fun x i => Host.dynamicSlice S1x1x4x64 x (fun k => (i k (Shape.Idx.first h_S_)).toInt) sliceFits_S2048x1x4x64_S1x1x4x64),
    StableHlo.TRef.reshape (.of main_while1b_call16_v0 : StableHlo.TRef sig ⟨S1x1x4x64, .f32⟩) (.of main_while1b_v51 : StableHlo.TRef sig ⟨S1x4x64, .f32⟩) (rfl : (.f32 : EltTy) = .f32) shapeCasts_S1x1x4x64_S1x4x64 ]
theorem bwd1_sub : (bwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- A stretch of the second loop's body. -/
abbrev bwd2 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.nullary (.of main_while1b_call17_c_2 : StableHlo.TRef sig ⟨S_, .i32⟩) (constantI S_ 32 0#32),
    StableHlo.TRef.unaryIndexed (.of main_v36_1 : StableHlo.TRef sig ⟨S2048x1x4x1x64, .f32⟩) ![(.of main_while1b_v50 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩), (.of main_while1b_call17_c_2 : StableHlo.TRef sig ⟨S_, .i32⟩)] (.of main_while1b_call17_v0 : StableHlo.TRef sig ⟨S1x1x4x1x64, .f32⟩) (fun x i => Host.dynamicSlice S1x1x4x1x64 x (fun k => (i k (Shape.Idx.first h_S_)).toInt) sliceFits_S2048x1x4x1x64_S1x1x4x1x64),
    StableHlo.TRef.reshape (.of main_while1b_call17_v0 : StableHlo.TRef sig ⟨S1x1x4x1x64, .f32⟩) (.of main_while1b_v52 : StableHlo.TRef sig ⟨S1x4x1x64, .f32⟩) (rfl : (.f32 : EltTy) = .f32) shapeCasts_S1x1x4x1x64_S1x4x1x64 ]
theorem bwd2_sub : (bwd2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd3 : List (HloOp τ sig (Elt F)) :=
  [ StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.nullary (.of main_while1b_call18_c_2 : StableHlo.TRef sig ⟨S_, .i32⟩) (constantI S_ 32 0#32),
    StableHlo.TRef.unaryIndexed (.of main_v36_2 : StableHlo.TRef sig ⟨S2048x1x4x64x64, .f32⟩) ![(.of main_while1b_v50 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩), (.of main_while1b_call18_c_2 : StableHlo.TRef sig ⟨S_, .i32⟩)] (.of main_while1b_call18_v0 : StableHlo.TRef sig ⟨S1x1x4x64x64, .f32⟩) (fun x i => Host.dynamicSlice S1x1x4x64x64 x (fun k => (i k (Shape.Idx.first h_S_)).toInt) sliceFits_S2048x1x4x64x64_S1x1x4x64x64),
    StableHlo.TRef.reshape (.of main_while1b_call18_v0 : StableHlo.TRef sig ⟨S1x1x4x64x64, .f32⟩) (.of main_while1b_v53 : StableHlo.TRef sig ⟨S1x4x64x64, .f32⟩) (rfl : (.f32 : EltTy) = .f32) shapeCasts_S1x1x4x64x64_S1x4x64x64 ]
theorem bwd3_sub : (bwd3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd4 : List (HloOp τ sig (Elt F)) :=
  [ StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.nullary (.of main_while1b_call19_c_2 : StableHlo.TRef sig ⟨S_, .i32⟩) (constantI S_ 32 0#32),
    StableHlo.TRef.unaryIndexed (.of main_v36_3 : StableHlo.TRef sig ⟨S2048x1x4x1x64, .f32⟩) ![(.of main_while1b_v50 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩), (.of main_while1b_call19_c_2 : StableHlo.TRef sig ⟨S_, .i32⟩)] (.of main_while1b_call19_v0 : StableHlo.TRef sig ⟨S1x1x4x1x64, .f32⟩) (fun x i => Host.dynamicSlice S1x1x4x1x64 x (fun k => (i k (Shape.Idx.first h_S_)).toInt) sliceFits_S2048x1x4x1x64_S1x1x4x1x64),
    StableHlo.TRef.reshape (.of main_while1b_call19_v0 : StableHlo.TRef sig ⟨S1x1x4x1x64, .f32⟩) (.of main_while1b_v54 : StableHlo.TRef sig ⟨S1x4x1x64, .f32⟩) (rfl : (.f32 : EltTy) = .f32) shapeCasts_S1x1x4x1x64_S1x4x1x64 ]
theorem bwd4_sub : (bwd4 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd5 : List (HloOp τ sig (Elt F)) :=
  [ StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.nullary (.of main_while1b_call20_c_2 : StableHlo.TRef sig ⟨S_, .i32⟩) (constantI S_ 32 0#32),
    StableHlo.TRef.unaryIndexed (.of main_v36_4 : StableHlo.TRef sig ⟨S2048x1x4x1x64, .f32⟩) ![(.of main_while1b_v50 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩), (.of main_while1b_call20_c_2 : StableHlo.TRef sig ⟨S_, .i32⟩)] (.of main_while1b_call20_v0 : StableHlo.TRef sig ⟨S1x1x4x1x64, .f32⟩) (fun x i => Host.dynamicSlice S1x1x4x1x64 x (fun k => (i k (Shape.Idx.first h_S_)).toInt) sliceFits_S2048x1x4x1x64_S1x1x4x1x64),
    StableHlo.TRef.reshape (.of main_while1b_call20_v0 : StableHlo.TRef sig ⟨S1x1x4x1x64, .f32⟩) (.of main_while1b_v55 : StableHlo.TRef sig ⟨S1x4x1x64, .f32⟩) (rfl : (.f32 : EltTy) = .f32) shapeCasts_S1x1x4x1x64_S1x4x1x64 ]
theorem bwd5_sub : (bwd5 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd6 : List (HloOp τ sig (Elt F)) :=
  [ StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.nullary (.of main_while1b_call21_c_2 : StableHlo.TRef sig ⟨S_, .i32⟩) (constantI S_ 32 0#32),
    StableHlo.TRef.unaryIndexed (.of main_v36_5 : StableHlo.TRef sig ⟨S2048x1x4x64x1, .f32⟩) ![(.of main_while1b_v50 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩), (.of main_while1b_call21_c_2 : StableHlo.TRef sig ⟨S_, .i32⟩)] (.of main_while1b_call21_v0 : StableHlo.TRef sig ⟨S1x1x4x64x1, .f32⟩) (fun x i => Host.dynamicSlice S1x1x4x64x1 x (fun k => (i k (Shape.Idx.first h_S_)).toInt) sliceFits_S2048x1x4x64x1_S1x1x4x64x1),
    StableHlo.TRef.reshape (.of main_while1b_call21_v0 : StableHlo.TRef sig ⟨S1x1x4x64x1, .f32⟩) (.of main_while1b_v56 : StableHlo.TRef sig ⟨S1x4x64x1, .f32⟩) (rfl : (.f32 : EltTy) = .f32) shapeCasts_S1x1x4x64x1_S1x4x64x1 ]
theorem bwd6_sub : (bwd6 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd7 : List (HloOp τ sig (Elt F)) :=
  [ StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.nullary (.of main_while1b_call22_c_2 : StableHlo.TRef sig ⟨S_, .i32⟩) (constantI S_ 32 0#32),
    StableHlo.TRef.unaryIndexed (.of main_v36_6 : StableHlo.TRef sig ⟨S2048x1x4x1x64, .f32⟩) ![(.of main_while1b_v50 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩), (.of main_while1b_call22_c_2 : StableHlo.TRef sig ⟨S_, .i32⟩)] (.of main_while1b_call22_v0 : StableHlo.TRef sig ⟨S1x1x4x1x64, .f32⟩) (fun x i => Host.dynamicSlice S1x1x4x1x64 x (fun k => (i k (Shape.Idx.first h_S_)).toInt) sliceFits_S2048x1x4x1x64_S1x1x4x1x64),
    StableHlo.TRef.reshape (.of main_while1b_call22_v0 : StableHlo.TRef sig ⟨S1x1x4x1x64, .f32⟩) (.of main_while1b_v57 : StableHlo.TRef sig ⟨S1x4x1x64, .f32⟩) (rfl : (.f32 : EltTy) = .f32) shapeCasts_S1x1x4x1x64_S1x4x1x64 ]
theorem bwd7_sub : (bwd7 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd8 : List (HloOp τ sig (Elt F)) :=
  [ StableHlo.TRef.nullary (.of main_while1b_call23_c : StableHlo.TRef sig ⟨S_, .i32⟩) (constantI S_ 32 0#32),
    StableHlo.TRef.nullary (.of main_while1b_call23_c_0 : StableHlo.TRef sig ⟨S_, .i32⟩) (constantI S_ 32 0#32),
    StableHlo.TRef.nullary (.of main_while1b_call23_c_1 : StableHlo.TRef sig ⟨S_, .i32⟩) (constantI S_ 32 0#32),
    StableHlo.TRef.nullary (.of main_while1b_call23_c_2 : StableHlo.TRef sig ⟨S_, .i32⟩) (constantI S_ 32 0#32),
    StableHlo.TRef.unaryIndexed (.of main_v36_7 : StableHlo.TRef sig ⟨S2048x1x4x64x1, .f32⟩) ![(.of main_while1b_v50 : StableHlo.TRef sig ⟨S_, .i32⟩), (.of main_while1b_call23_c : StableHlo.TRef sig ⟨S_, .i32⟩), (.of main_while1b_call23_c_0 : StableHlo.TRef sig ⟨S_, .i32⟩), (.of main_while1b_call23_c_1 : StableHlo.TRef sig ⟨S_, .i32⟩), (.of main_while1b_call23_c_2 : StableHlo.TRef sig ⟨S_, .i32⟩)] (.of main_while1b_call23_v0 : StableHlo.TRef sig ⟨S1x1x4x64x1, .f32⟩) (fun x i => Host.dynamicSlice S1x1x4x64x1 x (fun k => (i k (Shape.Idx.first h_S_)).toInt) sliceFits_S2048x1x4x64x1_S1x1x4x64x1),
    StableHlo.TRef.reshape (.of main_while1b_call23_v0 : StableHlo.TRef sig ⟨S1x1x4x64x1, .f32⟩) (.of main_while1b_v58 : StableHlo.TRef sig ⟨S1x4x64x1, .f32⟩) (rfl : (.f32 : EltTy) = .f32) shapeCasts_S1x1x4x64x1_S1x4x64x1 ]
theorem bwd8_sub : (bwd8 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd9 : List (HloOp τ sig (Elt F)) :=
  [ StableHlo.TRef.nullary (.of main_while1b_call24_c : StableHlo.TRef sig ⟨S_, .i32⟩) (constantI S_ 32 0#32),
    StableHlo.TRef.nullary (.of main_while1b_call24_c_0 : StableHlo.TRef sig ⟨S_, .i32⟩) (constantI S_ 32 0#32),
    StableHlo.TRef.nullary (.of main_while1b_call24_c_1 : StableHlo.TRef sig ⟨S_, .i32⟩) (constantI S_ 32 0#32),
    StableHlo.TRef.nullary (.of main_while1b_call24_c_2 : StableHlo.TRef sig ⟨S_, .i32⟩) (constantI S_ 32 0#32),
    StableHlo.TRef.unaryIndexed (.of main_v36_8 : StableHlo.TRef sig ⟨S2048x1x4x1x64, .f32⟩) ![(.of main_while1b_v50 : StableHlo.TRef sig ⟨S_, .i32⟩), (.of main_while1b_call24_c : StableHlo.TRef sig ⟨S_, .i32⟩), (.of main_while1b_call24_c_0 : StableHlo.TRef sig ⟨S_, .i32⟩), (.of main_while1b_call24_c_1 : StableHlo.TRef sig ⟨S_, .i32⟩), (.of main_while1b_call24_c_2 : StableHlo.TRef sig ⟨S_, .i32⟩)] (.of main_while1b_call24_v0 : StableHlo.TRef sig ⟨S1x1x4x1x64, .f32⟩) (fun x i => Host.dynamicSlice S1x1x4x1x64 x (fun k => (i k (Shape.Idx.first h_S_)).toInt) sliceFits_S2048x1x4x1x64_S1x1x4x1x64),
    StableHlo.TRef.reshape (.of main_while1b_call24_v0 : StableHlo.TRef sig ⟨S1x1x4x1x64, .f32⟩) (.of main_while1b_v59 : StableHlo.TRef sig ⟨S1x4x1x64, .f32⟩) (rfl : (.f32 : EltTy) = .f32) shapeCasts_S1x1x4x1x64_S1x4x1x64 ]
theorem bwd9_sub : (bwd9 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd10 : List (HloOp τ sig (Elt F)) :=
  [ StableHlo.TRef.nullary (.of main_while1b_call25_c : StableHlo.TRef sig ⟨S_, .i32⟩) (constantI S_ 32 0#32),
    StableHlo.TRef.nullary (.of main_while1b_call25_c_0 : StableHlo.TRef sig ⟨S_, .i32⟩) (constantI S_ 32 0#32),
    StableHlo.TRef.nullary (.of main_while1b_call25_c_1 : StableHlo.TRef sig ⟨S_, .i32⟩) (constantI S_ 32 0#32),
    StableHlo.TRef.nullary (.of main_while1b_call25_c_2 : StableHlo.TRef sig ⟨S_, .i32⟩) (constantI S_ 32 0#32),
    StableHlo.TRef.unaryIndexed (.of main_v36_9 : StableHlo.TRef sig ⟨S2048x1x4x64x64, .f32⟩) ![(.of main_while1b_v50 : StableHlo.TRef sig ⟨S_, .i32⟩), (.of main_while1b_call25_c : StableHlo.TRef sig ⟨S_, .i32⟩), (.of main_while1b_call25_c_0 : StableHlo.TRef sig ⟨S_, .i32⟩), (.of main_while1b_call25_c_1 : StableHlo.TRef sig ⟨S_, .i32⟩), (.of main_while1b_call25_c_2 : StableHlo.TRef sig ⟨S_, .i32⟩)] (.of main_while1b_call25_v0 : StableHlo.TRef sig ⟨S1x1x4x64x64, .f32⟩) (fun x i => Host.dynamicSlice S1x1x4x64x64 x (fun k => (i k (Shape.Idx.first h_S_)).toInt) sliceFits_S2048x1x4x64x64_S1x1x4x64x64),
    StableHlo.TRef.reshape (.of main_while1b_call25_v0 : StableHlo.TRef sig ⟨S1x1x4x64x64, .f32⟩) (.of main_while1b_v60 : StableHlo.TRef sig ⟨S1x4x64x64, .f32⟩) (rfl : (.f32 : EltTy) = .f32) shapeCasts_S1x1x4x64x64_S1x4x64x64 ]
theorem bwd10_sub : (bwd10 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- A stretch of the second loop's body. -/
abbrev bwd11 : List (HloOp τ sig (Elt F)) :=
  [ StableHlo.unary main_while1b_v51 main_while1b_v61 (broadcastInDim S1x4x64x64 ![0, 1, 2] bcast_S1x4x64_S1x4x64x64_0_1_2 : (⟨S1x4x64, .f32⟩ : BufTy).Contents (Elt F) → (⟨S1x4x64x64, .f32⟩ : BufTy).Contents (Elt F)),
    StableHlo.binary main_while1b_v60 main_while1b_v61 main_while1b_v62 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_38 (constant S_ .f32 0x00000000#32),
    StableHlo.binary main_while1b_v62 main_while1b_cst_38 main_while1b_v63 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v63 main_while1b_v64 (rfl : (.f32 : EltTy) = .f32) shapeCasts_S1x4x64_S1x4x1x64,
    StableHlo.unary main_while1b_v59 main_while1b_v65 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v61 main_while1b_v65 main_while1b_v66 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_v36_11 main_while1b_v66 main_while1b_v67 (addf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_39 (constant S_ .f32 0x00000000#32),
    StableHlo.binary main_while1b_v64 main_while1b_cst_39 main_while1b_v68 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v68 main_while1b_v69 (broadcastInDim S1x4x64 ![1, 2] bcast_S4x64_S1x4x64_1_2 : (⟨S4x64, .f32⟩ : BufTy).Contents (Elt F) → (⟨S1x4x64, .f32⟩ : BufTy).Contents (Elt F)),
    StableHlo.unary main_while1b_v58 main_while1b_v70 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.binary main_while1b_v70 main_while1b_v67 main_while1b_v71 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_40 (constant S_ .f32 0x00000000#32),
    StableHlo.binary main_while1b_v71 main_while1b_cst_40 main_while1b_v72 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v72 main_while1b_v73 (rfl : (.f32 : EltTy) = .f32) shapeCasts_S1x4x64_S1x4x1x64,
    StableHlo.unary main_while1b_v57 main_while1b_v74 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v67 main_while1b_v74 main_while1b_v75 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_41 (constant S_ .f32 0x00000000#32),
    StableHlo.binary main_while1b_v75 main_while1b_cst_41 main_while1b_v76 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v76 main_while1b_v77 (rfl : (.f32 : EltTy) = .f32) shapeCasts_S1x4x64_S1x4x64x1,
    StableHlo.nullary main_while1b_cst_42 (constant S_ .f32 0x00000000#32),
    StableHlo.binary main_while1b_v73 main_while1b_cst_42 main_while1b_v78 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v78 main_while1b_v79 (broadcastInDim S1x4x64 ![1, 2] bcast_S4x64_S1x4x64_1_2 : (⟨S4x64, .f32⟩ : BufTy).Contents (Elt F) → (⟨S1x4x64, .f32⟩ : BufTy).Contents (Elt F)),
    StableHlo.nullary main_while1b_cst_43 (constant S_ .f32 0x00000000#32),
    StableHlo.binary main_while1b_v77 main_while1b_cst_43 main_while1b_v80 ((fun x v => Host.reduceAdd x v reducesTo_S1x4x64x1_S4x64_d0_3 h_S_) : (⟨S1x4x64x1, .f32⟩ : BufTy).Contents (Elt F) → (⟨S_, .f32⟩ : BufTy).Contents (Elt F) → (⟨S4x64, .f32⟩ : BufTy).Contents (Elt F)),
    StableHlo.unary main_while1b_v80 main_while1b_v81 (broadcastInDim S1x4x64 ![1, 2] bcast_S4x64_S1x4x64_1_2 : (⟨S4x64, .f32⟩ : BufTy).Contents (Elt F) → (⟨S1x4x64, .f32⟩ : BufTy).Contents (Elt F)),
    StableHlo.unary main_while1b_v56 main_while1b_v82 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.binary main_while1b_v82 main_while1b_v67 main_while1b_v83 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_44 (constant S_ .f32 0x00000000#32),
    StableHlo.binary main_while1b_v83 main_while1b_cst_44 main_while1b_v84 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v84 main_while1b_v85 (rfl : (.f32 : EltTy) = .f32) shapeCasts_S1x4x64_S1x4x1x64,
    StableHlo.unary main_while1b_v55 main_while1b_v86 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v67 main_while1b_v86 main_while1b_v87 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_45 (constant S_ .f32 0x00000000#32),
    StableHlo.binary main_while1b_v87 main_while1b_cst_45 main_while1b_v88 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v88 main_while1b_v89 (rfl : (.f32 : EltTy) = .f32) shapeCasts_S1x4x64_S1x4x64x1,
    StableHlo.nullary main_while1b_cst_46 (constant S_ .f32 0x00000000#32),
    StableHlo.binary main_while1b_v85 main_while1b_cst_46 main_while1b_v90 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v90 main_while1b_v91 (broadcastInDim S1x4x64 ![1, 2] bcast_S4x64_S1x4x64_1_2 : (⟨S4x64, .f32⟩ : BufTy).Contents (Elt F) → (⟨S1x4x64, .f32⟩ : BufTy).Contents (Elt F)),
    StableHlo.nullary main_while1b_cst_47 (constant S_ .f32 0x00000000#32),
    StableHlo.binary main_while1b_v89 main_while1b_cst_47 main_while1b_v92 ((fun x v => Host.reduceAdd x v reducesTo_S1x4x64x1_S4x64_d0_3 h_S_) : (⟨S1x4x64x1, .f32⟩ : BufTy).Contents (Elt F) → (⟨S_, .f32⟩ : BufTy).Contents (Elt F) → (⟨S4x64, .f32⟩ : BufTy).Contents (Elt F)),
    StableHlo.unary main_while1b_v92 main_while1b_v93 (broadcastInDim S1x4x64 ![1, 2] bcast_S4x64_S1x4x64_1_2 : (⟨S4x64, .f32⟩ : BufTy).Contents (Elt F) → (⟨S1x4x64, .f32⟩ : BufTy).Contents (Elt F)),
    StableHlo.binary main_while1b_v53 main_while1b_v67 main_while1b_v94 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_48 (constant S_ .f32 0x00000000#32),
    StableHlo.binary main_while1b_v94 main_while1b_cst_48 main_while1b_v95 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)) ]
theorem bwd11_sub : (bwd11 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub ..⟩

/-- A stretch of the second loop's body. -/
abbrev bwd12 : List (HloOp τ sig (Elt F)) :=
  [ StableHlo.reshape main_while1b_v95 main_while1b_v96 (rfl : (.f32 : EltTy) = .f32) shapeCasts_S1x4x64_S1x4x1x64,
    StableHlo.unary main_while1b_v54 main_while1b_v97 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v67 main_while1b_v97 main_while1b_v98 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_49 (constant S_ .f32 0x00000000#32),
    StableHlo.binary main_while1b_v96 main_while1b_cst_49 main_while1b_v99 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v99 main_while1b_v100 (broadcastInDim S1x4x64 ![1, 2] bcast_S4x64_S1x4x64_1_2 : (⟨S4x64, .f32⟩ : BufTy).Contents (Elt F) → (⟨S1x4x64, .f32⟩ : BufTy).Contents (Elt F)),
    StableHlo.unary main_while1b_v93 main_while1b_v101 (broadcastInDim S1x4x64x64 ![0, 1, 2] bcast_S1x4x64_S1x4x64x64_0_1_2 : (⟨S1x4x64, .f32⟩ : BufTy).Contents (Elt F) → (⟨S1x4x64x64, .f32⟩ : BufTy).Contents (Elt F)),
    StableHlo.binary main_while1b_v53 main_while1b_v101 main_while1b_v102 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_50 (constant S_ .f32 0x00000000#32),
    StableHlo.binary main_while1b_v102 main_while1b_cst_50 main_while1b_v103 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v103 main_while1b_v104 (rfl : (.f32 : EltTy) = .f32) shapeCasts_S1x4x64_S1x4x1x64,
    StableHlo.unary main_while1b_v52 main_while1b_v105 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v101 main_while1b_v105 main_while1b_v106 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_while1b_v98 main_while1b_v106 main_while1b_v107 (addf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_51 (constant S_ .f32 0x00000000#32),
    StableHlo.binary main_while1b_v104 main_while1b_cst_51 main_while1b_v108 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v108 main_while1b_v109 (broadcastInDim S1x4x64 ![1, 2] bcast_S4x64_S1x4x64_1_2 : (⟨S4x64, .f32⟩ : BufTy).Contents (Elt F) → (⟨S1x4x64, .f32⟩ : BufTy).Contents (Elt F)) ]
theorem bwd12_sub : (bwd12 : List (HloOp τ sig (Elt F))).Forall fun op => op.bufs ⊆ StableHlo.tcRefs τ sig :=
  ⟨StableHlo.reshape_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.binary_bufs_sub .., StableHlo.unary_bufs_sub ..⟩

/-- A stretch of the second loop's body. -/
abbrev bwd13 : List (HloOp τ sig (Elt F)) :=
  [ StableHlo.TRef.unary (.of main_while1b_v69 : StableHlo.TRef sig ⟨S1x4x64, .f32⟩) (.of main_while1b_call26_v0 : StableHlo.TRef sig ⟨S1x1x4x64, .f32⟩) (broadcastInDim S1x1x4x64 ![1, 2, 3] bcast_S1x4x64_S1x1x4x64_1_2_3),
    StableHlo.TRef.nullary (.of main_while1b_call26_c : StableHlo.TRef sig ⟨S_, .i32⟩) (constantI S_ 32 0#32),
    StableHlo.TRef.nullary (.of main_while1b_call26_c_0 : StableHlo.TRef sig ⟨S_, .i32⟩) (constantI S_ 32 0#32),
    StableHlo.TRef.nullary (.of main_while1b_call26_c_1 : StableHlo.TRef sig ⟨S_, .i32⟩) (constantI S_ 32 0#32),
    StableHlo.TRef.binaryIndexed (.of main_v36_12 : StableHlo.TRef sig ⟨S2048x1x4x64, .f32⟩) (.of main_while1b_call26_v0 : StableHlo.TRef sig ⟨S1x1x4x64, .f32⟩) ![(.of main_while1b_v50 : StableHlo.TRef sig ⟨S_, .i32⟩), (.of main_while1b_call26_c : StableHlo.TRef sig ⟨S_, .i32⟩), (.of main_while1b_call26_c_0 : StableHlo.TRef sig ⟨S_, .i32⟩), (.of main_while1b_call26_c_1 : StableHlo.TRef sig ⟨S_, .i32⟩)] (.of main_while1b_v110 : StableHlo.TRef sig ⟨S2048x1x4x64, .f32⟩) (fun x u i => Host.dynamicUpdateSlice x u (fun k => (i k (Shape.Idx.first h_S_)).toInt) updateFits_S2048x1x4x64_S1x1x4x64) ]
theorem bwd13_sub : (bwd13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- A stretch of the second loop's body. -/
abbrev bwd14 : List (HloOp τ sig (Elt F)) :=
  [ StableHlo.TRef.unary (.of main_while1b_v100 : StableHlo.TRef sig ⟨S1x4x64, .f32⟩) (.of main_while1b_call27_v0 : StableHlo.TRef sig ⟨S1x1x4x64, .f32⟩) (broadcastInDim S1x1x4x64 ![1, 2, 3] bcast_S1x4x64_S1x1x4x64_1_2_3),
    StableHlo.TRef.nullary (.of main_while1b_call27_c : StableHlo.TRef sig ⟨S_, .i32⟩) (constantI S_ 32 0#32),
    StableHlo.TRef.nullary (.of main_while1b_call27_c_0 : StableHlo.TRef sig ⟨S_, .i32⟩) (constantI S_ 32 0#32),
    StableHlo.TRef.nullary (.of main_while1b_call27_c_1 : StableHlo.TRef sig ⟨S_, .i32⟩) (constantI S_ 32 0#32),
    StableHlo.TRef.binaryIndexed (.of main_v36_13 : StableHlo.TRef sig ⟨S2048x1x4x64, .f32⟩) (.of main_while1b_call27_v0 : StableHlo.TRef sig ⟨S1x1x4x64, .f32⟩) ![(.of main_while1b_v50 : StableHlo.TRef sig ⟨S_, .i32⟩), (.of main_while1b_call27_c : StableHlo.TRef sig ⟨S_, .i32⟩), (.of main_while1b_call27_c_0 : StableHlo.TRef sig ⟨S_, .i32⟩), (.of main_while1b_call27_c_1 : StableHlo.TRef sig ⟨S_, .i32⟩)] (.of main_while1b_v111 : StableHlo.TRef sig ⟨S2048x1x4x64, .f32⟩) (fun x u i => Host.dynamicUpdateSlice x u (fun k => (i k (Shape.Idx.first h_S_)).toInt) updateFits_S2048x1x4x64_S1x1x4x64) ]
theorem bwd14_sub : (bwd14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- A stretch of the second loop's body. -/
abbrev bwd15 : List (HloOp τ sig (Elt F)) :=
  [ StableHlo.TRef.unary (.of main_while1b_v79 : StableHlo.TRef sig ⟨S1x4x64, .f32⟩) (.of main_while1b_call28_v0 : StableHlo.TRef sig ⟨S1x1x4x64, .f32⟩) (broadcastInDim S1x1x4x64 ![1, 2, 3] bcast_S1x4x64_S1x1x4x64_1_2_3),
    StableHlo.TRef.nullary (.of main_while1b_call28_c : StableHlo.TRef sig ⟨S_, .i32⟩) (constantI S_ 32 0#32),
    StableHlo.TRef.nullary (.of main_while1b_call28_c_0 : StableHlo.TRef sig ⟨S_, .i32⟩) (constantI S_ 32 0#32),
    StableHlo.TRef.nullary (.of main_while1b_call28_c_1 : StableHlo.TRef sig ⟨S_, .i32⟩) (constantI S_ 32 0#32),
    StableHlo.TRef.binaryIndexed (.of main_v36_14 : StableHlo.TRef sig ⟨S2048x1x4x64, .f32⟩) (.of main_while1b_call28_v0 : StableHlo.TRef sig ⟨S1x1x4x64, .f32⟩) ![(.of main_while1b_v50 : StableHlo.TRef sig ⟨S_, .i32⟩), (.of main_while1b_call28_c : StableHlo.TRef sig ⟨S_, .i32⟩), (.of main_while1b_call28_c_0 : StableHlo.TRef sig ⟨S_, .i32⟩), (.of main_while1b_call28_c_1 : StableHlo.TRef sig ⟨S_, .i32⟩)] (.of main_while1b_v112 : StableHlo.TRef sig ⟨S2048x1x4x64, .f32⟩) (fun x u i => Host.dynamicUpdateSlice x u (fun k => (i k (Shape.Idx.first h_S_)).toInt) updateFits_S2048x1x4x64_S1x1x4x64) ]
theorem bwd15_sub : (bwd15 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- A stretch of the second loop's body. -/
abbrev bwd16 : List (HloOp τ sig (Elt F)) :=
  [ StableHlo.TRef.unary (.of main_while1b_v81 : StableHlo.TRef sig ⟨S1x4x64, .f32⟩) (.of main_while1b_call29_v0 : StableHlo.TRef sig ⟨S1x1x4x64, .f32⟩) (broadcastInDim S1x1x4x64 ![1, 2, 3] bcast_S1x4x64_S1x1x4x64_1_2_3),
    StableHlo.TRef.nullary (.of main_while1b_call29_c : StableHlo.TRef sig ⟨S_, .i32⟩) (constantI S_ 32 0#32),
    StableHlo.TRef.nullary (.of main_while1b_call29_c_0 : StableHlo.TRef sig ⟨S_, .i32⟩) (constantI S_ 32 0#32),
    StableHlo.TRef.nullary (.of main_while1b_call29_c_1 : StableHlo.TRef sig ⟨S_, .i32⟩) (constantI S_ 32 0#32),
    StableHlo.TRef.binaryIndexed (.of main_v36_15 : StableHlo.TRef sig ⟨S2048x1x4x64, .f32⟩) (.of main_while1b_call29_v0 : StableHlo.TRef sig ⟨S1x1x4x64, .f32⟩) ![(.of main_while1b_v50 : StableHlo.TRef sig ⟨S_, .i32⟩), (.of main_while1b_call29_c : StableHlo.TRef sig ⟨S_, .i32⟩), (.of main_while1b_call29_c_0 : StableHlo.TRef sig ⟨S_, .i32⟩), (.of main_while1b_call29_c_1 : StableHlo.TRef sig ⟨S_, .i32⟩)] (.of main_while1b_v113 : StableHlo.TRef sig ⟨S2048x1x4x64, .f32⟩) (fun x u i => Host.dynamicUpdateSlice x u (fun k => (i k (Shape.Idx.first h_S_)).toInt) updateFits_S2048x1x4x64_S1x1x4x64) ]
theorem bwd16_sub : (bwd16 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- A stretch of the second loop's body. -/
abbrev bwd17 : List (HloOp τ sig (Elt F)) :=
  [ StableHlo.TRef.unary (.of main_while1b_v109 : StableHlo.TRef sig ⟨S1x4x64, .f32⟩) (.of main_while1b_call30_v0 : StableHlo.TRef sig ⟨S1x1x4x64, .f32⟩) (broadcastInDim S1x1x4x64 ![1, 2, 3] bcast_S1x4x64_S1x1x4x64_1_2_3),
    StableHlo.TRef.nullary (.of main_while1b_call30_c : StableHlo.TRef sig ⟨S_, .i32⟩) (constantI S_ 32 0#32),
    StableHlo.TRef.nullary (.of main_while1b_call30_c_0 : StableHlo.TRef sig ⟨S_, .i32⟩) (constantI S_ 32 0#32),
    StableHlo.TRef.nullary (.of main_while1b_call30_c_1 : StableHlo.TRef sig ⟨S_, .i32⟩) (constantI S_ 32 0#32),
    StableHlo.TRef.binaryIndexed (.of main_v36_16 : StableHlo.TRef sig ⟨S2048x1x4x64, .f32⟩) (.of main_while1b_call30_v0 : StableHlo.TRef sig ⟨S1x1x4x64, .f32⟩) ![(.of main_while1b_v50 : StableHlo.TRef sig ⟨S_, .i32⟩), (.of main_while1b_call30_c : StableHlo.TRef sig ⟨S_, .i32⟩), (.of main_while1b_call30_c_0 : StableHlo.TRef sig ⟨S_, .i32⟩), (.of main_while1b_call30_c_1 : StableHlo.TRef sig ⟨S_, .i32⟩)] (.of main_while1b_v114 : StableHlo.TRef sig ⟨S2048x1x4x64, .f32⟩) (fun x u i => Host.dynamicUpdateSlice x u (fun k => (i k (Shape.Idx.first h_S_)).toInt) updateFits_S2048x1x4x64_S1x1x4x64) ]
theorem bwd17_sub : (bwd17 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- A stretch of the second loop's body. -/
abbrev bwd18 : List (HloOp τ sig (Elt F)) :=
  [ StableHlo.TRef.unary (.of main_while1b_v91 : StableHlo.TRef sig ⟨S1x4x64, .f32⟩) (.of main_while1b_call31_v0 : StableHlo.TRef sig ⟨S1x1x4x64, .f32⟩) (broadcastInDim S1x1x4x64 ![1, 2, 3] bcast_S1x4x64_S1x1x4x64_1_2_3),
    StableHlo.TRef.nullary (.of main_while1b_call31_c : StableHlo.TRef sig ⟨S_, .i32⟩) (constantI S_ 32 0#32),
    StableHlo.TRef.nullary (.of main_while1b_call31_c_0 : StableHlo.TRef sig ⟨S_, .i32⟩) (constantI S_ 32 0#32),
    StableHlo.TRef.nullary (.of main_while1b_call31_c_1 : StableHlo.TRef sig ⟨S_, .i32⟩) (constantI S_ 32 0#32),
    StableHlo.TRef.binaryIndexed (.of main_v36_17 : StableHlo.TRef sig ⟨S2048x1x4x64, .f32⟩) (.of main_while1b_call31_v0 : StableHlo.TRef sig ⟨S1x1x4x64, .f32⟩) ![(.of main_while1b_v50 : StableHlo.TRef sig ⟨S_, .i32⟩), (.of main_while1b_call31_c : StableHlo.TRef sig ⟨S_, .i32⟩), (.of main_while1b_call31_c_0 : StableHlo.TRef sig ⟨S_, .i32⟩), (.of main_while1b_call31_c_1 : StableHlo.TRef sig ⟨S_, .i32⟩)] (.of main_while1b_v115 : StableHlo.TRef sig ⟨S2048x1x4x64, .f32⟩) (fun x u i => Host.dynamicUpdateSlice x u (fun k => (i k (Shape.Idx.first h_S_)).toInt) updateFits_S2048x1x4x64_S1x1x4x64) ]
theorem bwd18_sub : (bwd18 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- A stretch of the second loop's body. -/
abbrev bwd19 : List (HloOp τ sig (Elt F)) :=
  [ StableHlo.nullary main_while1b_c_52 (constantI S_ 32 1#32),
    StableHlo.binary main_v36_10 main_while1b_c_52 main_while1b_v116 (addi : (⟨S_, .i32⟩ : BufTy).Contents (Elt F) → (⟨S_, .i32⟩ : BufTy).Contents (Elt F) → (⟨S_, .i32⟩ : BufTy).Contents (Elt F)),
    StableHlo.unary main_while1b_v116 main_v36_10 id,
    StableHlo.unary main_while1b_v107 main_v36_11 id,
    StableHlo.unary main_while1b_v110 main_v36_12 id,
    StableHlo.unary main_while1b_v111 main_v36_13 id,
    StableHlo.unary main_while1b_v112 main_v36_14 id,
    StableHlo.unary main_while1b_v113 main_v36_15 id,
    StableHlo.unary main_while1b_v114 main_v36_16 id,
    StableHlo.unary main_while1b_v115 main_v36_17 id ]
theorem bwd19_sub : (bwd19 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The second loop's body is the chain of its stretches. -/
theorem bwd_chain : main_while1_body (F := F) = (Pipeline.chain
  [ StableHlo.seq bwd0,
    StableHlo.seq bwd1,
    StableHlo.seq bwd2,
    StableHlo.seq bwd3,
    StableHlo.seq bwd4,
    StableHlo.seq bwd5,
    StableHlo.seq bwd6,
    StableHlo.seq bwd7,
    StableHlo.seq bwd8,
    StableHlo.seq bwd9,
    StableHlo.seq bwd10,
    StableHlo.seq bwd11,
    StableHlo.seq bwd12,
    StableHlo.seq bwd13,
    StableHlo.seq bwd14,
    StableHlo.seq bwd15,
    StableHlo.seq bwd16,
    StableHlo.seq bwd17,
    StableHlo.seq bwd18,
    StableHlo.seq bwd19 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, Pipeline.chain_cons, Pipeline.chain_cons, StableHlo.chain_seq_cons, StableHlo.chain_seq_cons, Pipeline.chain_cons, Pipeline.chain_cons, Pipeline.chain_cons, Pipeline.chain_cons, Pipeline.chain_cons, Pipeline.chain_cons, StableHlo.chain_seq_cons]
  chain_rfl

/-- The second loop's body. -/
abbrev bwdI : List (List (HloOp τ sig (Elt F))) :=
  [bwd0, bwd1, bwd2, bwd3, bwd4, bwd5, bwd6, bwd7, bwd8, bwd9, bwd10, bwd11, bwd12, bwd13, bwd14, bwd15, bwd16, bwd17, bwd18, bwd19]

theorem bwdI_plain : StableHlo.Plain (bwdI (F := F)) :=
  .cons bwd0_sub <|
    .cons bwd1_sub <|
    .cons bwd2_sub <|
    .cons bwd3_sub <|
    .cons bwd4_sub <|
    .cons bwd5_sub <|
    .cons bwd6_sub <|
    .cons bwd7_sub <|
    .cons bwd8_sub <|
    .cons bwd9_sub <|
    .cons bwd10_sub <|
    .cons bwd11_sub <|
    .cons bwd12_sub <|
    .cons bwd13_sub <|
    .cons bwd14_sub <|
    .cons bwd15_sub <|
    .cons bwd16_sub <|
    .cons bwd17_sub <|
    .cons bwd18_sub <|
    .cons bwd19_sub .nil

end Cert.ReferenceIdeal.Scan

end
-- ==== Proof.RefRun.lean ====
/-
  The reference program's run: two counted loops between stretches of host operations.
-/
module

public import proofs.«01_k».proof.ReferenceIdeal
public import proofs.«01_k».proof.Proof.Gen.ReferenceIdeal
public import Idealize.ShloMosaic.Lib.Scf.ExitTest
public import proofs.«01_k».proof.Proof.RefOps

@[expose] public section

set_option maxRecDepth 16384

noncomputable section

namespace Cert.ReferenceIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal.Gen

variable {F : FTy → Type} [FloatOps F]

open Idealize.ShloMosaic.Pipeline (CSeg Ticket ucRefs)
open Idealize.ShloMosaic.StableHlo (after afterL atTrip held Plain launchContents)

local notation "𝕄" => MT nD τ sig Unit (Elt F) ℕ (Option PUnit) ℕ

/-- What `preOps` writes. -/
abbrev preW : List (Ref sig .tc) :=
  [main_v0, main_v1, main_v2, main_v3, main_v4, main_v5, main_v6, main_v7, main_v8, main_v9, main_v10, main_v11, main_cst, main_v12, main_cst_0, main_v13, main_cst_1, main_v14, main_cst_2, main_v15, main_cst_3, main_v16, main_cst_4, main_v17, main_cst_5, main_v18, main_cst_6, main_v19, main_cst_7, main_v20, main_cst_8, main_v21, main_cst_9, main_v22, main_c, main_v23_0, main_v23_1, main_v23_2, main_v23_3, main_v23_4, main_v23_5, main_v23_6, main_v23_7, main_v23_8, main_v23_9, main_v23_10, main_v23_11, main_v23_12, main_v23_13, main_v23_14, main_v23_15, main_v23_16, main_v23_17]

theorem pre_writes : (preOps (F := F)).Forall fun op => op.writes ⊆ (preW.map (Proc.devRef (τ := τ) .tc)).toFinset :=
  StableHlo.forall_writes_sub_of_map rfl

/-- What `midOpsA` writes. -/
abbrev midAW : List (Ref sig .tc) :=
  [main_v24, main_v25, main_cst_10, main_v26, main_v27, main_v28]

theorem midA_writes : (midOpsA (F := F)).Forall fun op => op.writes ⊆ (midAW.map (Proc.devRef (τ := τ) .tc)).toFinset :=
  StableHlo.forall_writes_sub_of_map rfl

/-- What `midOpsB` writes. -/
abbrev midBW : List (Ref sig .tc) :=
  [main_cst_11, main_v29, main_cst_12, main_v30, main_cst_13, main_v31, main_cst_14, main_v32, main_cst_15, main_v33, main_cst_16, main_v34, main_cst_17, main_v35, main_c_18, main_v36_0, main_v36_1, main_v36_2, main_v36_3, main_v36_4, main_v36_5, main_v36_6, main_v36_7, main_v36_8, main_v36_9, main_v36_10, main_v36_11, main_v36_12, main_v36_13, main_v36_14, main_v36_15, main_v36_16, main_v36_17]

theorem midB_writes : (midOpsB (F := F)).Forall fun op => op.writes ⊆ (midBW.map (Proc.devRef (τ := τ) .tc)).toFinset :=
  StableHlo.forall_writes_sub_of_map rfl

/-- What `postOps` writes. -/
abbrev postW : List (Ref sig .tc) :=
  [main_v37, main_v38, main_v39, main_v40, main_v41, main_v42, main_v43, main_v44, main_v45, main_v46, main_v47, main_v48]

theorem post_writes : (postOps (F := F)).Forall fun op => op.writes ⊆ (postW.map (Proc.devRef (τ := τ) .tc)).toFinset :=
  StableHlo.forall_writes_sub_of_map rfl

/-- The first loop's condition: the bound, and the comparison. -/
abbrev fwdCond : List (HloOp τ sig (Elt F)) :=
  [ StableHlo.nullary main_while0c_c_36 (constantI S_ 32 2048#32),
    StableHlo.binary main_v23_6 main_while0c_c_36 main_while0c_v49 (cmpi .slt : (⟨S_, .i32⟩ : BufTy).Contents (Elt F) → (⟨S_, .i32⟩ : BufTy).Contents (Elt F) → (⟨S_, .i1⟩ : BufTy).Contents (Elt F)) ]

/-- What the first loop's condition writes. -/
abbrev fwdCondW : List (Ref sig .tc) := [main_while0c_c_36, main_while0c_v49]

/-- The first loop's body but for the stores of its carried values. -/
abbrev fwdWork : List (HloOp τ sig (Elt F)) :=
  fwd0 ++ (fwd1 ++ (fwd2 ++ (fwd3 ++ (fwd4 ++ (fwd5 ++ (fwd6 ++ (fwd7 ++ (fwd8 ++ (fwd9 ++ (fwd10 ++ (fwd11 ++ (fwd12 ++ (fwd13 ++ (fwd14 ++ (fwd15 ++ (fwd16))))))))))))))))

/-- The stores of the first loop's carried values. -/
abbrev fwdLast : List (HloOp τ sig (Elt F)) := fwd17 ++ fwd18

/-- What the first loop's body writes before those stores. -/
abbrev fwdWorkW : List (Ref sig .tc) :=
  [main_while0b_call0_c, main_while0b_call0_c_0, main_while0b_call0_c_1, main_while0b_call0_v0, main_while0b_v49, main_while0b_call1_c, main_while0b_call1_c_0, main_while0b_call1_c_1, main_while0b_call1_v0, main_while0b_v50, main_while0b_call2_c, main_while0b_call2_c_0, main_while0b_call2_c_1, main_while0b_call2_v0, main_while0b_v51, main_while0b_call3_c, main_while0b_call3_c_0, main_while0b_call3_c_1, main_while0b_call3_v0, main_while0b_v52, main_while0b_call4_c, main_while0b_call4_c_0, main_while0b_call4_c_1, main_while0b_call4_v0, main_while0b_v53, main_while0b_call5_c, main_while0b_call5_c_0, main_while0b_call5_c_1, main_while0b_call5_v0, main_while0b_v54, main_while0b_v55, main_while0b_v56, main_while0b_v57, main_while0b_cst_36, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_cst_37, main_while0b_v77, main_while0b_call6_v0, main_while0b_call6_c, main_while0b_call6_c_0, main_while0b_call6_c_1, main_while0b_v78, main_while0b_call7_v0, main_while0b_call7_c, main_while0b_call7_c_0, main_while0b_call7_c_1, main_while0b_call7_c_2, main_while0b_v79, main_while0b_call8_v0, main_while0b_call8_c, main_while0b_call8_c_0, main_while0b_call8_c_1, main_while0b_call8_c_2, main_while0b_v80, main_while0b_call9_v0, main_while0b_call9_c, main_while0b_call9_c_0, main_while0b_call9_c_1, main_while0b_call9_c_2, main_while0b_v81, main_while0b_call10_v0, main_while0b_call10_c, main_while0b_call10_c_0, main_while0b_call10_c_1, main_while0b_call10_c_2, main_while0b_v82, main_while0b_call11_v0, main_while0b_call11_c, main_while0b_call11_c_0, main_while0b_call11_c_1, main_while0b_call11_c_2, main_while0b_v83, main_while0b_call12_v0, main_while0b_call12_c, main_while0b_call12_c_0, main_while0b_call12_c_1, main_while0b_call12_c_2, main_while0b_v84, main_while0b_call13_v0, main_while0b_call13_c, main_while0b_call13_c_0, main_while0b_call13_c_1, main_while0b_call13_c_2, main_while0b_v85, main_while0b_call14_v0, main_while0b_call14_c, main_while0b_call14_c_0, main_while0b_call14_c_1, main_while0b_call14_c_2, main_while0b_v86, main_while0b_call15_v0, main_while0b_call15_c, main_while0b_call15_c_0, main_while0b_call15_c_1, main_while0b_call15_c_2, main_while0b_v87]

/-- What the stores write, the counter's sum with them. -/
abbrev fwdLastW : List (Ref sig .tc) :=
  [main_while0b_c_38, main_while0b_v88, main_v23_6, main_v23_7, main_v23_8, main_v23_9, main_v23_10, main_v23_11, main_v23_12, main_v23_13, main_v23_14, main_v23_15, main_v23_16, main_v23_17]

theorem fwdCond_writes : (fwdCond (F := F)).Forall fun op => op.writes ⊆ (fwdCondW.map (Proc.devRef (τ := τ) .tc)).toFinset :=
  StableHlo.forall_writes_sub_of_map rfl

theorem fwdWork_writes : (fwdWork (F := F)).Forall fun op => op.writes ⊆ (fwdWorkW.map (Proc.devRef (τ := τ) .tc)).toFinset :=
  StableHlo.forall_writes_sub_of_map rfl

theorem fwdLast_writes : (fwdLast (F := F)).Forall fun op => op.writes ⊆ (fwdLastW.map (Proc.devRef (τ := τ) .tc)).toFinset :=
  StableHlo.forall_writes_sub_of_map rfl

/-- One pass of the first loop's body, its working operations first. -/
theorem afterL_fwd (W : Valuation τ sig (Elt F)) : afterL fwdI W = after fwdLast (after fwdWork W) := by
  simp only [fwdI, fwdWork, fwdLast, StableHlo.afterL_cons, StableHlo.afterL_nil, StableHlo.after_append]

/-- A buffer the first loop does not write keeps its contents. -/
theorem fwd_of (W₀ : Dev nD → Valuation τ sig (Elt F)) (r : Ref sig .tc) (h0 : r ∉ fwdCondW) (h1 : r ∉ fwdWorkW) (h2 : r ∉ fwdLastW) (c : Dev nD) (k : ℕ) :
    atTrip fwdCond fwdI W₀ k c r = W₀ c r := by
  induction k with
  | zero => rfl
  | succ k ih =>
    rw [StableHlo.atTrip_succ, afterL_fwd, StableHlo.after_of_writes_sub _ _ fwdLast_writes h2, StableHlo.after_of_writes_sub _ _ fwdWork_writes h1,
      StableHlo.after_of_writes_sub _ _ fwdCond_writes h0, ih]

/-- The stores add one to the counter. -/
theorem fwd_step (W : Valuation τ sig (Elt F)) :
    after fwdLast W main_v23_6 = addi (show (⟨S_, .i32⟩ : BufTy).Contents (Elt F) from W main_v23_6) (constantI S_ 32 1#32) := by
  have hl : (fwdLast (F := F)) = fwdLast.take 3 ++ fwdLast.drop 3 := (List.take_append_drop 3 _).symm
  have hw : (fwdLast (F := F)).drop 3 |>.Forall fun op => op.writes ⊆ ((fwdLastW.drop 3).map (Proc.devRef (τ := τ) .tc)).toFinset :=
    StableHlo.forall_writes_sub_of_map rfl
  rw [hl, StableHlo.after_append, StableHlo.after_of_writes_sub _ _ hw (by decide)]
  show after [_, _, _] W main_v23_6 = _
  rw [StableHlo.after_cons, StableHlo.after_cons, StableHlo.after_cons, StableHlo.after_nil, StableHlo.unary_result, StableHlo.binary_result, StableHlo.nullary_result,
    StableHlo.nullary_result_ne _ _ _ _ (by decide)]
  rfl

/-- The first loop's counter before the k-th run of its condition. -/
theorem fwd_counter (W₀ : Dev nD → Valuation τ sig (Elt F)) (h0 : ∀ c, W₀ c main_v23_6 = fun _ => (0#32 : BitVec 32)) (c : Dev nD) (k : ℕ) :
    atTrip fwdCond fwdI W₀ k c main_v23_6 = fun _ => BitVec.ofNat 32 k := by
  induction k with
  | zero => exact h0 c
  | succ k ih =>
    rw [StableHlo.atTrip_succ, afterL_fwd, fwd_step, StableHlo.after_of_writes_sub _ _ fwdWork_writes (by decide),
      StableHlo.after_of_writes_sub _ _ fwdCond_writes (by decide), ih]
    funext i
    show BitVec.ofNat 32 k + 1#32 = BitVec.ofNat 32 (k + 1)
    rw [BitVec.ofNat_add]

/-- The comparison with the bound. -/
theorem pred_iff (k : ℕ) (hk : k ≤ 2048) : IntOp.cmpi .slt (BitVec.ofNat 32 k) 2048#32 = 1#1 ↔ k < 2048 := by
  have ht : Scf.trips (0#32) (2048#32) (1#32) = 2048 := by decide
  have h := Scf.cmpi_slt_iv_ub_iff (lb := 0#32) (ub := 2048#32) (st := 1#32) (by decide) (k := k) (by rw [ht]; exact hk)
  rw [ht, show Scf.iv (0#32) (1#32) k = BitVec.ofNat 32 k by simp [Scf.iv]] at h
  exact h

-- a rule stated for any thread unifies at the TensorCore's thread only by unfolding plain definitions
set_option backward.isDefEq.respectTransparency.types false in
/-- The first loop's condition, run for the k-th time: it holds exactly before the 2048th. -/
theorem fwd_spec (W₀ : Dev nD → Valuation τ sig (Elt F)) (R : Dev nD → sProp 𝕄) (h0 : ∀ c, W₀ c main_v23_6 = fun _ => (0#32 : BitVec 32)) :
    StableHlo.LoopCond (pcfgs (F := F)) defs₀ Variants.none loops R (main_while0_cond (F := F)) fwdCond fwdI W₀ 2048 := by
  intro k hk c bd
  have hctr := fwd_counter W₀ h0 c k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip fwdCond fwdI W₀ k c) main_v23_6 HostLoop.idx0)
        (HloOp.result _ (atTrip fwdCond fwdI W₀ k c) main_while0c_c_36 HostLoop.idx0) = 1#1) (k < 2048)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

/-- The second loop's condition: the bound, and the comparison. -/
abbrev bwdCond : List (HloOp τ sig (Elt F)) :=
  [ StableHlo.nullary main_while1c_c_36 (constantI S_ 32 2048#32),
    StableHlo.binary main_v36_10 main_while1c_c_36 main_while1c_v49 (cmpi .slt : (⟨S_, .i32⟩ : BufTy).Contents (Elt F) → (⟨S_, .i32⟩ : BufTy).Contents (Elt F) → (⟨S_, .i1⟩ : BufTy).Contents (Elt F)) ]

/-- What the second loop's condition writes. -/
abbrev bwdCondW : List (Ref sig .tc) := [main_while1c_c_36, main_while1c_v49]

/-- The second loop's body but for the stores of its carried values. -/
abbrev bwdWork : List (HloOp τ sig (Elt F)) :=
  bwd0 ++ (bwd1 ++ (bwd2 ++ (bwd3 ++ (bwd4 ++ (bwd5 ++ (bwd6 ++ (bwd7 ++ (bwd8 ++ (bwd9 ++ (bwd10 ++ (bwd11 ++ (bwd12 ++ (bwd13 ++ (bwd14 ++ (bwd15 ++ (bwd16 ++ (bwd17 ++ (bwd18))))))))))))))))))

/-- The stores of the second loop's carried values. -/
abbrev bwdLast : List (HloOp τ sig (Elt F)) := bwd19

/-- What the second loop's body writes before those stores. -/
abbrev bwdWorkW : List (Ref sig .tc) :=
  [main_while1b_c_36, main_while1b_v49, main_while1b_c_37, main_while1b_v50, main_while1b_call16_c, main_while1b_call16_c_0, main_while1b_call16_c_1, main_while1b_call16_v0, main_while1b_v51, main_while1b_call17_c, main_while1b_call17_c_0, main_while1b_call17_c_1, main_while1b_call17_c_2, main_while1b_call17_v0, main_while1b_v52, main_while1b_call18_c, main_while1b_call18_c_0, main_while1b_call18_c_1, main_while1b_call18_c_2, main_while1b_call18_v0, main_while1b_v53, main_while1b_call19_c, main_while1b_call19_c_0, main_while1b_call19_c_1, main_while1b_call19_c_2, main_while1b_call19_v0, main_while1b_v54, main_while1b_call20_c, main_while1b_call20_c_0, main_while1b_call20_c_1, main_while1b_call20_c_2, main_while1b_call20_v0, main_while1b_v55, main_while1b_call21_c, main_while1b_call21_c_0, main_while1b_call21_c_1, main_while1b_call21_c_2, main_while1b_call21_v0, main_while1b_v56, main_while1b_call22_c, main_while1b_call22_c_0, main_while1b_call22_c_1, main_while1b_call22_c_2, main_while1b_call22_v0, main_while1b_v57, main_while1b_call23_c, main_while1b_call23_c_0, main_while1b_call23_c_1, main_while1b_call23_c_2, main_while1b_call23_v0, main_while1b_v58, main_while1b_call24_c, main_while1b_call24_c_0, main_while1b_call24_c_1, main_while1b_call24_c_2, main_while1b_call24_v0, main_while1b_v59, main_while1b_call25_c, main_while1b_call25_c_0, main_while1b_call25_c_1, main_while1b_call25_c_2, main_while1b_call25_v0, main_while1b_v60, main_while1b_v61, main_while1b_v62, main_while1b_cst_38, main_while1b_v63, main_while1b_v64, main_while1b_v65, main_while1b_v66, main_while1b_v67, main_while1b_cst_39, main_while1b_v68, main_while1b_v69, main_while1b_v70, main_while1b_v71, main_while1b_cst_40, main_while1b_v72, main_while1b_v73, main_while1b_v74, main_while1b_v75, main_while1b_cst_41, main_while1b_v76, main_while1b_v77, main_while1b_cst_42, main_while1b_v78, main_while1b_v79, main_while1b_cst_43, main_while1b_v80, main_while1b_v81, main_while1b_v82, main_while1b_v83, main_while1b_cst_44, main_while1b_v84, main_while1b_v85, main_while1b_v86, main_while1b_v87, main_while1b_cst_45, main_while1b_v88, main_while1b_v89, main_while1b_cst_46, main_while1b_v90, main_while1b_v91, main_while1b_cst_47, main_while1b_v92, main_while1b_v93, main_while1b_v94, main_while1b_cst_48, main_while1b_v95, main_while1b_v96, main_while1b_v97, main_while1b_v98, main_while1b_cst_49, main_while1b_v99, main_while1b_v100, main_while1b_v101, main_while1b_v102, main_while1b_cst_50, main_while1b_v103, main_while1b_v104, main_while1b_v105, main_while1b_v106, main_while1b_v107, main_while1b_cst_51, main_while1b_v108, main_while1b_v109, main_while1b_call26_v0, main_while1b_call26_c, main_while1b_call26_c_0, main_while1b_call26_c_1, main_while1b_v110, main_while1b_call27_v0, main_while1b_call27_c, main_while1b_call27_c_0, main_while1b_call27_c_1, main_while1b_v111, main_while1b_call28_v0, main_while1b_call28_c, main_while1b_call28_c_0, main_while1b_call28_c_1, main_while1b_v112, main_while1b_call29_v0, main_while1b_call29_c, main_while1b_call29_c_0, main_while1b_call29_c_1, main_while1b_v113, main_while1b_call30_v0, main_while1b_call30_c, main_while1b_call30_c_0, main_while1b_call30_c_1, main_while1b_v114, main_while1b_call31_v0, main_while1b_call31_c, main_while1b_call31_c_0, main_while1b_call31_c_1, main_while1b_v115]

/-- What the stores write, the counter's sum with them. -/
abbrev bwdLastW : List (Ref sig .tc) :=
  [main_while1b_c_52, main_while1b_v116, main_v36_10, main_v36_11, main_v36_12, main_v36_13, main_v36_14, main_v36_15, main_v36_16, main_v36_17]

theorem bwdCond_writes : (bwdCond (F := F)).Forall fun op => op.writes ⊆ (bwdCondW.map (Proc.devRef (τ := τ) .tc)).toFinset :=
  StableHlo.forall_writes_sub_of_map rfl

theorem bwdWork_writes : (bwdWork (F := F)).Forall fun op => op.writes ⊆ (bwdWorkW.map (Proc.devRef (τ := τ) .tc)).toFinset :=
  StableHlo.forall_writes_sub_of_map rfl

theorem bwdLast_writes : (bwdLast (F := F)).Forall fun op => op.writes ⊆ (bwdLastW.map (Proc.devRef (τ := τ) .tc)).toFinset :=
  StableHlo.forall_writes_sub_of_map rfl

/-- One pass of the second loop's body, its working operations first. -/
theorem afterL_bwd (W : Valuation τ sig (Elt F)) : afterL bwdI W = after bwdLast (after bwdWork W) := by
  simp only [bwdI, bwdWork, bwdLast, StableHlo.afterL_cons, StableHlo.afterL_nil, StableHlo.after_append]

/-- A buffer the second loop does not write keeps its contents. -/
theorem bwd_of (W₀ : Dev nD → Valuation τ sig (Elt F)) (r : Ref sig .tc) (h0 : r ∉ bwdCondW) (h1 : r ∉ bwdWorkW) (h2 : r ∉ bwdLastW) (c : Dev nD) (k : ℕ) :
    atTrip bwdCond bwdI W₀ k c r = W₀ c r := by
  induction k with
  | zero => rfl
  | succ k ih =>
    rw [StableHlo.atTrip_succ, afterL_bwd, StableHlo.after_of_writes_sub _ _ bwdLast_writes h2, StableHlo.after_of_writes_sub _ _ bwdWork_writes h1,
      StableHlo.after_of_writes_sub _ _ bwdCond_writes h0, ih]

/-- The stores add one to the counter. -/
theorem bwd_step (W : Valuation τ sig (Elt F)) :
    after bwdLast W main_v36_10 = addi (show (⟨S_, .i32⟩ : BufTy).Contents (Elt F) from W main_v36_10) (constantI S_ 32 1#32) := by
  have hl : (bwdLast (F := F)) = bwdLast.take 3 ++ bwdLast.drop 3 := (List.take_append_drop 3 _).symm
  have hw : (bwdLast (F := F)).drop 3 |>.Forall fun op => op.writes ⊆ ((bwdLastW.drop 3).map (Proc.devRef (τ := τ) .tc)).toFinset :=
    StableHlo.forall_writes_sub_of_map rfl
  rw [hl, StableHlo.after_append, StableHlo.after_of_writes_sub _ _ hw (by decide)]
  show after [_, _, _] W main_v36_10 = _
  rw [StableHlo.after_cons, StableHlo.after_cons, StableHlo.after_cons, StableHlo.after_nil, StableHlo.unary_result, StableHlo.binary_result, StableHlo.nullary_result,
    StableHlo.nullary_result_ne _ _ _ _ (by decide)]
  rfl

/-- The second loop's counter before the k-th run of its condition. -/
theorem bwd_counter (W₀ : Dev nD → Valuation τ sig (Elt F)) (h0 : ∀ c, W₀ c main_v36_10 = fun _ => (0#32 : BitVec 32)) (c : Dev nD) (k : ℕ) :
    atTrip bwdCond bwdI W₀ k c main_v36_10 = fun _ => BitVec.ofNat 32 k := by
  induction k with
  | zero => exact h0 c
  | succ k ih =>
    rw [StableHlo.atTrip_succ, afterL_bwd, bwd_step, StableHlo.after_of_writes_sub _ _ bwdWork_writes (by decide),
      StableHlo.after_of_writes_sub _ _ bwdCond_writes (by decide), ih]
    funext i
    show BitVec.ofNat 32 k + 1#32 = BitVec.ofNat 32 (k + 1)
    rw [BitVec.ofNat_add]

-- a rule stated for any thread unifies at the TensorCore's thread only by unfolding plain definitions
set_option backward.isDefEq.respectTransparency.types false in
/-- The second loop's condition, run for the k-th time: it holds exactly before the 2048th. -/
theorem bwd_spec (W₀ : Dev nD → Valuation τ sig (Elt F)) (R : Dev nD → sProp 𝕄) (h0 : ∀ c, W₀ c main_v36_10 = fun _ => (0#32 : BitVec 32)) :
    StableHlo.LoopCond (pcfgs (F := F)) defs₀ Variants.none loops R (main_while1_cond (F := F)) bwdCond bwdI W₀ 2048 := by
  intro k hk c bd
  have hctr := bwd_counter W₀ h0 c k
  unfold main_while1_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip bwdCond bwdI W₀ k c) main_v36_10 HostLoop.idx0)
        (HloOp.result _ (atTrip bwdCond bwdI W₀ k c) main_while1c_c_36 HostLoop.idx0) = 1#1) (k < 2048)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

/-! ## The run -/

/-- No pipeline is there to admit. -/
abbrev adm : (p : Fin 0) → (pcfgs (F := F) p).Adm := fun p => p.elim0
/-- No pipeline's ticket. -/
abbrev tk : Fin 0 → Ticket (Ix := Unit) (Name := ℕ) (U := Option PUnit) (Lvl := ℕ) (nD := nD) (τ := τ) (pcfgs (F := F)) adm := fun j => j.elim0
/-- No semaphore is given a level's cells. -/
abbrev L : GSem nD τ sig → Finset Unit := fun _ => ∅
/-- Every level is zero. -/
abbrev lv : GSem nD τ sig → Unit → ℕ := fun _ _ => 0
/-- What a core carries beside its buffers. -/
abbrev rest (c : Dev nD) : sProp 𝕄 := iprop(∃ W, owes (c : Thread nD τ) (0 : CellTallies nD τ sig Unit) W)

theorem cells_inj : Function.Injective (Pipeline.cellOf (nD := nD) (τ := τ) (Pipeline.pin (pcfgs (F := F)) adm)) := fun k => k.1.elim0

variable (m : (ℓ : Loc nD τ sig) → Buf (Elt F) ℓ)

/-- The buffers at the launch. -/
def V0 (c : Dev nD) : Valuation τ sig (Elt F) := launchContents m c
/-- The buffers where the first loop is entered. -/
def V1 (c : Dev nD) : Valuation τ sig (Elt F) := after preOps (V0 m c)
/-- The buffers the first loop leaves. -/
def V2 (c : Dev nD) : Valuation τ sig (Elt F) := after fwdCond (atTrip fwdCond fwdI (V1 m) 2048 c)
/-- The buffers halfway between the loops. -/
def V3 (c : Dev nD) : Valuation τ sig (Elt F) := after midOpsA (V2 m c)
/-- The buffers where the second loop is entered. -/
def V4 (c : Dev nD) : Valuation τ sig (Elt F) := after midOpsB (V3 m c)
/-- The buffers the second loop leaves. -/
def V5 (c : Dev nD) : Valuation τ sig (Elt F) := after bwdCond (atTrip bwdCond bwdI (V4 m) 2048 c)
/-- The buffers at the end. -/
def V6 (c : Dev nD) : Valuation τ sig (Elt F) := after postOps (V5 m c)

theorem fwd_zero (c : Dev nD) : V1 m c main_v23_6 = fun _ => (0#32 : BitVec 32) := by
  have hl : (preOps (F := F)) = preOps.take 34 ++ (preOps.drop 34) := (List.take_append_drop 34 _).symm
  have h1 : (preOps (F := F)).drop 34 = (preOps.drop 34).take 8 ++ preOps.drop 42 := rfl
  have hw : (preOps (F := F)).drop 42 |>.Forall fun op => op.writes ⊆ ((preW.drop 42).map (Proc.devRef (τ := τ) .tc)).toFinset :=
    StableHlo.forall_writes_sub_of_map rfl
  show after preOps _ main_v23_6 = _
  rw [hl, h1, StableHlo.after_append, StableHlo.after_append, StableHlo.after_of_writes_sub _ _ hw (by decide)]
  generalize after (preOps.take 34) (V0 m c) = U
  show after [_, _, _, _, _, _, _, _] U main_v23_6 = _
  simp only [StableHlo.after_cons, StableHlo.after_nil]
  rw [StableHlo.unary_result, StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.nullary_result]
  · rfl
  all_goals decide

theorem bwd_zero (c : Dev nD) : V4 m c main_v36_10 = fun _ => (0#32 : BitVec 32) := by
  have hl : (midOpsB (F := F)) = midOpsB.take 14 ++ (midOpsB.drop 14) := (List.take_append_drop 14 _).symm
  have h1 : (midOpsB (F := F)).drop 14 = (midOpsB.drop 14).take 12 ++ midOpsB.drop 26 := rfl
  have hw : (midOpsB (F := F)).drop 26 |>.Forall fun op => op.writes ⊆ ((midBW.drop 26).map (Proc.devRef (τ := τ) .tc)).toFinset :=
    StableHlo.forall_writes_sub_of_map rfl
  show after midOpsB _ main_v36_10 = _
  rw [hl, h1, StableHlo.after_append, StableHlo.after_append, StableHlo.after_of_writes_sub _ _ hw (by decide)]
  generalize after (midOpsB.take 14) (V3 m c) = U
  show after [_, _, _, _, _, _, _, _, _, _, _, _] U main_v36_10 = _
  simp only [StableHlo.after_cons, StableHlo.after_nil]
  rw [StableHlo.unary_result, StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.unary_result_ne _ _ _ _ (by decide), StableHlo.nullary_result]
  · rfl
  all_goals decide

/-- The arguments. -/
abbrev argRefs : List (Ref sig .tc) := [main_arg0, main_arg1, main_arg2, main_arg3, main_arg4, main_arg5, main_arg6]

theorem V2_args (c : Dev nD) (a : Ref sig .tc) (ha : a ∈ argRefs) : V2 m c a = m ((c.tc : Thread nD τ).loc a) := by
  have h0 : ∀ a ∈ argRefs, a ∉ preW := by decide
  have h1 : ∀ a ∈ argRefs, a ∉ fwdCondW := by decide
  have h2 : ∀ a ∈ argRefs, a ∉ fwdWorkW := by decide
  have h3 : ∀ a ∈ argRefs, a ∉ fwdLastW := by decide
  unfold V2
  rw [StableHlo.after_of_writes_sub _ _ fwdCond_writes (h1 a ha), fwd_of _ a (h1 a ha) (h2 a ha) (h3 a ha)]
  unfold V1
  rw [StableHlo.after_of_writes_sub _ _ pre_writes (h0 a ha)]
  rfl

/-- The arguments are never written. -/
theorem V6_args (c : Dev nD) (a : Ref sig .tc) (ha : a ∈ argRefs) : V6 m c a = m ((c.tc : Thread nD τ).loc a) := by
  have h4 : ∀ a ∈ argRefs, a ∉ midAW := by decide
  have h5 : ∀ a ∈ argRefs, a ∉ midBW := by decide
  have h6 : ∀ a ∈ argRefs, a ∉ bwdCondW := by decide
  have h7 : ∀ a ∈ argRefs, a ∉ bwdWorkW := by decide
  have h8 : ∀ a ∈ argRefs, a ∉ bwdLastW := by decide
  have h9 : ∀ a ∈ argRefs, a ∉ postW := by decide
  unfold V6
  rw [StableHlo.after_of_writes_sub _ _ post_writes (h9 a ha)]
  unfold V5
  rw [StableHlo.after_of_writes_sub _ _ bwdCond_writes (h6 a ha), bwd_of _ a (h6 a ha) (h7 a ha) (h8 a ha)]
  unfold V4
  rw [StableHlo.after_of_writes_sub _ _ midB_writes (h5 a ha)]
  unfold V3
  rw [StableHlo.after_of_writes_sub _ _ midA_writes (h4 a ha), V2_args m c a ha]

/-- A stretch of host operations as a segment. -/
abbrev stretch (ops : List (HloOp τ sig (Elt F))) (h : Plain [ops]) (W : Dev nD → Valuation τ sig (Elt F)) :
    CSeg (Ix := Unit) (Name := ℕ) (U := Option PUnit) (Lvl := ℕ) (pcfgs (F := F)) adm defs₀ Variants.none L lv loops (tk (F := F)) :=
  CSeg.ofOps _ _ _ _ _ _ _ _ (ucRefs τ sig) ops (fun op hop => Pipeline.sub_ucRefs op ((h ops List.mem_cons_self).1 op hop)) (h ops List.mem_cons_self).2 W (rest (F := F))

/-- The program's items as segments. -/
def items : List (CSeg (Ix := Unit) (Name := ℕ) (U := Option PUnit) (Lvl := ℕ) (pcfgs (F := F)) adm defs₀ Variants.none L lv loops (tk (F := F))) :=
  [ stretch preOps (.cons preOps_sub .nil) (V0 m),
    StableHlo.loopSeg _ _ _ _ _ _ _ _ 0 main_while0_cond main_while0_body rfl fwdCond fwdI fwdI_plain fwd_chain 2048 (V1 m) (rest (F := F)) (fwd_spec (V1 m) _ (fwd_zero m)),
    stretch midOpsA (.cons midOpsA_sub .nil) (V2 m),
    stretch midOpsB (.cons midOpsB_sub .nil) (V3 m),
    StableHlo.loopSeg _ _ _ _ _ _ _ _ 1 main_while1_cond main_while1_body rfl bwdCond bwdI bwdI_plain bwd_chain 2048 (V4 m) (rest (F := F)) (bwd_spec (V4 m) _ (bwd_zero m)),
    stretch postOps (.cons postOps_sub .nil) (V5 m) ]

/-- Every semaphore is scoped: there is none but the barrier's. -/
theorem no_unscoped_sem : ∀ sm : SemLoc sig, sm.isScoped .tc = true := by decide

-- the kit's implicit arguments are found by unfolding plain definitions in a metavariable's type
set_option backward.isDefEq.respectTransparency.types false in
/-- Every fair run ends with each buffer at its last contents and every counter at zero. -/
theorem run_main (ρ : Dev nD → PrngReg) :
    θ_run defs (onTc (τ := τ) (main (F := F))) ⟨m, fun _ => 0, ρ⟩ (fun r =>
      (∀ c : Dev nD, ∀ b ∈ ucRefs τ sig, r.2.mem (c, b) = V6 m c b) ∧ r.2.sem = fun _ => 0) := by
  have hub (c : Dev nD) (W : Valuation τ sig (Elt F)) :
      (unscopedBufs (Ix := Unit) (Name := ℕ) (U := Option PUnit) (Lvl := ℕ) c (fun b => W b) : sProp 𝕄) = held (c : Thread nD τ) (ucRefs τ sig) W :=
    Pipeline.unscopedBufs_held c W
  refine Pipeline.θ_run_regions_loop_kit_dev_sems (pcfgs (F := F)) adm cells_inj defs₀ Variants.none L lv loops (tk (F := F)) m ρ main
    (fun _ => items m)
    (fun c Q => by
      rewrite [main_chain c, CSeg.runL,
        show (items m).map CSeg.prog = [
          StableHlo.seq preOps,
          HostLoop.enter 0,
          StableHlo.seq midOpsA,
          StableHlo.seq midOpsB,
          HostLoop.enter 1,
          StableHlo.seq postOps ] from rfl]
      exact .rfl)
    (fun c => Pipeline.CSeg.pairwise_disjoint_of_T_empty _ fun s _ => Finset.eq_empty_of_isEmpty s.T)
    (fun _ => 0) (fun _ _ => rfl) (fun _ => BI.emp)
    1
    ?_
    (fun c => iprop(held (c : Thread nD τ) (ucRefs τ sig) (V0 m c) ∗ rest (F := F) c))
    (fun c => held (c : Thread nD τ) (ucRefs τ sig) (V6 m c))
    (fun c => ⟨.rfl, .rfl, .rfl, .rfl, .rfl, .rfl, .rfl⟩)
    ?_ (fun c s => ∀ b ∈ ucRefs τ sig, s.mem (c, b) = V6 m c b)
    (fun c s' => ?_) (fun _ h hz => ⟨h, funext fun g => hz g (.inr (no_unscoped_sem g.2))⟩)
  · iintro -; imodintro
    isplitl []
    · rw [Finset.univ_eq_empty, BI.bigSep_empty]; iempintro
    iapply (show (BI.emp : sProp 𝕄) ⊢ bigSep Finset.univ (fun _ : Dev nD => (BI.emp : sProp 𝕄)) from by rw [BI.bigSep_emp_const])
    iempintro
  · refine Entails.trans (?_ : _ ⊢ bigSep Finset.univ fun c : Dev nD => iprop(held (c : Thread nD τ) (ucRefs τ sig) (V0 m c) ∗ rest (F := F) c)) BI.fupd_intro
    have h1 (c : Dev nD) : (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ iprop(held (c : Thread nD τ) (ucRefs τ sig) (V0 m c) ∗ rest (F := F) c) := by
      have h := BIBase.Entails.of_eq (hub c (V0 m c))
      iintro ⟨Hb, -, HO, -⟩
      isplitl [Hb]; · iapply h; iexact Hb
      iexists _; iexact HO
    have hmono : (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄))
        ⊢ bigSep Finset.univ fun c : Dev nD => iprop(held (c : Thread nD τ) (ucRefs τ sig) (V0 m c) ∗ rest (F := F) c) :=
      bigSep_mono fun c _ => h1 c
    iintro ⟨H, -⟩
    iapply hmono
    iexact H
  · unfold StableHlo.held
    iintro ⟨Hh, HSI⟩
    ihave Hr := (pointsTo_read_all (ucRefs τ sig) (fun b => ((c : Thread nD τ).1, b)) (V6 m c) s') $$ [Hh HSI]
    · isplitl [Hh] <;> iassumption
    icases Hr with ⟨%h, HSI⟩
    imodintro
    isplitr
    · ipureintro; exact h
    · iexact HSI

/-- A TensorCore reference that is not scoped is among the buffers `run_main` speaks of. -/
theorem uc (b : Ref sig .tc) (h : (Proc.devRef .tc b : DevRef τ sig).isScoped = false) : (Proc.devRef .tc b : DevRef τ sig) ∈ ucRefs τ sig :=
  StableHlo.devRef_mem_ucRefs b h

/-- The frame: the arguments end as launched, every counter at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (h.1 c _ (uc main_arg0 (by decide))).trans (V6_args m c main_arg0 (by decide)),
    (h.1 c _ (uc main_arg1 (by decide))).trans (V6_args m c main_arg1 (by decide)),
    (h.1 c _ (uc main_arg2 (by decide))).trans (V6_args m c main_arg2 (by decide)),
    (h.1 c _ (uc main_arg3 (by decide))).trans (V6_args m c main_arg3 (by decide)),
    (h.1 c _ (uc main_arg4 (by decide))).trans (V6_args m c main_arg4 (by decide)),
    (h.1 c _ (uc main_arg5 (by decide))).trans (V6_args m c main_arg5 (by decide)),
    (h.1 c _ (uc main_arg6 (by decide))).trans (V6_args m c main_arg6 (by decide))⟩, h.2⟩) (run_main m ρ)

end Cert.ReferenceIdeal.Scan

end
-- ==== Proof.Eval.lean ====
/- What a line of operations leaves at one reference, read off the one operation that writes it; and the rows that an indexed read
   takes and an indexed write puts. -/
module

public import Idealize.ShloMosaic.Lib.StableHlo.RunLoop
public import Idealize.ShloMosaic.Lib.Pipeline.Value
public import Idealize.ShloMosaic.Lib.ValueIdx
public import Idealize.ShloMosaic.Lib.WordCmp
public import Idealize.ShloMosaic.Lib.IdealHost
public import Idealize.ShloMosaic.Lib.Pointwise.Reduce

@[expose] public section

noncomputable section

namespace Cert.Scan

open Idealize.ShloMosaic Idealize.ShloMosaic.TcCoe
open Idealize.ShloMosaic.StableHlo (after)
open Idealize.ShloMosaic.WordCmp

section At

variable {τ : Topo} {sig : RefSig} {Val : EltTy → Type}
variable {ops : List (HloOp τ sig Val)} {W : List (Ref sig .tc)}

/-- The line's write sets, in order, are those of the references `W`. -/
def Writes (ops : List (HloOp τ sig Val)) (W : List (Ref sig .tc)) : Prop :=
  ops.map HloOp.writes = W.map fun r => {Proc.devRef (τ := τ) .tc r}

theorem Writes.drop (hW : Writes ops W) (i : ℕ) : Writes (ops.drop i) (W.drop i) := by
  unfold Writes at *; rw [List.map_drop, List.map_drop, hW]

/-- What is not written keeps its contents. -/
theorem Writes.of (hW : Writes ops W) {r : Ref sig .tc} (hr : r ∉ W) (V : Valuation τ sig Val) : after ops V r = V r :=
  StableHlo.after_of_writes_sub _ _ (StableHlo.forall_writes_sub_of_map hW) hr

theorem after_split (i : ℕ) (V : Valuation τ sig Val) : after ops V = after (ops.drop i) (after (ops.take i) V) := by
  rw [← StableHlo.after_append, List.take_append_drop]

/-- A reference the operations from position `i` on leave alone has, before them, what it has at the end. -/
theorem Writes.before (hW : Writes ops W) (i : ℕ) {a : Ref sig .tc} (ha : a ∉ W.drop i) (V : Valuation τ sig Val) :
    after (ops.take i) V a = after ops V a := by
  exact ((congrFun (after_split i V) _).trans ((hW.drop i).of ha _)).symm

/-- A reference that only the operation at position `i` writes from there on has what that operation gives. -/
theorem Writes.last (hW : Writes ops W) (i : ℕ) {op : HloOp τ sig Val} {rest : List (HloOp τ sig Val)} (h : ops.drop i = op :: rest)
    {y : Ref sig .tc} (hy : y ∉ W.drop (i + 1)) (V : Valuation τ sig Val) : after ops V y = op.result (after (ops.take i) V) y := by
  have hr : rest = ops.drop (i + 1) := by rw [← List.tail_drop, h, List.tail_cons]
  refine (congrFun (after_split i V) _).trans ?_
  rw [h, StableHlo.after_cons, hr]
  exact (hW.drop (i + 1)).of hy _

variable {V : Valuation τ sig Val}

theorem val0 (hW : Writes ops W) (i : ℕ) {y : Ref sig .tc} {x : y.ty.Contents Val} {hs : y.space ≠ .host ∧ (y : DevRef τ sig).isScoped = false}
    {rest : List (HloOp τ sig Val)} (h : ops.drop i = StableHlo.nullary y x hs :: rest) (hy : y ∉ W.drop (i + 1))
    {w : y.ty.Contents Val} (hw : x = w) : after ops V y = w := by
  rw [hW.last i h hy, StableHlo.nullary_result, hw]

theorem val1 (hW : Writes ops W) (i : ℕ) {a y : Ref sig .tc} {f : a.ty.Contents Val → y.ty.Contents Val}
    {ha : a.space ≠ .host ∧ (a : DevRef τ sig).isScoped = false} {hs : y.space ≠ .host ∧ (y : DevRef τ sig).isScoped = false}
    {rest : List (HloOp τ sig Val)} (h : ops.drop i = StableHlo.unary a y f ha hs :: rest) (hy : y ∉ W.drop (i + 1)) (hi : a ∉ W.drop i)
    {u : a.ty.Contents Val} {w : y.ty.Contents Val} (hu : after ops V a = u) (hw : f u = w) : after ops V y = w := by
  rw [hW.last i h hy, StableHlo.unary_result, hW.before i hi, hu, hw]

theorem val2 (hW : Writes ops W) (i : ℕ) {a b y : Ref sig .tc} {f : a.ty.Contents Val → b.ty.Contents Val → y.ty.Contents Val}
    {ha : a.space ≠ .host ∧ (a : DevRef τ sig).isScoped = false} {hb : b.space ≠ .host ∧ (b : DevRef τ sig).isScoped = false}
    {hs : y.space ≠ .host ∧ (y : DevRef τ sig).isScoped = false}
    {rest : List (HloOp τ sig Val)} (h : ops.drop i = StableHlo.binary a b y f ha hb hs :: rest) (hy : y ∉ W.drop (i + 1))
    (hi : a ∉ W.drop i) (hj : b ∉ W.drop i)
    {u : a.ty.Contents Val} {v : b.ty.Contents Val} {w : y.ty.Contents Val} (hu : after ops V a = u) (hv : after ops V b = v) (hw : f u v = w) :
    after ops V y = w := by
  rw [hW.last i h hy, StableHlo.binary_result, hW.before i hi, hW.before i hj, hu, hv, hw]

theorem valR (hW : Writes ops W) (i : ℕ) {a y : Ref sig .tc} {he : a.ty.elt = y.ty.elt} {hn : a.ty.shape.ShapeCasts y.ty.shape}
    {ha : a.space ≠ .host ∧ (a : DevRef τ sig).isScoped = false} {hs : y.space ≠ .host ∧ (y : DevRef τ sig).isScoped = false}
    {rest : List (HloOp τ sig Val)} (h : ops.drop i = StableHlo.reshape a y he hn ha hs :: rest) (hy : y ∉ W.drop (i + 1)) (hi : a ∉ W.drop i)
    {u : a.ty.Contents Val} {w : y.ty.Contents Val} (hu : after ops V a = u) (hw : (fun j => he ▸ shapeCast y.ty.shape u hn j) = w) :
    after ops V y = w := by
  rw [hW.last i h hy, StableHlo.reshape_result, hW.before i hi, hu, hw]

theorem val1I (hW : Writes ops W) (i : ℕ) {a y : Ref sig .tc} {n : ℕ} {ix : Fin n → Ref sig .tc} {T : BufTy}
    {f : a.ty.Contents Val → (Fin n → T.Contents Val) → y.ty.Contents Val} {hT : ∀ k, (ix k).ty = T}
    {ha : a.space ≠ .host ∧ (a : DevRef τ sig).isScoped = false}
    {hx : ∀ k, (ix k).space ≠ .host ∧ ((ix k : Ref sig .tc) : DevRef τ sig).isScoped = false}
    {hs : y.space ≠ .host ∧ (y : DevRef τ sig).isScoped = false}
    {rest : List (HloOp τ sig Val)} (h : ops.drop i = StableHlo.unaryIndexed a ix T y f hT ha hx hs :: rest) (hy : y ∉ W.drop (i + 1))
    (hi : a ∉ W.drop i) (hj : ∀ k, ix k ∉ W.drop i)
    {u : a.ty.Contents Val} {z : Fin n → T.Contents Val} {w : y.ty.Contents Val} (hu : after ops V a = u)
    (hz : ∀ k, HEq (after ops V (ix k)) (z k)) (hw : f u z = w) : after ops V y = w := by
  rw [hW.last i h hy, StableHlo.unaryIndexed_result, hW.before i hi, hu, ← hw]
  refine congrArg (f u) (funext fun k => ?_)
  rw [hW.before i (hj k)]
  exact eq_of_heq ((cast_heq _ _).trans (hz k))

theorem val2I (hW : Writes ops W) (i : ℕ) {a b y : Ref sig .tc} {n : ℕ} {ix : Fin n → Ref sig .tc} {T : BufTy}
    {f : a.ty.Contents Val → b.ty.Contents Val → (Fin n → T.Contents Val) → y.ty.Contents Val} {hT : ∀ k, (ix k).ty = T}
    {ha : a.space ≠ .host ∧ (a : DevRef τ sig).isScoped = false} {hb : b.space ≠ .host ∧ (b : DevRef τ sig).isScoped = false}
    {hx : ∀ k, (ix k).space ≠ .host ∧ ((ix k : Ref sig .tc) : DevRef τ sig).isScoped = false}
    {hs : y.space ≠ .host ∧ (y : DevRef τ sig).isScoped = false}
    {rest : List (HloOp τ sig Val)} (h : ops.drop i = StableHlo.binaryIndexed a b ix T y f hT ha hb hx hs :: rest) (hy : y ∉ W.drop (i + 1))
    (hi : a ∉ W.drop i) (hi' : b ∉ W.drop i) (hj : ∀ k, ix k ∉ W.drop i)
    {u : a.ty.Contents Val} {v : b.ty.Contents Val} {z : Fin n → T.Contents Val} {w : y.ty.Contents Val} (hu : after ops V a = u) (hv : after ops V b = v)
    (hz : ∀ k, HEq (after ops V (ix k)) (z k)) (hw : f u v z = w) : after ops V y = w := by
  rw [hW.last i h hy, StableHlo.binaryIndexed_result, hW.before i hi, hW.before i hi', hu, hv, ← hw]
  refine congrArg (f u v) (funext fun k => ?_)
  rw [hW.before i (hj k)]
  exact eq_of_heq ((cast_heq _ _).trans (hz k))

end At

/-- The block that an indexed read takes, read at an index. -/
theorem slice_at {α : Type} {s t : Shape} (X : s.Idx → α) (start : Fin s.rank → Int) (h : s.Slices (fun _ => 0) t) (st : Fin s.rank → ℕ)
    (hs : s.Slices st t) (e : ∀ a, start a = (st a : Int)) (j : t.Idx) (i : s.Idx) (hi : ∀ a, (i a).val = st a + (j (a.cast h.1.symm)).val) :
    Host.dynamicSlice t X start h j = X i := by
  rw [dynamicSlice_eq_extract t X start h st hs e]
  exact congrArg X (funext fun a => Fin.ext (hi a).symm)

/-- An array that agrees with `Q` off row `k` at an index agrees with it there once row `k` of `Q` is written into it. -/
theorem update_row {s u : Shape} {α : Type} (Q X : s.Idx → α) (U : u.Idx → α) (start : Fin s.rank → Int) (h : s.Slices (fun _ => 0) u)
    (st : Fin s.rank → ℕ) (hs : s.Slices st u) (e : ∀ a, start a = (st a : Int)) (a0 : Fin s.rank) (hu : u.size (a0.cast h.1.symm) = 1)
    (hr : ∀ a, a ≠ a0 → st a = 0 ∧ u.size (a.cast h.1.symm) = s.size a)
    (hU : ∀ (i : s.Idx) (hb : ∀ b : Fin u.rank, (i (b.cast h.1)).val - st (b.cast h.1) < u.size b), (i a0).val = st a0 →
      U (fun b => ⟨(i (b.cast h.1)).val - st (b.cast h.1), hb b⟩) = Q i) (i : s.Idx) (hX : (i a0).val ≠ st a0 → X i = Q i) :
    Host.dynamicUpdateSlice X U start h i = Q i := by
  rw [dynamicUpdateSlice_eq_update X U start h st hs e]
  unfold updateSlice
  by_cases hk : (i a0).val = st a0
  · have hin : ∀ a : Fin s.rank, st a ≤ (i a).val ∧ (i a).val < st a + u.size (a.cast hs.1.symm) := by
      intro a
      by_cases ha : a = a0
      · subst ha; exact ⟨hk.ge, by have := hu; omega⟩
      · obtain ⟨h0, h1⟩ := hr a ha
        have := (i a).isLt
        have h2 : u.size (a.cast hs.1.symm) = s.size a := h1
        rw [h0, h2]; exact ⟨Nat.zero_le _, by omega⟩
    rw [dif_pos hin]
    exact hU i _ hk
  · rw [dif_neg (fun hin => hk (by have := hin a0; have h2 : u.size (a0.cast hs.1.symm) = 1 := hu; omega))]
    exact hX hk

/-- An array whose rows below `k` are those of `Q` has, once row `k` of `Q` is written into it, the rows of `Q` below `k + 1`. -/
theorem update_rows {s u : Shape} {α : Type} (Q X : s.Idx → α) (U : u.Idx → α) (start : Fin s.rank → Int) (h : s.Slices (fun _ => 0) u)
    (st : Fin s.rank → ℕ) (hs : s.Slices st u) (e : ∀ a, start a = (st a : Int)) (a0 : Fin s.rank) (hu : u.size (a0.cast h.1.symm) = 1)
    (hr : ∀ a, a ≠ a0 → st a = 0 ∧ u.size (a.cast h.1.symm) = s.size a) (hX : ∀ i, (i a0).val < st a0 → X i = Q i)
    (hU : ∀ (i : s.Idx) (hb : ∀ b : Fin u.rank, (i (b.cast h.1)).val - st (b.cast h.1) < u.size b), (i a0).val = st a0 →
      U (fun b => ⟨(i (b.cast h.1)).val - st (b.cast h.1), hb b⟩) = Q i) (i : s.Idx) (hi : (i a0).val < st a0 + 1) :
    Host.dynamicUpdateSlice X U start h i = Q i :=
  update_row Q X U start h st hs e a0 hu hr hU i fun hk => hX i (by omega)

end Cert.Scan
-- ==== Proof.Model.lean ====
/- The recurrence and its gradient as plain formulas over the extended reals, and what of them is finite. -/
module

public import Idealize.ShloMosaic.Lib.ValueIdx

@[expose] public section

noncomputable section

namespace Cert.Scan

/-- What the recurrence reads at every time, for every head and lane. -/
structure Ins where
  r : ℕ → Fin 4 → Fin 64 → EReal
  w : ℕ → Fin 4 → Fin 64 → EReal
  k : ℕ → Fin 4 → Fin 64 → EReal
  v : ℕ → Fin 4 → Fin 64 → EReal
  a : ℕ → Fin 4 → Fin 64 → EReal
  b : ℕ → Fin 4 → Fin 64 → EReal
  dy : ℕ → Fin 4 → Fin 64 → EReal

namespace Ins

variable (I : Ins)

/-- The state before time `t`, by head, value lane and key lane. -/
def S : ℕ → Fin 4 → Fin 64 → Fin 64 → EReal
  | 0 => fun _ _ _ => 0
  | t + 1 => fun h i j => S t h i j * I.w t h j + (∑ l : Fin 64, S t h i l * I.a t h l) * I.b t h j + I.v t h i * I.k t h j

/-- The state's product with `a`. -/
def sa (t : ℕ) (h : Fin 4) (i : Fin 64) : EReal := ∑ l : Fin 64, I.S t h i l * I.a t h l

theorem S_succ (t : ℕ) (h : Fin 4) (i j : Fin 64) :
    I.S (t + 1) h i j = I.S t h i j * I.w t h j + I.sa t h i * I.b t h j + I.v t h i * I.k t h j := rfl

/-- The time that the backward step `n` undoes. -/
def time (n : ℕ) : ℕ := 2047 - n

/-- The cotangent of the state once `n` backward steps are done, from the one `g` the later times leave. -/
def dSOf (g : Fin 4 → Fin 64 → Fin 64 → EReal) (n : ℕ) (h : Fin 4) (i j : Fin 64) : EReal :=
  g h i j + I.dy (time n) h i * I.r (time n) h j

/-- The state's cotangent before the backward step `n`. -/
def G : ℕ → Fin 4 → Fin 64 → Fin 64 → EReal
  | 0 => fun _ _ _ => 0
  | n + 1 => fun h i j => I.dSOf (G n) n h i j * I.w (time n) h j
      + (∑ l : Fin 64, I.dSOf (G n) n h i l * I.b (time n) h l) * I.a (time n) h j

/-- The cotangent of the state after the time of step `n`. -/
def dS (n : ℕ) (h : Fin 4) (i j : Fin 64) : EReal := I.G n h i j + I.dy (time n) h i * I.r (time n) h j
/-- The cotangent of the state's product with `a`. -/
def dSa (n : ℕ) (h : Fin 4) (i : Fin 64) : EReal := ∑ l : Fin 64, I.dS n h i l * I.b (time n) h l

theorem G_succ (n : ℕ) (h : Fin 4) (i j : Fin 64) :
    I.G (n + 1) h i j = I.dS n h i j * I.w (time n) h j + I.dSa n h i * I.a (time n) h j := rfl

/-- The gradients of the step `n`'s time. -/
def dr (n : ℕ) (h : Fin 4) (j : Fin 64) : EReal := ∑ i : Fin 64, I.S (time n + 1) h i j * I.dy (time n) h i
def dw (n : ℕ) (h : Fin 4) (j : Fin 64) : EReal := ∑ i : Fin 64, I.S (time n) h i j * I.dS n h i j
def dk (n : ℕ) (h : Fin 4) (j : Fin 64) : EReal := ∑ i : Fin 64, I.v (time n) h i * I.dS n h i j
def dv (n : ℕ) (h : Fin 4) (i : Fin 64) : EReal := ∑ j : Fin 64, I.dS n h i j * I.k (time n) h j
def da (n : ℕ) (h : Fin 4) (j : Fin 64) : EReal := ∑ i : Fin 64, I.S (time n) h i j * I.dSa n h i
def db (n : ℕ) (h : Fin 4) (j : Fin 64) : EReal := ∑ i : Fin 64, I.sa (time n) h i * I.dS n h i j

end Ins

/-- A real number. -/
def IsReal (x : EReal) : Prop := ∃ y : ℝ, (y : EReal) = x

theorem IsReal.zero : IsReal 0 := ⟨0, rfl⟩
theorem IsReal.add {x y : EReal} : IsReal x → IsReal y → IsReal (x + y)
  | ⟨a, ha⟩, ⟨b, hb⟩ => ⟨a + b, by rw [← ha, ← hb, EReal.coe_add]⟩
theorem IsReal.mul {x y : EReal} : IsReal x → IsReal y → IsReal (x * y)
  | ⟨a, ha⟩, ⟨b, hb⟩ => ⟨a * b, by rw [← ha, ← hb, EReal.coe_mul]⟩
theorem IsReal.sum {n : ℕ} {f : Fin n → EReal} (h : ∀ i, IsReal (f i)) : IsReal (∑ i, f i) :=
  Finset.sum_induction f IsReal (fun _ _ => IsReal.add) IsReal.zero fun i _ => h i
theorem IsReal.sub_self {x : EReal} : IsReal x → x - x = 0
  | ⟨a, ha⟩ => by rw [← ha, ← EReal.coe_sub, _root_.sub_self]; rfl

/-- Every entry is a real number. -/
structure Ins.Finite (I : Ins) : Prop where
  r : ∀ t h j, IsReal (I.r t h j)
  w : ∀ t h j, IsReal (I.w t h j)
  k : ∀ t h j, IsReal (I.k t h j)
  v : ∀ t h j, IsReal (I.v t h j)
  a : ∀ t h j, IsReal (I.a t h j)
  b : ∀ t h j, IsReal (I.b t h j)
  dy : ∀ t h j, IsReal (I.dy t h j)

namespace Ins.Finite

variable {I : Ins} (H : I.Finite)
include H

theorem G : ∀ (n : ℕ) (h : Fin 4) (i j : Fin 64), IsReal (I.G n h i j)
  | 0, _, _, _ => IsReal.zero
  | n + 1, h, i, j => by
    have hd : ∀ l, IsReal (I.dS n h i l) := fun l => (G n h i l).add ((H.dy _ _ _).mul (H.r _ _ _))
    rw [Ins.G_succ]
    exact ((hd j).mul (H.w _ _ _)).add ((IsReal.sum fun l => (hd l).mul (H.b _ _ _)).mul (H.a _ _ _))

theorem dS (n : ℕ) (h : Fin 4) (i j : Fin 64) : IsReal (I.dS n h i j) := (H.G n h i j).add ((H.dy _ _ _).mul (H.r _ _ _))

end Ins.Finite

end Cert.Scan

end
-- ==== Proof.Arrays.lean ====
/- The recurrence's inputs as the program's arrays hold them, and the arrays its gradients make. -/
module

public import proofs.«01_k».proof.Proof.Model

@[expose] public section

noncomputable section

namespace Cert.Scan

open Idealize.ShloMosaic Idealize.ShloMosaic.ValueIdx

/-- The lane of a head's element. -/
def lane (h : Fin 4) (j : Fin 64) : Fin 256 := ⟨64 * h.val + j.val, by omega⟩

/-- What an array of 2048 times by 256 lanes holds. -/
def atTime (x : (⟨3, ![2048, 1, 256]⟩ : Shape).Idx → EReal) (t : ℕ) (h : Fin 4) (j : Fin 64) : EReal :=
  x (ix3 ⟨t % 2048, Nat.mod_lt _ (by decide)⟩ 0 (lane h j))

theorem atTime_of (x : (⟨3, ![2048, 1, 256]⟩ : Shape).Idx → EReal) (t : Fin 2048) (h : Fin 4) (j : Fin 64) :
    x (ix3 t 0 (lane h j)) = atTime x t.val h j :=
  congrArg (fun u => x (ix3 u 0 (lane h j))) (Fin.ext (Nat.mod_eq_of_lt t.isLt).symm)

/-- The array whose time `t` holds what the backward step `2047 - t` leaves. -/
def gradArr (f : ℕ → Fin 4 → Fin 64 → EReal) : (⟨3, ![2048, 1, 256]⟩ : Shape).Idx → EReal :=
  fun i => f (2047 - (i 0).val) ⟨(i 2).val / 64, by have : (i 2).val < 256 := (i 2).isLt; omega⟩ ⟨(i 2).val % 64, by omega⟩

end Cert.Scan
-- ==== Proof.HostValue.lean ====
/- The forward pass before the kernel's launch: the state before each time, and its product with `a`. -/
module

public import proofs.«01_k».proof.Proof.Loop
public import proofs.«01_k».proof.Proof.Eval
public import proofs.«01_k».proof.Proof.Arrays

@[expose] public section

set_option maxRecDepth 16384

noncomputable section

namespace Cert.KernelIdeal.Scan

open Idealize.ShloMosaic Idealize.ShloMosaic.TcCoe
open Cert.KernelIdeal.Gen Cert.Scan
open Idealize.ShloMosaic.StableHlo (after afterL atTrip)

/-- A head's vector, matrix, row and column, as arrays. -/
def vecH (f : Fin 4 → Fin 64 → EReal) : S4x64.Idx → EReal := fun i => f (i 0) (i 1)
def matH (f : Fin 4 → Fin 64 → Fin 64 → EReal) : S4x64x64.Idx → EReal := fun i => f (i 0) (i 1) (i 2)
def rowH (f : Fin 4 → Fin 64 → EReal) : S4x1x64.Idx → EReal := fun i => f (i 0) (i 2)
def colH (f : Fin 4 → Fin 64 → EReal) : S4x64x1.Idx → EReal := fun i => f (i 0) (i 1)
/-- The vectors and matrices of all the times. -/
def vecs (f : ℕ → Fin 4 → Fin 64 → EReal) : S2048x4x64.Idx → EReal := fun i => f (i 0).val (i 1) (i 2)
def mats (f : ℕ → Fin 4 → Fin 64 → Fin 64 → EReal) : S2048x4x64x64.Idx → EReal := fun i => f (i 0).val (i 1) (i 2) (i 3)
/-- One time's vector and matrix. -/
def vec1 (f : Fin 4 → Fin 64 → EReal) : S1x4x64.Idx → EReal := fun i => f (i 1) (i 2)
def mat1 (f : Fin 4 → Fin 64 → Fin 64 → EReal) : S1x4x64x64.Idx → EReal := fun i => f (i 1) (i 2) (i 3)

/-- A word in an array of no axes. -/
def word (n : ℕ) : S_.Idx → BitVec 32 := fun _ => BitVec.ofNat 32 n

theorem word_toInt (n : ℕ) (h : n < 2048) (i : S_.Idx) : (word n i).toInt = (n : Int) := by
  exact WordCmp.toInt_ofNat_of_lt (w := 32) (by omega)

theorem index_vec (f : ℕ → Fin 4 → Fin 64 → EReal) (k : ℕ) (hk : k < 2048) (h : S2048x4x64.Slices (fun _ => 0) S1x4x64) (hc : S1x4x64.ShapeCasts S4x64) :
    shapeCast S4x64 (Host.dynamicSlice S1x4x64 (vecs f) (fun q => ((![word k, word 0, word 0] : Fin 3 → S_.Idx → BitVec 32) q (Shape.Idx.first h_S_)).toInt) h) hc = vecH (f k) := by
  funext y
  obtain ⟨g, j, rfl⟩ : ∃ g j, y = ix2 g j := ⟨y 0, y 1, eq_ix2 y⟩
  rw [shapeCast_apply (k := ix3 0 g j) (hk := by rw [Shape.rowMajor_val_three, Shape.rowMajor_val_two]; show ((0 : Fin 1).val * 4 + g.val) * 64 + j.val = g.val * 64 + j.val; omega)]
  refine (slice_at (vecs f) _ h ![k, 0, 0] ?_ ?_ (ix3 0 g j) (ix3 ⟨k, hk⟩ g j) ?_).trans rfl
  · refine ⟨rfl, fun a => ?_⟩
    match a with
    | 0 => show k + 1 ≤ 2048; omega
    | 1 => exact Nat.le_refl 4
    | 2 => exact Nat.le_refl 64
  · intro a
    match a with
    | 0 => exact word_toInt k hk (Shape.Idx.first h_S_)
    | 1 => exact word_toInt 0 (by decide) (Shape.Idx.first h_S_)
    | 2 => exact word_toInt 0 (by decide) (Shape.Idx.first h_S_)
  · intro a
    match a with
    | 0 => rfl
    | 1 => exact (Nat.zero_add _).symm
    | 2 => exact (Nat.zero_add _).symm

theorem put_vec (f : ℕ → Fin 4 → Fin 64 → EReal) (k : ℕ) (hk : k < 2048) (h : S2048x4x64.Slices (fun _ => 0) S1x4x64) (X : S2048x4x64.Idx → EReal)
    (hX : ∀ i, (i 0).val < k → X i = vecs f i) (i : S2048x4x64.Idx) (hi : (i 0).val < k + 1) :
    Host.dynamicUpdateSlice X (vec1 (f k)) (fun q => ((![word k, word 0, word 0] : Fin 3 → S_.Idx → BitVec 32) q (Shape.Idx.first h_S_)).toInt) h i = vecs f i := by
  refine update_rows (vecs f) X (vec1 (f k)) _ h ![k, 0, 0] ?_ ?_ 0 rfl ?_ hX ?_ i hi
  · refine ⟨rfl, fun a => ?_⟩
    match a with
    | 0 => show k + 1 ≤ 2048; omega
    | 1 => exact Nat.le_refl 4
    | 2 => exact Nat.le_refl 64
  · intro a
    match a with
    | 0 => exact word_toInt k hk (Shape.Idx.first h_S_)
    | 1 => exact word_toInt 0 (by decide) (Shape.Idx.first h_S_)
    | 2 => exact word_toInt 0 (by decide) (Shape.Idx.first h_S_)
  · intro a ha
    match a with
    | 0 => exact absurd rfl ha
    | 1 => exact ⟨rfl, rfl⟩
    | 2 => exact ⟨rfl, rfl⟩
  · intro i hb (e : (i 0).val = k)
    show f k (i 1) (i 2) = f (i 0).val (i 1) (i 2)
    rw [e]

theorem put_mat (f : ℕ → Fin 4 → Fin 64 → Fin 64 → EReal) (k : ℕ) (hk : k < 2048) (h : S2048x4x64x64.Slices (fun _ => 0) S1x4x64x64)
    (X : S2048x4x64x64.Idx → EReal) (hX : ∀ i, (i 0).val < k → X i = mats f i) (i : S2048x4x64x64.Idx) (hi : (i 0).val < k + 1) :
    Host.dynamicUpdateSlice X (mat1 (f k)) (fun q => ((![word k, word 0, word 0, word 0] : Fin 4 → S_.Idx → BitVec 32) q (Shape.Idx.first h_S_)).toInt) h i = mats f i := by
  refine update_rows (mats f) X (mat1 (f k)) _ h ![k, 0, 0, 0] ?_ ?_ 0 rfl ?_ hX ?_ i hi
  · refine ⟨rfl, fun a => ?_⟩
    match a with
    | 0 => show k + 1 ≤ 2048; omega
    | 1 => exact Nat.le_refl 4
    | 2 => exact Nat.le_refl 64
    | 3 => exact Nat.le_refl 64
  · intro a
    match a with
    | 0 => exact word_toInt k hk (Shape.Idx.first h_S_)
    | 1 => exact word_toInt 0 (by decide) (Shape.Idx.first h_S_)
    | 2 => exact word_toInt 0 (by decide) (Shape.Idx.first h_S_)
    | 3 => exact word_toInt 0 (by decide) (Shape.Idx.first h_S_)
  · intro a ha
    match a with
    | 0 => exact absurd rfl ha
    | 1 => exact ⟨rfl, rfl⟩
    | 2 => exact ⟨rfl, rfl⟩
    | 3 => exact ⟨rfl, rfl⟩
  · intro i hb (e : (i 0).val = k)
    show f k (i 1) (i 2) (i 3) = f (i 0).val (i 1) (i 2) (i 3)
    rw [e]

theorem sum_lanes (f : Fin 4 → Fin 64 → Fin 64 → EReal) :
    Host.reduceAdd (φ := .f32) (matH f) (constant (F := Ideal) S_ .f32 0x00000000#32) reducesTo_S4x64x64_S4x64_d2 h_S_ = vecH (fun h i => ∑ j, f h i j) := by
  funext y
  refine (Ideal.hostReduceAdd_r3_a2 _ _ _ _).trans ?_
  show Ideal.ofBits .f32 0x00000000#32 + _ = _
  rw [Ideal.ofBits_zero_f32, zero_add]
  rfl

/-- What the loop's carried values hold before trip `n`. -/
structure LoopAt (I : Ins) (n : ℕ) (V : Valuation τ sig (Elt Ideal)) : Prop where
  w : (V main_v8_0 : S2048x4x64.Idx → EReal) = vecs I.w
  k : (V main_v8_1 : S2048x4x64.Idx → EReal) = vecs I.k
  v : (V main_v8_2 : S2048x4x64.Idx → EReal) = vecs I.v
  a : (V main_v8_3 : S2048x4x64.Idx → EReal) = vecs I.a
  b : (V main_v8_4 : S2048x4x64.Idx → EReal) = vecs I.b
  ctr : (V main_v8_5 : S_.Idx → BitVec 32) = word n
  st : (V main_v8_6 : S4x64x64.Idx → EReal) = matH (I.S n)
  ss : ∀ i, (i 0).val < n → (V main_v8_7 : S2048x4x64x64.Idx → EReal) i = mats I.S i
  sv : ∀ i, (i 0).val < n → (V main_v8_8 : S2048x4x64.Idx → EReal) i = vecs I.sa i

theorem work_map : Writes (workOps (F := Ideal)) workW := rfl
theorem last_map : Writes (while0Ops0_8 (F := Ideal)) lastW := rfl
theorem cond_map : Writes (condOps (F := Ideal)) condW := rfl

variable {I : Ins} {n : ℕ} {V : Valuation τ sig (Elt Ideal)}

section Work

variable (H : LoopAt I n V) (hk : n < 2048)
include H hk

namespace LoopAt

theorem ctr_w : (after workOps V main_v8_5 : S_.Idx → BitVec 32) = word n :=
  (work_map.of (by decide +kernel) V).trans H.ctr
theorem xw : (after workOps V main_v8_0 : S2048x4x64.Idx → EReal) = vecs I.w :=
  (work_map.of (by decide +kernel) V).trans H.w
theorem c0 : (after workOps V main_while0b_call0_c : S_.Idx → BitVec 32) = word 0 :=
  val0 work_map 0 rfl (by decide +kernel) rfl
theorem d0 : (after workOps V main_while0b_call0_c_0 : S_.Idx → BitVec 32) = word 0 :=
  val0 work_map 1 rfl (by decide +kernel) rfl
theorem e0 : (after workOps V main_while0b_v21 : S4x64.Idx → EReal) = vecH (I.w n) :=
  valR work_map 3 rfl (by decide +kernel) (by decide +kernel) (val1I work_map 2 rfl (by decide +kernel) (by decide +kernel) (by decide +kernel) (xw H hk)
    (z := ![word n, word 0, word 0]) (fun q => match q with | 0 => heq_of_eq (ctr_w H hk) | 1 => heq_of_eq (c0 H hk) | 2 => heq_of_eq (d0 H hk)) rfl)
    (index_vec I.w n hk sliceFits_S2048x4x64_S1x4x64 shapeCasts_S1x4x64_S4x64)
theorem xk : (after workOps V main_v8_1 : S2048x4x64.Idx → EReal) = vecs I.k :=
  (work_map.of (by decide +kernel) V).trans H.k
theorem c1 : (after workOps V main_while0b_call1_c : S_.Idx → BitVec 32) = word 0 :=
  val0 work_map 4 rfl (by decide +kernel) rfl
theorem d1 : (after workOps V main_while0b_call1_c_0 : S_.Idx → BitVec 32) = word 0 :=
  val0 work_map 5 rfl (by decide +kernel) rfl
theorem e1 : (after workOps V main_while0b_v22 : S4x64.Idx → EReal) = vecH (I.k n) :=
  valR work_map 7 rfl (by decide +kernel) (by decide +kernel) (val1I work_map 6 rfl (by decide +kernel) (by decide +kernel) (by decide +kernel) (xk H hk)
    (z := ![word n, word 0, word 0]) (fun q => match q with | 0 => heq_of_eq (ctr_w H hk) | 1 => heq_of_eq (c1 H hk) | 2 => heq_of_eq (d1 H hk)) rfl)
    (index_vec I.k n hk sliceFits_S2048x4x64_S1x4x64 shapeCasts_S1x4x64_S4x64)
theorem xv : (after workOps V main_v8_2 : S2048x4x64.Idx → EReal) = vecs I.v :=
  (work_map.of (by decide +kernel) V).trans H.v
theorem c2 : (after workOps V main_while0b_call2_c : S_.Idx → BitVec 32) = word 0 :=
  val0 work_map 8 rfl (by decide +kernel) rfl
theorem d2 : (after workOps V main_while0b_call2_c_0 : S_.Idx → BitVec 32) = word 0 :=
  val0 work_map 9 rfl (by decide +kernel) rfl
theorem e2 : (after workOps V main_while0b_v23 : S4x64.Idx → EReal) = vecH (I.v n) :=
  valR work_map 11 rfl (by decide +kernel) (by decide +kernel) (val1I work_map 10 rfl (by decide +kernel) (by decide +kernel) (by decide +kernel) (xv H hk)
    (z := ![word n, word 0, word 0]) (fun q => match q with | 0 => heq_of_eq (ctr_w H hk) | 1 => heq_of_eq (c2 H hk) | 2 => heq_of_eq (d2 H hk)) rfl)
    (index_vec I.v n hk sliceFits_S2048x4x64_S1x4x64 shapeCasts_S1x4x64_S4x64)
theorem xa : (after workOps V main_v8_3 : S2048x4x64.Idx → EReal) = vecs I.a :=
  (work_map.of (by decide +kernel) V).trans H.a
theorem c3 : (after workOps V main_while0b_call3_c : S_.Idx → BitVec 32) = word 0 :=
  val0 work_map 12 rfl (by decide +kernel) rfl
theorem d3 : (after workOps V main_while0b_call3_c_0 : S_.Idx → BitVec 32) = word 0 :=
  val0 work_map 13 rfl (by decide +kernel) rfl
theorem e3 : (after workOps V main_while0b_v24 : S4x64.Idx → EReal) = vecH (I.a n) :=
  valR work_map 15 rfl (by decide +kernel) (by decide +kernel) (val1I work_map 14 rfl (by decide +kernel) (by decide +kernel) (by decide +kernel) (xa H hk)
    (z := ![word n, word 0, word 0]) (fun q => match q with | 0 => heq_of_eq (ctr_w H hk) | 1 => heq_of_eq (c3 H hk) | 2 => heq_of_eq (d3 H hk)) rfl)
    (index_vec I.a n hk sliceFits_S2048x4x64_S1x4x64 shapeCasts_S1x4x64_S4x64)
theorem xb : (after workOps V main_v8_4 : S2048x4x64.Idx → EReal) = vecs I.b :=
  (work_map.of (by decide +kernel) V).trans H.b
theorem c4 : (after workOps V main_while0b_call4_c : S_.Idx → BitVec 32) = word 0 :=
  val0 work_map 16 rfl (by decide +kernel) rfl
theorem d4 : (after workOps V main_while0b_call4_c_0 : S_.Idx → BitVec 32) = word 0 :=
  val0 work_map 17 rfl (by decide +kernel) rfl
theorem e4 : (after workOps V main_while0b_v25 : S4x64.Idx → EReal) = vecH (I.b n) :=
  valR work_map 19 rfl (by decide +kernel) (by decide +kernel) (val1I work_map 18 rfl (by decide +kernel) (by decide +kernel) (by decide +kernel) (xb H hk)
    (z := ![word n, word 0, word 0]) (fun q => match q with | 0 => heq_of_eq (ctr_w H hk) | 1 => heq_of_eq (c4 H hk) | 2 => heq_of_eq (d4 H hk)) rfl)
    (index_vec I.b n hk sliceFits_S2048x4x64_S1x4x64 shapeCasts_S1x4x64_S4x64)
theorem s_w : (after workOps V main_v8_6 : S4x64x64.Idx → EReal) = matH (I.S n) :=
  (work_map.of (by decide +kernel) V).trans H.st
theorem e26 : (after workOps V main_while0b_v26 : S4x1x64.Idx → EReal) = rowH (I.a n) :=
  val1 work_map 20 rfl (by decide +kernel) (by decide +kernel) (e3 H hk) (rfl)
theorem e27 : (after workOps V main_while0b_v27 : S4x64x64.Idx → EReal) = matH (fun h _ j => I.a n h j) :=
  val1 work_map 21 rfl (by decide +kernel) (by decide +kernel) (e26 H hk) (rfl)
theorem e28 : (after workOps V main_while0b_v28 : S4x64x64.Idx → EReal) = matH (fun h i j => I.S n h i j * I.a n h j) :=
  val2 work_map 22 rfl (by decide +kernel) (by decide +kernel) (by decide +kernel) (s_w H hk) (e27 H hk) (rfl)
theorem z11 : (after workOps V main_while0b_cst_11 : S_.Idx → EReal) = constant (F := Ideal) S_ .f32 0x00000000#32 :=
  val0 work_map 23 rfl (by decide +kernel) rfl
theorem e29 : (after workOps V main_while0b_v29 : S4x64.Idx → EReal) = vecH (I.sa n) :=
  val2 work_map 24 rfl (by decide +kernel) (by decide +kernel) (by decide +kernel) (e28 H hk) (z11 H hk) (sum_lanes _)
theorem e30 : (after workOps V main_while0b_v30 : S4x1x64.Idx → EReal) = rowH (I.w n) :=
  val1 work_map 25 rfl (by decide +kernel) (by decide +kernel) (e0 H hk) (rfl)
theorem e31 : (after workOps V main_while0b_v31 : S4x64x64.Idx → EReal) = matH (fun h _ j => I.w n h j) :=
  val1 work_map 26 rfl (by decide +kernel) (by decide +kernel) (e30 H hk) (rfl)
theorem e32 : (after workOps V main_while0b_v32 : S4x64x64.Idx → EReal) = matH (fun h i j => I.S n h i j * I.w n h j) :=
  val2 work_map 27 rfl (by decide +kernel) (by decide +kernel) (by decide +kernel) (s_w H hk) (e31 H hk) (rfl)
theorem e33 : (after workOps V main_while0b_v33 : S4x64x1.Idx → EReal) = colH (I.sa n) :=
  val1 work_map 28 rfl (by decide +kernel) (by decide +kernel) (e29 H hk) (rfl)
theorem e34 : (after workOps V main_while0b_v34 : S4x1x64.Idx → EReal) = rowH (I.b n) :=
  val1 work_map 29 rfl (by decide +kernel) (by decide +kernel) (e4 H hk) (rfl)
theorem e35 : (after workOps V main_while0b_v35 : S4x64x64.Idx → EReal) = matH (fun h i _ => I.sa n h i) :=
  val1 work_map 30 rfl (by decide +kernel) (by decide +kernel) (e33 H hk) (rfl)
theorem e36 : (after workOps V main_while0b_v36 : S4x64x64.Idx → EReal) = matH (fun h _ j => I.b n h j) :=
  val1 work_map 31 rfl (by decide +kernel) (by decide +kernel) (e34 H hk) (rfl)
theorem e37 : (after workOps V main_while0b_v37 : S4x64x64.Idx → EReal) = matH (fun h i j => I.sa n h i * I.b n h j) :=
  val2 work_map 32 rfl (by decide +kernel) (by decide +kernel) (by decide +kernel) (e35 H hk) (e36 H hk) (rfl)
theorem e38 : (after workOps V main_while0b_v38 : S4x64x64.Idx → EReal) = matH (fun h i j => I.S n h i j * I.w n h j + I.sa n h i * I.b n h j) :=
  val2 work_map 33 rfl (by decide +kernel) (by decide +kernel) (by decide +kernel) (e32 H hk) (e37 H hk) (rfl)
theorem e39 : (after workOps V main_while0b_v39 : S4x64x1.Idx → EReal) = colH (I.v n) :=
  val1 work_map 34 rfl (by decide +kernel) (by decide +kernel) (e2 H hk) (rfl)
theorem e40 : (after workOps V main_while0b_v40 : S4x1x64.Idx → EReal) = rowH (I.k n) :=
  val1 work_map 35 rfl (by decide +kernel) (by decide +kernel) (e1 H hk) (rfl)
theorem e41 : (after workOps V main_while0b_v41 : S4x64x64.Idx → EReal) = matH (fun h i _ => I.v n h i) :=
  val1 work_map 36 rfl (by decide +kernel) (by decide +kernel) (e39 H hk) (rfl)
theorem e42 : (after workOps V main_while0b_v42 : S4x64x64.Idx → EReal) = matH (fun h _ j => I.k n h j) :=
  val1 work_map 37 rfl (by decide +kernel) (by decide +kernel) (e40 H hk) (rfl)
theorem e43 : (after workOps V main_while0b_v43 : S4x64x64.Idx → EReal) = matH (fun h i j => I.v n h i * I.k n h j) :=
  val2 work_map 38 rfl (by decide +kernel) (by decide +kernel) (by decide +kernel) (e41 H hk) (e42 H hk) (rfl)
theorem e44 : (after workOps V main_while0b_v44 : S4x64x64.Idx → EReal) = matH (I.S (n + 1)) :=
  val2 work_map 39 rfl (by decide +kernel) (by decide +kernel) (by decide +kernel) (e38 H hk) (e43 H hk) (rfl)
theorem u5 : (after workOps V main_while0b_call5_v0 : S1x4x64x64.Idx → EReal) = mat1 (I.S n) :=
  val1 work_map 40 rfl (by decide +kernel) (by decide +kernel) (s_w H hk) (rfl)
theorem a50 : (after workOps V main_while0b_call5_c : S_.Idx → BitVec 32) = word 0 :=
  val0 work_map 41 rfl (by decide +kernel) rfl
theorem a51 : (after workOps V main_while0b_call5_c_0 : S_.Idx → BitVec 32) = word 0 :=
  val0 work_map 42 rfl (by decide +kernel) rfl
theorem a52 : (after workOps V main_while0b_call5_c_1 : S_.Idx → BitVec 32) = word 0 :=
  val0 work_map 43 rfl (by decide +kernel) rfl
theorem u6 : (after workOps V main_while0b_call6_v0 : S1x4x64.Idx → EReal) = vec1 (I.sa n) :=
  val1 work_map 45 rfl (by decide +kernel) (by decide +kernel) (e29 H hk) (rfl)
theorem a60 : (after workOps V main_while0b_call6_c : S_.Idx → BitVec 32) = word 0 :=
  val0 work_map 46 rfl (by decide +kernel) rfl
theorem a61 : (after workOps V main_while0b_call6_c_0 : S_.Idx → BitVec 32) = word 0 :=
  val0 work_map 47 rfl (by decide +kernel) rfl
theorem ss_w (i : S2048x4x64x64.Idx) (hi : (i 0).val < n + 1) : (after workOps V main_while0b_v45 : S2048x4x64x64.Idx → EReal) i = mats I.S i :=
  (congrFun (val2I work_map 44 rfl (by decide +kernel) (by decide +kernel) (by decide +kernel) (by decide +kernel) (work_map.of (by decide +kernel) V) (u5 H hk)
    (z := ![word n, word 0, word 0, word 0]) (fun q => match q with | 0 => heq_of_eq (ctr_w H hk) | 1 => heq_of_eq (a50 H hk) | 2 => heq_of_eq (a51 H hk) | 3 => heq_of_eq (a52 H hk)) rfl) i).trans
    (put_mat I.S n hk updateFits_S2048x4x64x64_S1x4x64x64 _ H.ss i hi)
theorem sv_w (i : S2048x4x64.Idx) (hi : (i 0).val < n + 1) : (after workOps V main_while0b_v46 : S2048x4x64.Idx → EReal) i = vecs I.sa i :=
  (congrFun (val2I work_map 48 rfl (by decide +kernel) (by decide +kernel) (by decide +kernel) (by decide +kernel) (work_map.of (by decide +kernel) V) (u6 H hk)
    (z := ![word n, word 0, word 0]) (fun q => match q with | 0 => heq_of_eq (ctr_w H hk) | 1 => heq_of_eq (a60 H hk) | 2 => heq_of_eq (a61 H hk)) rfl) i).trans
    (put_vec I.sa n hk updateFits_S2048x4x64_S1x4x64 _ H.sv i hi)

/-- One pass of the body takes the carried values of trip `n` to those of trip `n + 1`. -/
theorem step : LoopAt I (n + 1) (afterL bodyI V) := by
  rw [afterL_bodyI]
  exact {
    w := (last_map.of (by decide +kernel) _).trans (xw H hk)
    k := (last_map.of (by decide +kernel) _).trans (xk H hk)
    v := (last_map.of (by decide +kernel) _).trans (xv H hk)
    a := (last_map.of (by decide +kernel) _).trans (xa H hk)
    b := (last_map.of (by decide +kernel) _).trans (xb H hk)
    ctr := by
      refine (last_counter _).trans ?_
      rw [show (after workOps V main_v8_5 : S_.Idx → BitVec 32) = word n from (ctr_w H hk)]
      funext i
      show BitVec.ofNat 32 n + 1#32 = BitVec.ofNat 32 (n + 1)
      rw [BitVec.ofNat_add]
    st := val1 last_map 3 rfl (by decide +kernel) (by decide +kernel) ((last_map.of (by decide +kernel) _).trans (e44 H hk)) rfl
    ss := fun i hi => (congrFun (val1 last_map 4 rfl (by decide +kernel) (by decide +kernel) (last_map.of (by decide +kernel) _) rfl) i).trans (ss_w H hk i hi)
    sv := fun i hi => (congrFun (val1 last_map 5 rfl (by decide +kernel) (by decide +kernel) (last_map.of (by decide +kernel) _) rfl) i).trans (sv_w H hk i hi) }

end LoopAt

end Work

theorem LoopAt.cond (H : LoopAt I n V) : LoopAt I n (after condOps V) where
  w := (cond_map.of (by decide +kernel) V).trans H.w
  k := (cond_map.of (by decide +kernel) V).trans H.k
  v := (cond_map.of (by decide +kernel) V).trans H.v
  a := (cond_map.of (by decide +kernel) V).trans H.a
  b := (cond_map.of (by decide +kernel) V).trans H.b
  ctr := (cond_map.of (by decide +kernel) V).trans H.ctr
  st := (cond_map.of (by decide +kernel) V).trans H.st
  ss := fun i hi => (congrFun (cond_map.of (by decide +kernel) V) i).trans (H.ss i hi)
  sv := fun i hi => (congrFun (cond_map.of (by decide +kernel) V) i).trans (H.sv i hi)

/-- The carried values before trip `n`, from those before the first. -/
theorem LoopAt.trips {W₀ : Dev nD → Valuation τ sig (Elt Ideal)} {c : Dev nD} (H : LoopAt I 0 (W₀ c)) (n : ℕ) (hn : n ≤ 2048) :
    LoopAt I n (atTrip condOps bodyI W₀ n c) := by
  induction n with
  | zero => exact H
  | succ n ih =>
    rw [StableHlo.atTrip_succ]
    exact (ih (by omega)).cond.step (by omega)

end Cert.KernelIdeal.Scan
-- ==== Proof.Sums.lean ====
/- The kernel's layout operations and sums read at an index, over the extended reals. A matrix's columns are the heads' lanes in order. -/
module

public import proofs.«01_k».proof.Proof.Step
public import proofs.«01_k».proof.Proof.Model
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

set_option maxRecDepth 16384

noncomputable section

namespace Cert.KernelIdeal.Scan

open Idealize.ShloMosaic Idealize.ShloMosaic.TcCoe Idealize.ShloMosaic.ValueIdx
open Cert.KernelIdeal.Gen Cert.Scan

/-- Head `h`'s lane `j` among the columns. -/
def col (h : Fin 4) (j : Fin 64) : Fin 256 := ⟨64 * h.val + j.val, by omega⟩

theorem exists_col (q : Fin 256) : ∃ h j, q = col h j :=
  ⟨⟨q.val / 64, by omega⟩, ⟨q.val % 64, by omega⟩, Fin.ext (by show q.val = 64 * (q.val / 64) + q.val % 64; omega)⟩

theorem wide_apply (v : Vec Ideal S1x1x256 .f32) (i : Fin 64) (q : Fin 256) : wide v (ix2 i q) = v (ix3 0 0 q) := by
  unfold wide
  rw [broadcastTo_apply (k := ix2 0 q) (hk := fun a => by fin_cases a <;> rfl),
    shapeCast_apply (k := ix3 0 0 q)]
  rw [Shape.rowMajor_val_three, Shape.rowMajor_val_two]; rfl

theorem mat_apply (v : Vec Ideal S1x64x256 .f32) (i : Fin 64) (q : Fin 256) : mat v (ix2 i q) = v (ix3 0 i q) := by
  unfold mat
  rw [shapeCast_apply (k := ix3 0 i q)]
  rw [Shape.rowMajor_val_three, Shape.rowMajor_val_two]
  show (0 * 64 + i.val) * 256 + q.val = i.val * 256 + q.val
  omega

theorem colSum_apply (x : FVec Ideal S64x256 .f32) (q : Fin 256) : colSum x (ix3 0 0 q) = ∑ i : Fin 64, x (ix2 i q) := by
  unfold colSum
  rw [shapeCast_apply (k := ix2 0 q) (hk := by rw [Shape.rowMajor_val_three, Shape.rowMajor_val_two]; rfl),
    shapeCast_apply (k := ix1 q) (hk := by rw [Shape.rowMajor_val_one, Shape.rowMajor_val_two]; show q.val = 0 * 256 + q.val; omega)]
  refine (Ideal.multiReduction_add_single x _ _ _ _ _).trans ?_
  refine Finset.sum_congr rfl (fun l _ => congrArg x (funext fun a => ?_))
  fin_cases a <;> rfl

theorem laneSum_apply (x : FVec Ideal S64x128 .f32) (i : Fin 64) (l : Fin 128) : laneSum x (ix2 i l) = ∑ p : Fin 128, x (ix2 i p) := by
  unfold laneSum
  rw [broadcastTo_apply (k := ix2 i 0) (hk := fun a => by fin_cases a <;> rfl), shapeCast_self,
    shapeCast_apply (k := ix1 i) (hk := by rw [Shape.rowMajor_val_one, Shape.rowMajor_val_two]; show i.val = i.val * 1 + 0; omega)]
  refine (Ideal.multiReduction_add_single x _ _ _ _ _).trans ?_
  refine Finset.sum_congr rfl (fun l _ => congrArg x (funext fun a => ?_))
  fin_cases a <;> rfl

theorem lowMask_apply (i : Fin 64) (l : Fin 128) : lowMask (ix2 i l) = if l.val < 64 then 1#1 else 0#1 := by
  unfold lowMask
  rw [broadcastTo_apply (k := ix2 0 l) (hk := fun a => by fin_cases a <;> rfl), shapeCast_self]
  simp only [cmpi, broadcast]
  rw [iota_single_apply]
  exact (by decide : ∀ l : Fin 128, IntOp.cmpi .slt (BitVec.ofNat 32 l.val) 64#32 = if l.val < 64 then 1#1 else 0#1) l

theorem lowPart_apply (x : FVec Ideal S64x128 .f32) (i : Fin 64) (l : Fin 128) :
    lowPart x (ix2 i l) = if l.val < 64 then x (ix2 i l) else 0 := by
  unfold lowPart
  show (if lowMask (ix2 i l) = 1#1 then x (ix2 i l) else Ideal.ofBits .f32 0x00000000#32) = _
  rw [lowMask_apply, Ideal.ofBits_zero_f32]
  by_cases h : l.val < 64 <;> simp [h]

/-- A sum over a tile's lanes as the sums over its two heads'. -/
theorem sum_halves (f : Fin 128 → EReal) : ∑ p : Fin 128, f p = ∑ j : Fin 64, f ⟨j.val, by omega⟩ + ∑ j : Fin 64, f ⟨64 + j.val, by omega⟩ :=
  Fin.sum_univ_add (a := 64) (b := 64) f

theorem tileSum_low (x : FVec Ideal S64x128 .f32) (i : Fin 64) (l : Fin 128) (hl : l.val < 64) :
    tileSum x (ix2 i l) = ∑ j : Fin 64, x (ix2 i ⟨j.val, by omega⟩) := by
  unfold tileSum
  show (if lowMask (ix2 i l) = 1#1 then laneSum (lowPart x) (ix2 i l) else _) = _
  rw [lowMask_apply, if_pos hl, if_pos rfl, laneSum_apply, sum_halves]
  simp only [lowPart_apply]
  rw [Finset.sum_congr rfl (fun j _ => if_pos j.isLt),
    Finset.sum_eq_zero (s := Finset.univ) (f := fun j : Fin 64 => if 64 + j.val < 64 then x (ix2 i ⟨64 + j.val, by omega⟩) else 0)
      (fun j _ => if_neg (by omega)), add_zero]

theorem tileSum_high (x : FVec Ideal S64x128 .f32) (i : Fin 64) (hx : ∀ p, IsReal (x (ix2 i p))) (l : Fin 128) (hl : ¬ l.val < 64) :
    tileSum x (ix2 i l) = ∑ j : Fin 64, x (ix2 i ⟨64 + j.val, by omega⟩) := by
  unfold tileSum
  show (if lowMask (ix2 i l) = 1#1 then _ else laneSum (subf x (lowPart x)) (ix2 i l)) = _
  rw [lowMask_apply, if_neg hl, if_neg (by decide), laneSum_apply, sum_halves]
  simp only [subf_apply, lowPart_apply]
  rw [Finset.sum_eq_zero (s := Finset.univ)
      (f := fun j : Fin 64 => x (ix2 i ⟨j.val, by omega⟩) - if j.val < 64 then x (ix2 i ⟨j.val, by omega⟩) else 0)
      (fun j _ => by rw [if_pos j.isLt]; exact (hx _).sub_self), zero_add]
  refine Finset.sum_congr rfl fun j _ => ?_
  rw [if_neg (by omega), sub_zero]

/-- A row's sum over a head's lanes, of a row of real numbers. -/
theorem rowSum_apply (x : FVec Ideal S64x256 .f32) (i : Fin 64) (hx : ∀ q, IsReal (x (ix2 i q))) (h : Fin 4) (j : Fin 64) :
    rowSum x (ix2 i (col h j)) = ∑ l : Fin 64, x (ix2 i (col h l)) := by
  have e0 : ∀ p : Fin 128, extractStridedSlice S64x128 ![0, 0] x slices_S64x256_o0_0_S64x128 (ix2 i p) = x (ix2 i ⟨p.val, by omega⟩) := fun p =>
    extractStridedSlice_apply _ _ _ _ _ fun a => by
      fin_cases a
      · show i.val = 0 + i.val; omega
      · show p.val = 0 + p.val; omega
  have e1 : ∀ p : Fin 128, extractStridedSlice S64x128 ![0, 128] x slices_S64x256_o0_128_S64x128 (ix2 i p) = x (ix2 i ⟨128 + p.val, by omega⟩) := fun p =>
    extractStridedSlice_apply _ _ _ _ _ fun a => by
      fin_cases a
      · show i.val = 0 + i.val; omega
      · show 128 + p.val = 128 + p.val; rfl
  have hv : (col h j).val = 64 * h.val + j.val := rfl
  unfold rowSum
  by_cases hq : (col h j).val < 128
  · refine (concatenate_pair_apply_left (t := S64x256) (s₁ := S64x128) (s₂ := S64x128) 1 _ _ _ _ rfl (ix2 i ⟨(col h j).val, hq⟩) (fun b => by fin_cases b <;> rfl)).trans ?_
    by_cases hl : (col h j).val < 64
    · rw [tileSum_low _ _ _ hl]
      refine Finset.sum_congr rfl fun l _ => ?_
      rw [e0]; refine congrArg x (congrArg (ix2 i) (Fin.ext ?_)); show l.val = 64 * h.val + l.val; omega
    · rw [tileSum_high _ _ (fun p => by rw [e0]; exact hx _) _ hl]
      refine Finset.sum_congr rfl fun l _ => ?_
      rw [e0]; refine congrArg x (congrArg (ix2 i) (Fin.ext ?_)); show 64 + l.val = 64 * h.val + l.val; omega
  · refine (concatenate_pair_apply_right (t := S64x256) (s₁ := S64x128) (s₂ := S64x128) 1 _ _ _ _ rfl rfl (ix2 i ⟨(col h j).val - 128, by omega⟩)
      (fun b hb => by fin_cases b; rfl; exact absurd rfl hb) (by show (col h j).val - 128 + 128 = (col h j).val; omega)).trans ?_
    by_cases hl : (col h j).val - 128 < 64
    · rw [tileSum_low _ _ _ hl]
      refine Finset.sum_congr rfl fun l _ => ?_
      rw [e1]; refine congrArg x (congrArg (ix2 i) (Fin.ext ?_)); show 128 + l.val = 64 * h.val + l.val; omega
    · rw [tileSum_high _ _ (fun p => by rw [e1]; exact hx _) _ hl]
      refine Finset.sum_congr rfl fun l _ => ?_
      rw [e1]; refine congrArg x (congrArg (ix2 i) (Fin.ext ?_)); show 128 + (64 + l.val) = 64 * h.val + l.val; omega

end Cert.KernelIdeal.Scan

end
-- ==== Proof.StepValue.lean ====
/- One backward step of the kernel computes the gradient's formulas, from finite inputs. -/
module

public import proofs.«01_k».proof.Proof.Sums

@[expose] public section

set_option maxRecDepth 16384

noncomputable section

namespace Cert.KernelIdeal.Scan

open Idealize.ShloMosaic Idealize.ShloMosaic.TcCoe Idealize.ShloMosaic.ValueIdx
open Cert.KernelIdeal.Gen Cert.Scan

/-- A row vector holds `f`, head by head. -/
def IsRow (v : Vec Ideal S1x1x256 .f32) (f : Fin 4 → Fin 64 → EReal) : Prop := ∀ h j, v (ix3 0 0 (col h j)) = f h j
/-- A matrix holds `f`: value lanes down, each head's key lanes across. -/
def IsMat (x : FVec Ideal S64x256 .f32) (f : Fin 4 → Fin 64 → Fin 64 → EReal) : Prop := ∀ h i j, x (ix2 i (col h j)) = f h i j
/-- A matrix holds one number per head and value lane, in each of the head's key lanes. -/
def IsCol (x : FVec Ideal S64x256 .f32) (f : Fin 4 → Fin 64 → EReal) : Prop := ∀ h i j, x (ix2 i (col h j)) = f h i
/-- The mask of the heads' diagonals. -/
def IsDiag (dg : Vec Ideal S64x256 .f32) : Prop := ∀ h i j, dg (ix2 i (col h j)) = if i = j then 1 else 0

theorem real_of_cols {x : FVec Ideal S64x256 .f32} {i : Fin 64} (h : ∀ g j, IsReal (x (ix2 i (col g j)))) (q : Fin 256) : IsReal (x (ix2 i q)) := by
  obtain ⟨g, j, rfl⟩ := exists_col q; exact h g j

/-- What a step reads at time `t`. -/
structure IsRows (I : Ins) (t : ℕ) (R : Rows Ideal) : Prop where
  r : IsRow R.r (I.r t)
  w : IsRow R.w (I.w t)
  k : IsRow R.k (I.k t)
  a : IsRow R.a (I.a t)
  b : IsRow R.b (I.b t)
  st : IsMat (mat R.st) (I.S t)
  sa : IsCol (mat R.sa) (I.sa t)
  vc : IsCol (mat R.vc) (I.v t)

/-- The carry before the backward step `n`. -/
structure IsCarry (I : Ins) (n : ℕ) (c : Carry Ideal) : Prop where
  g : IsMat c.1 (I.G n)
  y : IsCol c.2 (I.dy (Ins.time n))

theorem wide_of {v : Vec Ideal S1x1x256 .f32} {f} (hv : IsRow v f) (h : Fin 4) (i j : Fin 64) : wide v (ix2 i (col h j)) = f h j := by
  rw [wide_apply, hv]

theorem dyCol_of {dg : Vec Ideal S64x256 .f32} (hd : IsDiag dg) {y : Vec Ideal S1x1x256 .f32} {f} (hy : IsRow y f) (hf : ∀ h j, IsReal (f h j)) :
    IsCol (dyCol dg y) f := by
  intro h i j
  have e : ∀ g l, mulf dg (wide y) (ix2 i (col g l)) = (if i = l then 1 else 0) * f g l := fun g l => by rw [mulf_apply, hd, wide_of hy]
  unfold dyCol
  rw [rowSum_apply _ _ (real_of_cols fun g l => by
    rw [e]; split
    · rw [one_mul]; exact hf g l
    · rw [zero_mul]; exact IsReal.zero)]
  simp only [e, ite_mul, one_mul, zero_mul, Finset.sum_ite_eq, Finset.mem_univ, if_true]

section
variable {I : Ins} (H : I.Finite) {n : ℕ} {R : Rows Ideal} {c : Carry Ideal} {dg : Vec Ideal S64x256 .f32}
  (hd : IsDiag dg) (hR : IsRows I (Ins.time n) R) (hc : IsCarry I n c)
include H hd hR hc

theorem dS_of : IsMat (dS R c) (I.dS n) := fun h i j => by
  unfold dS; rw [addf_apply, mulf_apply, hc.g, hc.y, wide_of hR.r]; rfl

theorem real_dS_mul {x : FVec Ideal S64x256 .f32} {f : Fin 4 → Fin 64 → EReal} (hx : ∀ h i j, x (ix2 i (col h j)) = f h j)
    (hf : ∀ h j, IsReal (f h j)) (i : Fin 64) (q : Fin 256) : IsReal (mulf (dS R c) x (ix2 i q)) :=
  real_of_cols (x := mulf (dS R c) x) (fun h j => by rw [mulf_apply, dS_of H hd hR hc, hx]; exact (H.dS n h i j).mul (hf h j)) q

theorem dSa_of : IsCol (dSa R c) (I.dSa n) := fun h i j => by
  unfold dSa
  rw [rowSum_apply _ _ (real_dS_mul H hd hR hc (wide_of hR.b) (H.b _) i)]
  refine Finset.sum_congr rfl fun l _ => ?_
  rw [mulf_apply, dS_of H hd hR hc, wide_of hR.b]

theorem next_of : IsMat (next dg R c).1 (I.G (n + 1)) := fun h i j => by
  show addf (mulf (dS R c) (wide R.w)) (mulf (dSa R c) (wide R.a)) (ix2 i (col h j)) = _
  rw [addf_apply, mulf_apply, mulf_apply, dS_of H hd hR hc, dSa_of H hd hR hc, wide_of hR.w, wide_of hR.a, I.G_succ]

theorem sNew_of : IsMat (sNew R) (I.S (Ins.time n + 1)) := fun h i j => by
  unfold sNew
  rw [addf_apply, addf_apply, mulf_apply, mulf_apply, mulf_apply, hR.st, hR.sa, hR.vc, wide_of hR.w, wide_of hR.b, wide_of hR.k, I.S_succ]

theorem rowR_of : IsRow (rowR R c) (I.dr n) := fun h j => by
  unfold rowR; rw [colSum_apply]
  exact Finset.sum_congr rfl fun i _ => by rw [mulf_apply, sNew_of H hd hR hc, hc.y]

theorem rowW_of : IsRow (rowW R c) (I.dw n) := fun h j => by
  unfold rowW; rw [colSum_apply]
  exact Finset.sum_congr rfl fun i _ => by rw [mulf_apply, dS_of H hd hR hc, hR.st, mul_comm]

theorem rowK_of : IsRow (rowK R c) (I.dk n) := fun h j => by
  unfold rowK; rw [colSum_apply]
  exact Finset.sum_congr rfl fun i _ => by rw [mulf_apply, dS_of H hd hR hc, hR.vc, mul_comm]

theorem rowV_of : IsRow (rowV dg R c) (I.dv n) := fun h j => by
  unfold rowV; rw [colSum_apply]
  have e : ∀ i, mulf (rowSum (mulf (dS R c) (wide R.k))) dg (ix2 i (col h j)) = if i = j then ∑ l : Fin 64, I.dS n h i l * I.k (Ins.time n) h l else 0 := by
    intro i
    rw [mulf_apply, rowSum_apply _ _ (real_dS_mul H hd hR hc (wide_of hR.k) (H.k _) i), hd]
    simp only [mulf_apply, dS_of H hd hR hc h i, wide_of hR.k, mul_ite, mul_one, mul_zero]
  simp only [e, Finset.sum_ite_eq', Finset.mem_univ, if_true]; rfl

theorem rowA_of : IsRow (rowA R c) (I.da n) := fun h j => by
  unfold rowA; rw [colSum_apply]
  exact Finset.sum_congr rfl fun i _ => by rw [mulf_apply, dSa_of H hd hR hc, hR.st]

theorem rowB_of : IsRow (rowB R c) (I.db n) := fun h j => by
  unfold rowB; rw [colSum_apply]
  exact Finset.sum_congr rfl fun i _ => by rw [mulf_apply, dS_of H hd hR hc, hR.sa, mul_comm]

end

end Cert.KernelIdeal.Scan

end
-- ==== Proof.BlockValue.lean ====
/- A block of 64 times: its steps carry the state's cotangent back and leave the gradients of its times. -/
module

public import proofs.«01_k».proof.Proof.StepValue
public import proofs.«01_k».proof.Proof.Body

@[expose] public section

set_option maxRecDepth 16384

noncomputable section

namespace Cert.KernelIdeal.Scan

open Idealize.ShloMosaic Idealize.ShloMosaic.TcCoe Idealize.ShloMosaic.ValueIdx
open Cert.KernelIdeal.Gen Cert.Scan

/-- The blocks hold the times from `t` on. -/
structure IsBlock (I : Ins) (t : ℕ) (x : Blocks Ideal) : Prop where
  r : ∀ (y : Fin 64) h j, x.r (ix3 y 0 (col h j)) = I.r (t + y.val) h j
  w : ∀ (y : Fin 64) h j, x.w (ix3 y 0 (col h j)) = I.w (t + y.val) h j
  k : ∀ (y : Fin 64) h j, x.k (ix3 y 0 (col h j)) = I.k (t + y.val) h j
  a : ∀ (y : Fin 64) h j, x.a (ix3 y 0 (col h j)) = I.a (t + y.val) h j
  b : ∀ (y : Fin 64) h j, x.b (ix3 y 0 (col h j)) = I.b (t + y.val) h j
  st : ∀ (y : Fin 64) h i j, x.st (ix3 y i (col h j)) = I.S (t + y.val) h i j
  sa : ∀ (y : Fin 64) h i j, x.sa (ix3 y i (col h j)) = I.sa (t + y.val) h i
  vc : ∀ (y : Fin 64) h i j, x.vc (ix3 y i (col h j)) = I.v (t + y.val) h i
  dy : ∀ (y : Fin 64) h j, x.dy (ix3 y 0 (col h j)) = I.dy (t + y.val) h j

theorem off3_eq : ∀ k : Fin k0_t1_loop.trips, ∀ j : Fin 8, k0_off3 k (BitVec.ofNat 32 j.val) = ![63 - (8 * k.val + j.val) - 1, 0, 0] := by decide +kernel

/-- A row of a block lies at its time. -/
theorem ld_row {off : Fin 3 → ℕ} {y : ℕ} (ho : off = ![y, 0, 0]) (hy : y < 64) (inb) (x : Vec Ideal S64x1x256 .f32) (q : Fin 256) :
    (View.ld x (Rect.unit (s := S64x1x256) off S1x1x256.size inb) : Vec Ideal S1x1x256 .f32) (ix3 0 0 q) = x (ix3 ⟨y, hy⟩ 0 q) := by
  subst ho
  refine congrArg x (funext fun d => Fin.ext ?_)
  fin_cases d
  · show y + 1 * 0 = y; omega
  · show 0 + 1 * 0 = 0; omega
  · show 0 + 1 * q.val = q.val; omega

theorem ld_mat {off : Fin 3 → ℕ} {y : ℕ} (ho : off = ![y, 0, 0]) (hy : y < 64) (inb) (x : Vec Ideal S64x64x256 .f32) (i : Fin 64) (q : Fin 256) :
    mat (View.ld x (Rect.unit (s := S64x64x256) off S1x64x256.size inb) : Vec Ideal S1x64x256 .f32) (ix2 i q) = x (ix3 ⟨y, hy⟩ i q) := by
  subst ho
  rw [mat_apply]
  refine congrArg x (funext fun d => Fin.ext ?_)
  fin_cases d
  · show y + 1 * 0 = y; omega
  · show 0 + 1 * i.val = i.val; omega
  · show 0 + 1 * q.val = q.val; omega

theorem step_index (n : ℕ) (hn : n < 64) : 8 * (tripAt n).val + (Fin.ofNat 8 n).val = n := by
  show 8 * (n / 8 % 8) + n % 8 = n; omega

theorem off2_at (n : ℕ) (hn : n < 64) : k0_off2 (tripAt n) (BitVec.ofNat 32 (Fin.ofNat 8 n).val) = ![63 - n, 0, 0] := by
  rw [k0_off2_eq, step_index n hn]
theorem off1_at (n : ℕ) (hn : n < 64) : k0_off1 (tripAt n) (BitVec.ofNat 32 (Fin.ofNat 8 n).val) = ![63 - n, 0, 0] := by
  rw [k0_off1_eq, step_index n hn]
theorem off3_at (n : ℕ) (hn : n < 64) : k0_off3 (tripAt n) (BitVec.ofNat 32 (Fin.ofNat 8 n).val) = ![63 - n - 1, 0, 0] := by
  rw [off3_eq, step_index n hn]

section
variable {I : Ins} {t : ℕ} {x : Blocks Ideal} (hx : IsBlock I t x)
include hx

theorem rows_of (n : ℕ) (hn : n < 64) : IsRows I (t + (63 - n)) (x.at n) where
  r h j := (ld_row (off2_at n hn) (by omega) _ x.r _).trans (hx.r _ h j)
  w h j := (ld_row (off2_at n hn) (by omega) _ x.w _).trans (hx.w _ h j)
  k h j := (ld_row (off2_at n hn) (by omega) _ x.k _).trans (hx.k _ h j)
  a h j := (ld_row (off2_at n hn) (by omega) _ x.a _).trans (hx.a _ h j)
  b h j := (ld_row (off2_at n hn) (by omega) _ x.b _).trans (hx.b _ h j)
  st h i j := (ld_mat (off1_at n hn) (by omega) _ x.st i _).trans (hx.st _ h i j)
  sa h i j := (ld_mat (off1_at n hn) (by omega) _ x.sa i _).trans (hx.sa _ h i j)
  vc h i j := (ld_mat (off1_at n hn) (by omega) _ x.vc i _).trans (hx.vc _ h i j)

theorem dy_of (n : ℕ) (hn : n < 64) : IsRow (x.at n).dy (I.dy (t + (63 - n - 1))) := fun h j =>
  (ld_row (off3_at n hn) (by omega) _ x.dy _).trans (hx.dy _ h j)

end

section
variable {I : Ins} (H : I.Finite) {p : ℕ} (hp : p < 32) {x : Blocks Ideal} (hx : IsBlock I (64 * (31 - p)) x)
  {dg S : Vec Ideal S64x256 .f32} (hd : IsDiag dg) (hS : IsMat S (I.G (64 * p)))
include H hp hx hd hS

theorem rows_time (n : ℕ) (hn : n < 64) : IsRows I (Ins.time (64 * p + n)) (x.at n) := by
  have e : Ins.time (64 * p + n) = 64 * (31 - p) + (63 - n) := by unfold Ins.time; omega
  rw [e]; exact rows_of hx n hn

theorem start_of : IsCarry I (64 * p + 0) (start dg x S) := by
  refine ⟨hS, ?_⟩
  have e : Ins.time (64 * p + 0) = 64 * (31 - p) + 63 := by unfold Ins.time; omega
  rw [e]
  exact dyCol_of hd (fun h j => (ld_row rfl (by omega) _ x.dy _).trans (hx.dy _ h j)) (H.dy _)

theorem carry_of : ∀ n : ℕ, n < 64 → IsCarry I (64 * p + n) (carryAt dg x (start dg x S) n)
  | 0, _ => start_of H hp hx hd hS
  | n + 1, hn => by
    refine ⟨next_of H hd (rows_time H hp hx hd hS n (by omega)) (carry_of n (by omega)), ?_⟩
    have e : Ins.time (64 * p + (n + 1)) = 64 * (31 - p) + (63 - n - 1) := by unfold Ins.time; omega
    rw [e]
    exact dyCol_of hd (dy_of hx n (by omega)) (H.dy _)

theorem left_of : IsMat (left dg x S) (I.G (64 * (p + 1))) :=
  next_of H hd (rows_time H hp hx hd hS 63 (by omega)) (carry_of H hp hx hd hS 63 (by omega))

/-- An output's block, of whose steps each leaves `f`. -/
theorem made_of {row : Rows Ideal → Carry Ideal → FVec Ideal S1x1x256 .f32} {f : ℕ → Fin 4 → Fin 64 → EReal}
    (hrow : ∀ n R c, IsRows I (Ins.time n) R → IsCarry I n c → IsRow (row R c) (f n)) (y : Fin 64) (h : Fin 4) (j : Fin 64) :
    made row dg x S (ix3 y 0 (col h j)) = f (64 * p + (63 - y.val)) h j := by
  have e : rowIdx (ix3 y 0 (col h j)) = ix3 0 0 (col h j) := by funext d; fin_cases d <;> rfl
  show row _ _ (rowIdx (ix3 y 0 (col h j))) = _
  rw [e]
  exact hrow _ _ _ (rows_time H hp hx hd hS _ (by show 63 - y.val < 64; omega)) (carry_of H hp hx hd hS _ (by show 63 - y.val < 64; omega)) h j

end

end Cert.KernelIdeal.Scan

end
-- ==== Proof.ArrValue.lean ====
/- The kernel's launch: from arrays that hold the inputs and the forward pass's states, its results hold the gradients. -/
module

public import proofs.«01_k».proof.Proof.BlockValue
public import proofs.«01_k».proof.Proof.Arrays
public import proofs.«01_k».proof.Proof.Region
public import Idealize.ShloMosaic.Lib.Pipeline.Value

@[expose] public section

set_option maxRecDepth 16384

noncomputable section

namespace Cert.KernelIdeal.Scan

open Idealize.ShloMosaic Idealize.ShloMosaic.TcCoe Idealize.ShloMosaic.ValueIdx
open Idealize.ShloMosaic.Pipeline (Dat Cfg Window)
open Cert.KernelIdeal.Gen Cert.Scan

/-- Time `64 * (31 - t) + y` is row `y` of the grid point `t`'s block. -/
def timeAt (t : Fin cfg0.N) (y : Fin 64) : Fin 2048 := ⟨64 * (31 - t.val) + y.val, by omega⟩

theorem block_vec : ∀ t : Fin grid0.N, win0_0.index t 0 = 31 - t.val ∧ win0_0.index t 1 = 0 ∧ win0_0.index t 2 = 0 := by decide +kernel
theorem index_mat : ∀ t : Fin grid0.N, win0_5.index t 0 = 31 - t.val ∧ win0_5.index t 1 = 0 ∧ win0_5.index t 2 = 0 := by decide +kernel

theorem emb_vec (t : Fin cfg0.N) (y : Fin 64) (q : Fin 256) :
    (win0_0.rect t).emb (ix3 (n0 := 64) (n1 := 1) (n2 := 256) y 0 q) = ix3 (n0 := 2048) (n1 := 1) (n2 := 256) (timeAt t y) 0 q := by
  obtain ⟨h0, h1, h2⟩ := block_vec t
  funext d
  apply Fin.ext
  refine (Pipeline.Window.rect_emb_val win0_0 t _ d).trans ?_
  fin_cases d
  · show win0_0.index t 0 * 64 + y.val = 64 * (31 - t.val) + y.val; rw [h0]; omega
  · show win0_0.index t 1 * 1 + 0 = 0; rw [h1]
  · show win0_0.index t 2 * 256 + q.val = q.val; rw [h2]; omega

theorem emb_mat (t : Fin cfg0.N) (y i : Fin 64) (q : Fin 256) :
    (win0_5.rect t).emb (ix3 (n0 := 64) (n1 := 64) (n2 := 256) y i q) = ix3 (n0 := 2048) (n1 := 64) (n2 := 256) (timeAt t y) i q := by
  obtain ⟨h0, h1, h2⟩ := index_mat t
  funext d
  apply Fin.ext
  refine (Pipeline.Window.rect_emb_val win0_5 t _ d).trans ?_
  fin_cases d
  · show win0_5.index t 0 * 64 + y.val = 64 * (31 - t.val) + y.val; rw [h0]; omega
  · show win0_5.index t 1 * 64 + i.val = i.val; rw [h1]; omega
  · show win0_5.index t 2 * 256 + q.val = q.val; rw [h2]; omega

theorem emb_diag (t : Fin cfg0.N) (i : Fin 64) (q : Fin 256) :
    (win0_9.rect t).emb (ix2 (n0 := 64) (n1 := 256) i q) = ix2 (n0 := 64) (n1 := 256) i q := by
  funext d
  apply Fin.ext
  refine (Pipeline.Window.rect_emb_val win0_9 t _ d).trans ?_
  fin_cases d
  · show 0 * 64 + i.val = i.val; omega
  · show 0 * 256 + q.val = q.val; omega

variable (V : (c : Dev nD) → (b : Ref sig .tc) → Buf (Elt Ideal) ((c : Thread nD τ).loc b)) (c : Dev nD)

/-- The arrays the kernel is launched on hold the inputs and the forward pass's states. -/
structure IsArrs (I : Ins) : Prop where
  r : ∀ (t : Fin 2048) h j, (V c main_arg0 : S2048x1x256.Idx → EReal) (ix3 t 0 (col h j)) = I.r t.val h j
  w : ∀ (t : Fin 2048) h j, (V c main_arg1 : S2048x1x256.Idx → EReal) (ix3 t 0 (col h j)) = I.w t.val h j
  k : ∀ (t : Fin 2048) h j, (V c main_arg2 : S2048x1x256.Idx → EReal) (ix3 t 0 (col h j)) = I.k t.val h j
  a : ∀ (t : Fin 2048) h j, (V c main_arg4 : S2048x1x256.Idx → EReal) (ix3 t 0 (col h j)) = I.a t.val h j
  b : ∀ (t : Fin 2048) h j, (V c main_arg5 : S2048x1x256.Idx → EReal) (ix3 t 0 (col h j)) = I.b t.val h j
  st : ∀ (t : Fin 2048) h i j, (V c main_v10 : S2048x64x256.Idx → EReal) (ix3 t i (col h j)) = I.S t.val h i j
  sa : ∀ (t : Fin 2048) h i j, (V c main_v14 : S2048x64x256.Idx → EReal) (ix3 t i (col h j)) = I.sa t.val h i
  vc : ∀ (t : Fin 2048) h i j, (V c main_v19 : S2048x64x256.Idx → EReal) (ix3 t i (col h j)) = I.v t.val h i
  dy : ∀ (t : Fin 2048) h j, (V c main_arg6 : S2048x1x256.Idx → EReal) (ix3 t 0 (col h j)) = I.dy t.val h j
  dg : IsDiag (V c main_cst : S64x256.Idx → EReal)

variable {V c} {I : Ins} (H : I.Finite) (hV : IsArrs V c I)
include hV

theorem blocks_of (t : Fin cfg0.N) : IsBlock I (64 * (31 - t.val)) (blocks V c t) where
  r y h j := (congrArg (V c main_arg0 : S2048x1x256.Idx → EReal) (emb_vec t y _)).trans (hV.r _ h j)
  w y h j := (congrArg (V c main_arg1 : S2048x1x256.Idx → EReal) (emb_vec t y _)).trans (hV.w _ h j)
  k y h j := (congrArg (V c main_arg2 : S2048x1x256.Idx → EReal) (emb_vec t y _)).trans (hV.k _ h j)
  a y h j := (congrArg (V c main_arg4 : S2048x1x256.Idx → EReal) (emb_vec t y _)).trans (hV.a _ h j)
  b y h j := (congrArg (V c main_arg5 : S2048x1x256.Idx → EReal) (emb_vec t y _)).trans (hV.b _ h j)
  st y h i j := (congrArg (V c main_v10 : S2048x64x256.Idx → EReal) (emb_mat t y i _)).trans (hV.st _ h i j)
  sa y h i j := (congrArg (V c main_v14 : S2048x64x256.Idx → EReal) (emb_mat t y i _)).trans (hV.sa _ h i j)
  vc y h i j := (congrArg (V c main_v19 : S2048x64x256.Idx → EReal) (emb_mat t y i _)).trans (hV.vc _ h i j)
  dy y h j := (congrArg (V c main_arg6 : S2048x1x256.Idx → EReal) (emb_vec t y _)).trans (hV.dy _ h j)

theorem diag_of (t : Fin cfg0.N) : IsDiag (dgAt V c t) := fun h i j =>
  (congrArg (V c main_cst : S64x256.Idx → EReal) (emb_diag t i _)).trans (hV.dg h i j)

include H

theorem state_of : ∀ n : ℕ, n ≤ 32 → IsMat (stateAt V c n) (I.G (64 * n))
  | 0, _ => fun h i j => by
    show (k0_pay240 : FVec Ideal S64x256 .f32) (ix2 i (col h j)) = 0
    exact Ideal.ofBits_zero_f32
  | n + 1, hn => by
    have hN : n < cfg0.N := Nat.lt_of_lt_of_eq (by omega) N_0.symm
    rw [stateAt_succ V c ⟨n, hN⟩]
    exact left_of H (by show n < 32; omega) (blocks_of hV ⟨n, hN⟩) (diag_of hV ⟨n, hN⟩) (state_of n (by omega))

/-- A block of an output, at an index of its array. -/
theorem made_at (t : Fin cfg0.N) {row : Rows Ideal → Carry Ideal → FVec Ideal S1x1x256 .f32} {f : ℕ → Fin 4 → Fin 64 → EReal}
    (hrow : ∀ n R c, IsRows I (Ins.time n) R → IsCarry I n c → IsRow (row R c) (f n)) (y : S64x1x256.Idx) :
    made row (dgAt V c t) (blocks V c t) (stateAt V c t.val) y = gradArr f ((win0_0.rect t).emb y) := by
  have ht : t.val < 32 := Nat.lt_of_lt_of_eq t.isLt N_0
  obtain ⟨y0, y1, y2, rfl⟩ : ∃ a b d, y = ix3 a b d := ⟨_, _, _, eq_ix3 y⟩
  obtain rfl : y1 = 0 := Subsingleton.elim _ _
  obtain ⟨h, j, rfl⟩ := exists_col y2
  rw [made_of H ht (blocks_of hV t) (diag_of hV t) (state_of H hV t.val (by omega)) hrow]
  refine Eq.trans ?_ (congrArg (gradArr f) (emb_vec t y0 (col h j))).symm
  have e0 : 64 * t.val + (63 - y0.val) = 2047 - (64 * (31 - t.val) + y0.val) := by omega
  have e1 : h = ⟨(64 * h.val + j.val) / 64, by omega⟩ := Fin.ext (by show h.val = (64 * h.val + j.val) / 64; omega)
  have e2 : j = ⟨(64 * h.val + j.val) % 64, by omega⟩ := Fin.ext (by show j.val = (64 * h.val + j.val) % 64; omega)
  show f (64 * t.val + (63 - y0.val)) h j = f (2047 - (64 * (31 - t.val) + y0.val)) ⟨(64 * h.val + j.val) / 64, _⟩ ⟨(64 * h.val + j.val) % 64, _⟩
  rw [e0, ← e1, ← e2]

omit H hV in
/-- Every index of an output lies in a block. -/
theorem cover_vec (i : S2048x1x256.Idx) : ∃ (t : Fin cfg0.N) (y : S64x1x256.Idx), (win0_0.rect t).emb y = i := by
  obtain ⟨i0, i1, i2, rfl⟩ : ∃ a b d, i = ix3 a b d := ⟨_, _, _, eq_ix3 i⟩
  obtain rfl : i1 = 0 := Subsingleton.elim _ _
  refine ⟨⟨31 - i0.val / 64, Nat.lt_of_lt_of_eq (by omega) N_0.symm⟩, ix3 ⟨i0.val % 64, by omega⟩ 0 i2, (emb_vec _ _ _).trans ?_⟩
  refine congrArg (fun x => ix3 x 0 i2) (Fin.ext ?_)
  show 64 * (31 - (31 - i0.val / 64)) + i0.val % 64 = i0.val
  omega

theorem out_r : outArr V (10 : Fin 16) c = gradArr I.dr :=
  (dat V c).arrAt_eq_of_cover (10 : Fin 16) (gradArr I.dr)
    (fun t _ => funext fun y => (congrFun (after10 V c t) y).trans (made_at H hV t (fun n R c hR hc => rowR_of H (diag_of hV t) hR hc) y))
    (fun i => by
      obtain ⟨t, y, rfl⟩ := cover_vec i
      exact ⟨t, flush0_10 t, ((cfg0.win (10 : Fin 16)).blk t).view.emb_mem_set y⟩)

theorem out_w : outArr V (11 : Fin 16) c = gradArr I.dw :=
  (dat V c).arrAt_eq_of_cover (11 : Fin 16) (gradArr I.dw)
    (fun t _ => funext fun y => (congrFun (after11 V c t) y).trans (made_at H hV t (fun n R c hR hc => rowW_of H (diag_of hV t) hR hc) y))
    (fun i => by
      obtain ⟨t, y, rfl⟩ := cover_vec i
      exact ⟨t, flush0_11 t, ((cfg0.win (11 : Fin 16)).blk t).view.emb_mem_set y⟩)

theorem out_k : outArr V (12 : Fin 16) c = gradArr I.dk :=
  (dat V c).arrAt_eq_of_cover (12 : Fin 16) (gradArr I.dk)
    (fun t _ => funext fun y => (congrFun (after12 V c t) y).trans (made_at H hV t (fun n R c hR hc => rowK_of H (diag_of hV t) hR hc) y))
    (fun i => by
      obtain ⟨t, y, rfl⟩ := cover_vec i
      exact ⟨t, flush0_12 t, ((cfg0.win (12 : Fin 16)).blk t).view.emb_mem_set y⟩)

theorem out_v : outArr V (13 : Fin 16) c = gradArr I.dv :=
  (dat V c).arrAt_eq_of_cover (13 : Fin 16) (gradArr I.dv)
    (fun t _ => funext fun y => (congrFun (after13 V c t) y).trans (made_at H hV t (fun n R c hR hc => rowV_of H (diag_of hV t) hR hc) y))
    (fun i => by
      obtain ⟨t, y, rfl⟩ := cover_vec i
      exact ⟨t, flush0_13 t, ((cfg0.win (13 : Fin 16)).blk t).view.emb_mem_set y⟩)

theorem out_a : outArr V (14 : Fin 16) c = gradArr I.da :=
  (dat V c).arrAt_eq_of_cover (14 : Fin 16) (gradArr I.da)
    (fun t _ => funext fun y => (congrFun (after14 V c t) y).trans (made_at H hV t (fun n R c hR hc => rowA_of H (diag_of hV t) hR hc) y))
    (fun i => by
      obtain ⟨t, y, rfl⟩ := cover_vec i
      exact ⟨t, flush0_14 t, ((cfg0.win (14 : Fin 16)).blk t).view.emb_mem_set y⟩)

theorem out_b : outArr V (15 : Fin 16) c = gradArr I.db :=
  (dat V c).arrAt_eq_of_cover (15 : Fin 16) (gradArr I.db)
    (fun t _ => funext fun y => (congrFun (after15 V c t) y).trans (made_at H hV t (fun n R c hR hc => rowB_of H (diag_of hV t) hR hc) y))
    (fun i => by
      obtain ⟨t, y, rfl⟩ := cover_vec i
      exact ⟨t, flush0_15 t, ((cfg0.win (15 : Fin 16)).blk t).view.emb_mem_set y⟩)

end Cert.KernelIdeal.Scan

end
-- ==== Proof.Diag.lean ====
/- The kernel's constant: a row of four identity matrices. -/
module

public import proofs.«01_k».proof.Proof.StepValue
public import Idealize.ShloMosaic.Lib.IdealHost

@[expose] public section

set_option maxRecDepth 16384

noncomputable section

namespace Cert.KernelIdeal.Scan

open Idealize.ShloMosaic Idealize.ShloMosaic.ValueIdx
open Cert.KernelIdeal.Gen Cert.Scan

theorem lit0_word0 : ∀ (i : Fin 16) (q : Fin 256),
    lit0 ⟨256 * (0 + i.val) + q.val, by show _ < 16384; omega⟩ = if 0 + i.val = q.val % 64 then 0x3F800000#32 else 0#32 := by decide +kernel
theorem lit0_word1 : ∀ (i : Fin 16) (q : Fin 256),
    lit0 ⟨256 * (16 + i.val) + q.val, by show _ < 16384; omega⟩ = if 16 + i.val = q.val % 64 then 0x3F800000#32 else 0#32 := by decide +kernel
theorem lit0_word2 : ∀ (i : Fin 16) (q : Fin 256),
    lit0 ⟨256 * (32 + i.val) + q.val, by show _ < 16384; omega⟩ = if 32 + i.val = q.val % 64 then 0x3F800000#32 else 0#32 := by decide +kernel
theorem lit0_word3 : ∀ (i : Fin 16) (q : Fin 256),
    lit0 ⟨256 * (48 + i.val) + q.val, by show _ < 16384; omega⟩ = if 48 + i.val = q.val % 64 then 0x3F800000#32 else 0#32 := by decide +kernel

theorem lit0_word (i : Fin 64) (q : Fin 256) :
    lit0 ⟨256 * i.val + q.val, by show _ < 16384; omega⟩ = if i.val = q.val % 64 then 0x3F800000#32 else 0#32 := by
  have e : ∀ (c : ℕ) (hc : c ≤ i.val), c + (i.val - c) = i.val := by omega
  rcases (by omega : i.val < 16 ∨ (16 ≤ i.val ∧ i.val < 32) ∨ (32 ≤ i.val ∧ i.val < 48) ∨ 48 ≤ i.val) with h | h | h | h
  · have w := lit0_word0 ⟨i.val, h⟩ q
    simpa only [Nat.zero_add] using w
  · have w := lit0_word1 ⟨i.val - 16, by omega⟩ q
    simpa only [e 16 h.1] using w
  · have w := lit0_word2 ⟨i.val - 32, by omega⟩ q
    simpa only [e 32 h.1] using w
  · have w := lit0_word3 ⟨i.val - 48, by omega⟩ q
    simpa only [e 48 h] using w

theorem diag : IsDiag (fun i => FloatOps.ofBits (F := Ideal) .f32 (lit0 (S64x256.rowMajor i))) := by
  intro h i j
  have e : S64x256.rowMajor (ix2 i (col h j)) = ⟨256 * i.val + (col h j).val, by show _ < 16384; omega⟩ :=
    Fin.ext (by rw [Shape.rowMajor_val_two]; show i.val * 256 + (col h j).val = 256 * i.val + (col h j).val; omega)
  have hc : (col h j).val % 64 = j.val := by show (64 * h.val + j.val) % 64 = j.val; omega
  show Ideal.ofBits .f32 (lit0 (S64x256.rowMajor (ix2 i (col h j)))) = _
  rw [e, lit0_word i (col h j), hc]
  by_cases hij : i = j
  · subst hij; rw [if_pos rfl, if_pos rfl, Ideal.ofBits_one_f32]
  · rw [if_neg (fun h => hij (Fin.ext h)), if_neg hij, Ideal.ofBits_zero_f32]

end Cert.KernelIdeal.Scan
-- ==== Proof.HostArrays.lean ====
/- The arrays the kernel is launched on hold the inputs and the forward pass's states. -/
module

public import proofs.«01_k».proof.Proof.HostValue
public import proofs.«01_k».proof.Proof.ArrValue
public import proofs.«01_k».proof.Proof.Diag
public import proofs.«01_k».proof.Proof.Run

@[expose] public section

set_option maxRecDepth 16384

noncomputable section

namespace Cert.KernelIdeal.Scan

open Idealize.ShloMosaic Idealize.ShloMosaic.TcCoe
open Cert.KernelIdeal.Gen Cert.Scan
open Cert.KernelIdeal.Gen.Cond (V0 V1 V1_of hostOps0_W hostOps0_1_W argRefs)
open Idealize.ShloMosaic.StableHlo (after afterL atTrip)

theorem split_heads (x : S2048x1x256.Idx → EReal) (hc : S2048x1x256.ShapeCasts S2048x4x64) : shapeCast S2048x4x64 x hc = vecs (atTime x) := by
  funext y
  obtain ⟨t, g, j, rfl⟩ : ∃ t g j, y = ix3 t g j := ⟨y 0, y 1, y 2, eq_ix3 y⟩
  rw [shapeCast_apply (k := ix3 t 0 (lane g j)) (hk := by
    rw [Shape.rowMajor_val_three, Shape.rowMajor_val_three]
    show (t.val * 1 + (0 : Fin 1).val) * 256 + (64 * g.val + j.val) = (t.val * 4 + g.val) * 64 + j.val
    have : (0 : Fin 1).val = 0 := rfl
    omega)]
  exact atTime_of x t g j

variable (m : (ℓ : Loc nD τ sig) → Buf (Elt Ideal) ℓ) (c : Dev nD)

/-- The recurrence's inputs, as the launch leaves them in the argument arrays. -/
def insOf : Ins where
  r := atTime (V0 m c main_arg0)
  w := atTime (V0 m c main_arg1)
  k := atTime (V0 m c main_arg2)
  v := atTime (V0 m c main_arg3)
  a := atTime (V0 m c main_arg4)
  b := atTime (V0 m c main_arg5)
  dy := atTime (V0 m c main_arg6)

theorem host_map : Writes (hostOps0 (F := Ideal)) hostOps0_W := rfl
theorem host1_map : Writes (hostOps0_1 (F := Ideal)) hostOps0_1_W := rfl

theorem h1 : (V1 m c main_v1 : S2048x4x64.Idx → EReal) = vecs (insOf m c).w :=
  valR host_map 3 rfl (by decide +kernel) (by decide +kernel) (host_map.of (by decide +kernel) _) (split_heads _ shapeCasts_S2048x1x256_S2048x4x64)
theorem h2 : (V1 m c main_v2 : S2048x4x64.Idx → EReal) = vecs (insOf m c).k :=
  valR host_map 4 rfl (by decide +kernel) (by decide +kernel) (host_map.of (by decide +kernel) _) (split_heads _ shapeCasts_S2048x1x256_S2048x4x64)
theorem h3 : (V1 m c main_v3 : S2048x4x64.Idx → EReal) = vecs (insOf m c).v :=
  valR host_map 5 rfl (by decide +kernel) (by decide +kernel) (host_map.of (by decide +kernel) _) (split_heads _ shapeCasts_S2048x1x256_S2048x4x64)
theorem h4 : (V1 m c main_v4 : S2048x4x64.Idx → EReal) = vecs (insOf m c).a :=
  valR host_map 6 rfl (by decide +kernel) (by decide +kernel) (host_map.of (by decide +kernel) _) (split_heads _ shapeCasts_S2048x1x256_S2048x4x64)
theorem h5 : (V1 m c main_v5 : S2048x4x64.Idx → EReal) = vecs (insOf m c).b :=
  valR host_map 7 rfl (by decide +kernel) (by decide +kernel) (host_map.of (by decide +kernel) _) (split_heads _ shapeCasts_S2048x1x256_S2048x4x64)

theorem h0 : (V1 m c main_v0 : S4x64x64.Idx → EReal) = matH ((insOf m c).S 0) :=
  val1 host_map 2 rfl (by decide +kernel) (by decide +kernel) (val0 host_map 1 rfl (by decide +kernel) rfl)
    (funext fun i => (Idealize.ShloMosaic.ValueIdx.broadcastInDim_scalar_apply bcast_S_S4x64x64 (constant (F := Ideal) S_ .f32 0x00000000#32) i).trans Ideal.ofBits_zero_f32)

theorem host_start : LoopAt (insOf m c) 0 (V1 m c) where
  w := val1 host_map 13 rfl (by decide +kernel) (by decide +kernel) (h1 m c) rfl
  k := val1 host_map 14 rfl (by decide +kernel) (by decide +kernel) (h2 m c) rfl
  v := val1 host_map 15 rfl (by decide +kernel) (by decide +kernel) (h3 m c) rfl
  a := val1 host_map 16 rfl (by decide +kernel) (by decide +kernel) (h4 m c) rfl
  b := val1 host_map 17 rfl (by decide +kernel) (by decide +kernel) (h5 m c) rfl
  ctr := counter0 m c
  st := val1 host_map 19 rfl (by decide +kernel) (by decide +kernel) (h0 m c) rfl
  ss := fun i hi => absurd hi (Nat.not_lt_zero _)
  sv := fun i hi => absurd hi (Nat.not_lt_zero _)

theorem done : LoopAt (insOf m c) 2048 (Wl m c) := ((host_start m c).trips 2048 (Nat.le_refl _)).cond

theorem done_ss : (Wl m c main_v8_7 : S2048x4x64x64.Idx → EReal) = mats (insOf m c).S := funext fun i => (done m c).ss i (i 0).isLt
theorem done_sv : (Wl m c main_v8_8 : S2048x4x64.Idx → EReal) = vecs (insOf m c).sa := funext fun i => (done m c).sv i (i 0).isLt

/-- The vectors of all the times, in columns and spread over the lanes. -/
def colsT (f : ℕ → Fin 4 → Fin 64 → EReal) : S2048x4x64x1.Idx → EReal := fun i => f (i 0).val (i 1) (i 2)
def spread (f : ℕ → Fin 4 → Fin 64 → EReal) : S2048x4x64x64.Idx → EReal := mats fun t h i _ => f t h i

theorem to_tiles (f : ℕ → Fin 4 → Fin 64 → Fin 64 → EReal) (ht : S2048x4x64x64.Transposes [0, 2, 1, 3] S2048x64x4x64)
    (hc : S2048x64x4x64.ShapeCasts S2048x64x256) (t : Fin 2048) (h : Fin 4) (i j : Fin 64) :
    shapeCast S2048x64x256 (transpose S2048x64x4x64 [0, 2, 1, 3] (mats f) ht) hc (ix3 t i (col h j)) = f t.val h i j := by
  rw [shapeCast_apply (k := ix4 t i h j) (hk := by
    rw [Shape.rowMajor_val_four, Shape.rowMajor_val_three]
    show ((t.val * 64 + i.val) * 4 + h.val) * 64 + j.val = (t.val * 64 + i.val) * 256 + (64 * h.val + j.val)
    omega)]
  rw [transpose_apply _ _ _ _ (ix4 t h i j) (by
    intro b
    match b with
    | 0 => rfl
    | 1 => rfl
    | 2 => rfl
    | 3 => rfl)]
  rfl

theorem v10 (t : Fin 2048) (h : Fin 4) (i j : Fin 64) : (Wk m c main_v10 : S2048x64x256.Idx → EReal) (ix3 t i (col h j)) = (insOf m c).S t.val h i j :=
  (congrFun (valR host1_map 1 rfl (by decide +kernel) (by decide +kernel)
    (val1 host1_map 0 rfl (by decide +kernel) (by decide +kernel) ((host1_map.of (by decide +kernel) _).trans (done_ss m c)) rfl) rfl) _).trans
    (to_tiles _ transposes_S2048x4x64x64_S2048x64x4x64_0_2_1_3 shapeCasts_S2048x64x4x64_S2048x64x256 t h i j)

theorem v11 : (Wk m c main_v11 : S2048x4x64x1.Idx → EReal) = colsT (insOf m c).sa :=
  val1 host1_map 2 rfl (by decide +kernel) (by decide +kernel) ((host1_map.of (by decide +kernel) _).trans (done_sv m c)) rfl
theorem v12 : (Wk m c main_v12 : S2048x4x64x64.Idx → EReal) = spread (insOf m c).sa :=
  val1 host1_map 3 rfl (by decide +kernel) (by decide +kernel) (v11 m c) rfl
theorem v14 (t : Fin 2048) (h : Fin 4) (i j : Fin 64) : (Wk m c main_v14 : S2048x64x256.Idx → EReal) (ix3 t i (col h j)) = (insOf m c).sa t.val h i :=
  (congrFun (valR host1_map 5 rfl (by decide +kernel) (by decide +kernel)
    (val1 host1_map 4 rfl (by decide +kernel) (by decide +kernel) (v12 m c) rfl) rfl) _).trans
    (to_tiles _ transposes_S2048x4x64x64_S2048x64x4x64_0_2_1_3 shapeCasts_S2048x64x4x64_S2048x64x256 t h i j)

theorem arg_last (r : Ref sig .tc) (h1 : r ∉ hostOps0_W) (h2 : r ∉ condW) (h3 : r ∉ workW) (h4 : r ∉ lastW) (h5 : r ∉ hostOps0_1_W) : Wk m c r = V0 m c r :=
  Wk_of m c r h1 h2 h3 h4 h5

theorem v15 : (Wk m c main_v15 : S2048x4x64.Idx → EReal) = vecs (insOf m c).v :=
  valR host1_map 6 rfl (by decide +kernel) (by decide +kernel)
    (arg_last m c main_arg3 (by decide +kernel) (by decide +kernel) (by decide +kernel) (by decide +kernel) (by decide +kernel))
    (split_heads _ shapeCasts_S2048x1x256_S2048x4x64)
theorem v16 : (Wk m c main_v16 : S2048x4x64x1.Idx → EReal) = colsT (insOf m c).v :=
  val1 host1_map 7 rfl (by decide +kernel) (by decide +kernel) (v15 m c) rfl
theorem v17 : (Wk m c main_v17 : S2048x4x64x64.Idx → EReal) = spread (insOf m c).v :=
  val1 host1_map 8 rfl (by decide +kernel) (by decide +kernel) (v16 m c) rfl
theorem v19 (t : Fin 2048) (h : Fin 4) (i j : Fin 64) : (Wk m c main_v19 : S2048x64x256.Idx → EReal) (ix3 t i (col h j)) = (insOf m c).v t.val h i :=
  (congrFun (valR host1_map 10 rfl (by decide +kernel) (by decide +kernel)
    (val1 host1_map 9 rfl (by decide +kernel) (by decide +kernel) (v17 m c) rfl) rfl) _).trans
    (to_tiles _ transposes_S2048x4x64x64_S2048x64x4x64_0_2_1_3 shapeCasts_S2048x64x4x64_S2048x64x256 t h i j)

theorem cst : (Wk m c main_cst : S64x256.Idx → EReal) = fun i => FloatOps.ofBits (F := Ideal) .f32 (lit0 (S64x256.rowMajor i)) := by
  refine (host1_map.of (by decide +kernel) _).trans ((cond_map.of (by decide +kernel) _).trans ?_)
  rw [atTrip_of (V1 m) main_cst (by decide +kernel) (by decide +kernel) (by decide +kernel)]
  exact val0 host_map 0 rfl (by decide +kernel) rfl

theorem arg_at {x y : S2048x1x256.Idx → EReal} (hx : x = y) (t : Fin 2048) (h : Fin 4) (j : Fin 64) : x (ix3 t 0 (col h j)) = atTime y t.val h j := by
  subst hx; exact atTime_of x t h j

/-- The arrays of the launch. -/
theorem isArrs : IsArrs (V m) c (insOf m c) where
  r := arg_at (arg_last m c main_arg0 (by decide +kernel) (by decide +kernel) (by decide +kernel) (by decide +kernel) (by decide +kernel))
  w := arg_at (arg_last m c main_arg1 (by decide +kernel) (by decide +kernel) (by decide +kernel) (by decide +kernel) (by decide +kernel))
  k := arg_at (arg_last m c main_arg2 (by decide +kernel) (by decide +kernel) (by decide +kernel) (by decide +kernel) (by decide +kernel))
  a := arg_at (arg_last m c main_arg4 (by decide +kernel) (by decide +kernel) (by decide +kernel) (by decide +kernel) (by decide +kernel))
  b := arg_at (arg_last m c main_arg5 (by decide +kernel) (by decide +kernel) (by decide +kernel) (by decide +kernel) (by decide +kernel))
  dy := arg_at (arg_last m c main_arg6 (by decide +kernel) (by decide +kernel) (by decide +kernel) (by decide +kernel) (by decide +kernel))
  st := v10 m c
  sa := v14 m c
  vc := v19 m c
  dg := by
    have h := diag
    rw [← cst m c] at h
    exact h

end Cert.KernelIdeal.Scan
-- ==== Proof.RefArrays.lean ====
/- The arrays of the reference program, and what its operations make of them. -/
module

public import proofs.«01_k».proof.Proof.RefOps
public import proofs.«01_k».proof.Proof.Eval
public import proofs.«01_k».proof.Proof.Arrays
public import Idealize.ShloMosaic.Lib.Pointwise.Reduce

@[expose] public section

set_option maxRecDepth 16384

noncomputable section

namespace Cert.ReferenceIdeal.Scan

open Idealize.ShloMosaic Idealize.ShloMosaic.TcCoe
open Cert.ReferenceIdeal.Gen Cert.Scan

/-- One time's vector, row, column and matrix. -/
def vecR (f : Fin 4 → Fin 64 → EReal) : S1x4x64.Idx → EReal := fun i => f (i 1) (i 2)
def rowR (f : Fin 4 → Fin 64 → EReal) : S1x4x1x64.Idx → EReal := fun i => f (i 1) (i 3)
def colR (f : Fin 4 → Fin 64 → EReal) : S1x4x64x1.Idx → EReal := fun i => f (i 1) (i 2)
def matR (f : Fin 4 → Fin 64 → Fin 64 → EReal) : S1x4x64x64.Idx → EReal := fun i => f (i 1) (i 2) (i 3)
def headR (f : Fin 4 → Fin 64 → EReal) : S4x64.Idx → EReal := fun i => f (i 0) (i 1)
/-- The same with one more axis. -/
def vecU (f : Fin 4 → Fin 64 → EReal) : S1x1x4x64.Idx → EReal := fun i => f (i 2) (i 3)
def rowU (f : Fin 4 → Fin 64 → EReal) : S1x1x4x1x64.Idx → EReal := fun i => f (i 2) (i 4)
def colU (f : Fin 4 → Fin 64 → EReal) : S1x1x4x64x1.Idx → EReal := fun i => f (i 2) (i 3)
def matU (f : Fin 4 → Fin 64 → Fin 64 → EReal) : S1x1x4x64x64.Idx → EReal := fun i => f (i 2) (i 3) (i 4)
/-- Those of all the times. -/
def vecA (f : ℕ → Fin 4 → Fin 64 → EReal) : S2048x1x4x64.Idx → EReal := fun i => f (i 0).val (i 2) (i 3)
def rowA (f : ℕ → Fin 4 → Fin 64 → EReal) : S2048x1x4x1x64.Idx → EReal := fun i => f (i 0).val (i 2) (i 4)
def colA (f : ℕ → Fin 4 → Fin 64 → EReal) : S2048x1x4x64x1.Idx → EReal := fun i => f (i 0).val (i 2) (i 3)
def matA (f : ℕ → Fin 4 → Fin 64 → Fin 64 → EReal) : S2048x1x4x64x64.Idx → EReal := fun i => f (i 0).val (i 2) (i 3) (i 4)

/-- A word in an array of no axes. -/
def word (n : ℕ) : S_.Idx → BitVec 32 := fun _ => BitVec.ofNat 32 n

theorem word_toInt (n : ℕ) (h : n < 2048) (i : S_.Idx) : (word n i).toInt = (n : Int) :=
  WordCmp.toInt_ofNat_of_lt (w := 32) (by omega)

theorem word_add (n : ℕ) : (addi (word n) (word 1) : S_.Idx → BitVec 32) = word (n + 1) :=
  funext fun _ => (BitVec.ofNat_add n 1).symm

theorem word_sub (a b : ℕ) (h : b ≤ a) (ha : a < 4096) : (subi (word a) (word b) : S_.Idx → BitVec 32) = word (a - b) :=
  funext fun _ => BitVec.ofNat_sub_ofNat_of_le a b (by omega) h

/-- Where a slice of one time starts. -/
theorem starts4 (n : ℕ) (hn : n < 2048) : ∀ a : Fin 4,
    ((![word n, word 0, word 0, word 0] : Fin 4 → S_.Idx → BitVec 32) a (Shape.Idx.first h_S_)).toInt = ((![n, 0, 0, 0] : Fin 4 → ℕ) a : Int)
  | 0 => word_toInt n hn (Shape.Idx.first h_S_)
  | 1 => word_toInt 0 (by decide) (Shape.Idx.first h_S_)
  | 2 => word_toInt 0 (by decide) (Shape.Idx.first h_S_)
  | 3 => word_toInt 0 (by decide) (Shape.Idx.first h_S_)

theorem starts5 (n : ℕ) (hn : n < 2048) : ∀ a : Fin 5,
    ((![word n, word 0, word 0, word 0, word 0] : Fin 5 → S_.Idx → BitVec 32) a (Shape.Idx.first h_S_)).toInt = ((![n, 0, 0, 0, 0] : Fin 5 → ℕ) a : Int)
  | 0 => word_toInt n hn (Shape.Idx.first h_S_)
  | 1 => word_toInt 0 (by decide) (Shape.Idx.first h_S_)
  | 2 => word_toInt 0 (by decide) (Shape.Idx.first h_S_)
  | 3 => word_toInt 0 (by decide) (Shape.Idx.first h_S_)
  | 4 => word_toInt 0 (by decide) (Shape.Idx.first h_S_)

theorem fits4 (n : ℕ) (hn : n < 2048) : S2048x1x4x64.Slices ![n, 0, 0, 0] S1x1x4x64 := by
  refine ⟨rfl, fun a => ?_⟩
  match a with
  | 0 => show n + 1 ≤ 2048; omega
  | 1 => exact Nat.le_refl 1
  | 2 => exact Nat.le_refl 4
  | 3 => exact Nat.le_refl 64

theorem fits5 (p q n : ℕ) (hn : n < 2048) : (⟨5, ![2048, 1, 4, p, q]⟩ : Shape).Slices ![n, 0, 0, 0, 0] ⟨5, ![1, 1, 4, p, q]⟩ := by
  refine ⟨rfl, fun a => ?_⟩
  match a with
  | 0 => show n + 1 ≤ 2048; omega
  | 1 => exact Nat.le_refl 1
  | 2 => exact Nat.le_refl 4
  | 3 => show 0 + p ≤ p; omega
  | 4 => show 0 + q ≤ q; omega

theorem index_vec (f : ℕ → Fin 4 → Fin 64 → EReal) (n : ℕ) (hn : n < 2048) (h : S2048x1x4x64.Slices (fun _ => 0) S1x1x4x64) (hc : S1x1x4x64.ShapeCasts S1x4x64) :
    shapeCast S1x4x64 (Host.dynamicSlice S1x1x4x64 (vecA f) (fun q => ((![word n, word 0, word 0, word 0] : Fin 4 → S_.Idx → BitVec 32) q (Shape.Idx.first h_S_)).toInt) h) hc = vecR (f n) := by
  funext y
  obtain ⟨u, g, j, rfl⟩ : ∃ u g j, y = ix3 u g j := ⟨y 0, y 1, y 2, eq_ix3 y⟩
  obtain rfl : u = 0 := Subsingleton.elim _ _
  rw [shapeCast_apply (k := ix4 0 0 g j) (hk := by rw [Shape.rowMajor_val_four, Shape.rowMajor_val_three]; rfl)]
  refine (slice_at (vecA f) _ h ![n, 0, 0, 0] (fits4 n hn) (starts4 n hn) (ix4 0 0 g j) (ix4 ⟨n, hn⟩ 0 g j) ?_).trans rfl
  intro a
  match a with
  | 0 => rfl
  | 1 => rfl
  | 2 => exact (Nat.zero_add _).symm
  | 3 => exact (Nat.zero_add _).symm

theorem index_tile (p q : ℕ) (f : ℕ → Fin 4 → Fin p → Fin q → EReal) (n : ℕ) (hn : n < 2048)
    (h : (⟨5, ![2048, 1, 4, p, q]⟩ : Shape).Slices (fun _ => 0) ⟨5, ![1, 1, 4, p, q]⟩) (hc : (⟨5, ![1, 1, 4, p, q]⟩ : Shape).ShapeCasts ⟨4, ![1, 4, p, q]⟩) :
    shapeCast ⟨4, ![1, 4, p, q]⟩ (Host.dynamicSlice ⟨5, ![1, 1, 4, p, q]⟩ (fun i : (⟨5, ![2048, 1, 4, p, q]⟩ : Shape).Idx => f (i 0).val (i 2) (i 3) (i 4))
      (fun q => ((![word n, word 0, word 0, word 0, word 0] : Fin 5 → S_.Idx → BitVec 32) q (Shape.Idx.first h_S_)).toInt) h) hc
      = fun i : (⟨4, ![1, 4, p, q]⟩ : Shape).Idx => f n (i 1) (i 2) (i 3) := by
  funext y
  obtain ⟨u, g, i, j, rfl⟩ : ∃ u g i j, y = ix4 u g i j := ⟨y 0, y 1, y 2, y 3, eq_ix4 y⟩
  obtain rfl : u = 0 := Subsingleton.elim _ _
  rw [shapeCast_apply (k := ix5 0 0 g i j) (hk := by rw [Shape.rowMajor_val_five, Shape.rowMajor_val_four]; rfl)]
  refine (slice_at _ _ h ![n, 0, 0, 0, 0] (fits5 p q n hn) (starts5 n hn) (ix5 0 0 g i j) (ix5 ⟨n, hn⟩ 0 g i j) ?_).trans rfl
  intro a
  match a with
  | 0 => rfl
  | 1 => rfl
  | 2 => exact (Nat.zero_add _).symm
  | 3 => exact (Nat.zero_add _).symm
  | 4 => exact (Nat.zero_add _).symm

theorem put_vec (f : ℕ → Fin 4 → Fin 64 → EReal) (n : ℕ) (hn : n < 2048) (h : S2048x1x4x64.Slices (fun _ => 0) S1x1x4x64) (X : S2048x1x4x64.Idx → EReal)
    (i : S2048x1x4x64.Idx) (hX : (i 0).val ≠ n → X i = vecA f i) :
    Host.dynamicUpdateSlice X (vecU (f n)) (fun q => ((![word n, word 0, word 0, word 0] : Fin 4 → S_.Idx → BitVec 32) q (Shape.Idx.first h_S_)).toInt) h i = vecA f i := by
  refine update_row (vecA f) X (vecU (f n)) _ h ![n, 0, 0, 0] (fits4 n hn) (starts4 n hn) 0 rfl ?_ ?_ i hX
  · intro a ha
    match a with
    | 0 => exact absurd rfl ha
    | 1 => exact ⟨rfl, rfl⟩
    | 2 => exact ⟨rfl, rfl⟩
    | 3 => exact ⟨rfl, rfl⟩
  · intro i hb (e : (i 0).val = n)
    show f n (i 2) (i 3) = f (i 0).val (i 2) (i 3)
    rw [e]

theorem put_tile (p q : ℕ) (f : ℕ → Fin 4 → Fin p → Fin q → EReal) (n : ℕ) (hn : n < 2048)
    (h : (⟨5, ![2048, 1, 4, p, q]⟩ : Shape).Slices (fun _ => 0) ⟨5, ![1, 1, 4, p, q]⟩) (X : (⟨5, ![2048, 1, 4, p, q]⟩ : Shape).Idx → EReal)
    (i : (⟨5, ![2048, 1, 4, p, q]⟩ : Shape).Idx) (hX : (i 0).val ≠ n → X i = f (i 0).val (i 2) (i 3) (i 4)) :
    Host.dynamicUpdateSlice X (fun i : (⟨5, ![1, 1, 4, p, q]⟩ : Shape).Idx => f n (i 2) (i 3) (i 4))
      (fun q => ((![word n, word 0, word 0, word 0, word 0] : Fin 5 → S_.Idx → BitVec 32) q (Shape.Idx.first h_S_)).toInt) h i = f (i 0).val (i 2) (i 3) (i 4) := by
  refine update_row (fun i : (⟨5, ![2048, 1, 4, p, q]⟩ : Shape).Idx => f (i 0).val (i 2) (i 3) (i 4)) X _ _ h ![n, 0, 0, 0, 0] (fits5 p q n hn) (starts5 n hn) 0 rfl ?_ ?_ i hX
  · intro a ha
    match a with
    | 0 => exact absurd rfl ha
    | 1 => exact ⟨rfl, rfl⟩
    | 2 => exact ⟨rfl, rfl⟩
    | 3 => exact ⟨rfl, rfl⟩
    | 4 => exact ⟨rfl, rfl⟩
  · intro i hb (e : (i 0).val = n)
    show f n (i 2) (i 3) (i 4) = f (i 0).val (i 2) (i 3) (i 4)
    rw [e]

theorem sum_keys (f : Fin 4 → Fin 64 → Fin 64 → EReal) :
    Host.reduceAdd (φ := .f32) (matR f) (constant (F := Ideal) S_ .f32 0x00000000#32) reducesTo_S1x4x64x64_S1x4x64_d3 h_S_ = vecR (fun h i => ∑ j, f h i j) := by
  funext y
  refine (Ideal.hostReduceAdd_r4_a3 _ _ _ _).trans ?_
  show Ideal.ofBits .f32 0x00000000#32 + _ = _
  rw [Ideal.ofBits_zero_f32, zero_add]
  rfl

theorem sum_values (f : Fin 4 → Fin 64 → Fin 64 → EReal) :
    Host.reduceAdd (φ := .f32) (matR f) (constant (F := Ideal) S_ .f32 0x00000000#32) reducesTo_S1x4x64x64_S1x4x64_d2 h_S_ = vecR (fun h j => ∑ i, f h i j) := by
  funext y
  refine (Ideal.hostReduceAdd_r4_a2 _ _ _ _).trans ?_
  show Ideal.ofBits .f32 0x00000000#32 + _ = _
  rw [Ideal.ofBits_zero_f32, zero_add]
  rfl

theorem sum_one {s : Shape} {axes : List (Fin s.rank)} {t : Shape} (h : s.ReducesTo axes t) (x : s.Idx → EReal) (y : t.Idx) (k : s.Idx)
    (hk : ∀ i, h.drop i = y ↔ k = i) : Host.reduceAdd (φ := .f32) x (constant (F := Ideal) S_ .f32 0x00000000#32) h h_S_ y = x k := by
  show Ideal.ofBits .f32 0x00000000#32 + ∑ i ∈ Finset.univ.filter (fun i => h.drop i = y), x i = _
  rw [Ideal.ofBits_zero_f32, zero_add,
    Finset.sum_filter_eq_sum_of_fiber _ (fun _ : Unit => k) (fun _ _ _ => rfl) (fun i => (hk i).trans ⟨fun e => ⟨(), e⟩, fun ⟨_, e⟩ => e⟩)]
  exact Fintype.sum_unique _

theorem drop_row (f : Fin 4 → Fin 64 → EReal) :
    Host.reduceAdd (φ := .f32) (rowR f) (constant (F := Ideal) S_ .f32 0x00000000#32) reducesTo_S1x4x1x64_S4x64_d0_2 h_S_ = headR f := by
  funext y
  refine (sum_one reducesTo_S1x4x1x64_S4x64_d0_2 (rowR f) y (ix4 0 (y 0) 0 (y 1)) fun i => ⟨fun e => ?_, fun e => ?_⟩).trans rfl
  · subst e
    funext a
    match a with
    | 0 => exact Subsingleton.elim (α := Fin 1) _ _
    | 1 => rfl
    | 2 => exact Subsingleton.elim (α := Fin 1) _ _
    | 3 => rfl
  · subst e
    funext b
    match b with
    | 0 => rfl
    | 1 => rfl

theorem drop_col (f : Fin 4 → Fin 64 → EReal) :
    Host.reduceAdd (φ := .f32) (colR f) (constant (F := Ideal) S_ .f32 0x00000000#32) reducesTo_S1x4x64x1_S4x64_d0_3 h_S_ = headR f := by
  funext y
  refine (sum_one reducesTo_S1x4x64x1_S4x64_d0_3 (colR f) y (ix4 0 (y 0) (y 1) 0) fun i => ⟨fun e => ?_, fun e => ?_⟩).trans rfl
  · subst e
    funext a
    match a with
    | 0 => exact Subsingleton.elim (α := Fin 1) _ _
    | 1 => rfl
    | 2 => rfl
    | 3 => exact Subsingleton.elim (α := Fin 1) _ _
  · subst e
    funext b
    match b with
    | 0 => rfl
    | 1 => rfl

theorem row_of (f : Fin 4 → Fin 64 → EReal) (h : S1x4x64.ShapeCasts S1x4x1x64) : shapeCast S1x4x1x64 (vecR f) h = rowR f := by
  funext y
  obtain ⟨u, g, i, j, rfl⟩ : ∃ u g i j, y = ix4 u g i j := ⟨y 0, y 1, y 2, y 3, eq_ix4 y⟩
  rw [shapeCast_apply (k := ix3 u g j) (hk := by
    obtain rfl : i = 0 := Subsingleton.elim _ _
    rw [Shape.rowMajor_val_four, Shape.rowMajor_val_three]
    show (u.val * 4 + g.val) * 64 + j.val = ((u.val * 4 + g.val) * 1 + 0) * 64 + j.val
    omega)]
  rfl

theorem col_of (f : Fin 4 → Fin 64 → EReal) (h : S1x4x64.ShapeCasts S1x4x64x1) : shapeCast S1x4x64x1 (vecR f) h = colR f := by
  funext y
  obtain ⟨u, g, i, j, rfl⟩ : ∃ u g i j, y = ix4 u g i j := ⟨y 0, y 1, y 2, y 3, eq_ix4 y⟩
  rw [shapeCast_apply (k := ix3 u g i) (hk := by
    obtain rfl : j = 0 := Subsingleton.elim _ _
    rw [Shape.rowMajor_val_four, Shape.rowMajor_val_three]
    show (u.val * 4 + g.val) * 64 + i.val = ((u.val * 4 + g.val) * 64 + i.val) * 1 + 0
    omega)]
  rfl

theorem times_first (x : S2048x1x256.Idx → EReal) (hc : S2048x1x256.ShapeCasts S1x2048x4x64) (ht : S1x2048x4x64.Transposes [1, 0, 2, 3] S2048x1x4x64) :
    transpose S2048x1x4x64 [1, 0, 2, 3] (shapeCast S1x2048x4x64 x hc) ht = vecA (atTime x) := by
  funext y
  obtain ⟨t, u, g, j, rfl⟩ : ∃ t u g j, y = ix4 t u g j := ⟨y 0, y 1, y 2, y 3, eq_ix4 y⟩
  obtain rfl : u = 0 := Subsingleton.elim _ _
  rw [transpose_apply _ _ _ _ (ix4 0 t g j) (by
    intro b
    match b with
    | 0 => rfl
    | 1 => rfl
    | 2 => rfl
    | 3 => rfl)]
  rw [shapeCast_apply (k := ix3 t 0 (lane g j)) (hk := by
    rw [Shape.rowMajor_val_four, Shape.rowMajor_val_three]
    show (t.val * 1 + 0) * 256 + (64 * g.val + j.val) = ((0 * 2048 + t.val) * 4 + g.val) * 64 + j.val
    omega)]
  exact atTime_of x t g j

theorem times_back (f : ℕ → Fin 4 → Fin 64 → EReal) (ht : S2048x1x4x64.Transposes [1, 0, 2, 3] S1x2048x4x64) (hc : S1x2048x4x64.ShapeCasts S2048x1x256) :
    shapeCast S2048x1x256 (transpose S1x2048x4x64 [1, 0, 2, 3] (vecA fun t => f (2047 - t)) ht) hc = gradArr f := by
  funext y
  obtain ⟨t, u, l, rfl⟩ : ∃ t u l, y = ix3 t u l := ⟨y 0, y 1, y 2, eq_ix3 y⟩
  obtain rfl : u = 0 := Subsingleton.elim _ _
  rw [shapeCast_apply (k := ix4 0 t ⟨l.val / 64, by omega⟩ ⟨l.val % 64, by omega⟩) (hk := by
    rw [Shape.rowMajor_val_four, Shape.rowMajor_val_three]
    show ((0 * 2048 + t.val) * 4 + l.val / 64) * 64 + l.val % 64 = (t.val * 1 + 0) * 256 + l.val
    omega)]
  rw [transpose_apply _ _ _ _ (ix4 t 0 ⟨l.val / 64, by omega⟩ ⟨l.val % 64, by omega⟩) (by
    intro b
    match b with
    | 0 => rfl
    | 1 => rfl
    | 2 => rfl
    | 3 => rfl)]
  rfl

end Cert.ReferenceIdeal.Scan
-- ==== Proof.RefFwd.lean ====
/- The forward loop of the reference: the values it keeps for each time. -/
module

public import proofs.«01_k».proof.Proof.RefRun
public import proofs.«01_k».proof.Proof.RefArrays

@[expose] public section

set_option maxRecDepth 16384

noncomputable section

namespace Cert.ReferenceIdeal.Scan

open Idealize.ShloMosaic Idealize.ShloMosaic.TcCoe
open Cert.ReferenceIdeal.Gen Cert.Scan
open Idealize.ShloMosaic.StableHlo (after afterL atTrip)

/-- What the forward loop's carried values hold before trip `n`. -/
structure FwdAt (I : Ins) (n : ℕ) (V : Valuation τ sig (Elt Ideal)) : Prop where
  r : (V main_v23_0 : S2048x1x4x64.Idx → EReal) = vecA I.r
  w : (V main_v23_1 : S2048x1x4x64.Idx → EReal) = vecA I.w
  k : (V main_v23_2 : S2048x1x4x64.Idx → EReal) = vecA I.k
  v : (V main_v23_3 : S2048x1x4x64.Idx → EReal) = vecA I.v
  a : (V main_v23_4 : S2048x1x4x64.Idx → EReal) = vecA I.a
  b : (V main_v23_5 : S2048x1x4x64.Idx → EReal) = vecA I.b
  ctr : (V main_v23_6 : S_.Idx → BitVec 32) = word n
  st : (V main_v23_7 : S1x4x64x64.Idx → EReal) = matR (I.S n)
  aa : ∀ i, (i 0).val < n → (V main_v23_9 : S2048x1x4x1x64.Idx → EReal) i = rowA I.a i
  ss : ∀ i, (i 0).val < n → (V main_v23_10 : S2048x1x4x64x64.Idx → EReal) i = matA I.S i
  ws : ∀ i, (i 0).val < n → (V main_v23_11 : S2048x1x4x1x64.Idx → EReal) i = rowA I.w i
  bs : ∀ i, (i 0).val < n → (V main_v23_12 : S2048x1x4x1x64.Idx → EReal) i = rowA I.b i
  sas : ∀ i, (i 0).val < n → (V main_v23_13 : S2048x1x4x64x1.Idx → EReal) i = colA I.sa i
  ks : ∀ i, (i 0).val < n → (V main_v23_14 : S2048x1x4x1x64.Idx → EReal) i = rowA I.k i
  vs : ∀ i, (i 0).val < n → (V main_v23_15 : S2048x1x4x64x1.Idx → EReal) i = colA I.v i
  rs : ∀ i, (i 0).val < n → (V main_v23_16 : S2048x1x4x1x64.Idx → EReal) i = rowA I.r i
  ns : ∀ i, (i 0).val < n → (V main_v23_17 : S2048x1x4x64x64.Idx → EReal) i = matA (fun t => I.S (t + 1)) i

theorem fwd_map : Writes (fwdWork (F := Ideal)) fwdWorkW := rfl
theorem fwdLast_map : Writes (fwdLast (F := Ideal)) fwdLastW := rfl
theorem fwdCond_map : Writes (fwdCond (F := Ideal)) fwdCondW := rfl

variable {I : Ins} {n : ℕ} {V : Valuation τ sig (Elt Ideal)}

section Work

variable (H : FwdAt I n V) (hn : n < 2048)
include H hn

namespace FwdAt

theorem e_v23_0 : (after fwdWork V main_v23_0 : S2048x1x4x64.Idx → EReal) = vecA I.r :=
  (fwd_map.of (by decide +kernel) V).trans H.r
theorem e_v23_1 : (after fwdWork V main_v23_1 : S2048x1x4x64.Idx → EReal) = vecA I.w :=
  (fwd_map.of (by decide +kernel) V).trans H.w
theorem e_v23_2 : (after fwdWork V main_v23_2 : S2048x1x4x64.Idx → EReal) = vecA I.k :=
  (fwd_map.of (by decide +kernel) V).trans H.k
theorem e_v23_3 : (after fwdWork V main_v23_3 : S2048x1x4x64.Idx → EReal) = vecA I.v :=
  (fwd_map.of (by decide +kernel) V).trans H.v
theorem e_v23_4 : (after fwdWork V main_v23_4 : S2048x1x4x64.Idx → EReal) = vecA I.a :=
  (fwd_map.of (by decide +kernel) V).trans H.a
theorem e_v23_5 : (after fwdWork V main_v23_5 : S2048x1x4x64.Idx → EReal) = vecA I.b :=
  (fwd_map.of (by decide +kernel) V).trans H.b
theorem e_v23_6 : (after fwdWork V main_v23_6 : S_.Idx → BitVec 32) = word n :=
  (fwd_map.of (by decide +kernel) V).trans H.ctr
theorem e_v23_7 : (after fwdWork V main_v23_7 : S1x4x64x64.Idx → EReal) = matR (I.S n) :=
  (fwd_map.of (by decide +kernel) V).trans H.st
theorem e_call0_c : (after fwdWork V main_while0b_call0_c : S_.Idx → BitVec 32) = word 0 :=
  val0 fwd_map 0 rfl (by decide +kernel) rfl
theorem e_call0_c_0 : (after fwdWork V main_while0b_call0_c_0 : S_.Idx → BitVec 32) = word 0 :=
  val0 fwd_map 1 rfl (by decide +kernel) rfl
theorem e_call0_c_1 : (after fwdWork V main_while0b_call0_c_1 : S_.Idx → BitVec 32) = word 0 :=
  val0 fwd_map 2 rfl (by decide +kernel) rfl
theorem e_v49 : (after fwdWork V main_while0b_v49 : S1x4x64.Idx → EReal) = vecR (I.r n) :=
  valR fwd_map 4 rfl (by decide +kernel) (by decide +kernel) (val1I fwd_map 3 rfl (by decide +kernel) (by decide +kernel) (by decide +kernel) (e_v23_0 H hn)
    (z := ![word n, word 0, word 0, word 0]) (fun q => match q with | 0 => heq_of_eq (e_v23_6 H hn) | 1 => heq_of_eq (e_call0_c H hn) | 2 => heq_of_eq (e_call0_c_0 H hn) | 3 => heq_of_eq (e_call0_c_1 H hn)) rfl)
    (index_vec I.r n hn sliceFits_S2048x1x4x64_S1x1x4x64 shapeCasts_S1x1x4x64_S1x4x64)
theorem e_call1_c : (after fwdWork V main_while0b_call1_c : S_.Idx → BitVec 32) = word 0 :=
  val0 fwd_map 5 rfl (by decide +kernel) rfl
theorem e_call1_c_0 : (after fwdWork V main_while0b_call1_c_0 : S_.Idx → BitVec 32) = word 0 :=
  val0 fwd_map 6 rfl (by decide +kernel) rfl
theorem e_call1_c_1 : (after fwdWork V main_while0b_call1_c_1 : S_.Idx → BitVec 32) = word 0 :=
  val0 fwd_map 7 rfl (by decide +kernel) rfl
theorem e_v50 : (after fwdWork V main_while0b_v50 : S1x4x64.Idx → EReal) = vecR (I.w n) :=
  valR fwd_map 9 rfl (by decide +kernel) (by decide +kernel) (val1I fwd_map 8 rfl (by decide +kernel) (by decide +kernel) (by decide +kernel) (e_v23_1 H hn)
    (z := ![word n, word 0, word 0, word 0]) (fun q => match q with | 0 => heq_of_eq (e_v23_6 H hn) | 1 => heq_of_eq (e_call1_c H hn) | 2 => heq_of_eq (e_call1_c_0 H hn) | 3 => heq_of_eq (e_call1_c_1 H hn)) rfl)
    (index_vec I.w n hn sliceFits_S2048x1x4x64_S1x1x4x64 shapeCasts_S1x1x4x64_S1x4x64)
theorem e_call2_c : (after fwdWork V main_while0b_call2_c : S_.Idx → BitVec 32) = word 0 :=
  val0 fwd_map 10 rfl (by decide +kernel) rfl
theorem e_call2_c_0 : (after fwdWork V main_while0b_call2_c_0 : S_.Idx → BitVec 32) = word 0 :=
  val0 fwd_map 11 rfl (by decide +kernel) rfl
theorem e_call2_c_1 : (after fwdWork V main_while0b_call2_c_1 : S_.Idx → BitVec 32) = word 0 :=
  val0 fwd_map 12 rfl (by decide +kernel) rfl
theorem e_v51 : (after fwdWork V main_while0b_v51 : S1x4x64.Idx → EReal) = vecR (I.k n) :=
  valR fwd_map 14 rfl (by decide +kernel) (by decide +kernel) (val1I fwd_map 13 rfl (by decide +kernel) (by decide +kernel) (by decide +kernel) (e_v23_2 H hn)
    (z := ![word n, word 0, word 0, word 0]) (fun q => match q with | 0 => heq_of_eq (e_v23_6 H hn) | 1 => heq_of_eq (e_call2_c H hn) | 2 => heq_of_eq (e_call2_c_0 H hn) | 3 => heq_of_eq (e_call2_c_1 H hn)) rfl)
    (index_vec I.k n hn sliceFits_S2048x1x4x64_S1x1x4x64 shapeCasts_S1x1x4x64_S1x4x64)
theorem e_call3_c : (after fwdWork V main_while0b_call3_c : S_.Idx → BitVec 32) = word 0 :=
  val0 fwd_map 15 rfl (by decide +kernel) rfl
theorem e_call3_c_0 : (after fwdWork V main_while0b_call3_c_0 : S_.Idx → BitVec 32) = word 0 :=
  val0 fwd_map 16 rfl (by decide +kernel) rfl
theorem e_call3_c_1 : (after fwdWork V main_while0b_call3_c_1 : S_.Idx → BitVec 32) = word 0 :=
  val0 fwd_map 17 rfl (by decide +kernel) rfl
theorem e_v52 : (after fwdWork V main_while0b_v52 : S1x4x64.Idx → EReal) = vecR (I.v n) :=
  valR fwd_map 19 rfl (by decide +kernel) (by decide +kernel) (val1I fwd_map 18 rfl (by decide +kernel) (by decide +kernel) (by decide +kernel) (e_v23_3 H hn)
    (z := ![word n, word 0, word 0, word 0]) (fun q => match q with | 0 => heq_of_eq (e_v23_6 H hn) | 1 => heq_of_eq (e_call3_c H hn) | 2 => heq_of_eq (e_call3_c_0 H hn) | 3 => heq_of_eq (e_call3_c_1 H hn)) rfl)
    (index_vec I.v n hn sliceFits_S2048x1x4x64_S1x1x4x64 shapeCasts_S1x1x4x64_S1x4x64)
theorem e_call4_c : (after fwdWork V main_while0b_call4_c : S_.Idx → BitVec 32) = word 0 :=
  val0 fwd_map 20 rfl (by decide +kernel) rfl
theorem e_call4_c_0 : (after fwdWork V main_while0b_call4_c_0 : S_.Idx → BitVec 32) = word 0 :=
  val0 fwd_map 21 rfl (by decide +kernel) rfl
theorem e_call4_c_1 : (after fwdWork V main_while0b_call4_c_1 : S_.Idx → BitVec 32) = word 0 :=
  val0 fwd_map 22 rfl (by decide +kernel) rfl
theorem e_v53 : (after fwdWork V main_while0b_v53 : S1x4x64.Idx → EReal) = vecR (I.a n) :=
  valR fwd_map 24 rfl (by decide +kernel) (by decide +kernel) (val1I fwd_map 23 rfl (by decide +kernel) (by decide +kernel) (by decide +kernel) (e_v23_4 H hn)
    (z := ![word n, word 0, word 0, word 0]) (fun q => match q with | 0 => heq_of_eq (e_v23_6 H hn) | 1 => heq_of_eq (e_call4_c H hn) | 2 => heq_of_eq (e_call4_c_0 H hn) | 3 => heq_of_eq (e_call4_c_1 H hn)) rfl)
    (index_vec I.a n hn sliceFits_S2048x1x4x64_S1x1x4x64 shapeCasts_S1x1x4x64_S1x4x64)
theorem e_call5_c : (after fwdWork V main_while0b_call5_c : S_.Idx → BitVec 32) = word 0 :=
  val0 fwd_map 25 rfl (by decide +kernel) rfl
theorem e_call5_c_0 : (after fwdWork V main_while0b_call5_c_0 : S_.Idx → BitVec 32) = word 0 :=
  val0 fwd_map 26 rfl (by decide +kernel) rfl
theorem e_call5_c_1 : (after fwdWork V main_while0b_call5_c_1 : S_.Idx → BitVec 32) = word 0 :=
  val0 fwd_map 27 rfl (by decide +kernel) rfl
theorem e_v54 : (after fwdWork V main_while0b_v54 : S1x4x64.Idx → EReal) = vecR (I.b n) :=
  valR fwd_map 29 rfl (by decide +kernel) (by decide +kernel) (val1I fwd_map 28 rfl (by decide +kernel) (by decide +kernel) (by decide +kernel) (e_v23_5 H hn)
    (z := ![word n, word 0, word 0, word 0]) (fun q => match q with | 0 => heq_of_eq (e_v23_6 H hn) | 1 => heq_of_eq (e_call5_c H hn) | 2 => heq_of_eq (e_call5_c_0 H hn) | 3 => heq_of_eq (e_call5_c_1 H hn)) rfl)
    (index_vec I.b n hn sliceFits_S2048x1x4x64_S1x1x4x64 shapeCasts_S1x1x4x64_S1x4x64)
theorem e_v55 : (after fwdWork V main_while0b_v55 : S1x4x1x64.Idx → EReal) = rowR (I.a n) :=
  val1 fwd_map 30 rfl (by decide +kernel) (by decide +kernel) (e_v53 H hn) rfl
theorem e_v56 : (after fwdWork V main_while0b_v56 : S1x4x64x64.Idx → EReal) = matR (fun h _ j => I.a n h j) :=
  val1 fwd_map 31 rfl (by decide +kernel) (by decide +kernel) (e_v55 H hn) rfl
theorem e_v57 : (after fwdWork V main_while0b_v57 : S1x4x64x64.Idx → EReal) = matR (fun h i j => I.S n h i j * I.a n h j) :=
  val2 fwd_map 32 rfl (by decide +kernel) (by decide +kernel) (by decide +kernel) (e_v23_7 H hn) (e_v56 H hn) rfl
theorem e_cst_36 : (after fwdWork V main_while0b_cst_36 : S_.Idx → EReal) = constant (F := Ideal) S_ .f32 0x00000000#32 :=
  val0 fwd_map 33 rfl (by decide +kernel) rfl
theorem e_v58 : (after fwdWork V main_while0b_v58 : S1x4x64.Idx → EReal) = vecR (I.sa n) :=
  val2 fwd_map 34 rfl (by decide +kernel) (by decide +kernel) (by decide +kernel) (e_v57 H hn) (e_cst_36 H hn) (sum_keys _)
theorem e_v59 : (after fwdWork V main_while0b_v59 : S1x4x1x64.Idx → EReal) = rowR (I.w n) :=
  val1 fwd_map 35 rfl (by decide +kernel) (by decide +kernel) (e_v50 H hn) rfl
theorem e_v60 : (after fwdWork V main_while0b_v60 : S1x4x64x64.Idx → EReal) = matR (fun h _ j => I.w n h j) :=
  val1 fwd_map 36 rfl (by decide +kernel) (by decide +kernel) (e_v59 H hn) rfl
theorem e_v61 : (after fwdWork V main_while0b_v61 : S1x4x64x64.Idx → EReal) = matR (fun h i j => I.S n h i j * I.w n h j) :=
  val2 fwd_map 37 rfl (by decide +kernel) (by decide +kernel) (by decide +kernel) (e_v23_7 H hn) (e_v60 H hn) rfl
theorem e_v62 : (after fwdWork V main_while0b_v62 : S1x4x64x1.Idx → EReal) = colR (I.sa n) :=
  val1 fwd_map 38 rfl (by decide +kernel) (by decide +kernel) (e_v58 H hn) rfl
theorem e_v63 : (after fwdWork V main_while0b_v63 : S1x4x1x64.Idx → EReal) = rowR (I.b n) :=
  val1 fwd_map 39 rfl (by decide +kernel) (by decide +kernel) (e_v54 H hn) rfl
theorem e_v64 : (after fwdWork V main_while0b_v64 : S1x4x64x64.Idx → EReal) = matR (fun h i _ => I.sa n h i) :=
  val1 fwd_map 40 rfl (by decide +kernel) (by decide +kernel) (e_v62 H hn) rfl
theorem e_v65 : (after fwdWork V main_while0b_v65 : S1x4x64x64.Idx → EReal) = matR (fun h _ j => I.b n h j) :=
  val1 fwd_map 41 rfl (by decide +kernel) (by decide +kernel) (e_v63 H hn) rfl
theorem e_v66 : (after fwdWork V main_while0b_v66 : S1x4x64x64.Idx → EReal) = matR (fun h i j => I.sa n h i * I.b n h j) :=
  val2 fwd_map 42 rfl (by decide +kernel) (by decide +kernel) (by decide +kernel) (e_v64 H hn) (e_v65 H hn) rfl
theorem e_v67 : (after fwdWork V main_while0b_v67 : S1x4x64x64.Idx → EReal) = matR (fun h i j => I.S n h i j * I.w n h j + I.sa n h i * I.b n h j) :=
  val2 fwd_map 43 rfl (by decide +kernel) (by decide +kernel) (by decide +kernel) (e_v61 H hn) (e_v66 H hn) rfl
theorem e_v68 : (after fwdWork V main_while0b_v68 : S1x4x64x1.Idx → EReal) = colR (I.v n) :=
  val1 fwd_map 44 rfl (by decide +kernel) (by decide +kernel) (e_v52 H hn) rfl
theorem e_v69 : (after fwdWork V main_while0b_v69 : S1x4x1x64.Idx → EReal) = rowR (I.k n) :=
  val1 fwd_map 45 rfl (by decide +kernel) (by decide +kernel) (e_v51 H hn) rfl
theorem e_v70 : (after fwdWork V main_while0b_v70 : S1x4x64x64.Idx → EReal) = matR (fun h i _ => I.v n h i) :=
  val1 fwd_map 46 rfl (by decide +kernel) (by decide +kernel) (e_v68 H hn) rfl
theorem e_v71 : (after fwdWork V main_while0b_v71 : S1x4x64x64.Idx → EReal) = matR (fun h _ j => I.k n h j) :=
  val1 fwd_map 47 rfl (by decide +kernel) (by decide +kernel) (e_v69 H hn) rfl
theorem e_v72 : (after fwdWork V main_while0b_v72 : S1x4x64x64.Idx → EReal) = matR (fun h i j => I.v n h i * I.k n h j) :=
  val2 fwd_map 48 rfl (by decide +kernel) (by decide +kernel) (by decide +kernel) (e_v70 H hn) (e_v71 H hn) rfl
theorem e_v73 : (after fwdWork V main_while0b_v73 : S1x4x64x64.Idx → EReal) = matR (I.S (n + 1)) :=
  val2 fwd_map 49 rfl (by decide +kernel) (by decide +kernel) (by decide +kernel) (e_v67 H hn) (e_v72 H hn) rfl
theorem e_v74 : (after fwdWork V main_while0b_v74 : S1x4x1x64.Idx → EReal) = rowR (I.r n) :=
  val1 fwd_map 50 rfl (by decide +kernel) (by decide +kernel) (e_v49 H hn) rfl
theorem e_call7_v0 : (after fwdWork V main_while0b_call7_v0 : S1x1x4x1x64.Idx → EReal) = rowU (I.a n) :=
  val1 fwd_map 60 rfl (by decide +kernel) (by decide +kernel) (e_v55 H hn) rfl
theorem e_call7_c : (after fwdWork V main_while0b_call7_c : S_.Idx → BitVec 32) = word 0 :=
  val0 fwd_map 61 rfl (by decide +kernel) rfl
theorem e_call7_c_0 : (after fwdWork V main_while0b_call7_c_0 : S_.Idx → BitVec 32) = word 0 :=
  val0 fwd_map 62 rfl (by decide +kernel) rfl
theorem e_call7_c_1 : (after fwdWork V main_while0b_call7_c_1 : S_.Idx → BitVec 32) = word 0 :=
  val0 fwd_map 63 rfl (by decide +kernel) rfl
theorem e_call7_c_2 : (after fwdWork V main_while0b_call7_c_2 : S_.Idx → BitVec 32) = word 0 :=
  val0 fwd_map 64 rfl (by decide +kernel) rfl
theorem e_v79 (i : S2048x1x4x1x64.Idx) (hi : (i 0).val < n + 1) : (after fwdWork V main_while0b_v79 : S2048x1x4x1x64.Idx → EReal) i = rowA I.a i :=
  (congrFun (val2I fwd_map 65 rfl (by decide +kernel) (by decide +kernel) (by decide +kernel) (by decide +kernel) (fwd_map.of (by decide +kernel) V) (e_call7_v0 H hn)
    (z := ![word n, word 0, word 0, word 0, word 0]) (fun q => match q with | 0 => heq_of_eq (e_v23_6 H hn) | 1 => heq_of_eq (e_call7_c H hn) | 2 => heq_of_eq (e_call7_c_0 H hn) | 3 => heq_of_eq (e_call7_c_1 H hn) | 4 => heq_of_eq (e_call7_c_2 H hn)) rfl) i).trans
    (put_tile 1 64 (fun t h _ j => I.a t h j) n hn updateFits_S2048x1x4x1x64_S1x1x4x1x64 _ i (fun hne => H.aa i (by omega)))
theorem e_call8_v0 : (after fwdWork V main_while0b_call8_v0 : S1x1x4x64x64.Idx → EReal) = matU (I.S n) :=
  val1 fwd_map 66 rfl (by decide +kernel) (by decide +kernel) (e_v23_7 H hn) rfl
theorem e_call8_c : (after fwdWork V main_while0b_call8_c : S_.Idx → BitVec 32) = word 0 :=
  val0 fwd_map 67 rfl (by decide +kernel) rfl
theorem e_call8_c_0 : (after fwdWork V main_while0b_call8_c_0 : S_.Idx → BitVec 32) = word 0 :=
  val0 fwd_map 68 rfl (by decide +kernel) rfl
theorem e_call8_c_1 : (after fwdWork V main_while0b_call8_c_1 : S_.Idx → BitVec 32) = word 0 :=
  val0 fwd_map 69 rfl (by decide +kernel) rfl
theorem e_call8_c_2 : (after fwdWork V main_while0b_call8_c_2 : S_.Idx → BitVec 32) = word 0 :=
  val0 fwd_map 70 rfl (by decide +kernel) rfl
theorem e_v80 (i : S2048x1x4x64x64.Idx) (hi : (i 0).val < n + 1) : (after fwdWork V main_while0b_v80 : S2048x1x4x64x64.Idx → EReal) i = matA I.S i :=
  (congrFun (val2I fwd_map 71 rfl (by decide +kernel) (by decide +kernel) (by decide +kernel) (by decide +kernel) (fwd_map.of (by decide +kernel) V) (e_call8_v0 H hn)
    (z := ![word n, word 0, word 0, word 0, word 0]) (fun q => match q with | 0 => heq_of_eq (e_v23_6 H hn) | 1 => heq_of_eq (e_call8_c H hn) | 2 => heq_of_eq (e_call8_c_0 H hn) | 3 => heq_of_eq (e_call8_c_1 H hn) | 4 => heq_of_eq (e_call8_c_2 H hn)) rfl) i).trans
    (put_tile 64 64 I.S n hn updateFits_S2048x1x4x64x64_S1x1x4x64x64 _ i (fun hne => H.ss i (by omega)))
theorem e_call9_v0 : (after fwdWork V main_while0b_call9_v0 : S1x1x4x1x64.Idx → EReal) = rowU (I.w n) :=
  val1 fwd_map 72 rfl (by decide +kernel) (by decide +kernel) (e_v59 H hn) rfl
theorem e_call9_c : (after fwdWork V main_while0b_call9_c : S_.Idx → BitVec 32) = word 0 :=
  val0 fwd_map 73 rfl (by decide +kernel) rfl
theorem e_call9_c_0 : (after fwdWork V main_while0b_call9_c_0 : S_.Idx → BitVec 32) = word 0 :=
  val0 fwd_map 74 rfl (by decide +kernel) rfl
theorem e_call9_c_1 : (after fwdWork V main_while0b_call9_c_1 : S_.Idx → BitVec 32) = word 0 :=
  val0 fwd_map 75 rfl (by decide +kernel) rfl
theorem e_call9_c_2 : (after fwdWork V main_while0b_call9_c_2 : S_.Idx → BitVec 32) = word 0 :=
  val0 fwd_map 76 rfl (by decide +kernel) rfl
theorem e_v81 (i : S2048x1x4x1x64.Idx) (hi : (i 0).val < n + 1) : (after fwdWork V main_while0b_v81 : S2048x1x4x1x64.Idx → EReal) i = rowA I.w i :=
  (congrFun (val2I fwd_map 77 rfl (by decide +kernel) (by decide +kernel) (by decide +kernel) (by decide +kernel) (fwd_map.of (by decide +kernel) V) (e_call9_v0 H hn)
    (z := ![word n, word 0, word 0, word 0, word 0]) (fun q => match q with | 0 => heq_of_eq (e_v23_6 H hn) | 1 => heq_of_eq (e_call9_c H hn) | 2 => heq_of_eq (e_call9_c_0 H hn) | 3 => heq_of_eq (e_call9_c_1 H hn) | 4 => heq_of_eq (e_call9_c_2 H hn)) rfl) i).trans
    (put_tile 1 64 (fun t h _ j => I.w t h j) n hn updateFits_S2048x1x4x1x64_S1x1x4x1x64 _ i (fun hne => H.ws i (by omega)))
theorem e_call10_v0 : (after fwdWork V main_while0b_call10_v0 : S1x1x4x1x64.Idx → EReal) = rowU (I.b n) :=
  val1 fwd_map 78 rfl (by decide +kernel) (by decide +kernel) (e_v63 H hn) rfl
theorem e_call10_c : (after fwdWork V main_while0b_call10_c : S_.Idx → BitVec 32) = word 0 :=
  val0 fwd_map 79 rfl (by decide +kernel) rfl
theorem e_call10_c_0 : (after fwdWork V main_while0b_call10_c_0 : S_.Idx → BitVec 32) = word 0 :=
  val0 fwd_map 80 rfl (by decide +kernel) rfl
theorem e_call10_c_1 : (after fwdWork V main_while0b_call10_c_1 : S_.Idx → BitVec 32) = word 0 :=
  val0 fwd_map 81 rfl (by decide +kernel) rfl
theorem e_call10_c_2 : (after fwdWork V main_while0b_call10_c_2 : S_.Idx → BitVec 32) = word 0 :=
  val0 fwd_map 82 rfl (by decide +kernel) rfl
theorem e_v82 (i : S2048x1x4x1x64.Idx) (hi : (i 0).val < n + 1) : (after fwdWork V main_while0b_v82 : S2048x1x4x1x64.Idx → EReal) i = rowA I.b i :=
  (congrFun (val2I fwd_map 83 rfl (by decide +kernel) (by decide +kernel) (by decide +kernel) (by decide +kernel) (fwd_map.of (by decide +kernel) V) (e_call10_v0 H hn)
    (z := ![word n, word 0, word 0, word 0, word 0]) (fun q => match q with | 0 => heq_of_eq (e_v23_6 H hn) | 1 => heq_of_eq (e_call10_c H hn) | 2 => heq_of_eq (e_call10_c_0 H hn) | 3 => heq_of_eq (e_call10_c_1 H hn) | 4 => heq_of_eq (e_call10_c_2 H hn)) rfl) i).trans
    (put_tile 1 64 (fun t h _ j => I.b t h j) n hn updateFits_S2048x1x4x1x64_S1x1x4x1x64 _ i (fun hne => H.bs i (by omega)))
theorem e_call11_v0 : (after fwdWork V main_while0b_call11_v0 : S1x1x4x64x1.Idx → EReal) = colU (I.sa n) :=
  val1 fwd_map 84 rfl (by decide +kernel) (by decide +kernel) (e_v62 H hn) rfl
theorem e_call11_c : (after fwdWork V main_while0b_call11_c : S_.Idx → BitVec 32) = word 0 :=
  val0 fwd_map 85 rfl (by decide +kernel) rfl
theorem e_call11_c_0 : (after fwdWork V main_while0b_call11_c_0 : S_.Idx → BitVec 32) = word 0 :=
  val0 fwd_map 86 rfl (by decide +kernel) rfl
theorem e_call11_c_1 : (after fwdWork V main_while0b_call11_c_1 : S_.Idx → BitVec 32) = word 0 :=
  val0 fwd_map 87 rfl (by decide +kernel) rfl
theorem e_call11_c_2 : (after fwdWork V main_while0b_call11_c_2 : S_.Idx → BitVec 32) = word 0 :=
  val0 fwd_map 88 rfl (by decide +kernel) rfl
theorem e_v83 (i : S2048x1x4x64x1.Idx) (hi : (i 0).val < n + 1) : (after fwdWork V main_while0b_v83 : S2048x1x4x64x1.Idx → EReal) i = colA I.sa i :=
  (congrFun (val2I fwd_map 89 rfl (by decide +kernel) (by decide +kernel) (by decide +kernel) (by decide +kernel) (fwd_map.of (by decide +kernel) V) (e_call11_v0 H hn)
    (z := ![word n, word 0, word 0, word 0, word 0]) (fun q => match q with | 0 => heq_of_eq (e_v23_6 H hn) | 1 => heq_of_eq (e_call11_c H hn) | 2 => heq_of_eq (e_call11_c_0 H hn) | 3 => heq_of_eq (e_call11_c_1 H hn) | 4 => heq_of_eq (e_call11_c_2 H hn)) rfl) i).trans
    (put_tile 64 1 (fun t h i _ => I.sa t h i) n hn updateFits_S2048x1x4x64x1_S1x1x4x64x1 _ i (fun hne => H.sas i (by omega)))
theorem e_call12_v0 : (after fwdWork V main_while0b_call12_v0 : S1x1x4x1x64.Idx → EReal) = rowU (I.k n) :=
  val1 fwd_map 90 rfl (by decide +kernel) (by decide +kernel) (e_v69 H hn) rfl
theorem e_call12_c : (after fwdWork V main_while0b_call12_c : S_.Idx → BitVec 32) = word 0 :=
  val0 fwd_map 91 rfl (by decide +kernel) rfl
theorem e_call12_c_0 : (after fwdWork V main_while0b_call12_c_0 : S_.Idx → BitVec 32) = word 0 :=
  val0 fwd_map 92 rfl (by decide +kernel) rfl
theorem e_call12_c_1 : (after fwdWork V main_while0b_call12_c_1 : S_.Idx → BitVec 32) = word 0 :=
  val0 fwd_map 93 rfl (by decide +kernel) rfl
theorem e_call12_c_2 : (after fwdWork V main_while0b_call12_c_2 : S_.Idx → BitVec 32) = word 0 :=
  val0 fwd_map 94 rfl (by decide +kernel) rfl
theorem e_v84 (i : S2048x1x4x1x64.Idx) (hi : (i 0).val < n + 1) : (after fwdWork V main_while0b_v84 : S2048x1x4x1x64.Idx → EReal) i = rowA I.k i :=
  (congrFun (val2I fwd_map 95 rfl (by decide +kernel) (by decide +kernel) (by decide +kernel) (by decide +kernel) (fwd_map.of (by decide +kernel) V) (e_call12_v0 H hn)
    (z := ![word n, word 0, word 0, word 0, word 0]) (fun q => match q with | 0 => heq_of_eq (e_v23_6 H hn) | 1 => heq_of_eq (e_call12_c H hn) | 2 => heq_of_eq (e_call12_c_0 H hn) | 3 => heq_of_eq (e_call12_c_1 H hn) | 4 => heq_of_eq (e_call12_c_2 H hn)) rfl) i).trans
    (put_tile 1 64 (fun t h _ j => I.k t h j) n hn updateFits_S2048x1x4x1x64_S1x1x4x1x64 _ i (fun hne => H.ks i (by omega)))
theorem e_call13_v0 : (after fwdWork V main_while0b_call13_v0 : S1x1x4x64x1.Idx → EReal) = colU (I.v n) :=
  val1 fwd_map 96 rfl (by decide +kernel) (by decide +kernel) (e_v68 H hn) rfl
theorem e_call13_c : (after fwdWork V main_while0b_call13_c : S_.Idx → BitVec 32) = word 0 :=
  val0 fwd_map 97 rfl (by decide +kernel) rfl
theorem e_call13_c_0 : (after fwdWork V main_while0b_call13_c_0 : S_.Idx → BitVec 32) = word 0 :=
  val0 fwd_map 98 rfl (by decide +kernel) rfl
theorem e_call13_c_1 : (after fwdWork V main_while0b_call13_c_1 : S_.Idx → BitVec 32) = word 0 :=
  val0 fwd_map 99 rfl (by decide +kernel) rfl
theorem e_call13_c_2 : (after fwdWork V main_while0b_call13_c_2 : S_.Idx → BitVec 32) = word 0 :=
  val0 fwd_map 100 rfl (by decide +kernel) rfl
theorem e_v85 (i : S2048x1x4x64x1.Idx) (hi : (i 0).val < n + 1) : (after fwdWork V main_while0b_v85 : S2048x1x4x64x1.Idx → EReal) i = colA I.v i :=
  (congrFun (val2I fwd_map 101 rfl (by decide +kernel) (by decide +kernel) (by decide +kernel) (by decide +kernel) (fwd_map.of (by decide +kernel) V) (e_call13_v0 H hn)
    (z := ![word n, word 0, word 0, word 0, word 0]) (fun q => match q with | 0 => heq_of_eq (e_v23_6 H hn) | 1 => heq_of_eq (e_call13_c H hn) | 2 => heq_of_eq (e_call13_c_0 H hn) | 3 => heq_of_eq (e_call13_c_1 H hn) | 4 => heq_of_eq (e_call13_c_2 H hn)) rfl) i).trans
    (put_tile 64 1 (fun t h i _ => I.v t h i) n hn updateFits_S2048x1x4x64x1_S1x1x4x64x1 _ i (fun hne => H.vs i (by omega)))
theorem e_call14_v0 : (after fwdWork V main_while0b_call14_v0 : S1x1x4x1x64.Idx → EReal) = rowU (I.r n) :=
  val1 fwd_map 102 rfl (by decide +kernel) (by decide +kernel) (e_v74 H hn) rfl
theorem e_call14_c : (after fwdWork V main_while0b_call14_c : S_.Idx → BitVec 32) = word 0 :=
  val0 fwd_map 103 rfl (by decide +kernel) rfl
theorem e_call14_c_0 : (after fwdWork V main_while0b_call14_c_0 : S_.Idx → BitVec 32) = word 0 :=
  val0 fwd_map 104 rfl (by decide +kernel) rfl
theorem e_call14_c_1 : (after fwdWork V main_while0b_call14_c_1 : S_.Idx → BitVec 32) = word 0 :=
  val0 fwd_map 105 rfl (by decide +kernel) rfl
theorem e_call14_c_2 : (after fwdWork V main_while0b_call14_c_2 : S_.Idx → BitVec 32) = word 0 :=
  val0 fwd_map 106 rfl (by decide +kernel) rfl
theorem e_v86 (i : S2048x1x4x1x64.Idx) (hi : (i 0).val < n + 1) : (after fwdWork V main_while0b_v86 : S2048x1x4x1x64.Idx → EReal) i = rowA I.r i :=
  (congrFun (val2I fwd_map 107 rfl (by decide +kernel) (by decide +kernel) (by decide +kernel) (by decide +kernel) (fwd_map.of (by decide +kernel) V) (e_call14_v0 H hn)
    (z := ![word n, word 0, word 0, word 0, word 0]) (fun q => match q with | 0 => heq_of_eq (e_v23_6 H hn) | 1 => heq_of_eq (e_call14_c H hn) | 2 => heq_of_eq (e_call14_c_0 H hn) | 3 => heq_of_eq (e_call14_c_1 H hn) | 4 => heq_of_eq (e_call14_c_2 H hn)) rfl) i).trans
    (put_tile 1 64 (fun t h _ j => I.r t h j) n hn updateFits_S2048x1x4x1x64_S1x1x4x1x64 _ i (fun hne => H.rs i (by omega)))
theorem e_call15_v0 : (after fwdWork V main_while0b_call15_v0 : S1x1x4x64x64.Idx → EReal) = matU (I.S (n + 1)) :=
  val1 fwd_map 108 rfl (by decide +kernel) (by decide +kernel) (e_v73 H hn) rfl
theorem e_call15_c : (after fwdWork V main_while0b_call15_c : S_.Idx → BitVec 32) = word 0 :=
  val0 fwd_map 109 rfl (by decide +kernel) rfl
theorem e_call15_c_0 : (after fwdWork V main_while0b_call15_c_0 : S_.Idx → BitVec 32) = word 0 :=
  val0 fwd_map 110 rfl (by decide +kernel) rfl
theorem e_call15_c_1 : (after fwdWork V main_while0b_call15_c_1 : S_.Idx → BitVec 32) = word 0 :=
  val0 fwd_map 111 rfl (by decide +kernel) rfl
theorem e_call15_c_2 : (after fwdWork V main_while0b_call15_c_2 : S_.Idx → BitVec 32) = word 0 :=
  val0 fwd_map 112 rfl (by decide +kernel) rfl
theorem e_v87 (i : S2048x1x4x64x64.Idx) (hi : (i 0).val < n + 1) : (after fwdWork V main_while0b_v87 : S2048x1x4x64x64.Idx → EReal) i = matA (fun t => I.S (t + 1)) i :=
  (congrFun (val2I fwd_map 113 rfl (by decide +kernel) (by decide +kernel) (by decide +kernel) (by decide +kernel) (fwd_map.of (by decide +kernel) V) (e_call15_v0 H hn)
    (z := ![word n, word 0, word 0, word 0, word 0]) (fun q => match q with | 0 => heq_of_eq (e_v23_6 H hn) | 1 => heq_of_eq (e_call15_c H hn) | 2 => heq_of_eq (e_call15_c_0 H hn) | 3 => heq_of_eq (e_call15_c_1 H hn) | 4 => heq_of_eq (e_call15_c_2 H hn)) rfl) i).trans
    (put_tile 64 64 (fun t => I.S (t + 1)) n hn updateFits_S2048x1x4x64x64_S1x1x4x64x64 _ i (fun hne => H.ns i (by omega)))

/-- One pass of the body takes the carried values of trip `n` to those of trip `n + 1`. -/
theorem step : FwdAt I (n + 1) (afterL fwdI V) := by
  rw [afterL_fwd]
  exact {
    r := (fwdLast_map.of (by decide +kernel) _).trans (e_v23_0 H hn)
    w := (fwdLast_map.of (by decide +kernel) _).trans (e_v23_1 H hn)
    k := (fwdLast_map.of (by decide +kernel) _).trans (e_v23_2 H hn)
    v := (fwdLast_map.of (by decide +kernel) _).trans (e_v23_3 H hn)
    a := (fwdLast_map.of (by decide +kernel) _).trans (e_v23_4 H hn)
    b := (fwdLast_map.of (by decide +kernel) _).trans (e_v23_5 H hn)
    ctr := (fwd_step _).trans ((congrArg (fun x => addi x (constantI S_ 32 1#32)) (e_v23_6 H hn)).trans (word_add n))
    st := val1 fwdLast_map 3 rfl (by decide +kernel) (by decide +kernel) ((fwdLast_map.of (by decide +kernel) _).trans (e_v73 H hn)) rfl
    aa := fun i hi => (congrFun (val1 fwdLast_map 5 rfl (by decide +kernel) (by decide +kernel) (fwdLast_map.of (by decide +kernel) _) rfl) i).trans (e_v79 H hn i hi)
    ss := fun i hi => (congrFun (val1 fwdLast_map 6 rfl (by decide +kernel) (by decide +kernel) (fwdLast_map.of (by decide +kernel) _) rfl) i).trans (e_v80 H hn i hi)
    ws := fun i hi => (congrFun (val1 fwdLast_map 7 rfl (by decide +kernel) (by decide +kernel) (fwdLast_map.of (by decide +kernel) _) rfl) i).trans (e_v81 H hn i hi)
    bs := fun i hi => (congrFun (val1 fwdLast_map 8 rfl (by decide +kernel) (by decide +kernel) (fwdLast_map.of (by decide +kernel) _) rfl) i).trans (e_v82 H hn i hi)
    sas := fun i hi => (congrFun (val1 fwdLast_map 9 rfl (by decide +kernel) (by decide +kernel) (fwdLast_map.of (by decide +kernel) _) rfl) i).trans (e_v83 H hn i hi)
    ks := fun i hi => (congrFun (val1 fwdLast_map 10 rfl (by decide +kernel) (by decide +kernel) (fwdLast_map.of (by decide +kernel) _) rfl) i).trans (e_v84 H hn i hi)
    vs := fun i hi => (congrFun (val1 fwdLast_map 11 rfl (by decide +kernel) (by decide +kernel) (fwdLast_map.of (by decide +kernel) _) rfl) i).trans (e_v85 H hn i hi)
    rs := fun i hi => (congrFun (val1 fwdLast_map 12 rfl (by decide +kernel) (by decide +kernel) (fwdLast_map.of (by decide +kernel) _) rfl) i).trans (e_v86 H hn i hi)
    ns := fun i hi => (congrFun (val1 fwdLast_map 13 rfl (by decide +kernel) (by decide +kernel) (fwdLast_map.of (by decide +kernel) _) rfl) i).trans (e_v87 H hn i hi) }

end FwdAt

end Work

theorem FwdAt.cond (H : FwdAt I n V) : FwdAt I n (after fwdCond V) where
  r := (fwdCond_map.of (by decide +kernel) V).trans H.r
  w := (fwdCond_map.of (by decide +kernel) V).trans H.w
  k := (fwdCond_map.of (by decide +kernel) V).trans H.k
  v := (fwdCond_map.of (by decide +kernel) V).trans H.v
  a := (fwdCond_map.of (by decide +kernel) V).trans H.a
  b := (fwdCond_map.of (by decide +kernel) V).trans H.b
  ctr := (fwdCond_map.of (by decide +kernel) V).trans H.ctr
  st := (fwdCond_map.of (by decide +kernel) V).trans H.st
  aa := fun i hi => (congrFun (fwdCond_map.of (by decide +kernel) V) i).trans (H.aa i hi)
  ss := fun i hi => (congrFun (fwdCond_map.of (by decide +kernel) V) i).trans (H.ss i hi)
  ws := fun i hi => (congrFun (fwdCond_map.of (by decide +kernel) V) i).trans (H.ws i hi)
  bs := fun i hi => (congrFun (fwdCond_map.of (by decide +kernel) V) i).trans (H.bs i hi)
  sas := fun i hi => (congrFun (fwdCond_map.of (by decide +kernel) V) i).trans (H.sas i hi)
  ks := fun i hi => (congrFun (fwdCond_map.of (by decide +kernel) V) i).trans (H.ks i hi)
  vs := fun i hi => (congrFun (fwdCond_map.of (by decide +kernel) V) i).trans (H.vs i hi)
  rs := fun i hi => (congrFun (fwdCond_map.of (by decide +kernel) V) i).trans (H.rs i hi)
  ns := fun i hi => (congrFun (fwdCond_map.of (by decide +kernel) V) i).trans (H.ns i hi)

/-- The carried values before trip `n`, from those before the first. -/
theorem FwdAt.trips {W₀ : Dev nD → Valuation τ sig (Elt Ideal)} {c : Dev nD} (H : FwdAt I 0 (W₀ c)) (n : ℕ) (hn : n ≤ 2048) :
    FwdAt I n (atTrip fwdCond fwdI W₀ n c) := by
  induction n with
  | zero => exact H
  | succ n ih =>
    rw [StableHlo.atTrip_succ]
    exact (ih (by omega)).cond.step (by omega)

end Cert.ReferenceIdeal.Scan
-- ==== Proof.RefBwd.lean ====
/- The backward loop of the reference: the gradients it leaves for each time. -/
module

public import proofs.«01_k».proof.Proof.RefRun
public import proofs.«01_k».proof.Proof.RefArrays

@[expose] public section

set_option maxRecDepth 16384

noncomputable section

namespace Cert.ReferenceIdeal.Scan

open Idealize.ShloMosaic Idealize.ShloMosaic.TcCoe
open Cert.ReferenceIdeal.Gen Cert.Scan
open Idealize.ShloMosaic.StableHlo (after afterL atTrip)

/-- The backward steps' results, in the order of the times they undo. -/
def back (f : ℕ → Fin 4 → Fin 64 → EReal) (t : ℕ) : Fin 4 → Fin 64 → EReal := f (2047 - t)

theorem back_time (f : ℕ → Fin 4 → Fin 64 → EReal) (n : ℕ) (hn : n < 2048) : back f (Ins.time n) = f n :=
  congrArg f (by show 2047 - (2047 - n) = n; omega)

theorem time_lt (n : ℕ) : Ins.time n < 2048 := by show 2047 - n < 2048; omega

/-- What the backward loop's carried values hold before trip `n`. -/
structure BwdAt (I : Ins) (n : ℕ) (V : Valuation τ sig (Elt Ideal)) : Prop where
  dy : (V main_v36_0 : S2048x1x4x64.Idx → EReal) = vecA I.dy
  a : (V main_v36_1 : S2048x1x4x1x64.Idx → EReal) = rowA I.a
  s : (V main_v36_2 : S2048x1x4x64x64.Idx → EReal) = matA I.S
  w : (V main_v36_3 : S2048x1x4x1x64.Idx → EReal) = rowA I.w
  b : (V main_v36_4 : S2048x1x4x1x64.Idx → EReal) = rowA I.b
  sa : (V main_v36_5 : S2048x1x4x64x1.Idx → EReal) = colA I.sa
  k : (V main_v36_6 : S2048x1x4x1x64.Idx → EReal) = rowA I.k
  v : (V main_v36_7 : S2048x1x4x64x1.Idx → EReal) = colA I.v
  r : (V main_v36_8 : S2048x1x4x1x64.Idx → EReal) = rowA I.r
  s1 : (V main_v36_9 : S2048x1x4x64x64.Idx → EReal) = matA (fun t => I.S (t + 1))
  ctr : (V main_v36_10 : S_.Idx → BitVec 32) = word n
  g : (V main_v36_11 : S1x4x64x64.Idx → EReal) = matR (I.G n)
  dr : ∀ i, 2048 ≤ (i 0).val + n → (V main_v36_12 : S2048x1x4x64.Idx → EReal) i = vecA (back I.dr) i
  dw : ∀ i, 2048 ≤ (i 0).val + n → (V main_v36_13 : S2048x1x4x64.Idx → EReal) i = vecA (back I.dw) i
  dk : ∀ i, 2048 ≤ (i 0).val + n → (V main_v36_14 : S2048x1x4x64.Idx → EReal) i = vecA (back I.dk) i
  dv : ∀ i, 2048 ≤ (i 0).val + n → (V main_v36_15 : S2048x1x4x64.Idx → EReal) i = vecA (back I.dv) i
  da : ∀ i, 2048 ≤ (i 0).val + n → (V main_v36_16 : S2048x1x4x64.Idx → EReal) i = vecA (back I.da) i
  db : ∀ i, 2048 ≤ (i 0).val + n → (V main_v36_17 : S2048x1x4x64.Idx → EReal) i = vecA (back I.db) i

theorem bwd_map : Writes (bwdWork (F := Ideal)) bwdWorkW := rfl
theorem bwdLast_map : Writes (bwdLast (F := Ideal)) bwdLastW := rfl
theorem bwdCond_map : Writes (bwdCond (F := Ideal)) bwdCondW := rfl

variable {I : Ins} {n : ℕ} {V : Valuation τ sig (Elt Ideal)}

section Work

variable (H : BwdAt I n V) (hn : n < 2048)
include H hn

namespace BwdAt

theorem e_v36_0 : (after bwdWork V main_v36_0 : S2048x1x4x64.Idx → EReal) = vecA I.dy :=
  (bwd_map.of (by decide +kernel) V).trans H.dy
theorem e_v36_1 : (after bwdWork V main_v36_1 : S2048x1x4x1x64.Idx → EReal) = rowA I.a :=
  (bwd_map.of (by decide +kernel) V).trans H.a
theorem e_v36_2 : (after bwdWork V main_v36_2 : S2048x1x4x64x64.Idx → EReal) = matA I.S :=
  (bwd_map.of (by decide +kernel) V).trans H.s
theorem e_v36_3 : (after bwdWork V main_v36_3 : S2048x1x4x1x64.Idx → EReal) = rowA I.w :=
  (bwd_map.of (by decide +kernel) V).trans H.w
theorem e_v36_4 : (after bwdWork V main_v36_4 : S2048x1x4x1x64.Idx → EReal) = rowA I.b :=
  (bwd_map.of (by decide +kernel) V).trans H.b
theorem e_v36_5 : (after bwdWork V main_v36_5 : S2048x1x4x64x1.Idx → EReal) = colA I.sa :=
  (bwd_map.of (by decide +kernel) V).trans H.sa
theorem e_v36_6 : (after bwdWork V main_v36_6 : S2048x1x4x1x64.Idx → EReal) = rowA I.k :=
  (bwd_map.of (by decide +kernel) V).trans H.k
theorem e_v36_7 : (after bwdWork V main_v36_7 : S2048x1x4x64x1.Idx → EReal) = colA I.v :=
  (bwd_map.of (by decide +kernel) V).trans H.v
theorem e_v36_8 : (after bwdWork V main_v36_8 : S2048x1x4x1x64.Idx → EReal) = rowA I.r :=
  (bwd_map.of (by decide +kernel) V).trans H.r
theorem e_v36_9 : (after bwdWork V main_v36_9 : S2048x1x4x64x64.Idx → EReal) = matA (fun t => I.S (t + 1)) :=
  (bwd_map.of (by decide +kernel) V).trans H.s1
theorem e_v36_10 : (after bwdWork V main_v36_10 : S_.Idx → BitVec 32) = word n :=
  (bwd_map.of (by decide +kernel) V).trans H.ctr
theorem e_v36_11 : (after bwdWork V main_v36_11 : S1x4x64x64.Idx → EReal) = matR (I.G n) :=
  (bwd_map.of (by decide +kernel) V).trans H.g
theorem e_c_36 : (after bwdWork V main_while1b_c_36 : S_.Idx → BitVec 32) = word 2048 :=
  val0 bwd_map 0 rfl (by decide +kernel) rfl
theorem e_v49 : (after bwdWork V main_while1b_v49 : S_.Idx → BitVec 32) = word (2048 - n) :=
  (val2 bwd_map 1 rfl (by decide +kernel) (by decide +kernel) (by decide +kernel) (e_c_36 H hn) (e_v36_10 H hn) rfl).trans (word_sub _ _ (by omega) (by omega))
theorem e_c_37 : (after bwdWork V main_while1b_c_37 : S_.Idx → BitVec 32) = word 1 :=
  val0 bwd_map 2 rfl (by decide +kernel) rfl
theorem e_v50 : (after bwdWork V main_while1b_v50 : S_.Idx → BitVec 32) = word (Ins.time n) :=
  (val2 bwd_map 3 rfl (by decide +kernel) (by decide +kernel) (by decide +kernel) (e_v49 H hn) (e_c_37 H hn) rfl).trans ((word_sub _ _ (by omega) (by omega)).trans (congrArg word (by show 2048 - n - 1 = 2047 - n; omega)))
theorem e_call16_c : (after bwdWork V main_while1b_call16_c : S_.Idx → BitVec 32) = word 0 :=
  val0 bwd_map 4 rfl (by decide +kernel) rfl
theorem e_call16_c_0 : (after bwdWork V main_while1b_call16_c_0 : S_.Idx → BitVec 32) = word 0 :=
  val0 bwd_map 5 rfl (by decide +kernel) rfl
theorem e_call16_c_1 : (after bwdWork V main_while1b_call16_c_1 : S_.Idx → BitVec 32) = word 0 :=
  val0 bwd_map 6 rfl (by decide +kernel) rfl
theorem e_v51 : (after bwdWork V main_while1b_v51 : S1x4x64.Idx → EReal) = vecR (I.dy (Ins.time n)) :=
  valR bwd_map 8 rfl (by decide +kernel) (by decide +kernel) (val1I bwd_map 7 rfl (by decide +kernel) (by decide +kernel) (by decide +kernel) (e_v36_0 H hn)
    (z := ![word (Ins.time n), word 0, word 0, word 0]) (fun q => match q with | 0 => heq_of_eq (e_v50 H hn) | 1 => heq_of_eq (e_call16_c H hn) | 2 => heq_of_eq (e_call16_c_0 H hn) | 3 => heq_of_eq (e_call16_c_1 H hn)) rfl)
    (index_vec I.dy (Ins.time n) (time_lt n) sliceFits_S2048x1x4x64_S1x1x4x64 shapeCasts_S1x1x4x64_S1x4x64)
theorem e_call17_c : (after bwdWork V main_while1b_call17_c : S_.Idx → BitVec 32) = word 0 :=
  val0 bwd_map 9 rfl (by decide +kernel) rfl
theorem e_call17_c_0 : (after bwdWork V main_while1b_call17_c_0 : S_.Idx → BitVec 32) = word 0 :=
  val0 bwd_map 10 rfl (by decide +kernel) rfl
theorem e_call17_c_1 : (after bwdWork V main_while1b_call17_c_1 : S_.Idx → BitVec 32) = word 0 :=
  val0 bwd_map 11 rfl (by decide +kernel) rfl
theorem e_call17_c_2 : (after bwdWork V main_while1b_call17_c_2 : S_.Idx → BitVec 32) = word 0 :=
  val0 bwd_map 12 rfl (by decide +kernel) rfl
theorem e_v52 : (after bwdWork V main_while1b_v52 : S1x4x1x64.Idx → EReal) = rowR (I.a (Ins.time n)) :=
  valR bwd_map 14 rfl (by decide +kernel) (by decide +kernel) (val1I bwd_map 13 rfl (by decide +kernel) (by decide +kernel) (by decide +kernel) (e_v36_1 H hn)
    (z := ![word (Ins.time n), word 0, word 0, word 0, word 0]) (fun q => match q with | 0 => heq_of_eq (e_v50 H hn) | 1 => heq_of_eq (e_call17_c H hn) | 2 => heq_of_eq (e_call17_c_0 H hn) | 3 => heq_of_eq (e_call17_c_1 H hn) | 4 => heq_of_eq (e_call17_c_2 H hn)) rfl)
    (index_tile 1 64 (fun t h _ j => I.a t h j) (Ins.time n) (time_lt n) sliceFits_S2048x1x4x1x64_S1x1x4x1x64 shapeCasts_S1x1x4x1x64_S1x4x1x64)
theorem e_call18_c : (after bwdWork V main_while1b_call18_c : S_.Idx → BitVec 32) = word 0 :=
  val0 bwd_map 15 rfl (by decide +kernel) rfl
theorem e_call18_c_0 : (after bwdWork V main_while1b_call18_c_0 : S_.Idx → BitVec 32) = word 0 :=
  val0 bwd_map 16 rfl (by decide +kernel) rfl
theorem e_call18_c_1 : (after bwdWork V main_while1b_call18_c_1 : S_.Idx → BitVec 32) = word 0 :=
  val0 bwd_map 17 rfl (by decide +kernel) rfl
theorem e_call18_c_2 : (after bwdWork V main_while1b_call18_c_2 : S_.Idx → BitVec 32) = word 0 :=
  val0 bwd_map 18 rfl (by decide +kernel) rfl
theorem e_v53 : (after bwdWork V main_while1b_v53 : S1x4x64x64.Idx → EReal) = matR (I.S (Ins.time n)) :=
  valR bwd_map 20 rfl (by decide +kernel) (by decide +kernel) (val1I bwd_map 19 rfl (by decide +kernel) (by decide +kernel) (by decide +kernel) (e_v36_2 H hn)
    (z := ![word (Ins.time n), word 0, word 0, word 0, word 0]) (fun q => match q with | 0 => heq_of_eq (e_v50 H hn) | 1 => heq_of_eq (e_call18_c H hn) | 2 => heq_of_eq (e_call18_c_0 H hn) | 3 => heq_of_eq (e_call18_c_1 H hn) | 4 => heq_of_eq (e_call18_c_2 H hn)) rfl)
    (index_tile 64 64 I.S (Ins.time n) (time_lt n) sliceFits_S2048x1x4x64x64_S1x1x4x64x64 shapeCasts_S1x1x4x64x64_S1x4x64x64)
theorem e_call19_c : (after bwdWork V main_while1b_call19_c : S_.Idx → BitVec 32) = word 0 :=
  val0 bwd_map 21 rfl (by decide +kernel) rfl
theorem e_call19_c_0 : (after bwdWork V main_while1b_call19_c_0 : S_.Idx → BitVec 32) = word 0 :=
  val0 bwd_map 22 rfl (by decide +kernel) rfl
theorem e_call19_c_1 : (after bwdWork V main_while1b_call19_c_1 : S_.Idx → BitVec 32) = word 0 :=
  val0 bwd_map 23 rfl (by decide +kernel) rfl
theorem e_call19_c_2 : (after bwdWork V main_while1b_call19_c_2 : S_.Idx → BitVec 32) = word 0 :=
  val0 bwd_map 24 rfl (by decide +kernel) rfl
theorem e_v54 : (after bwdWork V main_while1b_v54 : S1x4x1x64.Idx → EReal) = rowR (I.w (Ins.time n)) :=
  valR bwd_map 26 rfl (by decide +kernel) (by decide +kernel) (val1I bwd_map 25 rfl (by decide +kernel) (by decide +kernel) (by decide +kernel) (e_v36_3 H hn)
    (z := ![word (Ins.time n), word 0, word 0, word 0, word 0]) (fun q => match q with | 0 => heq_of_eq (e_v50 H hn) | 1 => heq_of_eq (e_call19_c H hn) | 2 => heq_of_eq (e_call19_c_0 H hn) | 3 => heq_of_eq (e_call19_c_1 H hn) | 4 => heq_of_eq (e_call19_c_2 H hn)) rfl)
    (index_tile 1 64 (fun t h _ j => I.w t h j) (Ins.time n) (time_lt n) sliceFits_S2048x1x4x1x64_S1x1x4x1x64 shapeCasts_S1x1x4x1x64_S1x4x1x64)
theorem e_call20_c : (after bwdWork V main_while1b_call20_c : S_.Idx → BitVec 32) = word 0 :=
  val0 bwd_map 27 rfl (by decide +kernel) rfl
theorem e_call20_c_0 : (after bwdWork V main_while1b_call20_c_0 : S_.Idx → BitVec 32) = word 0 :=
  val0 bwd_map 28 rfl (by decide +kernel) rfl
theorem e_call20_c_1 : (after bwdWork V main_while1b_call20_c_1 : S_.Idx → BitVec 32) = word 0 :=
  val0 bwd_map 29 rfl (by decide +kernel) rfl
theorem e_call20_c_2 : (after bwdWork V main_while1b_call20_c_2 : S_.Idx → BitVec 32) = word 0 :=
  val0 bwd_map 30 rfl (by decide +kernel) rfl
theorem e_v55 : (after bwdWork V main_while1b_v55 : S1x4x1x64.Idx → EReal) = rowR (I.b (Ins.time n)) :=
  valR bwd_map 32 rfl (by decide +kernel) (by decide +kernel) (val1I bwd_map 31 rfl (by decide +kernel) (by decide +kernel) (by decide +kernel) (e_v36_4 H hn)
    (z := ![word (Ins.time n), word 0, word 0, word 0, word 0]) (fun q => match q with | 0 => heq_of_eq (e_v50 H hn) | 1 => heq_of_eq (e_call20_c H hn) | 2 => heq_of_eq (e_call20_c_0 H hn) | 3 => heq_of_eq (e_call20_c_1 H hn) | 4 => heq_of_eq (e_call20_c_2 H hn)) rfl)
    (index_tile 1 64 (fun t h _ j => I.b t h j) (Ins.time n) (time_lt n) sliceFits_S2048x1x4x1x64_S1x1x4x1x64 shapeCasts_S1x1x4x1x64_S1x4x1x64)
theorem e_call21_c : (after bwdWork V main_while1b_call21_c : S_.Idx → BitVec 32) = word 0 :=
  val0 bwd_map 33 rfl (by decide +kernel) rfl
theorem e_call21_c_0 : (after bwdWork V main_while1b_call21_c_0 : S_.Idx → BitVec 32) = word 0 :=
  val0 bwd_map 34 rfl (by decide +kernel) rfl
theorem e_call21_c_1 : (after bwdWork V main_while1b_call21_c_1 : S_.Idx → BitVec 32) = word 0 :=
  val0 bwd_map 35 rfl (by decide +kernel) rfl
theorem e_call21_c_2 : (after bwdWork V main_while1b_call21_c_2 : S_.Idx → BitVec 32) = word 0 :=
  val0 bwd_map 36 rfl (by decide +kernel) rfl
theorem e_v56 : (after bwdWork V main_while1b_v56 : S1x4x64x1.Idx → EReal) = colR (I.sa (Ins.time n)) :=
  valR bwd_map 38 rfl (by decide +kernel) (by decide +kernel) (val1I bwd_map 37 rfl (by decide +kernel) (by decide +kernel) (by decide +kernel) (e_v36_5 H hn)
    (z := ![word (Ins.time n), word 0, word 0, word 0, word 0]) (fun q => match q with | 0 => heq_of_eq (e_v50 H hn) | 1 => heq_of_eq (e_call21_c H hn) | 2 => heq_of_eq (e_call21_c_0 H hn) | 3 => heq_of_eq (e_call21_c_1 H hn) | 4 => heq_of_eq (e_call21_c_2 H hn)) rfl)
    (index_tile 64 1 (fun t h i _ => I.sa t h i) (Ins.time n) (time_lt n) sliceFits_S2048x1x4x64x1_S1x1x4x64x1 shapeCasts_S1x1x4x64x1_S1x4x64x1)
theorem e_call22_c : (after bwdWork V main_while1b_call22_c : S_.Idx → BitVec 32) = word 0 :=
  val0 bwd_map 39 rfl (by decide +kernel) rfl
theorem e_call22_c_0 : (after bwdWork V main_while1b_call22_c_0 : S_.Idx → BitVec 32) = word 0 :=
  val0 bwd_map 40 rfl (by decide +kernel) rfl
theorem e_call22_c_1 : (after bwdWork V main_while1b_call22_c_1 : S_.Idx → BitVec 32) = word 0 :=
  val0 bwd_map 41 rfl (by decide +kernel) rfl
theorem e_call22_c_2 : (after bwdWork V main_while1b_call22_c_2 : S_.Idx → BitVec 32) = word 0 :=
  val0 bwd_map 42 rfl (by decide +kernel) rfl
theorem e_v57 : (after bwdWork V main_while1b_v57 : S1x4x1x64.Idx → EReal) = rowR (I.k (Ins.time n)) :=
  valR bwd_map 44 rfl (by decide +kernel) (by decide +kernel) (val1I bwd_map 43 rfl (by decide +kernel) (by decide +kernel) (by decide +kernel) (e_v36_6 H hn)
    (z := ![word (Ins.time n), word 0, word 0, word 0, word 0]) (fun q => match q with | 0 => heq_of_eq (e_v50 H hn) | 1 => heq_of_eq (e_call22_c H hn) | 2 => heq_of_eq (e_call22_c_0 H hn) | 3 => heq_of_eq (e_call22_c_1 H hn) | 4 => heq_of_eq (e_call22_c_2 H hn)) rfl)
    (index_tile 1 64 (fun t h _ j => I.k t h j) (Ins.time n) (time_lt n) sliceFits_S2048x1x4x1x64_S1x1x4x1x64 shapeCasts_S1x1x4x1x64_S1x4x1x64)
theorem e_call23_c : (after bwdWork V main_while1b_call23_c : S_.Idx → BitVec 32) = word 0 :=
  val0 bwd_map 45 rfl (by decide +kernel) rfl
theorem e_call23_c_0 : (after bwdWork V main_while1b_call23_c_0 : S_.Idx → BitVec 32) = word 0 :=
  val0 bwd_map 46 rfl (by decide +kernel) rfl
theorem e_call23_c_1 : (after bwdWork V main_while1b_call23_c_1 : S_.Idx → BitVec 32) = word 0 :=
  val0 bwd_map 47 rfl (by decide +kernel) rfl
theorem e_call23_c_2 : (after bwdWork V main_while1b_call23_c_2 : S_.Idx → BitVec 32) = word 0 :=
  val0 bwd_map 48 rfl (by decide +kernel) rfl
theorem e_v58 : (after bwdWork V main_while1b_v58 : S1x4x64x1.Idx → EReal) = colR (I.v (Ins.time n)) :=
  valR bwd_map 50 rfl (by decide +kernel) (by decide +kernel) (val1I bwd_map 49 rfl (by decide +kernel) (by decide +kernel) (by decide +kernel) (e_v36_7 H hn)
    (z := ![word (Ins.time n), word 0, word 0, word 0, word 0]) (fun q => match q with | 0 => heq_of_eq (e_v50 H hn) | 1 => heq_of_eq (e_call23_c H hn) | 2 => heq_of_eq (e_call23_c_0 H hn) | 3 => heq_of_eq (e_call23_c_1 H hn) | 4 => heq_of_eq (e_call23_c_2 H hn)) rfl)
    (index_tile 64 1 (fun t h i _ => I.v t h i) (Ins.time n) (time_lt n) sliceFits_S2048x1x4x64x1_S1x1x4x64x1 shapeCasts_S1x1x4x64x1_S1x4x64x1)
theorem e_call24_c : (after bwdWork V main_while1b_call24_c : S_.Idx → BitVec 32) = word 0 :=
  val0 bwd_map 51 rfl (by decide +kernel) rfl
theorem e_call24_c_0 : (after bwdWork V main_while1b_call24_c_0 : S_.Idx → BitVec 32) = word 0 :=
  val0 bwd_map 52 rfl (by decide +kernel) rfl
theorem e_call24_c_1 : (after bwdWork V main_while1b_call24_c_1 : S_.Idx → BitVec 32) = word 0 :=
  val0 bwd_map 53 rfl (by decide +kernel) rfl
theorem e_call24_c_2 : (after bwdWork V main_while1b_call24_c_2 : S_.Idx → BitVec 32) = word 0 :=
  val0 bwd_map 54 rfl (by decide +kernel) rfl
theorem e_v59 : (after bwdWork V main_while1b_v59 : S1x4x1x64.Idx → EReal) = rowR (I.r (Ins.time n)) :=
  valR bwd_map 56 rfl (by decide +kernel) (by decide +kernel) (val1I bwd_map 55 rfl (by decide +kernel) (by decide +kernel) (by decide +kernel) (e_v36_8 H hn)
    (z := ![word (Ins.time n), word 0, word 0, word 0, word 0]) (fun q => match q with | 0 => heq_of_eq (e_v50 H hn) | 1 => heq_of_eq (e_call24_c H hn) | 2 => heq_of_eq (e_call24_c_0 H hn) | 3 => heq_of_eq (e_call24_c_1 H hn) | 4 => heq_of_eq (e_call24_c_2 H hn)) rfl)
    (index_tile 1 64 (fun t h _ j => I.r t h j) (Ins.time n) (time_lt n) sliceFits_S2048x1x4x1x64_S1x1x4x1x64 shapeCasts_S1x1x4x1x64_S1x4x1x64)
theorem e_call25_c : (after bwdWork V main_while1b_call25_c : S_.Idx → BitVec 32) = word 0 :=
  val0 bwd_map 57 rfl (by decide +kernel) rfl
theorem e_call25_c_0 : (after bwdWork V main_while1b_call25_c_0 : S_.Idx → BitVec 32) = word 0 :=
  val0 bwd_map 58 rfl (by decide +kernel) rfl
theorem e_call25_c_1 : (after bwdWork V main_while1b_call25_c_1 : S_.Idx → BitVec 32) = word 0 :=
  val0 bwd_map 59 rfl (by decide +kernel) rfl
theorem e_call25_c_2 : (after bwdWork V main_while1b_call25_c_2 : S_.Idx → BitVec 32) = word 0 :=
  val0 bwd_map 60 rfl (by decide +kernel) rfl
theorem e_v60 : (after bwdWork V main_while1b_v60 : S1x4x64x64.Idx → EReal) = matR (I.S ((Ins.time n) + 1)) :=
  valR bwd_map 62 rfl (by decide +kernel) (by decide +kernel) (val1I bwd_map 61 rfl (by decide +kernel) (by decide +kernel) (by decide +kernel) (e_v36_9 H hn)
    (z := ![word (Ins.time n), word 0, word 0, word 0, word 0]) (fun q => match q with | 0 => heq_of_eq (e_v50 H hn) | 1 => heq_of_eq (e_call25_c H hn) | 2 => heq_of_eq (e_call25_c_0 H hn) | 3 => heq_of_eq (e_call25_c_1 H hn) | 4 => heq_of_eq (e_call25_c_2 H hn)) rfl)
    (index_tile 64 64 (fun t => I.S (t + 1)) (Ins.time n) (time_lt n) sliceFits_S2048x1x4x64x64_S1x1x4x64x64 shapeCasts_S1x1x4x64x64_S1x4x64x64)
theorem e_v61 : (after bwdWork V main_while1b_v61 : S1x4x64x64.Idx → EReal) = matR (fun h i _ => I.dy (Ins.time n) h i) :=
  val1 bwd_map 63 rfl (by decide +kernel) (by decide +kernel) (e_v51 H hn) rfl
theorem e_v62 : (after bwdWork V main_while1b_v62 : S1x4x64x64.Idx → EReal) = matR (fun h i j => I.S ((Ins.time n) + 1) h i j * I.dy (Ins.time n) h i) :=
  val2 bwd_map 64 rfl (by decide +kernel) (by decide +kernel) (by decide +kernel) (e_v60 H hn) (e_v61 H hn) rfl
theorem e_cst_38 : (after bwdWork V main_while1b_cst_38 : S_.Idx → EReal) = constant (F := Ideal) S_ .f32 0x00000000#32 :=
  val0 bwd_map 65 rfl (by decide +kernel) rfl
theorem e_v63 : (after bwdWork V main_while1b_v63 : S1x4x64.Idx → EReal) = vecR (I.dr n) :=
  val2 bwd_map 66 rfl (by decide +kernel) (by decide +kernel) (by decide +kernel) (e_v62 H hn) (e_cst_38 H hn) (sum_values _)
theorem e_v64 : (after bwdWork V main_while1b_v64 : S1x4x1x64.Idx → EReal) = rowR (I.dr n) :=
  valR bwd_map 67 rfl (by decide +kernel) (by decide +kernel) (e_v63 H hn) (row_of _ shapeCasts_S1x4x64_S1x4x1x64)
theorem e_v65 : (after bwdWork V main_while1b_v65 : S1x4x64x64.Idx → EReal) = matR (fun h _ j => I.r (Ins.time n) h j) :=
  val1 bwd_map 68 rfl (by decide +kernel) (by decide +kernel) (e_v59 H hn) rfl
theorem e_v66 : (after bwdWork V main_while1b_v66 : S1x4x64x64.Idx → EReal) = matR (fun h i j => I.dy (Ins.time n) h i * I.r (Ins.time n) h j) :=
  val2 bwd_map 69 rfl (by decide +kernel) (by decide +kernel) (by decide +kernel) (e_v61 H hn) (e_v65 H hn) rfl
theorem e_v67 : (after bwdWork V main_while1b_v67 : S1x4x64x64.Idx → EReal) = matR (I.dS n) :=
  val2 bwd_map 70 rfl (by decide +kernel) (by decide +kernel) (by decide +kernel) (e_v36_11 H hn) (e_v66 H hn) rfl
theorem e_cst_39 : (after bwdWork V main_while1b_cst_39 : S_.Idx → EReal) = constant (F := Ideal) S_ .f32 0x00000000#32 :=
  val0 bwd_map 71 rfl (by decide +kernel) rfl
theorem e_v68 : (after bwdWork V main_while1b_v68 : S4x64.Idx → EReal) = headR (I.dr n) :=
  val2 bwd_map 72 rfl (by decide +kernel) (by decide +kernel) (by decide +kernel) (e_v64 H hn) (e_cst_39 H hn) (drop_row _)
theorem e_v69 : (after bwdWork V main_while1b_v69 : S1x4x64.Idx → EReal) = vecR (I.dr n) :=
  val1 bwd_map 73 rfl (by decide +kernel) (by decide +kernel) (e_v68 H hn) rfl
theorem e_v70 : (after bwdWork V main_while1b_v70 : S1x4x64x64.Idx → EReal) = matR (fun h i _ => I.v (Ins.time n) h i) :=
  val1 bwd_map 74 rfl (by decide +kernel) (by decide +kernel) (e_v58 H hn) rfl
theorem e_v71 : (after bwdWork V main_while1b_v71 : S1x4x64x64.Idx → EReal) = matR (fun h i j => I.v (Ins.time n) h i * I.dS n h i j) :=
  val2 bwd_map 75 rfl (by decide +kernel) (by decide +kernel) (by decide +kernel) (e_v70 H hn) (e_v67 H hn) rfl
theorem e_cst_40 : (after bwdWork V main_while1b_cst_40 : S_.Idx → EReal) = constant (F := Ideal) S_ .f32 0x00000000#32 :=
  val0 bwd_map 76 rfl (by decide +kernel) rfl
theorem e_v72 : (after bwdWork V main_while1b_v72 : S1x4x64.Idx → EReal) = vecR (I.dk n) :=
  val2 bwd_map 77 rfl (by decide +kernel) (by decide +kernel) (by decide +kernel) (e_v71 H hn) (e_cst_40 H hn) (sum_values _)
theorem e_v73 : (after bwdWork V main_while1b_v73 : S1x4x1x64.Idx → EReal) = rowR (I.dk n) :=
  valR bwd_map 78 rfl (by decide +kernel) (by decide +kernel) (e_v72 H hn) (row_of _ shapeCasts_S1x4x64_S1x4x1x64)
theorem e_v74 : (after bwdWork V main_while1b_v74 : S1x4x64x64.Idx → EReal) = matR (fun h _ j => I.k (Ins.time n) h j) :=
  val1 bwd_map 79 rfl (by decide +kernel) (by decide +kernel) (e_v57 H hn) rfl
theorem e_v75 : (after bwdWork V main_while1b_v75 : S1x4x64x64.Idx → EReal) = matR (fun h i j => I.dS n h i j * I.k (Ins.time n) h j) :=
  val2 bwd_map 80 rfl (by decide +kernel) (by decide +kernel) (by decide +kernel) (e_v67 H hn) (e_v74 H hn) rfl
theorem e_cst_41 : (after bwdWork V main_while1b_cst_41 : S_.Idx → EReal) = constant (F := Ideal) S_ .f32 0x00000000#32 :=
  val0 bwd_map 81 rfl (by decide +kernel) rfl
theorem e_v76 : (after bwdWork V main_while1b_v76 : S1x4x64.Idx → EReal) = vecR (I.dv n) :=
  val2 bwd_map 82 rfl (by decide +kernel) (by decide +kernel) (by decide +kernel) (e_v75 H hn) (e_cst_41 H hn) (sum_keys _)
theorem e_v77 : (after bwdWork V main_while1b_v77 : S1x4x64x1.Idx → EReal) = colR (I.dv n) :=
  valR bwd_map 83 rfl (by decide +kernel) (by decide +kernel) (e_v76 H hn) (col_of _ shapeCasts_S1x4x64_S1x4x64x1)
theorem e_cst_42 : (after bwdWork V main_while1b_cst_42 : S_.Idx → EReal) = constant (F := Ideal) S_ .f32 0x00000000#32 :=
  val0 bwd_map 84 rfl (by decide +kernel) rfl
theorem e_v78 : (after bwdWork V main_while1b_v78 : S4x64.Idx → EReal) = headR (I.dk n) :=
  val2 bwd_map 85 rfl (by decide +kernel) (by decide +kernel) (by decide +kernel) (e_v73 H hn) (e_cst_42 H hn) (drop_row _)
theorem e_v79 : (after bwdWork V main_while1b_v79 : S1x4x64.Idx → EReal) = vecR (I.dk n) :=
  val1 bwd_map 86 rfl (by decide +kernel) (by decide +kernel) (e_v78 H hn) rfl
theorem e_cst_43 : (after bwdWork V main_while1b_cst_43 : S_.Idx → EReal) = constant (F := Ideal) S_ .f32 0x00000000#32 :=
  val0 bwd_map 87 rfl (by decide +kernel) rfl
theorem e_v80 : (after bwdWork V main_while1b_v80 : S4x64.Idx → EReal) = headR (I.dv n) :=
  val2 bwd_map 88 rfl (by decide +kernel) (by decide +kernel) (by decide +kernel) (e_v77 H hn) (e_cst_43 H hn) (drop_col _)
theorem e_v81 : (after bwdWork V main_while1b_v81 : S1x4x64.Idx → EReal) = vecR (I.dv n) :=
  val1 bwd_map 89 rfl (by decide +kernel) (by decide +kernel) (e_v80 H hn) rfl
theorem e_v82 : (after bwdWork V main_while1b_v82 : S1x4x64x64.Idx → EReal) = matR (fun h i _ => I.sa (Ins.time n) h i) :=
  val1 bwd_map 90 rfl (by decide +kernel) (by decide +kernel) (e_v56 H hn) rfl
theorem e_v83 : (after bwdWork V main_while1b_v83 : S1x4x64x64.Idx → EReal) = matR (fun h i j => I.sa (Ins.time n) h i * I.dS n h i j) :=
  val2 bwd_map 91 rfl (by decide +kernel) (by decide +kernel) (by decide +kernel) (e_v82 H hn) (e_v67 H hn) rfl
theorem e_cst_44 : (after bwdWork V main_while1b_cst_44 : S_.Idx → EReal) = constant (F := Ideal) S_ .f32 0x00000000#32 :=
  val0 bwd_map 92 rfl (by decide +kernel) rfl
theorem e_v84 : (after bwdWork V main_while1b_v84 : S1x4x64.Idx → EReal) = vecR (I.db n) :=
  val2 bwd_map 93 rfl (by decide +kernel) (by decide +kernel) (by decide +kernel) (e_v83 H hn) (e_cst_44 H hn) (sum_values _)
theorem e_v85 : (after bwdWork V main_while1b_v85 : S1x4x1x64.Idx → EReal) = rowR (I.db n) :=
  valR bwd_map 94 rfl (by decide +kernel) (by decide +kernel) (e_v84 H hn) (row_of _ shapeCasts_S1x4x64_S1x4x1x64)
theorem e_v86 : (after bwdWork V main_while1b_v86 : S1x4x64x64.Idx → EReal) = matR (fun h _ j => I.b (Ins.time n) h j) :=
  val1 bwd_map 95 rfl (by decide +kernel) (by decide +kernel) (e_v55 H hn) rfl
theorem e_v87 : (after bwdWork V main_while1b_v87 : S1x4x64x64.Idx → EReal) = matR (fun h i j => I.dS n h i j * I.b (Ins.time n) h j) :=
  val2 bwd_map 96 rfl (by decide +kernel) (by decide +kernel) (by decide +kernel) (e_v67 H hn) (e_v86 H hn) rfl
theorem e_cst_45 : (after bwdWork V main_while1b_cst_45 : S_.Idx → EReal) = constant (F := Ideal) S_ .f32 0x00000000#32 :=
  val0 bwd_map 97 rfl (by decide +kernel) rfl
theorem e_v88 : (after bwdWork V main_while1b_v88 : S1x4x64.Idx → EReal) = vecR (I.dSa n) :=
  val2 bwd_map 98 rfl (by decide +kernel) (by decide +kernel) (by decide +kernel) (e_v87 H hn) (e_cst_45 H hn) (sum_keys _)
theorem e_v89 : (after bwdWork V main_while1b_v89 : S1x4x64x1.Idx → EReal) = colR (I.dSa n) :=
  valR bwd_map 99 rfl (by decide +kernel) (by decide +kernel) (e_v88 H hn) (col_of _ shapeCasts_S1x4x64_S1x4x64x1)
theorem e_cst_46 : (after bwdWork V main_while1b_cst_46 : S_.Idx → EReal) = constant (F := Ideal) S_ .f32 0x00000000#32 :=
  val0 bwd_map 100 rfl (by decide +kernel) rfl
theorem e_v90 : (after bwdWork V main_while1b_v90 : S4x64.Idx → EReal) = headR (I.db n) :=
  val2 bwd_map 101 rfl (by decide +kernel) (by decide +kernel) (by decide +kernel) (e_v85 H hn) (e_cst_46 H hn) (drop_row _)
theorem e_v91 : (after bwdWork V main_while1b_v91 : S1x4x64.Idx → EReal) = vecR (I.db n) :=
  val1 bwd_map 102 rfl (by decide +kernel) (by decide +kernel) (e_v90 H hn) rfl
theorem e_cst_47 : (after bwdWork V main_while1b_cst_47 : S_.Idx → EReal) = constant (F := Ideal) S_ .f32 0x00000000#32 :=
  val0 bwd_map 103 rfl (by decide +kernel) rfl
theorem e_v92 : (after bwdWork V main_while1b_v92 : S4x64.Idx → EReal) = headR (I.dSa n) :=
  val2 bwd_map 104 rfl (by decide +kernel) (by decide +kernel) (by decide +kernel) (e_v89 H hn) (e_cst_47 H hn) (drop_col _)
theorem e_v93 : (after bwdWork V main_while1b_v93 : S1x4x64.Idx → EReal) = vecR (I.dSa n) :=
  val1 bwd_map 105 rfl (by decide +kernel) (by decide +kernel) (e_v92 H hn) rfl
theorem e_v94 : (after bwdWork V main_while1b_v94 : S1x4x64x64.Idx → EReal) = matR (fun h i j => I.S (Ins.time n) h i j * I.dS n h i j) :=
  val2 bwd_map 106 rfl (by decide +kernel) (by decide +kernel) (by decide +kernel) (e_v53 H hn) (e_v67 H hn) rfl
theorem e_cst_48 : (after bwdWork V main_while1b_cst_48 : S_.Idx → EReal) = constant (F := Ideal) S_ .f32 0x00000000#32 :=
  val0 bwd_map 107 rfl (by decide +kernel) rfl
theorem e_v95 : (after bwdWork V main_while1b_v95 : S1x4x64.Idx → EReal) = vecR (I.dw n) :=
  val2 bwd_map 108 rfl (by decide +kernel) (by decide +kernel) (by decide +kernel) (e_v94 H hn) (e_cst_48 H hn) (sum_values _)
theorem e_v96 : (after bwdWork V main_while1b_v96 : S1x4x1x64.Idx → EReal) = rowR (I.dw n) :=
  valR bwd_map 109 rfl (by decide +kernel) (by decide +kernel) (e_v95 H hn) (row_of _ shapeCasts_S1x4x64_S1x4x1x64)
theorem e_v97 : (after bwdWork V main_while1b_v97 : S1x4x64x64.Idx → EReal) = matR (fun h _ j => I.w (Ins.time n) h j) :=
  val1 bwd_map 110 rfl (by decide +kernel) (by decide +kernel) (e_v54 H hn) rfl
theorem e_v98 : (after bwdWork V main_while1b_v98 : S1x4x64x64.Idx → EReal) = matR (fun h i j => I.dS n h i j * I.w (Ins.time n) h j) :=
  val2 bwd_map 111 rfl (by decide +kernel) (by decide +kernel) (by decide +kernel) (e_v67 H hn) (e_v97 H hn) rfl
theorem e_cst_49 : (after bwdWork V main_while1b_cst_49 : S_.Idx → EReal) = constant (F := Ideal) S_ .f32 0x00000000#32 :=
  val0 bwd_map 112 rfl (by decide +kernel) rfl
theorem e_v99 : (after bwdWork V main_while1b_v99 : S4x64.Idx → EReal) = headR (I.dw n) :=
  val2 bwd_map 113 rfl (by decide +kernel) (by decide +kernel) (by decide +kernel) (e_v96 H hn) (e_cst_49 H hn) (drop_row _)
theorem e_v100 : (after bwdWork V main_while1b_v100 : S1x4x64.Idx → EReal) = vecR (I.dw n) :=
  val1 bwd_map 114 rfl (by decide +kernel) (by decide +kernel) (e_v99 H hn) rfl
theorem e_v101 : (after bwdWork V main_while1b_v101 : S1x4x64x64.Idx → EReal) = matR (fun h i _ => I.dSa n h i) :=
  val1 bwd_map 115 rfl (by decide +kernel) (by decide +kernel) (e_v93 H hn) rfl
theorem e_v102 : (after bwdWork V main_while1b_v102 : S1x4x64x64.Idx → EReal) = matR (fun h i j => I.S (Ins.time n) h i j * I.dSa n h i) :=
  val2 bwd_map 116 rfl (by decide +kernel) (by decide +kernel) (by decide +kernel) (e_v53 H hn) (e_v101 H hn) rfl
theorem e_cst_50 : (after bwdWork V main_while1b_cst_50 : S_.Idx → EReal) = constant (F := Ideal) S_ .f32 0x00000000#32 :=
  val0 bwd_map 117 rfl (by decide +kernel) rfl
theorem e_v103 : (after bwdWork V main_while1b_v103 : S1x4x64.Idx → EReal) = vecR (I.da n) :=
  val2 bwd_map 118 rfl (by decide +kernel) (by decide +kernel) (by decide +kernel) (e_v102 H hn) (e_cst_50 H hn) (sum_values _)
theorem e_v104 : (after bwdWork V main_while1b_v104 : S1x4x1x64.Idx → EReal) = rowR (I.da n) :=
  valR bwd_map 119 rfl (by decide +kernel) (by decide +kernel) (e_v103 H hn) (row_of _ shapeCasts_S1x4x64_S1x4x1x64)
theorem e_v105 : (after bwdWork V main_while1b_v105 : S1x4x64x64.Idx → EReal) = matR (fun h _ j => I.a (Ins.time n) h j) :=
  val1 bwd_map 120 rfl (by decide +kernel) (by decide +kernel) (e_v52 H hn) rfl
theorem e_v106 : (after bwdWork V main_while1b_v106 : S1x4x64x64.Idx → EReal) = matR (fun h i j => I.dSa n h i * I.a (Ins.time n) h j) :=
  val2 bwd_map 121 rfl (by decide +kernel) (by decide +kernel) (by decide +kernel) (e_v101 H hn) (e_v105 H hn) rfl
theorem e_v107 : (after bwdWork V main_while1b_v107 : S1x4x64x64.Idx → EReal) = matR (I.G (n + 1)) :=
  val2 bwd_map 122 rfl (by decide +kernel) (by decide +kernel) (by decide +kernel) (e_v98 H hn) (e_v106 H hn) rfl
theorem e_cst_51 : (after bwdWork V main_while1b_cst_51 : S_.Idx → EReal) = constant (F := Ideal) S_ .f32 0x00000000#32 :=
  val0 bwd_map 123 rfl (by decide +kernel) rfl
theorem e_v108 : (after bwdWork V main_while1b_v108 : S4x64.Idx → EReal) = headR (I.da n) :=
  val2 bwd_map 124 rfl (by decide +kernel) (by decide +kernel) (by decide +kernel) (e_v104 H hn) (e_cst_51 H hn) (drop_row _)
theorem e_v109 : (after bwdWork V main_while1b_v109 : S1x4x64.Idx → EReal) = vecR (I.da n) :=
  val1 bwd_map 125 rfl (by decide +kernel) (by decide +kernel) (e_v108 H hn) rfl
theorem e_call26_v0 : (after bwdWork V main_while1b_call26_v0 : S1x1x4x64.Idx → EReal) = vecU (back I.dr (Ins.time n)) :=
  (val1 bwd_map 126 rfl (by decide +kernel) (by decide +kernel) (e_v69 H hn) rfl).trans (congrArg vecU (back_time I.dr n hn).symm)
theorem e_call26_c : (after bwdWork V main_while1b_call26_c : S_.Idx → BitVec 32) = word 0 :=
  val0 bwd_map 127 rfl (by decide +kernel) rfl
theorem e_call26_c_0 : (after bwdWork V main_while1b_call26_c_0 : S_.Idx → BitVec 32) = word 0 :=
  val0 bwd_map 128 rfl (by decide +kernel) rfl
theorem e_call26_c_1 : (after bwdWork V main_while1b_call26_c_1 : S_.Idx → BitVec 32) = word 0 :=
  val0 bwd_map 129 rfl (by decide +kernel) rfl
theorem e_v110 (i : S2048x1x4x64.Idx) (hi : 2048 ≤ (i 0).val + (n + 1)) : (after bwdWork V main_while1b_v110 : S2048x1x4x64.Idx → EReal) i = vecA (back I.dr) i :=
  (congrFun (val2I bwd_map 130 rfl (by decide +kernel) (by decide +kernel) (by decide +kernel) (by decide +kernel) (bwd_map.of (by decide +kernel) V) (e_call26_v0 H hn)
    (z := ![word (Ins.time n), word 0, word 0, word 0]) (fun q => match q with | 0 => heq_of_eq (e_v50 H hn) | 1 => heq_of_eq (e_call26_c H hn) | 2 => heq_of_eq (e_call26_c_0 H hn) | 3 => heq_of_eq (e_call26_c_1 H hn)) rfl) i).trans
    (put_vec (back I.dr) (Ins.time n) (time_lt n) updateFits_S2048x1x4x64_S1x1x4x64 _ i (fun hne => H.dr i (by have : (i 0).val ≠ 2047 - n := hne; omega)))
theorem e_call27_v0 : (after bwdWork V main_while1b_call27_v0 : S1x1x4x64.Idx → EReal) = vecU (back I.dw (Ins.time n)) :=
  (val1 bwd_map 131 rfl (by decide +kernel) (by decide +kernel) (e_v100 H hn) rfl).trans (congrArg vecU (back_time I.dw n hn).symm)
theorem e_call27_c : (after bwdWork V main_while1b_call27_c : S_.Idx → BitVec 32) = word 0 :=
  val0 bwd_map 132 rfl (by decide +kernel) rfl
theorem e_call27_c_0 : (after bwdWork V main_while1b_call27_c_0 : S_.Idx → BitVec 32) = word 0 :=
  val0 bwd_map 133 rfl (by decide +kernel) rfl
theorem e_call27_c_1 : (after bwdWork V main_while1b_call27_c_1 : S_.Idx → BitVec 32) = word 0 :=
  val0 bwd_map 134 rfl (by decide +kernel) rfl
theorem e_v111 (i : S2048x1x4x64.Idx) (hi : 2048 ≤ (i 0).val + (n + 1)) : (after bwdWork V main_while1b_v111 : S2048x1x4x64.Idx → EReal) i = vecA (back I.dw) i :=
  (congrFun (val2I bwd_map 135 rfl (by decide +kernel) (by decide +kernel) (by decide +kernel) (by decide +kernel) (bwd_map.of (by decide +kernel) V) (e_call27_v0 H hn)
    (z := ![word (Ins.time n), word 0, word 0, word 0]) (fun q => match q with | 0 => heq_of_eq (e_v50 H hn) | 1 => heq_of_eq (e_call27_c H hn) | 2 => heq_of_eq (e_call27_c_0 H hn) | 3 => heq_of_eq (e_call27_c_1 H hn)) rfl) i).trans
    (put_vec (back I.dw) (Ins.time n) (time_lt n) updateFits_S2048x1x4x64_S1x1x4x64 _ i (fun hne => H.dw i (by have : (i 0).val ≠ 2047 - n := hne; omega)))
theorem e_call28_v0 : (after bwdWork V main_while1b_call28_v0 : S1x1x4x64.Idx → EReal) = vecU (back I.dk (Ins.time n)) :=
  (val1 bwd_map 136 rfl (by decide +kernel) (by decide +kernel) (e_v79 H hn) rfl).trans (congrArg vecU (back_time I.dk n hn).symm)
theorem e_call28_c : (after bwdWork V main_while1b_call28_c : S_.Idx → BitVec 32) = word 0 :=
  val0 bwd_map 137 rfl (by decide +kernel) rfl
theorem e_call28_c_0 : (after bwdWork V main_while1b_call28_c_0 : S_.Idx → BitVec 32) = word 0 :=
  val0 bwd_map 138 rfl (by decide +kernel) rfl
theorem e_call28_c_1 : (after bwdWork V main_while1b_call28_c_1 : S_.Idx → BitVec 32) = word 0 :=
  val0 bwd_map 139 rfl (by decide +kernel) rfl
theorem e_v112 (i : S2048x1x4x64.Idx) (hi : 2048 ≤ (i 0).val + (n + 1)) : (after bwdWork V main_while1b_v112 : S2048x1x4x64.Idx → EReal) i = vecA (back I.dk) i :=
  (congrFun (val2I bwd_map 140 rfl (by decide +kernel) (by decide +kernel) (by decide +kernel) (by decide +kernel) (bwd_map.of (by decide +kernel) V) (e_call28_v0 H hn)
    (z := ![word (Ins.time n), word 0, word 0, word 0]) (fun q => match q with | 0 => heq_of_eq (e_v50 H hn) | 1 => heq_of_eq (e_call28_c H hn) | 2 => heq_of_eq (e_call28_c_0 H hn) | 3 => heq_of_eq (e_call28_c_1 H hn)) rfl) i).trans
    (put_vec (back I.dk) (Ins.time n) (time_lt n) updateFits_S2048x1x4x64_S1x1x4x64 _ i (fun hne => H.dk i (by have : (i 0).val ≠ 2047 - n := hne; omega)))
theorem e_call29_v0 : (after bwdWork V main_while1b_call29_v0 : S1x1x4x64.Idx → EReal) = vecU (back I.dv (Ins.time n)) :=
  (val1 bwd_map 141 rfl (by decide +kernel) (by decide +kernel) (e_v81 H hn) rfl).trans (congrArg vecU (back_time I.dv n hn).symm)
theorem e_call29_c : (after bwdWork V main_while1b_call29_c : S_.Idx → BitVec 32) = word 0 :=
  val0 bwd_map 142 rfl (by decide +kernel) rfl
theorem e_call29_c_0 : (after bwdWork V main_while1b_call29_c_0 : S_.Idx → BitVec 32) = word 0 :=
  val0 bwd_map 143 rfl (by decide +kernel) rfl
theorem e_call29_c_1 : (after bwdWork V main_while1b_call29_c_1 : S_.Idx → BitVec 32) = word 0 :=
  val0 bwd_map 144 rfl (by decide +kernel) rfl
theorem e_v113 (i : S2048x1x4x64.Idx) (hi : 2048 ≤ (i 0).val + (n + 1)) : (after bwdWork V main_while1b_v113 : S2048x1x4x64.Idx → EReal) i = vecA (back I.dv) i :=
  (congrFun (val2I bwd_map 145 rfl (by decide +kernel) (by decide +kernel) (by decide +kernel) (by decide +kernel) (bwd_map.of (by decide +kernel) V) (e_call29_v0 H hn)
    (z := ![word (Ins.time n), word 0, word 0, word 0]) (fun q => match q with | 0 => heq_of_eq (e_v50 H hn) | 1 => heq_of_eq (e_call29_c H hn) | 2 => heq_of_eq (e_call29_c_0 H hn) | 3 => heq_of_eq (e_call29_c_1 H hn)) rfl) i).trans
    (put_vec (back I.dv) (Ins.time n) (time_lt n) updateFits_S2048x1x4x64_S1x1x4x64 _ i (fun hne => H.dv i (by have : (i 0).val ≠ 2047 - n := hne; omega)))
theorem e_call30_v0 : (after bwdWork V main_while1b_call30_v0 : S1x1x4x64.Idx → EReal) = vecU (back I.da (Ins.time n)) :=
  (val1 bwd_map 146 rfl (by decide +kernel) (by decide +kernel) (e_v109 H hn) rfl).trans (congrArg vecU (back_time I.da n hn).symm)
theorem e_call30_c : (after bwdWork V main_while1b_call30_c : S_.Idx → BitVec 32) = word 0 :=
  val0 bwd_map 147 rfl (by decide +kernel) rfl
theorem e_call30_c_0 : (after bwdWork V main_while1b_call30_c_0 : S_.Idx → BitVec 32) = word 0 :=
  val0 bwd_map 148 rfl (by decide +kernel) rfl
theorem e_call30_c_1 : (after bwdWork V main_while1b_call30_c_1 : S_.Idx → BitVec 32) = word 0 :=
  val0 bwd_map 149 rfl (by decide +kernel) rfl
theorem e_v114 (i : S2048x1x4x64.Idx) (hi : 2048 ≤ (i 0).val + (n + 1)) : (after bwdWork V main_while1b_v114 : S2048x1x4x64.Idx → EReal) i = vecA (back I.da) i :=
  (congrFun (val2I bwd_map 150 rfl (by decide +kernel) (by decide +kernel) (by decide +kernel) (by decide +kernel) (bwd_map.of (by decide +kernel) V) (e_call30_v0 H hn)
    (z := ![word (Ins.time n), word 0, word 0, word 0]) (fun q => match q with | 0 => heq_of_eq (e_v50 H hn) | 1 => heq_of_eq (e_call30_c H hn) | 2 => heq_of_eq (e_call30_c_0 H hn) | 3 => heq_of_eq (e_call30_c_1 H hn)) rfl) i).trans
    (put_vec (back I.da) (Ins.time n) (time_lt n) updateFits_S2048x1x4x64_S1x1x4x64 _ i (fun hne => H.da i (by have : (i 0).val ≠ 2047 - n := hne; omega)))
theorem e_call31_v0 : (after bwdWork V main_while1b_call31_v0 : S1x1x4x64.Idx → EReal) = vecU (back I.db (Ins.time n)) :=
  (val1 bwd_map 151 rfl (by decide +kernel) (by decide +kernel) (e_v91 H hn) rfl).trans (congrArg vecU (back_time I.db n hn).symm)
theorem e_call31_c : (after bwdWork V main_while1b_call31_c : S_.Idx → BitVec 32) = word 0 :=
  val0 bwd_map 152 rfl (by decide +kernel) rfl
theorem e_call31_c_0 : (after bwdWork V main_while1b_call31_c_0 : S_.Idx → BitVec 32) = word 0 :=
  val0 bwd_map 153 rfl (by decide +kernel) rfl
theorem e_call31_c_1 : (after bwdWork V main_while1b_call31_c_1 : S_.Idx → BitVec 32) = word 0 :=
  val0 bwd_map 154 rfl (by decide +kernel) rfl
theorem e_v115 (i : S2048x1x4x64.Idx) (hi : 2048 ≤ (i 0).val + (n + 1)) : (after bwdWork V main_while1b_v115 : S2048x1x4x64.Idx → EReal) i = vecA (back I.db) i :=
  (congrFun (val2I bwd_map 155 rfl (by decide +kernel) (by decide +kernel) (by decide +kernel) (by decide +kernel) (bwd_map.of (by decide +kernel) V) (e_call31_v0 H hn)
    (z := ![word (Ins.time n), word 0, word 0, word 0]) (fun q => match q with | 0 => heq_of_eq (e_v50 H hn) | 1 => heq_of_eq (e_call31_c H hn) | 2 => heq_of_eq (e_call31_c_0 H hn) | 3 => heq_of_eq (e_call31_c_1 H hn)) rfl) i).trans
    (put_vec (back I.db) (Ins.time n) (time_lt n) updateFits_S2048x1x4x64_S1x1x4x64 _ i (fun hne => H.db i (by have : (i 0).val ≠ 2047 - n := hne; omega)))

/-- One pass of the body takes the carried values of trip `n` to those of trip `n + 1`. -/
theorem step : BwdAt I (n + 1) (afterL bwdI V) := by
  rw [afterL_bwd]
  exact {
    dy := (bwdLast_map.of (by decide +kernel) _).trans (e_v36_0 H hn)
    a := (bwdLast_map.of (by decide +kernel) _).trans (e_v36_1 H hn)
    s := (bwdLast_map.of (by decide +kernel) _).trans (e_v36_2 H hn)
    w := (bwdLast_map.of (by decide +kernel) _).trans (e_v36_3 H hn)
    b := (bwdLast_map.of (by decide +kernel) _).trans (e_v36_4 H hn)
    sa := (bwdLast_map.of (by decide +kernel) _).trans (e_v36_5 H hn)
    k := (bwdLast_map.of (by decide +kernel) _).trans (e_v36_6 H hn)
    v := (bwdLast_map.of (by decide +kernel) _).trans (e_v36_7 H hn)
    r := (bwdLast_map.of (by decide +kernel) _).trans (e_v36_8 H hn)
    s1 := (bwdLast_map.of (by decide +kernel) _).trans (e_v36_9 H hn)
    ctr := (bwd_step _).trans ((congrArg (fun x => addi x (constantI S_ 32 1#32)) (e_v36_10 H hn)).trans (word_add n))
    g := val1 bwdLast_map 3 rfl (by decide +kernel) (by decide +kernel) ((bwdLast_map.of (by decide +kernel) _).trans (e_v107 H hn)) rfl
    dr := fun i hi => (congrFun (val1 bwdLast_map 4 rfl (by decide +kernel) (by decide +kernel) (bwdLast_map.of (by decide +kernel) _) rfl) i).trans (e_v110 H hn i hi)
    dw := fun i hi => (congrFun (val1 bwdLast_map 5 rfl (by decide +kernel) (by decide +kernel) (bwdLast_map.of (by decide +kernel) _) rfl) i).trans (e_v111 H hn i hi)
    dk := fun i hi => (congrFun (val1 bwdLast_map 6 rfl (by decide +kernel) (by decide +kernel) (bwdLast_map.of (by decide +kernel) _) rfl) i).trans (e_v112 H hn i hi)
    dv := fun i hi => (congrFun (val1 bwdLast_map 7 rfl (by decide +kernel) (by decide +kernel) (bwdLast_map.of (by decide +kernel) _) rfl) i).trans (e_v113 H hn i hi)
    da := fun i hi => (congrFun (val1 bwdLast_map 8 rfl (by decide +kernel) (by decide +kernel) (bwdLast_map.of (by decide +kernel) _) rfl) i).trans (e_v114 H hn i hi)
    db := fun i hi => (congrFun (val1 bwdLast_map 9 rfl (by decide +kernel) (by decide +kernel) (bwdLast_map.of (by decide +kernel) _) rfl) i).trans (e_v115 H hn i hi) }

end BwdAt

end Work

theorem BwdAt.cond (H : BwdAt I n V) : BwdAt I n (after bwdCond V) where
  dy := (bwdCond_map.of (by decide +kernel) V).trans H.dy
  a := (bwdCond_map.of (by decide +kernel) V).trans H.a
  s := (bwdCond_map.of (by decide +kernel) V).trans H.s
  w := (bwdCond_map.of (by decide +kernel) V).trans H.w
  b := (bwdCond_map.of (by decide +kernel) V).trans H.b
  sa := (bwdCond_map.of (by decide +kernel) V).trans H.sa
  k := (bwdCond_map.of (by decide +kernel) V).trans H.k
  v := (bwdCond_map.of (by decide +kernel) V).trans H.v
  r := (bwdCond_map.of (by decide +kernel) V).trans H.r
  s1 := (bwdCond_map.of (by decide +kernel) V).trans H.s1
  ctr := (bwdCond_map.of (by decide +kernel) V).trans H.ctr
  g := (bwdCond_map.of (by decide +kernel) V).trans H.g
  dr := fun i hi => (congrFun (bwdCond_map.of (by decide +kernel) V) i).trans (H.dr i hi)
  dw := fun i hi => (congrFun (bwdCond_map.of (by decide +kernel) V) i).trans (H.dw i hi)
  dk := fun i hi => (congrFun (bwdCond_map.of (by decide +kernel) V) i).trans (H.dk i hi)
  dv := fun i hi => (congrFun (bwdCond_map.of (by decide +kernel) V) i).trans (H.dv i hi)
  da := fun i hi => (congrFun (bwdCond_map.of (by decide +kernel) V) i).trans (H.da i hi)
  db := fun i hi => (congrFun (bwdCond_map.of (by decide +kernel) V) i).trans (H.db i hi)

/-- The carried values before trip `n`, from those before the first. -/
theorem BwdAt.trips {W₀ : Dev nD → Valuation τ sig (Elt Ideal)} {c : Dev nD} (H : BwdAt I 0 (W₀ c)) (n : ℕ) (hn : n ≤ 2048) :
    BwdAt I n (atTrip bwdCond bwdI W₀ n c) := by
  induction n with
  | zero => exact H
  | succ n ih =>
    rw [StableHlo.atTrip_succ]
    exact (ih (by omega)).cond.step (by omega)

end Cert.ReferenceIdeal.Scan
-- ==== Proof.RefValue.lean ====
/- The reference program's results: the gradients of the recurrence. -/
module

public import proofs.«01_k».proof.Proof.RefFwd
public import proofs.«01_k».proof.Proof.RefBwd

@[expose] public section

set_option maxRecDepth 16384

noncomputable section

namespace Cert.ReferenceIdeal.Scan

open Idealize.ShloMosaic Idealize.ShloMosaic.TcCoe
open Cert.ReferenceIdeal.Gen Cert.Scan
open Idealize.ShloMosaic.StableHlo (after afterL atTrip)

theorem pre_map : Writes (preOps (F := Ideal)) preW := rfl
theorem midA_map : Writes (midOpsA (F := Ideal)) midAW := rfl
theorem midB_map : Writes (midOpsB (F := Ideal)) midBW := rfl
theorem post_map : Writes (postOps (F := Ideal)) postW := rfl

variable (m : (ℓ : Loc nD τ sig) → Buf (Elt Ideal) ℓ) (c : Dev nD)

/-- The recurrence's inputs, as the launch leaves them in the argument arrays. -/
def insOf : Ins where
  r := atTime (m ((c.tc : Thread nD τ).loc main_arg0))
  w := atTime (m ((c.tc : Thread nD τ).loc main_arg1))
  k := atTime (m ((c.tc : Thread nD τ).loc main_arg2))
  v := atTime (m ((c.tc : Thread nD τ).loc main_arg3))
  a := atTime (m ((c.tc : Thread nD τ).loc main_arg4))
  b := atTime (m ((c.tc : Thread nD τ).loc main_arg5))
  dy := atTime (m ((c.tc : Thread nD τ).loc main_arg6))

theorem p6 : (V1 m c main_v6 : S2048x1x4x64.Idx → EReal) = vecA (insOf m c).r :=
  val1 pre_map 6 rfl (by decide +kernel) (by decide +kernel) (valR pre_map 0 rfl (by decide +kernel) (by decide +kernel) (pre_map.of (by decide +kernel) _) rfl)
    (times_first _ shapeCasts_S2048x1x256_S1x2048x4x64 transposes_S1x2048x4x64_S2048x1x4x64_1_0_2_3)
theorem p7 : (V1 m c main_v7 : S2048x1x4x64.Idx → EReal) = vecA (insOf m c).w :=
  val1 pre_map 7 rfl (by decide +kernel) (by decide +kernel) (valR pre_map 1 rfl (by decide +kernel) (by decide +kernel) (pre_map.of (by decide +kernel) _) rfl)
    (times_first _ shapeCasts_S2048x1x256_S1x2048x4x64 transposes_S1x2048x4x64_S2048x1x4x64_1_0_2_3)
theorem p8 : (V1 m c main_v8 : S2048x1x4x64.Idx → EReal) = vecA (insOf m c).k :=
  val1 pre_map 8 rfl (by decide +kernel) (by decide +kernel) (valR pre_map 2 rfl (by decide +kernel) (by decide +kernel) (pre_map.of (by decide +kernel) _) rfl)
    (times_first _ shapeCasts_S2048x1x256_S1x2048x4x64 transposes_S1x2048x4x64_S2048x1x4x64_1_0_2_3)
theorem p9 : (V1 m c main_v9 : S2048x1x4x64.Idx → EReal) = vecA (insOf m c).v :=
  val1 pre_map 9 rfl (by decide +kernel) (by decide +kernel) (valR pre_map 3 rfl (by decide +kernel) (by decide +kernel) (pre_map.of (by decide +kernel) _) rfl)
    (times_first _ shapeCasts_S2048x1x256_S1x2048x4x64 transposes_S1x2048x4x64_S2048x1x4x64_1_0_2_3)
theorem p10 : (V1 m c main_v10 : S2048x1x4x64.Idx → EReal) = vecA (insOf m c).a :=
  val1 pre_map 10 rfl (by decide +kernel) (by decide +kernel) (valR pre_map 4 rfl (by decide +kernel) (by decide +kernel) (pre_map.of (by decide +kernel) _) rfl)
    (times_first _ shapeCasts_S2048x1x256_S1x2048x4x64 transposes_S1x2048x4x64_S2048x1x4x64_1_0_2_3)
theorem p11 : (V1 m c main_v11 : S2048x1x4x64.Idx → EReal) = vecA (insOf m c).b :=
  val1 pre_map 11 rfl (by decide +kernel) (by decide +kernel) (valR pre_map 5 rfl (by decide +kernel) (by decide +kernel) (pre_map.of (by decide +kernel) _) rfl)
    (times_first _ shapeCasts_S2048x1x256_S1x2048x4x64 transposes_S1x2048x4x64_S2048x1x4x64_1_0_2_3)
theorem p12 : (V1 m c main_v12 : S1x4x64x64.Idx → EReal) = matR ((insOf m c).S 0) :=
  val1 pre_map 13 rfl (by decide +kernel) (by decide +kernel) (val0 pre_map 12 rfl (by decide +kernel) rfl)
    (funext fun i => (Idealize.ShloMosaic.ValueIdx.broadcastInDim_scalar_apply bcast_S_S1x4x64x64 (constant (F := Ideal) S_ .f32 0x00000000#32) i).trans Ideal.ofBits_zero_f32)

theorem start : FwdAt (insOf m c) 0 (V1 m c) where
  r := val1 pre_map 35 rfl (by decide +kernel) (by decide +kernel) (p6 m c) rfl
  w := val1 pre_map 36 rfl (by decide +kernel) (by decide +kernel) (p7 m c) rfl
  k := val1 pre_map 37 rfl (by decide +kernel) (by decide +kernel) (p8 m c) rfl
  v := val1 pre_map 38 rfl (by decide +kernel) (by decide +kernel) (p9 m c) rfl
  a := val1 pre_map 39 rfl (by decide +kernel) (by decide +kernel) (p10 m c) rfl
  b := val1 pre_map 40 rfl (by decide +kernel) (by decide +kernel) (p11 m c) rfl
  ctr := fwd_zero m c
  st := val1 pre_map 42 rfl (by decide +kernel) (by decide +kernel) (p12 m c) rfl
  aa := fun i hi => absurd hi (Nat.not_lt_zero _)
  ss := fun i hi => absurd hi (Nat.not_lt_zero _)
  ws := fun i hi => absurd hi (Nat.not_lt_zero _)
  bs := fun i hi => absurd hi (Nat.not_lt_zero _)
  sas := fun i hi => absurd hi (Nat.not_lt_zero _)
  ks := fun i hi => absurd hi (Nat.not_lt_zero _)
  vs := fun i hi => absurd hi (Nat.not_lt_zero _)
  rs := fun i hi => absurd hi (Nat.not_lt_zero _)
  ns := fun i hi => absurd hi (Nat.not_lt_zero _)

theorem forward : FwdAt (insOf m c) 2048 (V2 m c) := ((start m c).trips 2048 (Nat.le_refl _)).cond

theorem q9 : (V3 m c main_v23_9 : S2048x1x4x1x64.Idx → EReal) = rowA (insOf m c).a :=
  (midA_map.of (by decide +kernel) _).trans (funext fun i => (forward m c).aa i (i 0).isLt)
theorem q10 : (V3 m c main_v23_10 : S2048x1x4x64x64.Idx → EReal) = matA (insOf m c).S :=
  (midA_map.of (by decide +kernel) _).trans (funext fun i => (forward m c).ss i (i 0).isLt)
theorem q11 : (V3 m c main_v23_11 : S2048x1x4x1x64.Idx → EReal) = rowA (insOf m c).w :=
  (midA_map.of (by decide +kernel) _).trans (funext fun i => (forward m c).ws i (i 0).isLt)
theorem q12 : (V3 m c main_v23_12 : S2048x1x4x1x64.Idx → EReal) = rowA (insOf m c).b :=
  (midA_map.of (by decide +kernel) _).trans (funext fun i => (forward m c).bs i (i 0).isLt)
theorem q13 : (V3 m c main_v23_13 : S2048x1x4x64x1.Idx → EReal) = colA (insOf m c).sa :=
  (midA_map.of (by decide +kernel) _).trans (funext fun i => (forward m c).sas i (i 0).isLt)
theorem q14 : (V3 m c main_v23_14 : S2048x1x4x1x64.Idx → EReal) = rowA (insOf m c).k :=
  (midA_map.of (by decide +kernel) _).trans (funext fun i => (forward m c).ks i (i 0).isLt)
theorem q15 : (V3 m c main_v23_15 : S2048x1x4x64x1.Idx → EReal) = colA (insOf m c).v :=
  (midA_map.of (by decide +kernel) _).trans (funext fun i => (forward m c).vs i (i 0).isLt)
theorem q16 : (V3 m c main_v23_16 : S2048x1x4x1x64.Idx → EReal) = rowA (insOf m c).r :=
  (midA_map.of (by decide +kernel) _).trans (funext fun i => (forward m c).rs i (i 0).isLt)
theorem q17 : (V3 m c main_v23_17 : S2048x1x4x64x64.Idx → EReal) = matA (fun t => (insOf m c).S (t + 1)) :=
  (midA_map.of (by decide +kernel) _).trans (funext fun i => (forward m c).ns i (i 0).isLt)
theorem q28 : (V3 m c main_v28 : S2048x1x4x64.Idx → EReal) = vecA (insOf m c).dy :=
  val1 midA_map 5 rfl (by decide +kernel) (by decide +kernel) (valR midA_map 4 rfl (by decide +kernel) (by decide +kernel) ((midA_map.of (by decide +kernel) _).trans (V2_args m c main_arg6 (by decide +kernel))) rfl)
    (times_first _ shapeCasts_S2048x1x256_S1x2048x4x64 transposes_S1x2048x4x64_S2048x1x4x64_1_0_2_3)
theorem q29 : (V4 m c main_v29 : S1x4x64x64.Idx → EReal) = matR ((insOf m c).G 0) :=
  val1 midB_map 1 rfl (by decide +kernel) (by decide +kernel) (val0 midB_map 0 rfl (by decide +kernel) rfl)
    (funext fun i => (Idealize.ShloMosaic.ValueIdx.broadcastInDim_scalar_apply bcast_S_S1x4x64x64 (constant (F := Ideal) S_ .f32 0x00000000#32) i).trans Ideal.ofBits_zero_f32)

theorem turn : BwdAt (insOf m c) 0 (V4 m c) where
  dy := val1 midB_map 15 rfl (by decide +kernel) (by decide +kernel) ((midB_map.of (by decide +kernel) _).trans (q28 m c)) rfl
  a := val1 midB_map 16 rfl (by decide +kernel) (by decide +kernel) ((midB_map.of (by decide +kernel) _).trans (q9 m c)) rfl
  s := val1 midB_map 17 rfl (by decide +kernel) (by decide +kernel) ((midB_map.of (by decide +kernel) _).trans (q10 m c)) rfl
  w := val1 midB_map 18 rfl (by decide +kernel) (by decide +kernel) ((midB_map.of (by decide +kernel) _).trans (q11 m c)) rfl
  b := val1 midB_map 19 rfl (by decide +kernel) (by decide +kernel) ((midB_map.of (by decide +kernel) _).trans (q12 m c)) rfl
  sa := val1 midB_map 20 rfl (by decide +kernel) (by decide +kernel) ((midB_map.of (by decide +kernel) _).trans (q13 m c)) rfl
  k := val1 midB_map 21 rfl (by decide +kernel) (by decide +kernel) ((midB_map.of (by decide +kernel) _).trans (q14 m c)) rfl
  v := val1 midB_map 22 rfl (by decide +kernel) (by decide +kernel) ((midB_map.of (by decide +kernel) _).trans (q15 m c)) rfl
  r := val1 midB_map 23 rfl (by decide +kernel) (by decide +kernel) ((midB_map.of (by decide +kernel) _).trans (q16 m c)) rfl
  s1 := val1 midB_map 24 rfl (by decide +kernel) (by decide +kernel) ((midB_map.of (by decide +kernel) _).trans (q17 m c)) rfl
  ctr := bwd_zero m c
  g := val1 midB_map 26 rfl (by decide +kernel) (by decide +kernel) (q29 m c) rfl
  dr := fun i hi => absurd (i 0).isLt (Nat.not_lt.mpr hi)
  dw := fun i hi => absurd (i 0).isLt (Nat.not_lt.mpr hi)
  dk := fun i hi => absurd (i 0).isLt (Nat.not_lt.mpr hi)
  dv := fun i hi => absurd (i 0).isLt (Nat.not_lt.mpr hi)
  da := fun i hi => absurd (i 0).isLt (Nat.not_lt.mpr hi)
  db := fun i hi => absurd (i 0).isLt (Nat.not_lt.mpr hi)

theorem backward : BwdAt (insOf m c) 2048 (V5 m c) := ((turn m c).trips 2048 (Nat.le_refl _)).cond

theorem result_dr : (V6 m c main_v48 : S2048x1x256.Idx → EReal) = gradArr (insOf m c).dr :=
  valR post_map 11 rfl (by decide +kernel) (by decide +kernel) (val1 post_map 5 rfl (by decide +kernel) (by decide +kernel)
    ((post_map.of (by decide +kernel) _).trans (funext fun i => (backward m c).dr i (Nat.le_add_left _ _))) rfl)
    (times_back _ transposes_S2048x1x4x64_S1x2048x4x64_1_0_2_3 shapeCasts_S1x2048x4x64_S2048x1x256)
theorem result_dw : (V6 m c main_v47 : S2048x1x256.Idx → EReal) = gradArr (insOf m c).dw :=
  valR post_map 10 rfl (by decide +kernel) (by decide +kernel) (val1 post_map 4 rfl (by decide +kernel) (by decide +kernel)
    ((post_map.of (by decide +kernel) _).trans (funext fun i => (backward m c).dw i (Nat.le_add_left _ _))) rfl)
    (times_back _ transposes_S2048x1x4x64_S1x2048x4x64_1_0_2_3 shapeCasts_S1x2048x4x64_S2048x1x256)
theorem result_dk : (V6 m c main_v46 : S2048x1x256.Idx → EReal) = gradArr (insOf m c).dk :=
  valR post_map 9 rfl (by decide +kernel) (by decide +kernel) (val1 post_map 3 rfl (by decide +kernel) (by decide +kernel)
    ((post_map.of (by decide +kernel) _).trans (funext fun i => (backward m c).dk i (Nat.le_add_left _ _))) rfl)
    (times_back _ transposes_S2048x1x4x64_S1x2048x4x64_1_0_2_3 shapeCasts_S1x2048x4x64_S2048x1x256)
theorem result_dv : (V6 m c main_v45 : S2048x1x256.Idx → EReal) = gradArr (insOf m c).dv :=
  valR post_map 8 rfl (by decide +kernel) (by decide +kernel) (val1 post_map 2 rfl (by decide +kernel) (by decide +kernel)
    ((post_map.of (by decide +kernel) _).trans (funext fun i => (backward m c).dv i (Nat.le_add_left _ _))) rfl)
    (times_back _ transposes_S2048x1x4x64_S1x2048x4x64_1_0_2_3 shapeCasts_S1x2048x4x64_S2048x1x256)
theorem result_da : (V6 m c main_v44 : S2048x1x256.Idx → EReal) = gradArr (insOf m c).da :=
  valR post_map 7 rfl (by decide +kernel) (by decide +kernel) (val1 post_map 1 rfl (by decide +kernel) (by decide +kernel)
    ((post_map.of (by decide +kernel) _).trans (funext fun i => (backward m c).da i (Nat.le_add_left _ _))) rfl)
    (times_back _ transposes_S2048x1x4x64_S1x2048x4x64_1_0_2_3 shapeCasts_S1x2048x4x64_S2048x1x256)
theorem result_db : (V6 m c main_v43 : S2048x1x256.Idx → EReal) = gradArr (insOf m c).db :=
  valR post_map 6 rfl (by decide +kernel) (by decide +kernel) (val1 post_map 0 rfl (by decide +kernel) (by decide +kernel)
    ((post_map.of (by decide +kernel) _).trans (funext fun i => (backward m c).db i (Nat.le_add_left _ _))) rfl)
    (times_back _ transposes_S2048x1x4x64_S1x2048x4x64_1_0_2_3 shapeCasts_S1x2048x4x64_S2048x1x256)

end Cert.ReferenceIdeal.Scan
-- ==== Proof.Finite.lean ====
/- What the precondition says: the entries of the arguments are real numbers. -/
module

public import proofs.«01_k».proof.Pre_finite
public import proofs.«01_k».proof.Proof.Arrays
public import Idealize.ShloMosaic.Lib.IdealHost

@[expose] public section

noncomputable section

namespace Cert.Scan

open Idealize.ShloMosaic

theorem finite_facts : Cert.Pre_finite.Facts := ⟨by decide⟩

theorem ofBits_inf : Ideal.ofBits .f32 0x7F800000#32 = ⊤ := by simp [Ideal.ofBits, Ideal.ieee]

theorem real_of_lt {x : EReal} (h : Ideal.cmp .olt (max x (-x)) ⊤ = 1#1) : IsReal x := by
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  have h0 : x ≠ ⊤ := (lt_of_le_of_lt (le_max_left _ _) hlt).ne
  have h1 : x ≠ ⊥ := fun e => by
    subst e
    exact absurd hlt (by simp)
  exact ⟨x.toReal, EReal.coe_toReal h0 h1⟩

/-- An array whose entries all compare below infinity in absolute value holds real numbers. -/
theorem real_of_ones (x : FVec Ideal Cert.Pre_finite.S2048x1x256 .f32) (hb : Cert.Pre_finite.S_.BroadcastsInDim Cert.Pre_finite.S2048x1x256 ![])
    (h : cmpf .olt (Host.absf x) (broadcastInDim Cert.Pre_finite.S2048x1x256 ![] hb (constant (F := Ideal) Cert.Pre_finite.S_ .f32 0x7F800000#32)) = fun _ => 1#1)
    (t : ℕ) (g : Fin 4) (j : Fin 64) : IsReal (atTime x t g j) := by
  have e := congrFun h (ValueIdx.ix3 ⟨t % 2048, Nat.mod_lt _ (by decide)⟩ 0 (lane g j))
  refine real_of_lt (Eq.trans ?_ e)
  show _ = Ideal.cmp .olt _ (Ideal.ofBits .f32 0x7F800000#32)
  rw [ofBits_inf]
  rfl

end Cert.Scan
-- ==== Proof.Value.lean ====
/- The two programs leave the same arrays: the gradients of the recurrence. -/
module

public import proofs.«01_k».proof.Defs
public import proofs.«01_k».proof.Proof.HostArrays
public import proofs.«01_k».proof.Proof.RefValue
public import proofs.«01_k».proof.Proof.Finite

@[expose] public section

noncomputable section

namespace Cert.Scan

theorem Ins.eq_of {I J : Ins} (hr : I.r = J.r) (hw : I.w = J.w) (hk : I.k = J.k) (hv : I.v = J.v) (ha : I.a = J.a) (hb : I.b = J.b) (hy : I.dy = J.dy) : I = J := by
  cases I; cases J
  cases hr; cases hw; cases hk; cases hv; cases ha; cases hb; cases hy
  rfl

end Cert.Scan

namespace Cert.KernelIdeal.Scan

open Idealize.ShloMosaic Idealize.ShloMosaic.TcCoe Cert.Scan
open Cert.KernelIdeal.Gen

variable (m : (ℓ : Loc nD τ sig) → Buf (Elt Ideal) ℓ) (c : Dev nD)

theorem finite_of (hp : Cert.Pre_KernelIdeal_finite (hPre_finite := finite_facts) m) : (insOf m c).Finite where
  r := real_of_ones _ finite_facts.bcast_S_S2048x1x256 (hp c).1
  w := real_of_ones _ finite_facts.bcast_S_S2048x1x256 (hp c).2.1
  k := real_of_ones _ finite_facts.bcast_S_S2048x1x256 (hp c).2.2.1
  v := real_of_ones _ finite_facts.bcast_S_S2048x1x256 (hp c).2.2.2.1
  a := real_of_ones _ finite_facts.bcast_S_S2048x1x256 (hp c).2.2.2.2.1
  b := real_of_ones _ finite_facts.bcast_S_S2048x1x256 (hp c).2.2.2.2.2.1
  dy := real_of_ones _ finite_facts.bcast_S_S2048x1x256 (hp c).2.2.2.2.2.2

variable (H : (insOf m c).Finite)
include H

theorem result_r : Wend m c main_v20_0 = gradArr (insOf m c).dr := (Wend_0 m c).trans (out_r H (isArrs m c))
theorem result_w : Wend m c main_v20_1 = gradArr (insOf m c).dw := (Wend_1 m c).trans (out_w H (isArrs m c))
theorem result_k : Wend m c main_v20_2 = gradArr (insOf m c).dk := (Wend_2 m c).trans (out_k H (isArrs m c))
theorem result_v : Wend m c main_v20_3 = gradArr (insOf m c).dv := (Wend_3 m c).trans (out_v H (isArrs m c))
theorem result_a : Wend m c main_v20_4 = gradArr (insOf m c).da := (Wend_4 m c).trans (out_a H (isArrs m c))
theorem result_b : Wend m c main_v20_5 = gradArr (insOf m c).db := (Wend_5 m c).trans (out_b H (isArrs m c))

end Cert.KernelIdeal.Scan

namespace Cert.Proof

open Idealize.ShloMosaic Idealize.SL.Sem Cert.Scan

theorem ins_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Scan.insOf m' c = Cert.KernelIdeal.Scan.insOf m c :=
  Ins.eq_of (congrArg atTime h0) (congrArg atTime h1) (congrArg atTime h2) (congrArg atTime h3) (congrArg atTime h4) (congrArg atTime h5) (congrArg atTime h6)

theorem algebraic : Cert.algebraic_KernelIdeal_ReferenceIdeal_pre_finite (hKernelIdeal := Cert.KernelIdeal.Gen.facts) (hReferenceIdeal := Cert.ReferenceIdeal.Gen.facts)
    (hPre_finite := finite_facts) := by
  intro m g m' g' hp hm
  have hF : ∀ c, (Cert.KernelIdeal.Scan.insOf m c).Finite := fun c => Cert.KernelIdeal.Scan.finite_of m c hp
  have hI : ∀ c : Dev Cert.KernelIdeal.nD, Cert.ReferenceIdeal.Scan.insOf m' c = Cert.KernelIdeal.Scan.insOf m c := fun c =>
    ins_eq m m' c (hm c).1 (hm c).2.1 (hm c).2.2.1 (hm c).2.2.2.1 (hm c).2.2.2.2.1 (hm c).2.2.2.2.2.1 (hm c).2.2.2.2.2.2
  refine ⟨fun c => gradArr (Cert.KernelIdeal.Scan.insOf m c).dr, fun c => gradArr (Cert.KernelIdeal.Scan.insOf m c).dw, fun c => gradArr (Cert.KernelIdeal.Scan.insOf m c).dk, fun c => gradArr (Cert.KernelIdeal.Scan.insOf m c).dv, fun c => gradArr (Cert.KernelIdeal.Scan.insOf m c).da, fun c => gradArr (Cert.KernelIdeal.Scan.insOf m c).db,
    (θ_run _ _ _).mono (fun r h c => ⟨
      (h.1 c _ (Cert.KernelIdeal.Scan.uc Cert.KernelIdeal.main_v20_0 (by decide))).trans (Cert.KernelIdeal.Scan.result_r m c (hF c)),
      (h.1 c _ (Cert.KernelIdeal.Scan.uc Cert.KernelIdeal.main_v20_1 (by decide))).trans (Cert.KernelIdeal.Scan.result_w m c (hF c)),
      (h.1 c _ (Cert.KernelIdeal.Scan.uc Cert.KernelIdeal.main_v20_2 (by decide))).trans (Cert.KernelIdeal.Scan.result_k m c (hF c)),
      (h.1 c _ (Cert.KernelIdeal.Scan.uc Cert.KernelIdeal.main_v20_3 (by decide))).trans (Cert.KernelIdeal.Scan.result_v m c (hF c)),
      (h.1 c _ (Cert.KernelIdeal.Scan.uc Cert.KernelIdeal.main_v20_4 (by decide))).trans (Cert.KernelIdeal.Scan.result_a m c (hF c)),
      (h.1 c _ (Cert.KernelIdeal.Scan.uc Cert.KernelIdeal.main_v20_5 (by decide))).trans (Cert.KernelIdeal.Scan.result_b m c (hF c)),
      (h.1 c _ (Cert.KernelIdeal.Scan.uc Cert.KernelIdeal.main_arg0 (by decide))).trans (Cert.KernelIdeal.Scan.Wend_args m c Cert.KernelIdeal.main_arg0 (by decide)),
      (h.1 c _ (Cert.KernelIdeal.Scan.uc Cert.KernelIdeal.main_arg1 (by decide))).trans (Cert.KernelIdeal.Scan.Wend_args m c Cert.KernelIdeal.main_arg1 (by decide)),
      (h.1 c _ (Cert.KernelIdeal.Scan.uc Cert.KernelIdeal.main_arg2 (by decide))).trans (Cert.KernelIdeal.Scan.Wend_args m c Cert.KernelIdeal.main_arg2 (by decide)),
      (h.1 c _ (Cert.KernelIdeal.Scan.uc Cert.KernelIdeal.main_arg3 (by decide))).trans (Cert.KernelIdeal.Scan.Wend_args m c Cert.KernelIdeal.main_arg3 (by decide)),
      (h.1 c _ (Cert.KernelIdeal.Scan.uc Cert.KernelIdeal.main_arg4 (by decide))).trans (Cert.KernelIdeal.Scan.Wend_args m c Cert.KernelIdeal.main_arg4 (by decide)),
      (h.1 c _ (Cert.KernelIdeal.Scan.uc Cert.KernelIdeal.main_arg5 (by decide))).trans (Cert.KernelIdeal.Scan.Wend_args m c Cert.KernelIdeal.main_arg5 (by decide)),
      (h.1 c _ (Cert.KernelIdeal.Scan.uc Cert.KernelIdeal.main_arg6 (by decide))).trans (Cert.KernelIdeal.Scan.Wend_args m c Cert.KernelIdeal.main_arg6 (by decide))⟩) (Cert.KernelIdeal.Scan.run_main m g),
    (θ_run _ _ _).mono (fun r h c => ⟨
      (h.1 c _ (Cert.ReferenceIdeal.Scan.uc Cert.ReferenceIdeal.main_v48 (by decide))).trans ((Cert.ReferenceIdeal.Scan.result_dr m' c).trans (congrArg (fun I : Ins => gradArr I.dr) (hI c))),
      (h.1 c _ (Cert.ReferenceIdeal.Scan.uc Cert.ReferenceIdeal.main_v47 (by decide))).trans ((Cert.ReferenceIdeal.Scan.result_dw m' c).trans (congrArg (fun I : Ins => gradArr I.dw) (hI c))),
      (h.1 c _ (Cert.ReferenceIdeal.Scan.uc Cert.ReferenceIdeal.main_v46 (by decide))).trans ((Cert.ReferenceIdeal.Scan.result_dk m' c).trans (congrArg (fun I : Ins => gradArr I.dk) (hI c))),
      (h.1 c _ (Cert.ReferenceIdeal.Scan.uc Cert.ReferenceIdeal.main_v45 (by decide))).trans ((Cert.ReferenceIdeal.Scan.result_dv m' c).trans (congrArg (fun I : Ins => gradArr I.dv) (hI c))),
      (h.1 c _ (Cert.ReferenceIdeal.Scan.uc Cert.ReferenceIdeal.main_v44 (by decide))).trans ((Cert.ReferenceIdeal.Scan.result_da m' c).trans (congrArg (fun I : Ins => gradArr I.da) (hI c))),
      (h.1 c _ (Cert.ReferenceIdeal.Scan.uc Cert.ReferenceIdeal.main_v43 (by decide))).trans ((Cert.ReferenceIdeal.Scan.result_db m' c).trans (congrArg (fun I : Ins => gradArr I.db) (hI c))),
      (h.1 c _ (Cert.ReferenceIdeal.Scan.uc Cert.ReferenceIdeal.main_arg0 (by decide))).trans (Cert.ReferenceIdeal.Scan.V6_args m' c Cert.ReferenceIdeal.main_arg0 (by decide)),
      (h.1 c _ (Cert.ReferenceIdeal.Scan.uc Cert.ReferenceIdeal.main_arg1 (by decide))).trans (Cert.ReferenceIdeal.Scan.V6_args m' c Cert.ReferenceIdeal.main_arg1 (by decide)),
      (h.1 c _ (Cert.ReferenceIdeal.Scan.uc Cert.ReferenceIdeal.main_arg2 (by decide))).trans (Cert.ReferenceIdeal.Scan.V6_args m' c Cert.ReferenceIdeal.main_arg2 (by decide)),
      (h.1 c _ (Cert.ReferenceIdeal.Scan.uc Cert.ReferenceIdeal.main_arg3 (by decide))).trans (Cert.ReferenceIdeal.Scan.V6_args m' c Cert.ReferenceIdeal.main_arg3 (by decide)),
      (h.1 c _ (Cert.ReferenceIdeal.Scan.uc Cert.ReferenceIdeal.main_arg4 (by decide))).trans (Cert.ReferenceIdeal.Scan.V6_args m' c Cert.ReferenceIdeal.main_arg4 (by decide)),
      (h.1 c _ (Cert.ReferenceIdeal.Scan.uc Cert.ReferenceIdeal.main_arg5 (by decide))).trans (Cert.ReferenceIdeal.Scan.V6_args m' c Cert.ReferenceIdeal.main_arg5 (by decide)),
      (h.1 c _ (Cert.ReferenceIdeal.Scan.uc Cert.ReferenceIdeal.main_arg6 (by decide))).trans (Cert.ReferenceIdeal.Scan.V6_args m' c Cert.ReferenceIdeal.main_arg6 (by decide))⟩) (Cert.ReferenceIdeal.Scan.run_main m' g')⟩

end Cert.Proof
-- ==== Proof.Du.lean ====
/- The gradient of the MLP's hidden layer: what the blocks of the product with the rectifier's derivative hold, and the
   reference's array. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.IdealHost

@[expose] public section

noncomputable section

namespace Cert.Mlp

open Idealize.ShloMosaic

theorem two_zeros : (![0, 0] : Fin 2 → ℕ) = fun _ => 0 := funext fun a => by fin_cases a <;> rfl

/-- The gradient of the hidden layer before its rectifier: dy times the rows of the weights, times the derivative of the
    squared rectifier. -/
def du (u : Fin 2048 → Fin 4096 → EReal) (w : Fin 4096 → Fin 1024 → EReal) (dy : Fin 2048 → Fin 1024 → EReal) (i : Fin 2048) (j : Fin 4096) : EReal :=
  (∑ k : Fin 1024, dy i k * w j k) * (((2 : ℝ) : EReal) * max (u i j) 0)

theorem ofBits_two : (Ideal.ofBits .f32 0x40000000#32 : EReal) = ((2 : ℝ) : EReal) := by
  simp [Ideal.ofBits, Ideal.ieee, -EReal.coe_mul]; norm_num

/-- A product of the reference at an index, with the operands' indices named. -/
theorem host_dot {sl sr so : Shape} {φ₁ φ₂ : FTy} (d : DotDims sl sr so) {a : Fin sl.rank} (hc : d.lhsContracting = [a]) {K : ℕ} (hK : sl.size a = K)
    (lhs : FVec Ideal sl φ₁) (rhs : FVec Ideal sr φ₂) (j : so.Idx) (L : Fin K → sl.Idx) (R : Fin K → sr.Idx)
    (hL : ∀ k, Shape.Idx.norm (d.lhsIdx j (d.contrIdx₁ hc hK k)) = L k) (hR : ∀ k, Shape.Idx.norm (d.rhsIdx j (d.contrIdx₁ hc hK k)) = R k) :
    (Host.dotGeneral (F := Ideal) d none lhs rhs j : EReal) = ∑ k : Fin K, (lhs (L k) : EReal) * rhs (R k) := by
  simp only [Host.dotGeneral]
  rw [Ideal.dotGeneral_def]
  exact (Ideal.matmul_apply₁_of d hc hK lhs rhs _ j L R hL hR).trans (zero_add _)

end Cert.Mlp

namespace Cert.Kernel2Ideal.Mlp

open Idealize.ShloMosaic Idealize.ShloMosaic.TcCoe Idealize.SL.Sem Cert.Mlp
open Cert.Kernel2Ideal Cert.Kernel2Ideal.Gen Cert.Kernel2Ideal.Value

variable (m : (ℓ : Loc nD τ sig) → Buf (Elt Ideal) ℓ) (c : Dev nD)

theorem out_eq (x0 : Vec Ideal S1024x1024 .f32) (x1 : Vec Ideal S512x1024 .bf16) (x2 : Vec Ideal S1024x512 .bf16) :
    out0_3 x0 x1 x2 = k0_pay1 x0 x1 x2 := by
  unfold out0_3
  rw [View.canon_unit_zero two_zeros]
  simp only [View.ld_unit_zero (S := S1024x1024) two_zeros, View.ld_unit_zero (S := S512x1024) two_zeros, View.ld_unit_zero (S := S1024x512) two_zeros]

theorem pay_apply (x0 : Vec Ideal S1024x1024 .f32) (x1 : Vec Ideal S512x1024 .bf16) (x2 : Vec Ideal S1024x512 .bf16) (j : S1024x512.Idx) :
    k0_pay1 x0 x1 x2 j = (∑ k : Fin 1024, (x0 (ix2 (j 0) k) : EReal) * x1 (ix2 (j 1) k)) * (((2 : ℝ) : EReal) * max (x2 j : EReal) 0) := by
  unfold k0_pay1
  simp only [shapeCast_self]
  show (Ideal.matmul dot_S1024x1024_S512x1024_S1024x512_1_1_0_0_n_n x0 x1 (fun _ => Ideal.ofBits .f32 0x00000000#32) j : EReal)
    * (Ideal.ofBits .f32 0x40000000#32 * max (x2 j : EReal) (Ideal.ofBits .f32 0x00000000#32)) = _
  rw [Ideal.matmul_apply₁_of dot_S1024x1024_S512x1024_S1024x512_1_1_0_0_n_n rfl rfl x0 x1 _ j (fun k => ix2 (j 0) k) (fun k => ix2 (j 1) k)
    (fun k => funext fun a => by fin_cases a <;> rfl) (fun k => funext fun a => by fin_cases a <;> rfl), Ideal.ofBits_zero_f32, zero_add, ofBits_two]
  rfl

theorem V_w : (V m c main_v0 : S4096x1024.Idx → EReal) = m ((c.tc : Thread nD τ).loc main_arg1) := by
  show StableHlo.after hostOps0 (fun b => m (c, b)) (Proc.devRef .tc main_v0) = _
  after_results
  rfl

theorem V_u : (V m c main_v1 : S2048x4096.Idx → EReal) = m ((c.tc : Thread nD τ).loc main_arg0) := by
  show StableHlo.after hostOps0 (fun b => m (c, b)) (Proc.devRef .tc main_v1) = _
  after_results
  rfl

/-- The array that the call leaves. -/
def G (c : Dev nD) : S2048x4096.Idx → EReal := fun i =>
  du (fun a b => m ((c.tc : Thread nD τ).loc main_arg0) (ix2 a b)) (fun a b => m ((c.tc : Thread nD τ).loc main_arg1) (ix2 a b))
    (fun a b => m ((c.tc : Thread nD τ).loc main_arg2) (ix2 a b)) (i 0) (i 1)

theorem places : ∀ t : Fin grid0.N, win0_0.index t 0 = t.val / 8 ∧ win0_0.index t 1 = 0 ∧ win0_1.index t 0 = t.val % 8 ∧ win0_1.index t 1 = 0
    ∧ win0_2.index t 0 = t.val / 8 ∧ win0_2.index t 1 = t.val % 8 ∧ win0_3.index t 0 = t.val / 8 ∧ win0_3.index t 1 = t.val % 8 := by decide +kernel

theorem writes_back (t : Fin cfg0.N) : (dats m 0 c).flushed 3 t = ((cfg0.win 3).blk t).view.read (Elt Ideal) (G m c) := by
  rw [flushed3, out_eq]
  obtain ⟨p0, p1, p2, p3, p4, p5, p6, p7⟩ := places t
  funext y
  refine (pay_apply _ _ _ ((cfg0.win 3).xinj (grid0.coords t) y)).trans ?_
  have hb0 : (((cfg0.win 3).blk t).view.emb y 0).val = win0_3.index t (0 : Fin 2) * 1024 + 1 * (y 0).val := rfl
  have hb1 : (((cfg0.win 3).blk t).view.emb y 1).val = win0_3.index t (1 : Fin 2) * 512 + 1 * (y 1).val := rfl
  have ey : ∀ k : Fin 1024, (iblk m c 0 t (ix2 ((cfg0.win 3).xinj (grid0.coords t) y 0) k) : EReal)
      = m ((c.tc : Thread nD τ).loc main_arg2) (ix2 (((cfg0.win 3).blk t).view.emb y 0) k) := fun k => by
    show V m c main_arg2 (((cfg0.win 0).blk t).view.emb (ix2 ((cfg0.win 3).xinj (grid0.coords t) y 0) k)) = _
    rw [V_main_arg2]
    refine congrArg _ (funext fun a => Fin.ext ?_)
    match a with
    | ⟨0, _⟩ => show win0_0.index t 0 * 1024 + 1 * (y 0).val = (((cfg0.win 3).blk t).view.emb y 0).val; omega
    | ⟨1, _⟩ => show win0_0.index t 1 * 1024 + 1 * k.val = k.val; omega
  have ew : ∀ k : Fin 1024, (iblk m c 1 t (ix2 ((cfg0.win 3).xinj (grid0.coords t) y 1) k) : EReal)
      = m ((c.tc : Thread nD τ).loc main_arg1) (ix2 (((cfg0.win 3).blk t).view.emb y 1) k) := fun k => by
    show (V m c main_v0 : S4096x1024.Idx → EReal) (((cfg0.win 1).blk t).view.emb (ix2 ((cfg0.win 3).xinj (grid0.coords t) y 1) k)) = _
    rw [V_w]
    refine congrArg _ (funext fun a => Fin.ext ?_)
    match a with
    | ⟨0, _⟩ => show win0_1.index t 0 * 512 + 1 * (y 1).val = (((cfg0.win 3).blk t).view.emb y 1).val; omega
    | ⟨1, _⟩ => show win0_1.index t 1 * 1024 + 1 * k.val = k.val; omega
  have eu : (iblk m c 2 t ((cfg0.win 3).xinj (grid0.coords t) y) : EReal)
      = m ((c.tc : Thread nD τ).loc main_arg0) (ix2 (((cfg0.win 3).blk t).view.emb y 0) (((cfg0.win 3).blk t).view.emb y 1)) := by
    show (V m c main_v1 : S2048x4096.Idx → EReal) (((cfg0.win 2).blk t).view.emb ((cfg0.win 3).xinj (grid0.coords t) y)) = _
    rw [V_u]
    refine congrArg _ (funext fun a => Fin.ext ?_)
    match a with
    | ⟨0, _⟩ => show win0_2.index t 0 * 1024 + 1 * (y 0).val = (((cfg0.win 3).blk t).view.emb y 0).val; omega
    | ⟨1, _⟩ => show win0_2.index t 1 * 512 + 1 * (y 1).val = (((cfg0.win 3).blk t).view.emb y 1).val; omega
  show _ = G m c (((cfg0.win 3).blk t).view.emb y)
  exact congrArg₂ (· * ·) (Finset.sum_congr rfl fun k _ => congrArg₂ (· * ·) (ey k) (ew k)) (congrArg (fun x : EReal => ((2 : ℝ) : EReal) * max x 0) eu)

theorem point_lt (i : S2048x4096.Idx) : 8 * ((i 0).val / 1024) + (i 1).val / 512 < cfg0.N := by
  have h0 : (i 0).val < 2048 := (i 0).isLt
  have h1 : (i 1).val < 4096 := (i 1).isLt
  exact lt_of_lt_of_eq (show _ < 16 by omega) N_0.symm

theorem covered (i : S2048x4096.Idx) : ∃ t : Fin cfg0.N, (cfg0.win 3).flush t = true ∧ i ∈ ((cfg0.win 3).blk t).view.set := by
  have h0 : (i 0).val < 2048 := (i 0).isLt
  have h1 : (i 1).val < 4096 := (i 1).isLt
  refine ⟨⟨_, point_lt i⟩, (by decide +kernel : ∀ t : Fin grid0.N, win0_3.flush t = true) _, ?_⟩
  obtain ⟨p0, p1, p2, p3, p4, p5, p6, p7⟩ := places ⟨_, point_lt i⟩
  show i ∈ ((View.whole main_v2).slice (win0_3.rect ⟨_, point_lt i⟩)).set
  rw [View.set_slice_whole, Rect.mem_set_unit]
  intro a
  match a with
  | ⟨0, _⟩ => show win0_3.index _ (0 : Fin 2) * 1024 ≤ (i 0).val ∧ (i 0).val < win0_3.index _ (0 : Fin 2) * 1024 + 1024; rw [p6]; dsimp only; omega
  | ⟨1, _⟩ => show win0_3.index _ (1 : Fin 2) * 512 ≤ (i 1).val ∧ (i 1).val < win0_3.index _ (1 : Fin 2) * 512 + 512; rw [p7]; dsimp only; omega

/-- The array that the call leaves holds the gradient of the hidden layer. -/
theorem final : (dats m 0 c).arrAt 3 cfg0.N = G m c :=
  (dats m 0 c).arrAt_eq_of_cover 3 _ (fun t _ => writes_back m c t) covered

end Cert.Kernel2Ideal.Mlp

namespace Cert.Mlp

open Idealize.ShloMosaic Idealize.SL.Sem

/-- The reference's array: where u is not positive both sides are a product with zero. -/
theorem du_reference (u : FVec Ideal Cert.Reference2Ideal.S2048x4096 .f32) (w : FVec Ideal Cert.Reference2Ideal.S4096x1024 .f32) (dy : FVec Ideal Cert.Reference2Ideal.S2048x1024 .f32)
    (hb : Cert.Reference2Ideal.S_.BroadcastsInDim Cert.Reference2Ideal.S2048x4096 ![]) (hl : FTy.bf16.bits < FTy.f32.bits) :
    (truncf (F := Ideal) .bf16 (select (cmpf .ogt u (broadcastInDim Cert.Reference2Ideal.S2048x4096 ![] hb (constant Cert.Reference2Ideal.S_ .f32 0x00000000#32)))
      (mulf (Host.dotGeneral Cert.Reference2Ideal.dot_S2048x1024_S4096x1024_S2048x4096_1_1_0_0_n_n none dy w)
        (mulf (broadcastInDim Cert.Reference2Ideal.S2048x4096 ![] hb (constant Cert.Reference2Ideal.S_ .f32 0x40000000#32))
          (maximumf u (broadcastInDim Cert.Reference2Ideal.S2048x4096 ![] hb (constant Cert.Reference2Ideal.S_ .f32 0x00000000#32)))))
      (broadcastInDim Cert.Reference2Ideal.S2048x4096 ![] hb (constant Cert.Reference2Ideal.S_ .f32 0x00000000#32))) hl : Cert.Reference2Ideal.S2048x4096.Idx → EReal)
    = fun i => du (fun a b => u (ix2 a b)) (fun a b => w (ix2 a b)) (fun a b => dy (ix2 a b)) (i 0) (i 1) := by
  funext i
  obtain ⟨a, b, rfl⟩ : ∃ (a : Fin 2048) (b : Fin 4096), i = ix2 a b := ⟨i 0, i 1, funext fun q => by fin_cases q <;> rfl⟩
  show Scalar.select (Ideal.cmp .ogt (u (ix2 a b)) (Ideal.ofBits .f32 0x00000000#32))
    ((Host.dotGeneral (F := Ideal) Cert.Reference2Ideal.dot_S2048x1024_S4096x1024_S2048x4096_1_1_0_0_n_n none dy w (ix2 a b) : EReal)
      * (Ideal.ofBits .f32 0x40000000#32 * max (u (ix2 a b)) (Ideal.ofBits .f32 0x00000000#32))) (Ideal.ofBits .f32 0x00000000#32) = (∑ k : Fin 1024, dy (ix2 a k) * w (ix2 b k)) * (((2 : ℝ) : EReal) * max (u (ix2 a b)) 0)
  rw [host_dot Cert.Reference2Ideal.dot_S2048x1024_S4096x1024_S2048x4096_1_1_0_0_n_n rfl rfl dy w (ix2 a b) (fun k => ix2 a k) (fun k => ix2 b k)
    (fun k => funext fun q => by fin_cases q <;> rfl) (fun k => funext fun q => by fin_cases q <;> rfl), Ideal.ofBits_zero_f32, ofBits_two]
  by_cases h : 0 < u (ix2 a b)
  · have hc : Ideal.cmp .ogt (u (ix2 a b)) 0 = 1#1 := by simp [Ideal.cmp, h]
    rw [hc]; rfl
  · have hc : Ideal.cmp .ogt (u (ix2 a b)) 0 = 0#1 := by simp [Ideal.cmp, h]
    rw [hc, max_eq_right (not_lt.mp h), mul_zero]; exact (mul_zero _).symm

end Cert.Mlp

namespace Cert

open Idealize.ShloMosaic Idealize.SL.Sem Cert.Mlp

/-- On every device and from any arguments, the program of the call leaves the same array as the reference's. -/
theorem du_same : algebraic_Kernel2Ideal_Reference2Ideal (hKernel2Ideal := Cert.Kernel2Ideal.Gen.facts) (hReference2Ideal := Cert.Reference2Ideal.Gen.facts) := by
  intro m ρ m' ρ' _ hargs
  refine ⟨fun c => Cert.Kernel2Ideal.Mlp.G m c, ?_, ?_⟩
  · refine (θ_run _ _ _).mono (fun r h c => ?_) (Cert.Kernel2Ideal.Value.run_blocks m ρ)
    obtain ⟨h0, h1⟩ := h c
    exact ⟨h0.trans (Cert.Kernel2Ideal.Mlp.final m c), h1⟩
  · refine (θ_run _ _ _).mono (fun r h c => ?_) (Cert.Reference2Ideal.Value.run m' ρ')
    obtain ⟨h0, h1⟩ := h c
    obtain ⟨e0, e1, e2⟩ := hargs c
    refine ⟨h0.trans ?_, h1⟩
    rw [e0, e1, e2]
    exact du_reference _ _ _ _ _

end Cert
-- ==== Proof.Dwdown.lean ====
/- The gradient of the weights of the MLP's second product: two halves of the rows are added in the carried block, which is
   written back after the second. -/
module

public import proofs.«01_k».proof.Defs
public import proofs.«01_k».proof.Proof.Du
public import proofs.«01_k».proof.Proof.Gen.Kernel3Ideal.Value
public import proofs.«01_k».proof.Proof.Gen.Reference3Ideal.Run
public import Idealize.ShloMosaic.Lib.Pointwise

@[expose] public section

noncomputable section

namespace Cert.Mlp

open Idealize.ShloMosaic

/-- The first and the second half of a sum over 2048 rows. -/
theorem halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

/-- The gradient of the weights: the squared rectifier of u, transposed, times dy. -/
def dwdown (u : Fin 2048 → Fin 4096 → EReal) (dy : Fin 2048 → Fin 1024 → EReal) (i : Fin 4096) (j : Fin 1024) : EReal :=
  ∑ k : Fin 2048, max (u k i) 0 * max (u k i) 0 * dy k j

end Cert.Mlp

namespace Cert.Kernel3Ideal.Mlp

open Idealize.ShloMosaic Idealize.ShloMosaic.TcCoe Idealize.SL.Sem Cert.Mlp
open Cert.Kernel3Ideal Cert.Kernel3Ideal.Gen Cert.Kernel3Ideal.Value

theorem pay_apply (x0 : Vec Ideal S1024x512 .bf16) (x1 : Vec Ideal S1024x512 .f32) (j : S512x512.Idx) :
    (k0_pay1 x0 x1 j : EReal) = ∑ k : Fin 1024, (x0 (ix2 k (j 0)) : EReal) * x1 (ix2 k (j 1)) := by
  unfold k0_pay1
  simp only [shapeCast_self]
  show (Ideal.matmul dot_S1024x512_S1024x512_S512x512_0_0_1_1_n_n x0 x1 (fun _ => Ideal.ofBits .f32 0x00000000#32) j : EReal) = _
  rw [Ideal.matmul_apply₁_of dot_S1024x512_S1024x512_S512x512_0_0_1_1_n_n rfl rfl x0 x1 _ j (fun k => ix2 k (j 0)) (fun k => ix2 k (j 1))
    (fun k => funext fun a => by fin_cases a <;> rfl) (fun k => funext fun a => by fin_cases a <;> rfl), Ideal.ofBits_zero_f32, zero_add]
  rfl

/-- The first half: the carried block holds the product of the point's blocks. -/
theorem first_half (c : Dev nD) (i : grid0.Coords) (a3 : Memref sig .tc .vmem S1024x512 .bf16) (h3 : a3.IsWhole) (a4 : Memref sig .tc .vmem S1024x512 .f32) (h4 : a4.IsWhole)
    (a5 : Memref sig .tc .vmem S512x512 .bf16) (h5 : a5.IsWhole) (a6 : Memref sig .tc .vmem S512x512 .f32) (h6 : a6.IsWhole) (g0 : cond0_0 i) (g1 : ¬cond0_1 i) (g2 : ¬cond0_2 i)
    (x0 : Vec Ideal S1024x512 .bf16) (x1 : Vec Ideal S1024x512 .f32) :
    sout0_A_0 c i a3 h3 a4 h4 a5 h5 a6 h6 g0 g1 g2 x0 x1 = k0_pay1 x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero two_zeros]
  unfold k0_pay2
  simp only [View.readAt_eq_ld, h3.read_unread, h4.read_unread, View.ld_unit_zero (S := S1024x512) two_zeros, shapeCast_self]

/-- The second half: what is written back is the carried block and the product of the point's blocks. -/
theorem second_half (c : Dev nD) (i : grid0.Coords) (a3 : Memref sig .tc .vmem S1024x512 .bf16) (h3 : a3.IsWhole) (a4 : Memref sig .tc .vmem S1024x512 .f32) (h4 : a4.IsWhole)
    (a5 : Memref sig .tc .vmem S512x512 .bf16) (h5 : a5.IsWhole) (a6 : Memref sig .tc .vmem S512x512 .f32) (h6 : a6.IsWhole) (g0 : ¬cond0_0 i) (g1 : cond0_1 i) (g2 : cond0_2 i)
    (x0 : Vec Ideal S1024x512 .bf16) (x1 : Vec Ideal S1024x512 .f32) (xs : Vec Ideal S512x512 .f32) (j : S512x512.Idx) :
    (out0_B_2 c i a3 h3 a4 h4 a5 h5 a6 h6 g0 g1 g2 x0 x1 xs j : EReal) = xs j + k0_pay1 x0 x1 j := by
  unfold out0_B_2
  rw [View.read_writes_eq_canon _ _ _ (cover0_B_2 c i a3 h3 a4 h4 a5 h5 a6 h6 g0 g1 g2 x0 x1 xs)]
  unfold kernelRun0_B
  dsimp only
  sl_unfold_words
  rw [View.canon_unit_zero two_zeros, View.readCov_unit_zero (S := S512x512) _ two_zeros]
  unfold k0_pay4 k0_pay3
  simp only [View.readAt_eq_ld, h3.read_unread, h4.read_unread, h6.read_unread, View.ld_unit_zero (S := S1024x512) two_zeros, View.ld_unit_zero (S := S512x512) two_zeros, shapeCast_self]
  rfl

variable (m : (ℓ : Loc nD τ sig) → Buf (Elt Ideal) ℓ) (c : Dev nD)

/-- u, read from the launch. -/
def uOf : Fin 2048 → Fin 4096 → EReal := fun a b => m ((c.tc : Thread nD τ).loc main_arg0) (ix2 a b)

/-- dy, read from the launch. -/
def dyOf : Fin 2048 → Fin 1024 → EReal := fun a b => m ((c.tc : Thread nD τ).loc main_arg1) (ix2 a b)

theorem V_act (a : Fin 2048) (b : Fin 4096) : ((V m c main_v3 : S2048x4096.Idx → EReal) (ix2 a b)) = max (uOf m c a b) 0 * max (uOf m c a b) 0 := by
  have e : (V m c main_v3 : S2048x4096.Idx → EReal) (ix2 a b) = max (uOf m c a b) (Ideal.ofBits .f32 0x00000000#32) * max (uOf m c a b) (Ideal.ofBits .f32 0x00000000#32) := by
    show (StableHlo.after hostOps0 (fun b => m (c, b)) (Proc.devRef .tc main_v3) : S2048x4096.Idx → EReal) (ix2 a b) = _
    after_results
    rfl
  rw [e, Ideal.ofBits_zero_f32]

/-- The array that the call leaves. -/
def G (c : Dev nD) : S4096x1024.Idx → EReal := fun i => dwdown (uOf m c) (dyOf m c) (i 0) (i 1)

theorem places : ∀ t : Fin grid0.N, win0_0.index t 0 = t.val % 2 ∧ win0_0.index t 1 = t.val / 4 ∧ win0_1.index t 0 = t.val % 2 ∧ win0_1.index t 1 = t.val / 2 % 2
    ∧ win0_2.index t 0 = t.val / 4 ∧ win0_2.index t 1 = t.val / 2 % 2 := by decide +kernel

/-- A point's product is a half of the sum at the block's place, the half that the point's number names. -/
theorem point_half (t s : Fin cfg0.N) (hs : s.val / 2 = t.val / 2) (p : Fin 4096) (q : Fin 1024) (z : S512x512.Idx)
    (h0 : p.val = t.val / 4 * 512 + (z 0).val) (h1 : q.val = t.val / 2 % 2 * 512 + (z 1).val) :
    (k0_pay1 (iblk m c 0 s) (iblk m c 1 s) z : EReal) = ∑ k : Fin 1024,
      (fun r : Fin 2048 => max (uOf m c r p) 0 * max (uOf m c r p) 0 * dyOf m c r q) ⟨s.val % 2 * 1024 + k.val, by omega⟩ := by
  obtain ⟨p0, p1, p2, p3, p4, p5⟩ := places s
  rw [pay_apply]
  refine Finset.sum_congr rfl fun k _ => ?_
  have e0 : ((cfg0.win 0).blk s).view.emb (ix2 k (z 0)) = ix2 (⟨s.val % 2 * 1024 + k.val, by omega⟩ : Fin 2048) p := by
    funext a; apply Fin.ext
    match a with
    | ⟨0, _⟩ => show win0_0.index s 0 * 1024 + 1 * k.val = s.val % 2 * 1024 + k.val; omega
    | ⟨1, _⟩ => show win0_0.index s 1 * 512 + 1 * (z 0).val = p.val; omega
  have e1 : ((cfg0.win 1).blk s).view.emb (ix2 k (z 1)) = ix2 (⟨s.val % 2 * 1024 + k.val, by omega⟩ : Fin 2048) q := by
    funext a; apply Fin.ext
    match a with
    | ⟨0, _⟩ => show win0_1.index s 0 * 1024 + 1 * k.val = s.val % 2 * 1024 + k.val; omega
    | ⟨1, _⟩ => show win0_1.index s 1 * 512 + 1 * (z 1).val = q.val; omega
  exact congrArg₂ (· * ·) ((congrArg (V m c main_v3 : S2048x4096.Idx → EReal) e0).trans (V_act m c _ _))
    ((congrArg (V m c main_arg1 : S2048x1024.Idx → EReal) e1).trans (congrFun (V_main_arg1 m c) _))

theorem writes_back (t : Fin cfg0.N) (hf : (cfg0.win 2).flush t = true) : (dats m 0 c).flushed 2 t = ((cfg0.win 2).blk t).view.read (Elt Ideal) (G m c) := by
  have hm : t.val % 2 = 1 := (flush0_2 t).mp hf
  have hlt : t.val - 1 < cfg0.N := Nat.lt_of_le_of_lt (Nat.sub_le _ _) t.isLt
  rw [flushed2_B m c t (by omega) hm hm]
  have hA := outsAt0_A m c ⟨t.val - 1, hlt⟩ (by dsimp only; omega) (by dsimp only; omega) (by dsimp only; omega)
  rw [first_half] at hA
  rw [show outsAt0 m c (t.val - 1) (Nat.lt_of_le_of_lt (Nat.sub_le _ _) t.isLt) = _ from hA]
  obtain ⟨p0, p1, p2, p3, p4, p5⟩ := places t
  funext y
  refine (second_half c _ _ _ _ _ _ _ _ _ _ _ _ _ _ _ ((cfg0.win 2).xinj (grid0.coords t) y)).trans ?_
  have b0 : (((cfg0.win 2).blk t).view.emb y 0).val = t.val / 4 * 512 + ((cfg0.win 2).xinj (grid0.coords t) y 0).val := by
    show win0_2.index t (0 : Fin 2) * 512 + 1 * (y 0).val = t.val / 4 * 512 + (y 0).val; omega
  have b1 : (((cfg0.win 2).blk t).view.emb y 1).val = t.val / 2 % 2 * 512 + ((cfg0.win 2).xinj (grid0.coords t) y 1).val := by
    show win0_2.index t (1 : Fin 2) * 512 + 1 * (y 1).val = t.val / 2 % 2 * 512 + (y 1).val; omega
  refine (congrArg₂ (· + ·) (point_half m c t ⟨t.val - 1, hlt⟩ (by dsimp only; omega) _ _ _ b0 b1) (point_half m c t t rfl _ _ _ b0 b1)).trans ?_
  show _ = G m c (((cfg0.win 2).blk t).view.emb y)
  unfold G dwdown
  rw [halves]
  refine congrArg₂ (· + ·) (Finset.sum_congr rfl fun k _ => ?_) (Finset.sum_congr rfl fun k _ => ?_)
  · have e : (⟨(t.val - 1) % 2 * 1024 + k.val, by omega⟩ : Fin 2048) = ⟨k.val, by omega⟩ := Fin.ext (by dsimp only; omega)
    dsimp only
    rw [e]
  · have e : (⟨t.val % 2 * 1024 + k.val, by omega⟩ : Fin 2048) = ⟨1024 + k.val, by omega⟩ := Fin.ext (by dsimp only; omega)
    dsimp only
    rw [e]

/-- The array that the call leaves holds the gradient of the weights. -/
theorem final : (dats m 0 c).arrAt 2 cfg0.N = G m c :=
  (dats m 0 c).arrAt_eq_of_cover 2 _ (fun t hf => writes_back m c t hf) (fun i => (covered_iff2 i).2 (by
    have h0 : (i 0).val < 4096 := (i 0).isLt
    have h1 : (i 1).val < 1024 := (i 1).isLt
    omega))

end Cert.Kernel3Ideal.Mlp

namespace Cert.Mlp

open Idealize.ShloMosaic Idealize.SL.Sem

open Cert.Reference3Ideal in
theorem dwdown_reference (u : FVec Ideal S2048x4096 .f32) (dy : FVec Ideal S2048x1024 .f32)
    (hb : S_.BroadcastsInDim S2048x4096 ![]) (ht : S1024x4096.Transposes [1, 0] S4096x1024) (hl : FTy.bf16.bits < FTy.f32.bits) :
    (truncf (F := Ideal) .bf16 (transpose S4096x1024 [1, 0] (Host.dotGeneral dot_S2048x1024_S2048x4096_S1024x4096_0_0_1_1_n_n none dy
      (mulf (maximumf u (broadcastInDim S2048x4096 ![] hb (constant S_ .f32 0x00000000#32))) (maximumf u (broadcastInDim S2048x4096 ![] hb (constant S_ .f32 0x00000000#32))))) ht) hl : S4096x1024.Idx → EReal)
    = fun i => dwdown (fun a b => u (ix2 a b)) (fun a b => dy (ix2 a b)) (i 0) (i 1) := by
  funext i
  obtain ⟨a, b, rfl⟩ : ∃ (a : Fin 4096) (b : Fin 1024), i = ix2 a b := ⟨i 0, i 1, funext fun q => by fin_cases q <;> rfl⟩
  refine (host_dot dot_S2048x1024_S2048x4096_S1024x4096_0_0_1_1_n_n rfl rfl dy _ _ (fun k => ix2 k b) (fun k => ix2 k a)
    (fun k => funext fun q => by fin_cases q <;> rfl) (fun k => funext fun q => by fin_cases q <;> rfl)).trans ?_
  refine Finset.sum_congr rfl fun k _ => ?_
  show dy (ix2 k b) * (max (u (ix2 k a)) (Ideal.ofBits .f32 0x00000000#32) * max (u (ix2 k a)) (Ideal.ofBits .f32 0x00000000#32)) = max (u (ix2 k a)) 0 * max (u (ix2 k a)) 0 * dy (ix2 k b)
  rw [Ideal.ofBits_zero_f32, mul_comm]

end Cert.Mlp

namespace Cert

open Idealize.ShloMosaic Idealize.SL.Sem Cert.Mlp

/-- On every device and from any arguments, the program of the call leaves the same array as the reference's. -/
theorem dwdown_same : algebraic_Kernel3Ideal_Reference3Ideal (hKernel3Ideal := Cert.Kernel3Ideal.Gen.facts) (hReference3Ideal := Cert.Reference3Ideal.Gen.facts) := by
  intro m ρ m' ρ' _ hargs
  refine ⟨fun c => Cert.Kernel3Ideal.Mlp.G m c, ?_, ?_⟩
  · refine (θ_run _ _ _).mono (fun r h c => ?_) (Cert.Kernel3Ideal.Value.run_blocks m ρ)
    obtain ⟨h0, h1⟩ := h c
    exact ⟨h0.trans (Cert.Kernel3Ideal.Mlp.final m c), h1⟩
  · refine (θ_run _ _ _).mono (fun r h c => ?_) (Cert.Reference3Ideal.Value.run m' ρ')
    obtain ⟨h0, h1⟩ := h c
    obtain ⟨e0, e1⟩ := hargs c
    refine ⟨h0.trans ?_, h1⟩
    rw [e0, e1]
    exact dwdown_reference _ _ _ _ _

end Cert
-- ==== Proof.Dwup.lean ====
/- The gradient of the weights of the MLP's first product, in the layout of eight blocks of columns: two halves of the rows
   are added in the carried block, which is written back after the second. -/
module

public import proofs.«01_k».proof.Defs
public import proofs.«01_k».proof.Proof.Dwdown
public import proofs.«01_k».proof.Proof.Gen.Kernel5Ideal.Value
public import proofs.«01_k».proof.Proof.Gen.Reference5Ideal.Run
public import Idealize.ShloMosaic.Lib.Pointwise

@[expose] public section

noncomputable section

namespace Cert.Mlp

open Idealize.ShloMosaic

theorem three_zeros : (![0, 0, 0] : Fin 3 → ℕ) = fun _ => 0 := funext fun a => by fin_cases a <;> rfl

/-- Column g*512 + b of 4096. -/
def col (g : Fin 8) (b : Fin 512) : Fin 4096 := ⟨g.val * 512 + b.val, by omega⟩

/-- The gradient of the weights, block g of the columns: h, transposed, times du. -/
def dwup (h : Fin 2048 → Fin 1024 → EReal) (u : Fin 2048 → Fin 4096 → EReal) (g : Fin 8) (i : Fin 1024) (b : Fin 512) : EReal :=
  ∑ k : Fin 2048, h k i * u k (col g b)

/-- The rows of a matrix with its 4096 columns cut in eight blocks, the block first: an entry is the matrix's at the block's column. -/
theorem blocked_apply {α : Type} (x : (⟨2, ![1024, 4096]⟩ : Shape).Idx → α) (hc : (⟨2, ![1024, 4096]⟩ : Shape).ShapeCasts ⟨3, ![1024, 8, 512]⟩)
    (ht : (⟨3, ![1024, 8, 512]⟩ : Shape).Transposes [1, 0, 2] ⟨3, ![8, 1024, 512]⟩) (g : Fin 8) (i : Fin 1024) (b : Fin 512) :
    transpose ⟨3, ![8, 1024, 512]⟩ [1, 0, 2] (shapeCast ⟨3, ![1024, 8, 512]⟩ x hc) ht (ix3 g i b) = x (ix2 i (col g b)) := by
  have e : transpose ⟨3, ![8, 1024, 512]⟩ [1, 0, 2] (shapeCast ⟨3, ![1024, 8, 512]⟩ x hc) ht (ix3 g i b) = shapeCast ⟨3, ![1024, 8, 512]⟩ x hc (ix3 i g b) :=
    congrArg (shapeCast ⟨3, ![1024, 8, 512]⟩ x hc) (funext fun q => by fin_cases q <;> rfl)
  rw [e]
  refine shapeCast_apply x hc (ix3 i g b) (ix2 i (col g b)) ?_
  rw [Shape.rowMajor_val_two, Shape.rowMajor_val_three]
  show i.val * 4096 + (g.val * 512 + b.val) = (i.val * 8 + g.val) * 512 + b.val
  omega

end Cert.Mlp

namespace Cert.Kernel5Ideal.Mlp

open Idealize.ShloMosaic Idealize.ShloMosaic.TcCoe Idealize.SL.Sem Cert.Mlp
open Cert.Kernel5Ideal Cert.Kernel5Ideal.Gen Cert.Kernel5Ideal.Value

theorem pay_apply (x0 : Vec Ideal S1024x512 .bf16) (x1 : Vec Ideal S1024x512 .bf16) (j : S512x512.Idx) :
    (k0_pay1 x0 x1 j : EReal) = ∑ k : Fin 1024, (x0 (ix2 k (j 0)) : EReal) * x1 (ix2 k (j 1)) := by
  unfold k0_pay1
  simp only [shapeCast_self]
  show (Ideal.matmul dot_S1024x512_S1024x512_S512x512_0_0_1_1_n_n x0 x1 (fun _ => Ideal.ofBits .f32 0x00000000#32) j : EReal) = _
  rw [Ideal.matmul_apply₁_of dot_S1024x512_S1024x512_S512x512_0_0_1_1_n_n rfl rfl x0 x1 _ j (fun k => ix2 k (j 0)) (fun k => ix2 k (j 1))
    (fun k => funext fun a => by fin_cases a <;> rfl) (fun k => funext fun a => by fin_cases a <;> rfl), Ideal.ofBits_zero_f32, zero_add]
  rfl

/-- The first half: the carried block holds the product of the point's blocks. -/
theorem first_half (c : Dev nD) (i : grid0.Coords) (a3 : Memref sig .tc .vmem S1024x512 .bf16) (h3 : a3.IsWhole) (a4 : Memref sig .tc .vmem S1024x512 .bf16) (h4 : a4.IsWhole)
    (a5 : Memref sig .tc .vmem S1x512x512 .bf16) (h5 : a5.IsWhole) (a6 : Memref sig .tc .vmem S512x512 .f32) (h6 : a6.IsWhole) (g0 : cond0_0 i) (g1 : ¬cond0_1 i) (g2 : ¬cond0_2 i)
    (x0 : Vec Ideal S1024x512 .bf16) (x1 : Vec Ideal S1024x512 .bf16) :
    sout0_A_0 c i a3 h3 a4 h4 a5 h5 a6 h6 g0 g1 g2 x0 x1 = k0_pay1 x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero two_zeros]
  unfold k0_pay2
  simp only [View.readAt_eq_ld, h3.read_unread, h4.read_unread, View.ld_unit_zero (S := S1024x512) two_zeros, shapeCast_self]

/-- The second half: what is written back is the carried block and the product of the point's blocks. -/
theorem second_half (c : Dev nD) (i : grid0.Coords) (a3 : Memref sig .tc .vmem S1024x512 .bf16) (h3 : a3.IsWhole) (a4 : Memref sig .tc .vmem S1024x512 .bf16) (h4 : a4.IsWhole)
    (a5 : Memref sig .tc .vmem S1x512x512 .bf16) (h5 : a5.IsWhole) (a6 : Memref sig .tc .vmem S512x512 .f32) (h6 : a6.IsWhole) (g0 : ¬cond0_0 i) (g1 : cond0_1 i) (g2 : cond0_2 i)
    (x0 : Vec Ideal S1024x512 .bf16) (x1 : Vec Ideal S1024x512 .bf16) (xs : Vec Ideal S512x512 .f32) (j : S1x512x512.Idx) :
    (out0_B_2 c i a3 h3 a4 h4 a5 h5 a6 h6 g0 g1 g2 x0 x1 xs j : EReal) = xs (ix2 (j 1) (j 2)) + k0_pay1 x0 x1 (ix2 (j 1) (j 2)) := by
  unfold out0_B_2
  rw [View.read_writes_eq_canon _ _ _ (cover0_B_2 c i a3 h3 a4 h4 a5 h5 a6 h6 g0 g1 g2 x0 x1 xs)]
  unfold kernelRun0_B
  dsimp only
  sl_unfold_words
  rw [View.canon_unit_zero three_zeros, View.readCov_unit_zero (S := S512x512) _ two_zeros]
  unfold k0_pay4 k0_pay3
  simp only [View.readAt_eq_ld, h3.read_unread, h4.read_unread, h6.read_unread, View.ld_unit_zero (S := S1024x512) two_zeros, View.ld_unit_zero (S := S512x512) two_zeros, shapeCast_self]
  refine (shapeCast_apply _ shapeCasts_S512x512_S1x512x512 j (ix2 (j 1) (j 2)) ?_).trans rfl
  rw [Shape.rowMajor_val_two, Shape.rowMajor_val_three]
  have h0 : (j 0).val < 1 := (j 0).isLt
  show (j 1).val * 512 + (j 2).val = ((j 0).val * 512 + (j 1).val) * 512 + (j 2).val
  omega

variable (m : (ℓ : Loc nD τ sig) → Buf (Elt Ideal) ℓ) (c : Dev nD)

/-- h, read from the launch. -/
def hOf : Fin 2048 → Fin 1024 → EReal := fun a b => m ((c.tc : Thread nD τ).loc main_arg0) (ix2 a b)

/-- du, read from the launch. -/
def duOf : Fin 2048 → Fin 4096 → EReal := fun a b => m ((c.tc : Thread nD τ).loc main_arg1) (ix2 a b)

theorem V_h : (V m c main_v0 : S2048x1024.Idx → EReal) = m ((c.tc : Thread nD τ).loc main_arg0) := by
  show StableHlo.after hostOps0 (fun b => m (c, b)) (Proc.devRef .tc main_v0) = _
  after_results
  rfl

/-- The array that the call leaves. -/
def G (c : Dev nD) : S8x1024x512.Idx → EReal := fun i => dwup (hOf m c) (duOf m c) (i 0) (i 1) (i 2)

theorem places : ∀ t : Fin grid0.N, win0_0.index t 0 = t.val % 2 ∧ win0_0.index t 1 = t.val / 16 ∧ win0_1.index t 0 = t.val % 2 ∧ win0_1.index t 1 = t.val / 2 % 8
    ∧ win0_2.index t 0 = t.val / 2 % 8 ∧ win0_2.index t 1 = t.val / 16 ∧ win0_2.index t 2 = 0 := by decide +kernel

/-- A point's product is a half of the sum at the block's place, the half that the point's number names. -/
theorem point_half (t s : Fin cfg0.N) (hs : s.val / 2 = t.val / 2) (g : Fin 8) (p : Fin 1024) (z : S512x512.Idx)
    (h0 : g.val = t.val / 2 % 8) (h1 : p.val = t.val / 16 * 512 + (z 0).val) :
    (k0_pay1 (iblk m c 0 s) (iblk m c 1 s) z : EReal) = ∑ k : Fin 1024, (fun r : Fin 2048 => hOf m c r p * duOf m c r (col g (z 1))) ⟨s.val % 2 * 1024 + k.val, by omega⟩ := by
  obtain ⟨p0, p1, p2, p3, -⟩ := places s
  rw [pay_apply]
  refine Finset.sum_congr rfl fun k _ => ?_
  have e0 : ((cfg0.win 0).blk s).view.emb (ix2 k (z 0)) = ix2 (⟨s.val % 2 * 1024 + k.val, by omega⟩ : Fin 2048) p := by
    funext a; apply Fin.ext
    match a with
    | ⟨0, _⟩ => show win0_0.index s 0 * 1024 + 1 * k.val = s.val % 2 * 1024 + k.val; omega
    | ⟨1, _⟩ => show win0_0.index s 1 * 512 + 1 * (z 0).val = p.val; omega
  have e1 : ((cfg0.win 1).blk s).view.emb (ix2 k (z 1)) = ix2 (⟨s.val % 2 * 1024 + k.val, by omega⟩ : Fin 2048) (col g (z 1)) := by
    funext a; apply Fin.ext
    match a with
    | ⟨0, _⟩ => show win0_1.index s 0 * 1024 + 1 * k.val = s.val % 2 * 1024 + k.val; omega
    | ⟨1, _⟩ => show win0_1.index s 1 * 512 + 1 * (z 1).val = g.val * 512 + (z 1).val; omega
  exact congrArg₂ (· * ·) ((congrArg (V m c main_v0 : S2048x1024.Idx → EReal) e0).trans (congrFun (V_h m c) _))
    ((congrArg (V m c main_arg1 : S2048x4096.Idx → EReal) e1).trans (congrFun (V_main_arg1 m c) _))

theorem writes_back (t : Fin cfg0.N) (hf : (cfg0.win 2).flush t = true) : (dats m 0 c).flushed 2 t = ((cfg0.win 2).blk t).view.read (Elt Ideal) (G m c) := by
  have hm : t.val % 2 = 1 := (flush0_2 t).mp hf
  have hlt : t.val - 1 < cfg0.N := Nat.lt_of_le_of_lt (Nat.sub_le _ _) t.isLt
  rw [flushed2_B m c t (by omega) hm hm]
  have hA := outsAt0_A m c ⟨t.val - 1, hlt⟩ (by dsimp only; omega) (by dsimp only; omega) (by dsimp only; omega)
  rw [first_half] at hA
  rw [show outsAt0 m c (t.val - 1) (Nat.lt_of_le_of_lt (Nat.sub_le _ _) t.isLt) = _ from hA]
  obtain ⟨-, -, -, -, p4, p5, p6⟩ := places t
  funext y
  refine (second_half c _ _ _ _ _ _ _ _ _ _ _ _ _ _ _ ((cfg0.win 2).xinj (grid0.coords t) y)).trans ?_
  have y0 : (y 0).val < 1 := (y 0).isLt
  have b0 : (((cfg0.win 2).blk t).view.emb y 0).val = t.val / 2 % 8 := by
    show win0_2.index t (0 : Fin 3) * 1 + 1 * (y 0).val = t.val / 2 % 8; omega
  have b1 : (((cfg0.win 2).blk t).view.emb y 1).val = t.val / 16 * 512 + ((cfg0.win 2).xinj (grid0.coords t) y 1).val := by
    show win0_2.index t (1 : Fin 3) * 512 + 1 * (y 1).val = t.val / 16 * 512 + (y 1).val; omega
  have b2 : ((cfg0.win 2).blk t).view.emb y 2 = (cfg0.win 2).xinj (grid0.coords t) y 2 := by
    apply Fin.ext
    show win0_2.index t (2 : Fin 3) * 512 + 1 * (y 2).val = (y 2).val; omega
  refine (congrArg₂ (· + ·) (point_half m c t ⟨t.val - 1, hlt⟩ (by dsimp only; omega) _ _ _ b0 b1) (point_half m c t t rfl _ _ _ b0 b1)).trans ?_
  show _ = dwup (hOf m c) (duOf m c) (((cfg0.win 2).blk t).view.emb y 0) (((cfg0.win 2).blk t).view.emb y 1) (((cfg0.win 2).blk t).view.emb y 2)
  rw [b2]
  unfold dwup
  rw [halves]
  refine congrArg₂ (· + ·) (Finset.sum_congr rfl fun k _ => ?_) (Finset.sum_congr rfl fun k _ => ?_)
  · have e : (⟨(t.val - 1) % 2 * 1024 + k.val, by omega⟩ : Fin 2048) = ⟨k.val, by omega⟩ := Fin.ext (by dsimp only; omega)
    dsimp only
    rw [e]
    rfl
  · have e : (⟨t.val % 2 * 1024 + k.val, by omega⟩ : Fin 2048) = ⟨1024 + k.val, by omega⟩ := Fin.ext (by dsimp only; omega)
    dsimp only
    rw [e]
    rfl

/-- The array that the call leaves holds the gradient of the weights. -/
theorem final : (dats m 0 c).arrAt 2 cfg0.N = G m c :=
  (dats m 0 c).arrAt_eq_of_cover 2 _ (fun t hf => writes_back m c t hf) (fun i => (covered_iff2 i).2 (by
    have h0 : (i 0).val < 8 := (i 0).isLt
    have h1 : (i 1).val < 1024 := (i 1).isLt
    have h2 : (i 2).val < 512 := (i 2).isLt
    omega))

end Cert.Kernel5Ideal.Mlp

namespace Cert.Mlp

open Idealize.ShloMosaic Idealize.SL.Sem

open Cert.Reference5Ideal in
theorem dwup_reference (h : FVec Ideal S2048x1024 .f32) (u : FVec Ideal S2048x4096 .bf16)
    (ha : S4096x1024.Transposes [1, 0] S1024x4096) (hc : S1024x4096.ShapeCasts S1024x8x512) (ht : S1024x8x512.Transposes [1, 0, 2] S8x1024x512) (hl : FTy.bf16.bits < FTy.f32.bits) :
    (truncf (F := Ideal) .bf16 (transpose S8x1024x512 [1, 0, 2] (shapeCast S1024x8x512 (transpose S1024x4096 [1, 0]
      (Host.dotGeneral dot_S2048x4096_S2048x1024_S4096x1024_0_0_1_1_n_n none (extf .f32 u hl) h) ha) hc) ht) hl : S8x1024x512.Idx → EReal)
    = fun i => dwup (fun a b => h (ix2 a b)) (fun a b => u (ix2 a b)) (i 0) (i 1) (i 2) := by
  funext i
  obtain ⟨g, a, b, rfl⟩ : ∃ (g : Fin 8) (a : Fin 1024) (b : Fin 512), i = ix3 g a b := ⟨i 0, i 1, i 2, funext fun q => by fin_cases q <;> rfl⟩
  refine (show _ = _ from blocked_apply (α := EReal) (transpose S1024x4096 [1, 0]
    (Host.dotGeneral (F := Ideal) dot_S2048x4096_S2048x1024_S4096x1024_0_0_1_1_n_n none (extf .f32 u hl) h) ha) hc ht g a b).trans ?_
  refine (host_dot dot_S2048x4096_S2048x1024_S4096x1024_0_0_1_1_n_n rfl rfl (extf .f32 u hl) h _ (fun k => ix2 k (col g b)) (fun k => ix2 k a)
    (fun k => funext fun q => by fin_cases q <;> rfl) (fun k => funext fun q => by fin_cases q <;> rfl)).trans ?_
  exact Finset.sum_congr rfl fun k _ => mul_comm (u (ix2 k (col g b)) : EReal) (h (ix2 k a))

end Cert.Mlp

namespace Cert

open Idealize.ShloMosaic Idealize.SL.Sem Cert.Mlp

/-- On every device and from any arguments, the program of the call leaves the same array as the reference's. -/
theorem dwup_same : algebraic_Kernel5Ideal_Reference5Ideal (hKernel5Ideal := Cert.Kernel5Ideal.Gen.facts) (hReference5Ideal := Cert.Reference5Ideal.Gen.facts) := by
  intro m ρ m' ρ' _ hargs
  refine ⟨fun c => Cert.Kernel5Ideal.Mlp.G m c, ?_, ?_⟩
  · refine (θ_run _ _ _).mono (fun r h c => ?_) (Cert.Kernel5Ideal.Value.run_blocks m ρ)
    obtain ⟨h0, h1⟩ := h c
    exact ⟨h0.trans (Cert.Kernel5Ideal.Mlp.final m c), h1⟩
  · refine (θ_run _ _ _).mono (fun r h c => ?_) (Cert.Reference5Ideal.Value.run m' ρ')
    obtain ⟨h0, h1⟩ := h c
    obtain ⟨e0, e1⟩ := hargs c
    refine ⟨h0.trans ?_, h1⟩
    rw [e0, e1]
    exact dwup_reference _ _ _ _ _ _

end Cert
-- ==== Proof.Dh.lean ====
/- The gradient of the MLP's input: eight blocks of the columns are added one after another in the carried block, which is
   written back after the last. -/
module

public import proofs.«01_k».proof.Defs
public import proofs.«01_k».proof.Proof.Dwup
public import proofs.«01_k».proof.Proof.Gen.Kernel4Ideal.Value
public import proofs.«01_k».proof.Proof.Gen.Reference4Ideal.Run
public import Idealize.ShloMosaic.Lib.Pointwise

@[expose] public section

noncomputable section

namespace Cert.Mlp

open Idealize.ShloMosaic

/-- A sum over the columns, block by block. -/
theorem by_blocks (f : Fin 4096 → EReal) : ∑ r : Fin 4096, f r = ∑ g ∈ Finset.range 8, ∑ b : Fin 512, (if h : g < 8 then f (col ⟨g, h⟩ b) else 0) := by
  have e : ∑ r : Fin (8 * 512), f r = ∑ x : Fin 8 × Fin 512, f (col x.1 x.2) := by
    refine (Fintype.sum_equiv finProdFinEquiv _ _ fun x => congrArg f (Fin.ext ?_)).symm
    show x.1.val * 512 + x.2.val = x.2.val + 512 * x.1.val
    omega
  rw [Fintype.sum_prod_type] at e
  refine e.trans ?_
  rw [Finset.sum_range]
  refine Finset.sum_congr rfl fun g _ => Finset.sum_congr rfl fun b _ => ?_
  rw [dif_pos g.isLt]

/-- The gradient of the MLP's input: du times the rows of the weights. -/
def dh (w : Fin 1024 → Fin 4096 → EReal) (u : Fin 2048 → Fin 4096 → EReal) (i : Fin 2048) (j : Fin 1024) : EReal := ∑ r : Fin 4096, u i r * w j r

/-- The part of it that the first n blocks of columns give. -/
def dhPart (w : Fin 1024 → Fin 4096 → EReal) (u : Fin 2048 → Fin 4096 → EReal) (i : Fin 2048) (j : Fin 1024) (n : ℕ) : EReal :=
  ∑ g ∈ Finset.range n, ∑ b : Fin 512, (if h : g < 8 then u i (col ⟨g, h⟩ b) * w j (col ⟨g, h⟩ b) else 0)

theorem dhPart_all (w : Fin 1024 → Fin 4096 → EReal) (u : Fin 2048 → Fin 4096 → EReal) (i : Fin 2048) (j : Fin 1024) : dhPart w u i j 8 = dh w u i j :=
  (by_blocks fun r => u i r * w j r).symm

theorem dhPart_step (w : Fin 1024 → Fin 4096 → EReal) (u : Fin 2048 → Fin 4096 → EReal) (i : Fin 2048) (j : Fin 1024) (n : ℕ) (h : n < 8) :
    dhPart w u i j (n + 1) = dhPart w u i j n + ∑ b : Fin 512, u i (col ⟨n, h⟩ b) * w j (col ⟨n, h⟩ b) := by
  unfold dhPart
  rw [Finset.sum_range_succ]
  exact congrArg _ (Finset.sum_congr rfl fun b _ => dif_pos h)

end Cert.Mlp

namespace Cert.Kernel4Ideal.Mlp

open Idealize.ShloMosaic Idealize.ShloMosaic.TcCoe Idealize.SL.Sem Cert.Mlp
open Cert.Kernel4Ideal Cert.Kernel4Ideal.Gen Cert.Kernel4Ideal.Value

theorem pay_apply (x0 : Vec Ideal S1024x512 .bf16) (x1 : Vec Ideal S1x512x512 .bf16) (j : S1024x512.Idx) :
    (k0_pay1 x0 x1 j : EReal) = ∑ b : Fin 512, (x0 (ix2 (j 0) b) : EReal) * x1 (ix3 0 (j 1) b) := by
  unfold k0_pay1
  show (Ideal.matmul dot_S1024x512_S512x512_S1024x512_1_1_0_0_n_n x0 (shapeCast S512x512 x1 shapeCasts_S1x512x512_S512x512) (fun _ => Ideal.ofBits .f32 0x00000000#32) j : EReal) = _
  rw [Ideal.matmul_apply₁_of dot_S1024x512_S512x512_S1024x512_1_1_0_0_n_n rfl rfl x0 _ _ j (fun k => ix2 (j 0) k) (fun k => ix2 (j 1) k)
    (fun k => funext fun a => by fin_cases a <;> rfl) (fun k => funext fun a => by fin_cases a <;> rfl), Ideal.ofBits_zero_f32, zero_add]
  refine Finset.sum_congr rfl fun b _ => congrArg (x0 (ix2 (j 0) b) * ·) ?_
  refine shapeCast_apply x1 shapeCasts_S1x512x512_S512x512 (ix2 (j 1) b) (ix3 0 (j 1) b) ?_
  rw [Shape.rowMajor_val_two, Shape.rowMajor_val_three]
  show (0 * 512 + (j 1).val) * 512 + b.val = (j 1).val * 512 + b.val
  omega

/-- The first block of columns: the carried block holds the product of the point's blocks. -/
theorem first_block (c : Dev nD) (i : grid0.Coords) (a3 : Memref sig .tc .vmem S1024x512 .bf16) (h3 : a3.IsWhole) (a4 : Memref sig .tc .vmem S1x512x512 .bf16) (h4 : a4.IsWhole)
    (a5 : Memref sig .tc .vmem S1024x512 .f32) (h5 : a5.IsWhole) (a6 : Memref sig .tc .vmem S1024x512 .f32) (h6 : a6.IsWhole) (g0 : cond0_0 i) (g1 : ¬cond0_1 i) (g2 : ¬cond0_2 i)
    (x0 : Vec Ideal S1024x512 .bf16) (x1 : Vec Ideal S1x512x512 .bf16) (j : S1024x512.Idx) :
    (sout0_A_0 c i a3 h3 a4 h4 a5 h5 a6 h6 g0 g1 g2 x0 x1 j : EReal) = k0_pay1 x0 x1 j := by
  unfold sout0_A_0
  rw [View.read_writes_eq_canon _ _ _ (scover0_A_0 c i a3 h3 a4 h4 a5 h5 a6 h6 g0 g1 g2 x0 x1)]
  unfold kernelRun0_A
  dsimp only
  rw [View.canon_unit_zero two_zeros]
  unfold k0_pay2
  simp only [View.readAt_eq_ld, h3.read_unread, h4.read_unread, View.ld_unit_zero (S := S1024x512) two_zeros, View.ld_unit_zero (S := S1x512x512) three_zeros, shapeCast_self]

/-- A later block of columns: the product of the point's blocks is added to the carried block. -/
theorem later_block (c : Dev nD) (i : grid0.Coords) (a3 : Memref sig .tc .vmem S1024x512 .bf16) (h3 : a3.IsWhole) (a4 : Memref sig .tc .vmem S1x512x512 .bf16) (h4 : a4.IsWhole)
    (a5 : Memref sig .tc .vmem S1024x512 .f32) (h5 : a5.IsWhole) (a6 : Memref sig .tc .vmem S1024x512 .f32) (h6 : a6.IsWhole) (g0 : ¬cond0_0 i) (g1 : cond0_1 i) (g2 : ¬cond0_2 i)
    (x0 : Vec Ideal S1024x512 .bf16) (x1 : Vec Ideal S1x512x512 .bf16) (xs : Vec Ideal S1024x512 .f32) (j : S1024x512.Idx) :
    (sout0_B_0 c i a3 h3 a4 h4 a5 h5 a6 h6 g0 g1 g2 x0 x1 xs j : EReal) = xs j + k0_pay1 x0 x1 j := by
  unfold sout0_B_0
  rw [View.read_writes_eq_canon _ _ _ (scover0_B_0 c i a3 h3 a4 h4 a5 h5 a6 h6 g0 g1 g2 x0 x1 xs)]
  unfold kernelRun0_B
  dsimp only
  rw [View.canon_unit_zero two_zeros]
  unfold k0_pay3
  simp only [View.readAt_eq_ld, h3.read_unread, h4.read_unread, h6.read_unread, View.ld_unit_zero (S := S1024x512) two_zeros, View.ld_unit_zero (S := S1x512x512) three_zeros, shapeCast_self]
  rfl

/-- The last block of columns: what is written back is the carried block and the product of the point's blocks. -/
theorem last_block (c : Dev nD) (i : grid0.Coords) (a3 : Memref sig .tc .vmem S1024x512 .bf16) (h3 : a3.IsWhole) (a4 : Memref sig .tc .vmem S1x512x512 .bf16) (h4 : a4.IsWhole)
    (a5 : Memref sig .tc .vmem S1024x512 .f32) (h5 : a5.IsWhole) (a6 : Memref sig .tc .vmem S1024x512 .f32) (h6 : a6.IsWhole) (g0 : ¬cond0_0 i) (g1 : cond0_1 i) (g2 : cond0_2 i)
    (x0 : Vec Ideal S1024x512 .bf16) (x1 : Vec Ideal S1x512x512 .bf16) (xs : Vec Ideal S1024x512 .f32) (j : S1024x512.Idx) :
    (out0_C_2 c i a3 h3 a4 h4 a5 h5 a6 h6 g0 g1 g2 x0 x1 xs j : EReal) = xs j + k0_pay1 x0 x1 j := by
  unfold out0_C_2
  rw [View.read_writes_eq_canon _ _ _ (cover0_C_2 c i a3 h3 a4 h4 a5 h5 a6 h6 g0 g1 g2 x0 x1 xs)]
  unfold kernelRun0_C
  dsimp only
  sl_unfold_words
  rw [View.canon_unit_zero two_zeros, View.readCov_unit_zero (S := S1024x512) _ two_zeros]
  unfold k0_pay3
  simp only [View.readAt_eq_ld, h3.read_unread, h4.read_unread, h6.read_unread, View.ld_unit_zero (S := S1024x512) two_zeros, View.ld_unit_zero (S := S1x512x512) three_zeros, shapeCast_self]
  rfl

variable (m : (ℓ : Loc nD τ sig) → Buf (Elt Ideal) ℓ) (c : Dev nD)

/-- The weights, read from the launch. -/
def wOf : Fin 1024 → Fin 4096 → EReal := fun a b => m ((c.tc : Thread nD τ).loc main_arg0) (ix2 a b)

/-- du, read from the launch. -/
def duOf : Fin 2048 → Fin 4096 → EReal := fun a b => m ((c.tc : Thread nD τ).loc main_arg1) (ix2 a b)

theorem V_w (g : Fin 8) (i : Fin 1024) (b : Fin 512) : (V m c main_v2 : S8x1024x512.Idx → EReal) (ix3 g i b) = wOf m c i (col g b) := by
  show (StableHlo.after hostOps0 (fun b => m (c, b)) (Proc.devRef .tc main_v2) : S8x1024x512.Idx → EReal) (ix3 g i b) = _
  after_results
  exact blocked_apply (α := EReal) (m ((c.tc : Thread nD τ).loc main_arg0)) _ _ g i b

/-- The array that the call leaves. -/
def G (c : Dev nD) : S2048x1024.Idx → EReal := fun i => dh (wOf m c) (duOf m c) (i 0) (i 1)

theorem places : ∀ t : Fin grid0.N, win0_0.index t 0 = t.val / 16 ∧ win0_0.index t 1 = t.val % 8 ∧ win0_1.index t 0 = t.val % 8 ∧ win0_1.index t 1 = t.val / 8 % 2
    ∧ win0_1.index t 2 = 0 ∧ win0_2.index t 0 = t.val / 16 ∧ win0_2.index t 1 = t.val / 8 % 2 := by decide +kernel

/-- A point's product is the part of the sum that its block of columns gives. -/
theorem point_part (t : Fin cfg0.N) (p : Fin 2048) (q : Fin 1024) (z : S1024x512.Idx)
    (h0 : p.val = t.val / 16 * 1024 + (z 0).val) (h1 : q.val = t.val / 8 % 2 * 512 + (z 1).val) :
    (k0_pay1 (iblk m c 0 t) (iblk m c 1 t) z : EReal)
      = ∑ b : Fin 512, duOf m c p (col ⟨t.val % 8, Nat.mod_lt _ (by decide)⟩ b) * wOf m c q (col ⟨t.val % 8, Nat.mod_lt _ (by decide)⟩ b) := by
  obtain ⟨p0, p1, p2, p3, p4, -⟩ := places t
  rw [pay_apply]
  refine Finset.sum_congr rfl fun b _ => ?_
  have e0 : ((cfg0.win 0).blk t).view.emb (ix2 (z 0) b) = ix2 p (col ⟨t.val % 8, Nat.mod_lt _ (by decide)⟩ b) := by
    funext a; apply Fin.ext
    match a with
    | ⟨0, _⟩ => show win0_0.index t 0 * 1024 + 1 * (z 0).val = p.val; omega
    | ⟨1, _⟩ => show win0_0.index t 1 * 512 + 1 * b.val = t.val % 8 * 512 + b.val; omega
  have e1 : ((cfg0.win 1).blk t).view.emb (ix3 0 (z 1) b) = ix3 (⟨t.val % 8, Nat.mod_lt _ (by decide)⟩ : Fin 8) q b := by
    funext a; apply Fin.ext
    match a with
    | ⟨0, _⟩ => show win0_1.index t 0 * 1 + 1 * 0 = t.val % 8; omega
    | ⟨1, _⟩ => show win0_1.index t 1 * 512 + 1 * (z 1).val = q.val; omega
    | ⟨2, _⟩ => show win0_1.index t 2 * 512 + 1 * b.val = b.val; omega
  exact congrArg₂ (· * ·) ((congrArg (V m c main_arg1 : S2048x4096.Idx → EReal) e0).trans (congrFun (V_main_arg1 m c) _))
    ((congrArg (V m c main_v2 : S8x1024x512.Idx → EReal) e1).trans (V_w m c _ _ _))

/-- The first of eight points leaves its product in the carried block. -/
theorem start (t : Fin cfg0.N) (h : t.val % 8 = 0) (z : S1024x512.Idx) :
    ((outsAt0 m c t.val t.isLt).2 z : EReal) = k0_pay1 (iblk m c 0 t) (iblk m c 1 t) z := by
  rw [outsAt0_A m c t h (by omega) (by omega)]
  dsimp only
  rw [first_block]

/-- A point between adds its product to what the point before left. -/
theorem next (t : Fin cfg0.N) (h : ¬t.val % 8 = 0) (h7 : ¬t.val % 8 = 7) (z : S1024x512.Idx) :
    ((outsAt0 m c t.val t.isLt).2 z : EReal)
      = ((outsAt0 m c (t.val - 1) (Nat.lt_of_le_of_lt (Nat.sub_le _ _) t.isLt)).2 z : EReal) + k0_pay1 (iblk m c 0 t) (iblk m c 1 t) z := by
  rw [outsAt0_B m c t h (by omega) h7]
  dsimp only
  rw [later_block]

/-- After a point that is not the last of its eight, the carried block holds the part of the sum that the blocks of columns
    so far give. -/
theorem carried (p : Fin 2048) (q : Fin 1024) (z : S1024x512.Idx) : ∀ (n : ℕ) (hn : n < cfg0.N), n % 8 ≠ 7 →
    p.val = n / 16 * 1024 + (z 0).val → q.val = n / 8 % 2 * 512 + (z 1).val →
    ((outsAt0 m c n hn).2 z : EReal) = dhPart (wOf m c) (duOf m c) p q (n % 8 + 1) := by
  intro n
  induction n with
  | zero =>
    intro hn h7 h0 h1
    rw [dhPart_step _ _ _ _ (0 % 8) (by omega), show dhPart (wOf m c) (duOf m c) p q (0 % 8) = 0 from rfl, zero_add]
    exact (start m c ⟨0, hn⟩ (Nat.zero_mod 8) z).trans (point_part m c ⟨0, hn⟩ p q z h0 h1)
  | succ n ih =>
    intro hn h7 h0 h1
    rw [dhPart_step _ _ _ _ ((n + 1) % 8) (by omega)]
    by_cases hz : (n + 1) % 8 = 0
    · rw [show dhPart (wOf m c) (duOf m c) p q ((n + 1) % 8) = 0 by rw [hz]; rfl, zero_add]
      exact (start m c ⟨n + 1, hn⟩ hz z).trans (point_part m c ⟨n + 1, hn⟩ p q z h0 h1)
    · have e : (n + 1) % 8 = n % 8 + 1 := by omega
      have i : ((outsAt0 m c n (Nat.lt_of_succ_lt hn)).2 z : EReal) = dhPart (wOf m c) (duOf m c) p q ((n + 1) % 8) := by
        rw [e]
        exact ih (Nat.lt_of_succ_lt hn) (by omega) (by omega) (by omega)
      exact (next m c ⟨n + 1, hn⟩ hz h7 z).trans (congrArg₂ (· + ·) i (point_part m c ⟨n + 1, hn⟩ p q z h0 h1))

/-- The last of eight points completes the sum. -/
theorem completed (t : Fin cfg0.N) (hm : t.val % 8 = 7) (p : Fin 2048) (q : Fin 1024) (z : S1024x512.Idx)
    (h0 : p.val = t.val / 16 * 1024 + (z 0).val) (h1 : q.val = t.val / 8 % 2 * 512 + (z 1).val) :
    ((outsAt0 m c (t.val - 1) (Nat.lt_of_le_of_lt (Nat.sub_le _ _) t.isLt)).2 z : EReal) + k0_pay1 (iblk m c 0 t) (iblk m c 1 t) z
      = dh (wOf m c) (duOf m c) p q := by
  rw [carried m c p q z (t.val - 1) _ (by omega) (by omega) (by omega), point_part m c t p q z h0 h1, ← dhPart_all, dhPart_step _ _ _ _ 7 (by decide)]
  have e7 : (t.val - 1) % 8 + 1 = 7 := by omega
  have g7 : (⟨t.val % 8, Nat.mod_lt _ (by decide)⟩ : Fin 8) = ⟨7, by decide⟩ := Fin.ext hm
  rw [e7, g7]

theorem writes_back (t : Fin cfg0.N) (hf : (cfg0.win 2).flush t = true) : (dats m 0 c).flushed 2 t = ((cfg0.win 2).blk t).view.read (Elt Ideal) (G m c) := by
  have hm : t.val % 8 = 7 := (flush0_2 t).mp hf
  rw [flushed2_C m c t (by omega) (by omega) hm]
  obtain ⟨-, -, -, -, -, p5, p6⟩ := places t
  funext y
  refine (last_block c _ _ _ _ _ _ _ _ _ _ _ _ _ _ _ ((cfg0.win 2).xinj (grid0.coords t) y)).trans ?_
  have b0 : (((cfg0.win 2).blk t).view.emb y 0).val = t.val / 16 * 1024 + ((cfg0.win 2).xinj (grid0.coords t) y 0).val := by
    show win0_2.index t (0 : Fin 2) * 1024 + 1 * (y 0).val = t.val / 16 * 1024 + (y 0).val; omega
  have b1 : (((cfg0.win 2).blk t).view.emb y 1).val = t.val / 8 % 2 * 512 + ((cfg0.win 2).xinj (grid0.coords t) y 1).val := by
    show win0_2.index t (1 : Fin 2) * 512 + 1 * (y 1).val = t.val / 8 % 2 * 512 + (y 1).val; omega
  exact completed m c t hm _ _ _ b0 b1

/-- The array that the call leaves holds the gradient of the MLP's input. -/
theorem final : (dats m 0 c).arrAt 2 cfg0.N = G m c :=
  (dats m 0 c).arrAt_eq_of_cover 2 _ (fun t hf => writes_back m c t hf) (fun i => (covered_iff2 i).2 (by
    have h0 : (i 0).val < 2048 := (i 0).isLt
    have h1 : (i 1).val < 1024 := (i 1).isLt
    omega))

end Cert.Kernel4Ideal.Mlp

namespace Cert.Mlp

open Idealize.ShloMosaic Idealize.SL.Sem

open Cert.Reference4Ideal in
theorem dh_reference (w : FVec Ideal S1024x4096 .f32) (u : FVec Ideal S2048x4096 .bf16) (hl : FTy.bf16.bits < FTy.f32.bits) :
    (Host.dotGeneral (F := Ideal) dot_S2048x4096_S1024x4096_S2048x1024_1_1_0_0_n_n none (extf .f32 u hl) w : S2048x1024.Idx → EReal)
    = fun i => dh (fun a b => w (ix2 a b)) (fun a b => u (ix2 a b)) (i 0) (i 1) := by
  funext i
  exact host_dot dot_S2048x4096_S1024x4096_S2048x1024_1_1_0_0_n_n rfl rfl (extf .f32 u hl) w i (fun k => ix2 (i 0) k) (fun k => ix2 (i 1) k)
    (fun k => funext fun q => by fin_cases q <;> rfl) (fun k => funext fun q => by fin_cases q <;> rfl)

end Cert.Mlp

namespace Cert

open Idealize.ShloMosaic Idealize.SL.Sem Cert.Mlp

/-- On every device and from any arguments, the program of the call leaves the same array as the reference's. -/
theorem dh_same : algebraic_Kernel4Ideal_Reference4Ideal (hKernel4Ideal := Cert.Kernel4Ideal.Gen.facts) (hReference4Ideal := Cert.Reference4Ideal.Gen.facts) := by
  intro m ρ m' ρ' _ hargs
  refine ⟨fun c => Cert.Kernel4Ideal.Mlp.G m c, ?_, ?_⟩
  · refine (θ_run _ _ _).mono (fun r h c => ?_) (Cert.Kernel4Ideal.Value.run_blocks m ρ)
    obtain ⟨h0, h1⟩ := h c
    exact ⟨h0.trans (Cert.Kernel4Ideal.Mlp.final m c), h1⟩
  · refine (θ_run _ _ _).mono (fun r h c => ?_) (Cert.Reference4Ideal.Value.run m' ρ')
    obtain ⟨h0, h1⟩ := h c
    obtain ⟨e0, e1⟩ := hargs c
    refine ⟨h0.trans ?_, h1⟩
    rw [e0, e1]
    exact dh_reference _ _ _

end Cert
-- ==== Proof.Up.lean ====
/- The MLP's first product and the square of its rectifier: each tile of the two results is one product of whole rows and columns. -/
module

public import proofs.«01_k».proof.Defs
public import proofs.«01_k».proof.Proof.Dwup
public import proofs.«01_k».proof.Proof.Gen.Kernel6Ideal.Value
public import proofs.«01_k».proof.Proof.Gen.Reference6Ideal.Run
public import Idealize.ShloMosaic.Lib.Pointwise

@[expose] public section

noncomputable section

namespace Cert.Mlp

/-- The MLP's hidden layer before its rectifier. -/
def up (h : Fin 2048 → Fin 1024 → EReal) (w : Fin 1024 → Fin 4096 → EReal) (i : Fin 2048) (j : Fin 4096) : EReal := ∑ k : Fin 1024, h i k * w k j

/-- The square of the rectifier. -/
def relu2 (x : EReal) : EReal := max x 0 * max x 0

end Cert.Mlp

namespace Cert.Kernel6Ideal.Mlp

open Idealize.ShloMosaic Idealize.ShloMosaic.TcCoe Idealize.SL.Sem Cert.Mlp
open Cert.Kernel6Ideal Cert.Kernel6Ideal.Gen Cert.Kernel6Ideal.Value

/-- The product of one tile's rows and columns. -/
def tile (x0 : Vec Ideal S1024x1024 .bf16) (x1 : Vec Ideal S1x1024x512 .bf16) (j : S1024x512.Idx) : EReal :=
  ∑ k : Fin 1024, (x0 (ix2 (j 0) k) : EReal) * x1 (ix3 0 k (j 1))

theorem product (x0 : Vec Ideal S1024x1024 .bf16) (x1 : Vec Ideal S1x1024x512 .bf16) (j : S1024x512.Idx) :
    (Ideal.matmul dot_S1024x1024_S1024x512_S1024x512_1_0_0_1_n_n x0 (shapeCast S1024x512 x1 shapeCasts_S1x1024x512_S1024x512) (fun _ => Ideal.ofBits .f32 0x00000000#32) j : EReal)
      = tile x0 x1 j := by
  rw [Ideal.matmul_apply₁_of dot_S1024x1024_S1024x512_S1024x512_1_0_0_1_n_n rfl rfl x0 _ _ j (fun k => ix2 (j 0) k) (fun k => ix2 k (j 1))
    (fun k => funext fun a => by fin_cases a <;> rfl) (fun k => funext fun a => by fin_cases a <;> rfl), Ideal.ofBits_zero_f32, zero_add]
  refine Finset.sum_congr rfl fun b _ => congrArg (x0 (ix2 (j 0) b) * ·) ?_
  refine shapeCast_apply x1 shapeCasts_S1x1024x512_S1024x512 (ix2 b (j 1)) (ix3 0 b (j 1)) ?_
  rw [Shape.rowMajor_val_two, Shape.rowMajor_val_three]
  show (0 * 1024 + b.val) * 512 + (j 1).val = b.val * 512 + (j 1).val
  omega

theorem out_u (x0 : Vec Ideal S1024x1024 .bf16) (x1 : Vec Ideal S1x1024x512 .bf16) (j : S1024x512.Idx) : (out0_2 x0 x1 j : EReal) = tile x0 x1 j := by
  unfold out0_2
  rw [View.canon_unit_zero two_zeros]
  simp only [View.ld_unit_zero (S := S1024x1024) two_zeros, View.ld_unit_zero (S := S1x1024x512) three_zeros]
  unfold k0_pay2 k0_pay1
  simp only [shapeCast_self]
  exact product x0 x1 j

theorem out_act (x0 : Vec Ideal S1024x1024 .bf16) (x1 : Vec Ideal S1x1024x512 .bf16) (j : S1024x512.Idx) : (out0_3 x0 x1 j : EReal) = relu2 (tile x0 x1 j) := by
  unfold out0_3
  rw [View.canon_unit_zero two_zeros]
  simp only [View.ld_unit_zero (S := S1024x1024) two_zeros, View.ld_unit_zero (S := S1x1024x512) three_zeros]
  unfold k0_pay3 k0_pay1
  simp only [shapeCast_self]
  rw [← product, relu2, ← Ideal.ofBits_zero_f32]
  rfl

variable (m : (ℓ : Loc nD τ sig) → Buf (Elt Ideal) ℓ) (c : Dev nD)

/-- The MLP's input, read from the launch. -/
def hOf : Fin 2048 → Fin 1024 → EReal := fun a b => m ((c.tc : Thread nD τ).loc main_arg0) (ix2 a b)

/-- The weights, read from the launch. -/
def wOf : Fin 1024 → Fin 4096 → EReal := fun a b => m ((c.tc : Thread nD τ).loc main_arg1) (ix2 a b)

theorem V_w (g : Fin 8) (i : Fin 1024) (b : Fin 512) : (V m c main_v2 : S8x1024x512.Idx → EReal) (ix3 g i b) = wOf m c i (col g b) := by
  show (StableHlo.after hostOps0 (fun b => m (c, b)) (Proc.devRef .tc main_v2) : S8x1024x512.Idx → EReal) (ix3 g i b) = _
  after_results
  exact blocked_apply (α := EReal) (m ((c.tc : Thread nD τ).loc main_arg1)) _ _ g i b

theorem V_h : (V m c main_v3 : S2048x1024.Idx → EReal) = m ((c.tc : Thread nD τ).loc main_arg0) := by
  show StableHlo.after hostOps0 (fun b => m (c, b)) (Proc.devRef .tc main_v3) = _
  after_results
  rfl

/-- The two arrays that the call leaves. -/
def U (c : Dev nD) : S2048x4096.Idx → EReal := fun i => up (hOf m c) (wOf m c) (i 0) (i 1)
def A (c : Dev nD) : S2048x4096.Idx → EReal := fun i => relu2 (U m c i)

theorem places : ∀ t : Fin grid0.N, win0_0.index t 0 = t.val / 8 ∧ win0_0.index t 1 = 0 ∧ win0_1.index t 0 = t.val % 8 ∧ win0_1.index t 1 = 0 ∧ win0_1.index t 2 = 0
    ∧ win0_2.index t 0 = t.val / 8 ∧ win0_2.index t 1 = t.val % 8 ∧ win0_3.index t 0 = t.val / 8 ∧ win0_3.index t 1 = t.val % 8 := by decide +kernel

/-- A point's product at an index of its tile. -/
theorem point_value (t : Fin cfg0.N) (p : Fin 2048) (q : Fin 4096) (z : S1024x512.Idx)
    (h0 : p.val = t.val / 8 * 1024 + (z 0).val) (h1 : q.val = t.val % 8 * 512 + (z 1).val) :
    tile (iblk m c 0 t) (iblk m c 1 t) z = up (hOf m c) (wOf m c) p q := by
  obtain ⟨p0, p1, p2, p3, p4, -⟩ := places t
  refine Finset.sum_congr rfl fun k _ => ?_
  have e0 : ((cfg0.win 0).blk t).view.emb (ix2 (z 0) k) = ix2 p k := by
    funext a; apply Fin.ext
    match a with
    | ⟨0, _⟩ => show win0_0.index t 0 * 1024 + 1 * (z 0).val = p.val; omega
    | ⟨1, _⟩ => show win0_0.index t 1 * 1024 + 1 * k.val = k.val; omega
  have e1 : ((cfg0.win 1).blk t).view.emb (ix3 0 k (z 1)) = ix3 (⟨t.val % 8, Nat.mod_lt _ (by decide)⟩ : Fin 8) k (z 1) := by
    funext a; apply Fin.ext
    match a with
    | ⟨0, _⟩ => show win0_1.index t 0 * 1 + 1 * 0 = t.val % 8; omega
    | ⟨1, _⟩ => show win0_1.index t 1 * 1024 + 1 * k.val = k.val; omega
    | ⟨2, _⟩ => show win0_1.index t 2 * 512 + 1 * (z 1).val = (z 1).val; omega
  have e2 : col (⟨t.val % 8, Nat.mod_lt _ (by decide)⟩ : Fin 8) (z 1) = q := Fin.ext h1.symm
  refine congrArg₂ (· * ·) ((congrArg (V m c main_v3 : S2048x1024.Idx → EReal) e0).trans (congrFun (V_h m c) _)) ?_
  rw [← e2]
  exact (congrArg (V m c main_v2 : S8x1024x512.Idx → EReal) e1).trans (V_w m c _ _ _)

theorem writes_u (t : Fin cfg0.N) : (dats m 0 c).flushed 2 t = ((cfg0.win 2).blk t).view.read (Elt Ideal) (U m c) := by
  rw [flushed2]
  obtain ⟨-, -, -, -, -, p5, p6, -⟩ := places t
  funext y
  refine (out_u _ _ ((cfg0.win 2).xinj (grid0.coords t) y)).trans ?_
  have b0 : (((cfg0.win 2).blk t).view.emb y 0).val = t.val / 8 * 1024 + ((cfg0.win 2).xinj (grid0.coords t) y 0).val := by
    show win0_2.index t (0 : Fin 2) * 1024 + 1 * (y 0).val = t.val / 8 * 1024 + (y 0).val; omega
  have b1 : (((cfg0.win 2).blk t).view.emb y 1).val = t.val % 8 * 512 + ((cfg0.win 2).xinj (grid0.coords t) y 1).val := by
    show win0_2.index t (1 : Fin 2) * 512 + 1 * (y 1).val = t.val % 8 * 512 + (y 1).val; omega
  exact point_value m c t _ _ _ b0 b1

theorem writes_act (t : Fin cfg0.N) : (dats m 0 c).flushed 3 t = ((cfg0.win 3).blk t).view.read (Elt Ideal) (A m c) := by
  rw [flushed3]
  obtain ⟨-, -, -, -, -, -, -, p7, p8⟩ := places t
  funext y
  refine (out_act _ _ ((cfg0.win 3).xinj (grid0.coords t) y)).trans ?_
  have b0 : (((cfg0.win 3).blk t).view.emb y 0).val = t.val / 8 * 1024 + ((cfg0.win 3).xinj (grid0.coords t) y 0).val := by
    show win0_3.index t (0 : Fin 2) * 1024 + 1 * (y 0).val = t.val / 8 * 1024 + (y 0).val; omega
  have b1 : (((cfg0.win 3).blk t).view.emb y 1).val = t.val % 8 * 512 + ((cfg0.win 3).xinj (grid0.coords t) y 1).val := by
    show win0_3.index t (1 : Fin 2) * 512 + 1 * (y 1).val = t.val % 8 * 512 + (y 1).val; omega
  exact congrArg relu2 (point_value m c t _ _ _ b0 b1)

theorem point_lt (i : S2048x4096.Idx) : 8 * ((i 0).val / 1024) + (i 1).val / 512 < cfg0.N := by
  have h0 : (i 0).val < 2048 := (i 0).isLt
  have h1 : (i 1).val < 4096 := (i 1).isLt
  exact lt_of_lt_of_eq (show _ < 16 by omega) N_0.symm

/-- Both arrays have the same tiles: every index lies in the tile of one point. -/
theorem covers (i : S2048x4096.Idx) (w : Fin grid0.N → Fin 2 → ℕ) (hw : ∀ t, w t 0 = t.val / 8 ∧ w t 1 = t.val % 8) (a : Fin 2) :
    w ⟨_, point_lt i⟩ a * S1024x512.size a ≤ (i a).val ∧ (i a).val < w ⟨_, point_lt i⟩ a * S1024x512.size a + S1024x512.size a := by
  have h0 : (i 0).val < 2048 := (i 0).isLt
  have h1 : (i 1).val < 4096 := (i 1).isLt
  obtain ⟨e0, e1⟩ := hw ⟨_, point_lt i⟩
  dsimp only at e0 e1
  match a with
  | ⟨0, _⟩ => show w _ 0 * 1024 ≤ (i 0).val ∧ (i 0).val < w _ 0 * 1024 + 1024; rw [e0]; omega
  | ⟨1, _⟩ => show w _ 1 * 512 ≤ (i 1).val ∧ (i 1).val < w _ 1 * 512 + 512; rw [e1]; omega

theorem covered_u (i : S2048x4096.Idx) : ∃ t : Fin cfg0.N, (cfg0.win 2).flush t = true ∧ i ∈ ((cfg0.win 2).blk t).view.set := by
  refine ⟨⟨_, point_lt i⟩, (by decide +kernel : ∀ t : Fin grid0.N, win0_2.flush t = true) _, ?_⟩
  show i ∈ ((View.whole main_v4_0).slice (win0_2.rect ⟨_, point_lt i⟩)).set
  rw [View.set_slice_whole, Rect.mem_set_unit]
  exact covers i win0_2.index fun t => ⟨(places t).2.2.2.2.2.1, (places t).2.2.2.2.2.2.1⟩

theorem covered_act (i : S2048x4096.Idx) : ∃ t : Fin cfg0.N, (cfg0.win 3).flush t = true ∧ i ∈ ((cfg0.win 3).blk t).view.set := by
  refine ⟨⟨_, point_lt i⟩, (by decide +kernel : ∀ t : Fin grid0.N, win0_3.flush t = true) _, ?_⟩
  show i ∈ ((View.whole main_v4_1).slice (win0_3.rect ⟨_, point_lt i⟩)).set
  rw [View.set_slice_whole, Rect.mem_set_unit]
  exact covers i win0_3.index fun t => (places t).2.2.2.2.2.2.2

/-- The first array holds the hidden layer, the second the square of its rectifier. -/
theorem final_u : (dats m 0 c).arrAt 2 cfg0.N = U m c := (dats m 0 c).arrAt_eq_of_cover 2 _ (fun t _ => writes_u m c t) covered_u

theorem final_act : (dats m 0 c).arrAt 3 cfg0.N = A m c := (dats m 0 c).arrAt_eq_of_cover 3 _ (fun t _ => writes_act m c t) covered_act

end Cert.Kernel6Ideal.Mlp

namespace Cert.Mlp

open Idealize.ShloMosaic Idealize.SL.Sem

open Cert.Reference6Ideal in
theorem up_reference (h : FVec Ideal S2048x1024 .f32) (w : FVec Ideal S1024x4096 .f32) (i : S2048x4096.Idx) :
    (Host.dotGeneral (F := Ideal) dot_S2048x1024_S1024x4096_S2048x4096_1_0_0_1_n_n none h w i : EReal)
    = up (fun a b => h (ix2 a b)) (fun a b => w (ix2 a b)) (i 0) (i 1) :=
  host_dot dot_S2048x1024_S1024x4096_S2048x4096_1_0_0_1_n_n rfl rfl h w i (fun k => ix2 (i 0) k) (fun k => ix2 k (i 1))
    (fun k => funext fun q => by fin_cases q <;> rfl) (fun k => funext fun q => by fin_cases q <;> rfl)

end Cert.Mlp

namespace Cert

open Idealize.ShloMosaic Idealize.SL.Sem Cert.Mlp

/-- On every device and from any arguments, the program of the call leaves the same two arrays as the reference's. -/
theorem up_same : algebraic_Kernel6Ideal_Reference6Ideal (hKernel6Ideal := Cert.Kernel6Ideal.Gen.facts) (hReference6Ideal := Cert.Reference6Ideal.Gen.facts) := by
  intro m ρ m' ρ' _ hargs
  refine ⟨fun c => Cert.Kernel6Ideal.Mlp.U m c, fun c => Cert.Kernel6Ideal.Mlp.A m c, ?_, ?_⟩
  · refine (θ_run _ _ _).mono (fun r h c => ?_) (Cert.Kernel6Ideal.Value.run_blocks m ρ)
    obtain ⟨h0, h1, h2⟩ := h c
    exact ⟨h0.trans (Cert.Kernel6Ideal.Mlp.final_u m c), h1.trans (Cert.Kernel6Ideal.Mlp.final_act m c), h2⟩
  · refine (θ_run _ _ _).mono (fun r h c => ?_) (Cert.Reference6Ideal.Value.run m' ρ')
    obtain ⟨h0, h1, h2⟩ := h c
    obtain ⟨e0, e1⟩ := hargs c
    refine ⟨h0.trans ?_, h1.trans ?_, h2⟩
    · rw [e0, e1]
      exact funext fun i => up_reference _ _ i
    · rw [e0, e1]
      refine funext fun i => (congrArg₂ (fun x y : EReal => max x (Ideal.ofBits .f32 0x00000000#32) * max y (Ideal.ofBits .f32 0x00000000#32))
        (up_reference _ _ i) (up_reference _ _ i)).trans ?_
      rw [Ideal.ofBits_zero_f32]
      rfl

end Cert

end
-- ==== Proof.Down.lean ====
/- The MLP's second product, added to its residual: four blocks of the hidden layer are added one after another in the carried
   block, and the residual is added after the last. -/
module

public import proofs.«01_k».proof.Defs
public import proofs.«01_k».proof.Proof.Up
public import proofs.«01_k».proof.Proof.Gen.Kernel7Ideal.Value
public import proofs.«01_k».proof.Proof.Gen.Reference7Ideal.Run
public import Idealize.ShloMosaic.Lib.Pointwise

@[expose] public section

noncomputable section

namespace Cert.Mlp

open Idealize.ShloMosaic

/-- Index n*b + x of N = k*b, the index x of block n. -/
def place {N : ℕ} (k b : ℕ) (hN : k * b = N) (n : Fin k) (x : Fin b) : Fin N :=
  ⟨n.val * b + x.val, (Nat.add_lt_add_left x.isLt (n.val * b)).trans_le ((Nat.succ_mul n.val b).ge.trans ((Nat.mul_le_mul_right b n.isLt).trans hN.le))⟩

/-- The part of a sum over k blocks of b that the first n blocks give. -/
def parts {N : ℕ} (k b : ℕ) (hN : k * b = N) (f : Fin N → EReal) (n : ℕ) : EReal :=
  ∑ g ∈ Finset.range n, if h : g < k then ∑ x : Fin b, f (place k b hN ⟨g, h⟩ x) else 0

theorem parts_step {N : ℕ} (k b : ℕ) (hN : k * b = N) (f : Fin N → EReal) (n : ℕ) (h : n < k) :
    parts k b hN f (n + 1) = parts k b hN f n + ∑ x : Fin b, f (place k b hN ⟨n, h⟩ x) :=
  (Finset.sum_range_succ _ n).trans (congrArg (parts k b hN f n + ·) (dif_pos h))

theorem parts_all {N : ℕ} (k b : ℕ) (hN : k * b = N) (f : Fin N → EReal) : parts k b hN f k = ∑ r : Fin N, f r := by
  subst hN
  have e : ∑ x : Fin k × Fin b, f (place k b rfl x.1 x.2) = ∑ r : Fin (k * b), f r :=
    Fintype.sum_equiv finProdFinEquiv _ _ fun x => congrArg f (Fin.ext (show x.1.val * b + x.2.val = x.2.val + b * x.1.val by rw [Nat.add_comm, Nat.mul_comm]))
  refine Eq.trans ?_ ((Fintype.sum_prod_type _).symm.trans e)
  exact (Finset.sum_range _).trans (Finset.sum_congr rfl fun g _ => dif_pos g.isLt)

/-- Unit n*1024 + b of the hidden layer. -/
def unit : Fin 4 → Fin 1024 → Fin 4096 := place 4 1024 rfl

/-- The part of a sum over the hidden layer that its first n quarters give. -/
def quarters : (Fin 4096 → EReal) → ℕ → EReal := parts 4 1024 rfl

theorem quarters_step (f : Fin 4096 → EReal) (n : ℕ) (h : n < 4) : quarters f (n + 1) = quarters f n + ∑ b : Fin 1024, f (unit ⟨n, h⟩ b) :=
  parts_step 4 1024 rfl f n h

theorem quarters_all (f : Fin 4096 → EReal) : quarters f 4 = ∑ r : Fin 4096, f r := parts_all 4 1024 rfl f

/-- One term of the MLP's second product. -/
def downTerm (u : Fin 2048 → Fin 4096 → EReal) (w : Fin 4096 → Fin 1024 → EReal) (i : Fin 2048) (j : Fin 1024) (r : Fin 4096) : EReal := relu2 (u i r) * w r j

end Cert.Mlp

namespace Cert.Kernel7Ideal.Mlp

open Idealize.ShloMosaic Idealize.ShloMosaic.TcCoe Idealize.SL.Sem Cert.Mlp
open Cert.Kernel7Ideal Cert.Kernel7Ideal.Gen Cert.Kernel7Ideal.Value

theorem pay_apply (x0 : Vec Ideal S1024x1024 .bf16) (x1 : Vec Ideal S1024x512 .bf16) (j : S1024x512.Idx) :
    (k0_pay1 x0 x1 j : EReal) = ∑ b : Fin 1024, (x0 (ix2 (j 0) b) : EReal) * x1 (ix2 b (j 1)) := by
  unfold k0_pay1
  simp only [shapeCast_self]
  show (Ideal.matmul dot_S1024x1024_S1024x512_S1024x512_1_0_0_1_n_n x0 x1 (fun _ => Ideal.ofBits .f32 0x00000000#32) j : EReal) = _
  rw [Ideal.matmul_apply₁_of dot_S1024x1024_S1024x512_S1024x512_1_0_0_1_n_n rfl rfl x0 x1 _ j (fun k => ix2 (j 0) k) (fun k => ix2 k (j 1))
    (fun k => funext fun a => by fin_cases a <;> rfl) (fun k => funext fun a => by fin_cases a <;> rfl), Ideal.ofBits_zero_f32, zero_add]
  rfl

/-- The first quarter: the carried block holds the product of the point's blocks. -/
theorem first_quarter (c : Dev nD) (i : grid0.Coords) (a3 : Memref sig .tc .vmem S1024x1024 .bf16) (h3 : a3.IsWhole) (a4 : Memref sig .tc .vmem S1024x512 .bf16) (h4 : a4.IsWhole)
    (a5 : Memref sig .tc .vmem S1024x512 .f32) (h5 : a5.IsWhole) (a6 : Memref sig .tc .vmem S1024x512 .f32) (h6 : a6.IsWhole) (a7 : Memref sig .tc .vmem S1024x512 .f32) (h7 : a7.IsWhole) (g0 : cond0_0 i) (g1 : ¬cond0_1 i) (g2 : ¬cond0_2 i)
    (x0 : Vec Ideal S1024x1024 .bf16) (x1 : Vec Ideal S1024x512 .bf16) (x2 : Vec Ideal S1024x512 .f32) (j : S1024x512.Idx) :
    (sout0_A_0 c i a3 h3 a4 h4 a5 h5 a6 h6 a7 h7 g0 g1 g2 x0 x1 x2 j : EReal) = k0_pay1 x0 x1 j := by
  unfold sout0_A_0
  rw [View.read_writes_eq_canon _ _ _ (scover0_A_0 c i a3 h3 a4 h4 a5 h5 a6 h6 a7 h7 g0 g1 g2 x0 x1 x2)]
  unfold kernelRun0_A
  dsimp only
  rw [View.canon_unit_zero two_zeros]
  unfold k0_pay2
  simp only [View.readAt_eq_ld, h3.read_unread, h4.read_unread, h5.read_unread, h7.read_unread, View.ld_unit_zero (S := S1024x1024) two_zeros, View.ld_unit_zero (S := S1024x512) two_zeros, shapeCast_self]

/-- A later quarter: the product of the point's blocks is added to the carried block. -/
theorem later_quarter (c : Dev nD) (i : grid0.Coords) (a3 : Memref sig .tc .vmem S1024x1024 .bf16) (h3 : a3.IsWhole) (a4 : Memref sig .tc .vmem S1024x512 .bf16) (h4 : a4.IsWhole)
    (a5 : Memref sig .tc .vmem S1024x512 .f32) (h5 : a5.IsWhole) (a6 : Memref sig .tc .vmem S1024x512 .f32) (h6 : a6.IsWhole) (a7 : Memref sig .tc .vmem S1024x512 .f32) (h7 : a7.IsWhole) (g0 : ¬cond0_0 i) (g1 : cond0_1 i) (g2 : ¬cond0_2 i)
    (x0 : Vec Ideal S1024x1024 .bf16) (x1 : Vec Ideal S1024x512 .bf16) (x2 : Vec Ideal S1024x512 .f32) (xs : Vec Ideal S1024x512 .f32) (j : S1024x512.Idx) :
    (sout0_B_0 c i a3 h3 a4 h4 a5 h5 a6 h6 a7 h7 g0 g1 g2 x0 x1 x2 xs j : EReal) = xs j + k0_pay1 x0 x1 j := by
  unfold sout0_B_0
  rw [View.read_writes_eq_canon _ _ _ (scover0_B_0 c i a3 h3 a4 h4 a5 h5 a6 h6 a7 h7 g0 g1 g2 x0 x1 x2 xs)]
  unfold kernelRun0_B
  dsimp only
  rw [View.canon_unit_zero two_zeros]
  unfold k0_pay3
  simp only [View.readAt_eq_ld, h3.read_unread, h4.read_unread, h5.read_unread, h7.read_unread, View.ld_unit_zero (S := S1024x1024) two_zeros, View.ld_unit_zero (S := S1024x512) two_zeros, shapeCast_self]
  rfl

/-- The last quarter: what is written back is the carried block, the product of the point's blocks and the residual's block. -/
theorem last_quarter (c : Dev nD) (i : grid0.Coords) (a3 : Memref sig .tc .vmem S1024x1024 .bf16) (h3 : a3.IsWhole) (a4 : Memref sig .tc .vmem S1024x512 .bf16) (h4 : a4.IsWhole)
    (a5 : Memref sig .tc .vmem S1024x512 .f32) (h5 : a5.IsWhole) (a6 : Memref sig .tc .vmem S1024x512 .f32) (h6 : a6.IsWhole) (a7 : Memref sig .tc .vmem S1024x512 .f32) (h7 : a7.IsWhole) (g0 : ¬cond0_0 i) (g1 : cond0_1 i) (g2 : cond0_2 i)
    (x0 : Vec Ideal S1024x1024 .bf16) (x1 : Vec Ideal S1024x512 .bf16) (x2 : Vec Ideal S1024x512 .f32) (xs : Vec Ideal S1024x512 .f32) (j : S1024x512.Idx) :
    (out0_C_3 c i a3 h3 a4 h4 a5 h5 a6 h6 a7 h7 g0 g1 g2 x0 x1 x2 xs j : EReal) = (xs j + k0_pay1 x0 x1 j) + x2 j := by
  unfold out0_C_3
  rw [View.read_writes_eq_canon _ _ _ (cover0_C_3 c i a3 h3 a4 h4 a5 h5 a6 h6 a7 h7 g0 g1 g2 x0 x1 x2 xs)]
  unfold kernelRun0_C
  dsimp only
  sl_unfold_words
  rw [View.canon_unit_zero two_zeros, View.readCov_unit_zero (S := S1024x512) _ two_zeros]
  unfold k0_pay4 k0_pay3
  simp only [View.readAt_eq_ld, h3.read_unread, h4.read_unread, h5.read_unread, h7.read_unread, View.ld_unit_zero (S := S1024x1024) two_zeros, View.ld_unit_zero (S := S1024x512) two_zeros, shapeCast_self]
  rfl

variable (m : (ℓ : Loc nD τ sig) → Buf (Elt Ideal) ℓ) (c : Dev nD)

/-- The residual, read from the launch. -/
def xOf : Fin 2048 → Fin 1024 → EReal := fun a b => m ((c.tc : Thread nD τ).loc main_arg0) (ix2 a b)

/-- The hidden layer before its rectifier, read from the launch. -/
def uOf : Fin 2048 → Fin 4096 → EReal := fun a b => m ((c.tc : Thread nD τ).loc main_arg1) (ix2 a b)

/-- The weights, read from the launch. -/
def wOf : Fin 4096 → Fin 1024 → EReal := fun a b => m ((c.tc : Thread nD τ).loc main_arg2) (ix2 a b)

theorem V_act (a : Fin 2048) (b : Fin 4096) : ((V m c main_v3 : S2048x4096.Idx → EReal) (ix2 a b)) = relu2 (uOf m c a b) := by
  rw [relu2, ← Ideal.ofBits_zero_f32]
  show (StableHlo.after hostOps0 (fun b => m (c, b)) (Proc.devRef .tc main_v3) : S2048x4096.Idx → EReal) (ix2 a b) = _
  after_results
  rfl

theorem V_w : (V m c main_v4 : S4096x1024.Idx → EReal) = m ((c.tc : Thread nD τ).loc main_arg2) := by
  show StableHlo.after hostOps0 (fun b => m (c, b)) (Proc.devRef .tc main_v4) = _
  after_results
  rfl

/-- The array that the call leaves. -/
def G (c : Dev nD) : S2048x1024.Idx → EReal := fun i => (∑ r : Fin 4096, downTerm (uOf m c) (wOf m c) (i 0) (i 1) r) + xOf m c (i 0) (i 1)

theorem places : ∀ t : Fin grid0.N, win0_0.index t 0 = t.val / 8 ∧ win0_0.index t 1 = t.val % 4 ∧ win0_1.index t 0 = t.val % 4 ∧ win0_1.index t 1 = t.val / 4 % 2
    ∧ win0_2.index t 0 = t.val / 8 ∧ win0_2.index t 1 = t.val / 4 % 2 ∧ win0_3.index t 0 = t.val / 8 ∧ win0_3.index t 1 = t.val / 4 % 2 := by decide +kernel

/-- A point's product is the part of the sum that its quarter gives. -/
theorem point_part (t : Fin cfg0.N) (p : Fin 2048) (q : Fin 1024) (z : S1024x512.Idx)
    (h0 : p.val = t.val / 8 * 1024 + (z 0).val) (h1 : q.val = t.val / 4 % 2 * 512 + (z 1).val) :
    (k0_pay1 (iblk m c 0 t) (iblk m c 1 t) z : EReal) = ∑ b : Fin 1024, downTerm (uOf m c) (wOf m c) p q (unit ⟨t.val % 4, Nat.mod_lt _ (by decide)⟩ b) := by
  obtain ⟨p0, p1, p2, p3, -⟩ := places t
  rw [pay_apply]
  refine Finset.sum_congr rfl fun b _ => ?_
  have e0 : ((cfg0.win 0).blk t).view.emb (ix2 (z 0) b) = ix2 p (unit ⟨t.val % 4, Nat.mod_lt _ (by decide)⟩ b) := by
    funext a; apply Fin.ext
    match a with
    | ⟨0, _⟩ => show win0_0.index t 0 * 1024 + 1 * (z 0).val = p.val; omega
    | ⟨1, _⟩ => show win0_0.index t 1 * 1024 + 1 * b.val = t.val % 4 * 1024 + b.val; omega
  have e1 : ((cfg0.win 1).blk t).view.emb (ix2 b (z 1)) = ix2 (unit ⟨t.val % 4, Nat.mod_lt _ (by decide)⟩ b) q := by
    funext a; apply Fin.ext
    match a with
    | ⟨0, _⟩ => show win0_1.index t 0 * 1024 + 1 * b.val = t.val % 4 * 1024 + b.val; omega
    | ⟨1, _⟩ => show win0_1.index t 1 * 512 + 1 * (z 1).val = q.val; omega
  exact congrArg₂ (· * ·) ((congrArg (V m c main_v3 : S2048x4096.Idx → EReal) e0).trans (V_act m c _ _))
    ((congrArg (V m c main_v4 : S4096x1024.Idx → EReal) e1).trans (congrFun (V_w m c) _))

/-- The residual's block at an index of the tile. -/
theorem residual (t : Fin cfg0.N) (p : Fin 2048) (q : Fin 1024) (z : S1024x512.Idx)
    (h0 : p.val = t.val / 8 * 1024 + (z 0).val) (h1 : q.val = t.val / 4 % 2 * 512 + (z 1).val) : (iblk m c 2 t z : EReal) = xOf m c p q := by
  obtain ⟨-, -, -, -, p4, p5, -⟩ := places t
  have e : ((cfg0.win 2).blk t).view.emb z = ix2 p q := by
    funext a; apply Fin.ext
    match a with
    | ⟨0, _⟩ => show win0_2.index t 0 * 1024 + 1 * (z 0).val = p.val; omega
    | ⟨1, _⟩ => show win0_2.index t 1 * 512 + 1 * (z 1).val = q.val; omega
  exact (congrArg (V m c main_arg0 : S2048x1024.Idx → EReal) e).trans (congrFun (V_main_arg0 m c) _)

/-- The first of four points leaves its product in the carried block, a point between adds its own. -/
theorem start (t : Fin cfg0.N) (h : t.val % 4 = 0) (z : S1024x512.Idx) :
    ((outsAt0 m c t.val t.isLt).2 z : EReal) = k0_pay1 (iblk m c 0 t) (iblk m c 1 t) z := by
  rw [outsAt0_A m c t h (by omega) (by omega)]
  dsimp only
  rw [first_quarter]

theorem next (t : Fin cfg0.N) (h : ¬t.val % 4 = 0) (h3 : ¬t.val % 4 = 3) (z : S1024x512.Idx) :
    ((outsAt0 m c t.val t.isLt).2 z : EReal)
      = ((outsAt0 m c (t.val - 1) (Nat.lt_of_le_of_lt (Nat.sub_le _ _) t.isLt)).2 z : EReal) + k0_pay1 (iblk m c 0 t) (iblk m c 1 t) z := by
  rw [outsAt0_B m c t h (by omega) h3]
  dsimp only
  rw [later_quarter]

/-- After the points of the first k + 1 quarters of a tile, the carried block holds the part of the sum that they give. -/
theorem carried (s : ℕ) (hs : s % 4 = 0) (p : Fin 2048) (q : Fin 1024) (z : S1024x512.Idx)
    (h0 : p.val = s / 8 * 1024 + (z 0).val) (h1 : q.val = s / 4 % 2 * 512 + (z 1).val) : ∀ (k : ℕ) (hk : k < 3) (hn : s + k < cfg0.N),
    ((outsAt0 m c (s + k) hn).2 z : EReal) = quarters (downTerm (uOf m c) (wOf m c) p q) (k + 1) := by
  have part : ∀ (k : ℕ) (hk : k < 4) (hn : s + k < cfg0.N), (k0_pay1 (iblk m c 0 ⟨s + k, hn⟩) (iblk m c 1 ⟨s + k, hn⟩) z : EReal)
      = ∑ b : Fin 1024, downTerm (uOf m c) (wOf m c) p q (unit ⟨k, hk⟩ b) := fun k hk hn => by
    rw [point_part m c ⟨s + k, hn⟩ p q z (by dsimp only; omega) (by dsimp only; omega)]
    have e : (⟨(s + k) % 4, Nat.mod_lt _ (by decide)⟩ : Fin 4) = ⟨k, hk⟩ := Fin.ext (by dsimp only; omega)
    dsimp only
    rw [e]
  intro k
  induction k with
  | zero =>
    intro hk hn
    refine (start m c ⟨s + 0, hn⟩ hs z).trans ((part 0 (by decide) hn).trans ?_)
    rw [quarters_step _ 0 (by decide)]
    exact (zero_add _).symm
  | succ k ih =>
    intro hk hn
    rw [quarters_step _ (k + 1) (by omega)]
    exact (next m c ⟨s + (k + 1), hn⟩ (by dsimp only; omega) (by dsimp only; omega) z).trans
      (congrArg₂ (· + ·) (ih (by omega) (by omega)) (part (k + 1) (by omega) hn))

/-- The last of four points completes the sum. -/
theorem completed (t : Fin cfg0.N) (hm : t.val % 4 = 3) (p : Fin 2048) (q : Fin 1024) (z : S1024x512.Idx)
    (h0 : p.val = t.val / 8 * 1024 + (z 0).val) (h1 : q.val = t.val / 4 % 2 * 512 + (z 1).val) :
    ((outsAt0 m c (t.val - 1) (Nat.lt_of_le_of_lt (Nat.sub_le _ _) t.isLt)).2 z : EReal) + k0_pay1 (iblk m c 0 t) (iblk m c 1 t) z
      = ∑ r : Fin 4096, downTerm (uOf m c) (wOf m c) p q r := by
  have hc := carried m c (t.val - 3) (by omega) p q z (by omega) (by omega) 2 (by decide) (by have := t.isLt; omega)
  have e : t.val - 3 + 2 = t.val - 1 := by omega
  have hc' : ((outsAt0 m c (t.val - 1) (Nat.lt_of_le_of_lt (Nat.sub_le _ _) t.isLt)).2 z : EReal) = quarters (downTerm (uOf m c) (wOf m c) p q) 3 := by
    have same : ∀ (a b : ℕ) (h : a = b) (ha : a < cfg0.N) (hb : b < cfg0.N), ((outsAt0 m c a ha).2 z : EReal) = (outsAt0 m c b hb).2 z := by
      intro a b h ha hb
      subst h
      rfl
    exact (same _ _ e.symm _ _).trans hc
  have g : (⟨t.val % 4, Nat.mod_lt _ (by decide)⟩ : Fin 4) = ⟨3, by decide⟩ := Fin.ext hm
  rw [hc', point_part m c t p q z h0 h1, ← quarters_all, quarters_step _ 3 (by decide), g]

theorem writes_back (t : Fin cfg0.N) (hf : (cfg0.win 3).flush t = true) : (dats m 0 c).flushed 3 t = ((cfg0.win 3).blk t).view.read (Elt Ideal) (G m c) := by
  have hm : t.val % 4 = 3 := (flush0_3 t).mp hf
  rw [flushed3_C m c t (by omega) (by omega) hm]
  obtain ⟨-, -, -, -, -, -, p6, p7⟩ := places t
  funext y
  refine (last_quarter c _ _ _ _ _ _ _ _ _ _ _ _ _ _ _ _ _ _ ((cfg0.win 3).xinj (grid0.coords t) y)).trans ?_
  have b0 : (((cfg0.win 3).blk t).view.emb y 0).val = t.val / 8 * 1024 + ((cfg0.win 3).xinj (grid0.coords t) y 0).val := by
    show win0_3.index t (0 : Fin 2) * 1024 + 1 * (y 0).val = t.val / 8 * 1024 + (y 0).val; omega
  have b1 : (((cfg0.win 3).blk t).view.emb y 1).val = t.val / 4 % 2 * 512 + ((cfg0.win 3).xinj (grid0.coords t) y 1).val := by
    show win0_3.index t (1 : Fin 2) * 512 + 1 * (y 1).val = t.val / 4 % 2 * 512 + (y 1).val; omega
  exact congrArg₂ (· + ·) (completed m c t hm _ _ _ b0 b1) (residual m c t _ _ _ b0 b1)

/-- The array that the call leaves holds the residual and the MLP's second product. -/
theorem final : (dats m 0 c).arrAt 3 cfg0.N = G m c :=
  (dats m 0 c).arrAt_eq_of_cover 3 _ (fun t hf => writes_back m c t hf) (fun i => (covered_iff3 i).2 (by
    have h0 : (i 0).val < 2048 := (i 0).isLt
    have h1 : (i 1).val < 1024 := (i 1).isLt
    omega))

end Cert.Kernel7Ideal.Mlp

namespace Cert.Mlp

open Idealize.ShloMosaic Idealize.SL.Sem

open Cert.Reference7Ideal in
theorem down_reference (x : FVec Ideal S2048x1024 .f32) (u : FVec Ideal S2048x4096 .f32) (w : FVec Ideal S4096x1024 .f32) (hb : S_.BroadcastsInDim S2048x4096 ![]) :
    (addf (F := Ideal) x (Host.dotGeneral dot_S2048x4096_S4096x1024_S2048x1024_1_0_0_1_n_n none
      (mulf (maximumf u (broadcastInDim S2048x4096 ![] hb (constant S_ .f32 0x00000000#32))) (maximumf u (broadcastInDim S2048x4096 ![] hb (constant S_ .f32 0x00000000#32)))) w)
      : S2048x1024.Idx → EReal)
    = fun i => (∑ r : Fin 4096, downTerm (fun a b => u (ix2 a b)) (fun a b => w (ix2 a b)) (i 0) (i 1) r) + x (ix2 (i 0) (i 1)) := by
  funext i
  obtain ⟨a, b, rfl⟩ : ∃ (a : Fin 2048) (b : Fin 1024), i = ix2 a b := ⟨i 0, i 1, funext fun q => by fin_cases q <;> rfl⟩
  refine (add_comm (x (ix2 a b) : EReal) _).trans (congrArg (· + (x (ix2 a b) : EReal)) ?_)
  refine (host_dot dot_S2048x4096_S4096x1024_S2048x1024_1_0_0_1_n_n rfl rfl _ w (ix2 a b) (fun k => ix2 a k) (fun k => ix2 k b)
    (fun k => funext fun q => by fin_cases q <;> rfl) (fun k => funext fun q => by fin_cases q <;> rfl)).trans ?_
  refine Finset.sum_congr rfl fun r _ => ?_
  show (max (u (ix2 a r) : EReal) (Ideal.ofBits .f32 0x00000000#32) * max (u (ix2 a r) : EReal) (Ideal.ofBits .f32 0x00000000#32)) * (w (ix2 r b) : EReal) = _
  rw [Ideal.ofBits_zero_f32]
  rfl

end Cert.Mlp

namespace Cert

open Idealize.ShloMosaic Idealize.SL.Sem Cert.Mlp

/-- On every device and from any arguments, the program of the call leaves the same array as the reference's. -/
theorem down_same : algebraic_Kernel7Ideal_Reference7Ideal (hKernel7Ideal := Cert.Kernel7Ideal.Gen.facts) (hReference7Ideal := Cert.Reference7Ideal.Gen.facts) := by
  intro m ρ m' ρ' _ hargs
  refine ⟨fun c => Cert.Kernel7Ideal.Mlp.G m c, ?_, ?_⟩
  · refine (θ_run _ _ _).mono (fun r h c => ?_) (Cert.Kernel7Ideal.Value.run_blocks m ρ)
    obtain ⟨h0, h1⟩ := h c
    exact ⟨h0.trans (Cert.Kernel7Ideal.Mlp.final m c), h1⟩
  · refine (θ_run _ _ _).mono (fun r h c => ?_) (Cert.Reference7Ideal.Value.run m' ρ')
    obtain ⟨h0, h1⟩ := h c
    obtain ⟨e0, e1, e2⟩ := hargs c
    refine ⟨h0.trans ?_, h1⟩
    rw [e0, e1, e2]
    exact down_reference _ _ _ _

end Cert

end
-- ==== Proof.Gates.lean ====
/- The gates' part of the input projection: each tile is one product of whole rows and columns, through a block that is not carried. -/
module

public import proofs.«01_k».proof.Defs
public import proofs.«01_k».proof.Proof.Down
public import proofs.«01_k».proof.Proof.Gen.Kernel8Ideal.Value
public import proofs.«01_k».proof.Proof.Gen.Reference8Ideal.Run
public import Idealize.ShloMosaic.Lib.Pointwise

@[expose] public section

noncomputable section

namespace Cert.Kernel8Ideal.Gates

open Idealize.ShloMosaic Idealize.ShloMosaic.TcCoe Idealize.SL.Sem Cert.Mlp
open Cert.Kernel8Ideal Cert.Kernel8Ideal.Gen Cert.Kernel8Ideal.Value

theorem pay_apply (x0 : Vec Ideal S1024x1024 .bf16) (x1 : Vec Ideal S512x1024 .bf16) (j : S1024x512.Idx) :
    (k0_pay1 x0 x1 j : EReal) = ∑ k : Fin 1024, (x0 (ix2 (j 0) k) : EReal) * x1 (ix2 (j 1) k) := by
  unfold k0_pay1
  simp only [shapeCast_self]
  show (Ideal.matmul dot_S1024x1024_S512x1024_S1024x512_1_1_0_0_n_n x0 x1 (fun _ => Ideal.ofBits .f32 0x00000000#32) j : EReal) = _
  rw [Ideal.matmul_apply₁_of dot_S1024x1024_S512x1024_S1024x512_1_1_0_0_n_n rfl rfl x0 x1 _ j (fun k => ix2 (j 0) k) (fun k => ix2 (j 1) k)
    (fun k => funext fun a => by fin_cases a <;> rfl) (fun k => funext fun a => by fin_cases a <;> rfl), Ideal.ofBits_zero_f32, zero_add]
  rfl

/-- What is written back is the product of the point's blocks, read from the block that the point has just stored. -/
theorem stored (c : Dev nD) (i : grid0.Coords) (a3 : Memref sig .tc .vmem S1024x1024 .bf16) (h3 : a3.IsWhole) (a4 : Memref sig .tc .vmem S512x1024 .bf16) (h4 : a4.IsWhole)
    (a5 : Memref sig .tc .vmem S1024x512 .f32) (h5 : a5.IsWhole) (a6 : Memref sig .tc .vmem S1024x512 .f32) (h6 : a6.IsWhole) (g0 : cond0_0 i) (g1 : ¬cond0_1 i) (g2 : cond0_2 i)
    (x0 : Vec Ideal S1024x1024 .bf16) (x1 : Vec Ideal S512x1024 .bf16) (j : S1024x512.Idx) :
    (out0_A_2 c i a3 h3 a4 h4 a5 h5 a6 h6 g0 g1 g2 x0 x1 j : EReal) = k0_pay1 x0 x1 j := by
  unfold out0_A_2
  rw [View.read_writes_eq_canon _ _ _ (cover0_A_2 c i a3 h3 a4 h4 a5 h5 a6 h6 g0 g1 g2 x0 x1)]
  unfold kernelRun0_A
  dsimp only
  sl_unfold_words
  rw [View.canon_unit_zero two_zeros, View.readCov_unit_zero (S := S1024x512) _ two_zeros]
  unfold k0_pay2
  simp only [View.readAt_eq_ld, h3.read_unread, h4.read_unread, View.ld_unit_zero (S := S1024x1024) two_zeros, View.ld_unit_zero (S := S512x1024) two_zeros, shapeCast_self]

variable (m : (ℓ : Loc nD τ sig) → Buf (Elt Ideal) ℓ) (c : Dev nD)

/-- The layer's normed input, read from the launch. -/
def hOf : Fin 2048 → Fin 1024 → EReal := fun a b => m ((c.tc : Thread nD τ).loc main_arg0) (ix2 a b)

/-- The gates' weights, read from the launch. -/
def wOf : Fin 1024 → Fin 3072 → EReal := fun a b => m ((c.tc : Thread nD τ).loc main_arg1) (ix2 a b)

theorem V_h : (V m c main_v0 : S2048x1024.Idx → EReal) = m ((c.tc : Thread nD τ).loc main_arg0) := by
  show StableHlo.after hostOps0 (fun b => m (c, b)) (Proc.devRef .tc main_v0) = _
  after_results
  rfl

theorem V_w (a : Fin 3072) (b : Fin 1024) : (V m c main_v2 : S3072x1024.Idx → EReal) (ix2 a b) = wOf m c b a := by
  show (StableHlo.after hostOps0 (fun b => m (c, b)) (Proc.devRef .tc main_v2) : S3072x1024.Idx → EReal) (ix2 a b) = _
  after_results
  exact congrArg (m ((c.tc : Thread nD τ).loc main_arg1) : S1024x3072.Idx → EReal) (funext fun q => by fin_cases q <;> rfl)

/-- The array that the call leaves. -/
def G (c : Dev nD) : S2048x3072.Idx → EReal := fun i => ∑ k : Fin 1024, hOf m c (i 0) k * wOf m c k (i 1)

theorem places : ∀ t : Fin grid0.N, win0_0.index t 0 = t.val / 6 ∧ win0_0.index t 1 = 0 ∧ win0_1.index t 0 = t.val % 6 ∧ win0_1.index t 1 = 0
    ∧ win0_2.index t 0 = t.val / 6 ∧ win0_2.index t 1 = t.val % 6 := by decide +kernel

theorem point_value (t : Fin cfg0.N) (p : Fin 2048) (q : Fin 3072) (z : S1024x512.Idx)
    (h0 : p.val = t.val / 6 * 1024 + (z 0).val) (h1 : q.val = t.val % 6 * 512 + (z 1).val) :
    (k0_pay1 (iblk m c 0 t) (iblk m c 1 t) z : EReal) = ∑ k : Fin 1024, hOf m c p k * wOf m c k q := by
  obtain ⟨p0, p1, p2, p3, -⟩ := places t
  rw [pay_apply]
  refine Finset.sum_congr rfl fun k _ => ?_
  have e0 : ((cfg0.win 0).blk t).view.emb (ix2 (z 0) k) = ix2 p k := by
    funext a; apply Fin.ext
    match a with
    | ⟨0, _⟩ => show win0_0.index t 0 * 1024 + 1 * (z 0).val = p.val; omega
    | ⟨1, _⟩ => show win0_0.index t 1 * 1024 + 1 * k.val = k.val; omega
  have e1 : ((cfg0.win 1).blk t).view.emb (ix2 (z 1) k) = ix2 q k := by
    funext a; apply Fin.ext
    match a with
    | ⟨0, _⟩ => show win0_1.index t 0 * 512 + 1 * (z 1).val = q.val; omega
    | ⟨1, _⟩ => show win0_1.index t 1 * 1024 + 1 * k.val = k.val; omega
  exact congrArg₂ (· * ·) ((congrArg (V m c main_v0 : S2048x1024.Idx → EReal) e0).trans (congrFun (V_h m c) _))
    ((congrArg (V m c main_v2 : S3072x1024.Idx → EReal) e1).trans (V_w m c _ _))

theorem writes_back (t : Fin cfg0.N) : (dats m 0 c).flushed 2 t = ((cfg0.win 2).blk t).view.read (Elt Ideal) (G m c) := by
  rw [flushed2_A]
  obtain ⟨-, -, -, -, p4, p5⟩ := places t
  funext y
  refine (stored c _ _ _ _ _ _ _ _ _ _ _ _ _ _ ((cfg0.win 2).xinj (grid0.coords t) y)).trans ?_
  have b0 : (((cfg0.win 2).blk t).view.emb y 0).val = t.val / 6 * 1024 + ((cfg0.win 2).xinj (grid0.coords t) y 0).val := by
    show win0_2.index t (0 : Fin 2) * 1024 + 1 * (y 0).val = t.val / 6 * 1024 + (y 0).val; omega
  have b1 : (((cfg0.win 2).blk t).view.emb y 1).val = t.val % 6 * 512 + ((cfg0.win 2).xinj (grid0.coords t) y 1).val := by
    show win0_2.index t (1 : Fin 2) * 512 + 1 * (y 1).val = t.val % 6 * 512 + (y 1).val; omega
  exact point_value m c t _ _ _ b0 b1

theorem point_lt (i : S2048x3072.Idx) : 6 * ((i 0).val / 1024) + (i 1).val / 512 < cfg0.N := by
  have h0 : (i 0).val < 2048 := (i 0).isLt
  have h1 : (i 1).val < 3072 := (i 1).isLt
  exact lt_of_lt_of_eq (show _ < 12 by omega) N_0.symm

theorem covered (i : S2048x3072.Idx) : ∃ t : Fin cfg0.N, (cfg0.win 2).flush t = true ∧ i ∈ ((cfg0.win 2).blk t).view.set := by
  have h0 : (i 0).val < 2048 := (i 0).isLt
  have h1 : (i 1).val < 3072 := (i 1).isLt
  refine ⟨⟨_, point_lt i⟩, (by decide +kernel : ∀ t : Fin grid0.N, win0_2.flush t = true) _, ?_⟩
  obtain ⟨-, -, -, -, p4, p5⟩ := places ⟨_, point_lt i⟩
  show i ∈ ((View.whole main_v3).slice (win0_2.rect ⟨_, point_lt i⟩)).set
  rw [View.set_slice_whole, Rect.mem_set_unit]
  intro a
  match a with
  | ⟨0, _⟩ => show win0_2.index _ (0 : Fin 2) * 1024 ≤ (i 0).val ∧ (i 0).val < win0_2.index _ (0 : Fin 2) * 1024 + 1024; rw [p4]; dsimp only; omega
  | ⟨1, _⟩ => show win0_2.index _ (1 : Fin 2) * 512 ≤ (i 1).val ∧ (i 1).val < win0_2.index _ (1 : Fin 2) * 512 + 512; rw [p5]; dsimp only; omega

/-- The array that the call leaves holds the gates. -/
theorem final : (dats m 0 c).arrAt 2 cfg0.N = G m c := (dats m 0 c).arrAt_eq_of_cover 2 _ (fun t _ => writes_back m c t) covered

end Cert.Kernel8Ideal.Gates

namespace Cert

open Idealize.ShloMosaic Idealize.SL.Sem Cert.Mlp

/-- On every device and from any arguments, the program of the call leaves the same array as the reference's. -/
theorem gates_same : algebraic_Kernel8Ideal_Reference8Ideal (hKernel8Ideal := Cert.Kernel8Ideal.Gen.facts) (hReference8Ideal := Cert.Reference8Ideal.Gen.facts) := by
  intro m ρ m' ρ' _ hargs
  refine ⟨fun c => Cert.Kernel8Ideal.Gates.G m c, ?_, ?_⟩
  · refine (θ_run _ _ _).mono (fun r h c => ?_) (Cert.Kernel8Ideal.Value.run_blocks m ρ)
    obtain ⟨h0, h1⟩ := h c
    exact ⟨h0.trans (Cert.Kernel8Ideal.Gates.final m c), h1⟩
  · refine (θ_run _ _ _).mono (fun r h c => ?_) (Cert.Reference8Ideal.Value.run m' ρ')
    obtain ⟨h0, h1⟩ := h c
    obtain ⟨e0, e1⟩ := hargs c
    refine ⟨h0.trans ?_, h1⟩
    rw [e0, e1]
    exact funext fun i => host_dot Cert.Reference8Ideal.dot_S2048x1024_S1024x3072_S2048x3072_1_0_0_1_n_n rfl rfl _ _ i (fun k => ix2 (i 0) k) (fun k => ix2 k (i 1))
      (fun k => funext fun q => by fin_cases q <;> rfl) (fun k => funext fun q => by fin_cases q <;> rfl)

end Cert

end
-- ==== Proof.GatesDh.lean ====
/- The gradient of the input projection's input through the gates: three blocks of the gates' columns are added one after another
   in the carried block, which is written back after the last. -/
module

public import proofs.«01_k».proof.Defs
public import proofs.«01_k».proof.Proof.Gates
public import proofs.«01_k».proof.Proof.Gen.Kernel9Ideal.Value
public import proofs.«01_k».proof.Proof.Gen.Reference9Ideal.Run
public import Idealize.ShloMosaic.Lib.Pointwise

@[expose] public section

noncomputable section

namespace Cert.Kernel9Ideal.Gates

open Idealize.ShloMosaic Idealize.ShloMosaic.TcCoe Idealize.SL.Sem Cert.Mlp
open Cert.Kernel9Ideal Cert.Kernel9Ideal.Gen Cert.Kernel9Ideal.Value

/-- One term of the gradient. -/
def term (dy : Fin 2048 → Fin 3072 → EReal) (w : Fin 1024 → Fin 3072 → EReal) (i : Fin 2048) (j : Fin 1024) (r : Fin 3072) : EReal := dy i r * w j r

/-- Column n*1024 + b of the gates. -/
def gate : Fin 3 → Fin 1024 → Fin 3072 := place 3 1024 rfl

theorem pay_apply (x0 : Vec Ideal S1024x1024 .f32) (x1 : Vec Ideal S1024x512 .bf16) (j : S1024x512.Idx) :
    (k0_pay1 x0 x1 j : EReal) = ∑ b : Fin 1024, (x0 (ix2 (j 0) b) : EReal) * x1 (ix2 b (j 1)) := by
  unfold k0_pay1
  simp only [shapeCast_self]
  show (Ideal.matmul dot_S1024x1024_S1024x512_S1024x512_1_0_0_1_n_n x0 x1 (fun _ => Ideal.ofBits .f32 0x00000000#32) j : EReal) = _
  rw [Ideal.matmul_apply₁_of dot_S1024x1024_S1024x512_S1024x512_1_0_0_1_n_n rfl rfl x0 x1 _ j (fun k => ix2 (j 0) k) (fun k => ix2 k (j 1))
    (fun k => funext fun a => by fin_cases a <;> rfl) (fun k => funext fun a => by fin_cases a <;> rfl), Ideal.ofBits_zero_f32, zero_add]
  rfl

/-- The first block of columns is stored, a later one is added to the carried block, and after the last the sum is written back. -/
theorem first_block (c : Dev nD) (i : grid0.Coords) (a3 : Memref sig .tc .vmem S1024x1024 .f32) (h3 : a3.IsWhole) (a4 : Memref sig .tc .vmem S1024x512 .bf16) (h4 : a4.IsWhole)
    (a5 : Memref sig .tc .vmem S1024x512 .f32) (h5 : a5.IsWhole) (a6 : Memref sig .tc .vmem S1024x512 .f32) (h6 : a6.IsWhole) (g0 : cond0_0 i) (g1 : ¬cond0_1 i) (g2 : ¬cond0_2 i)
    (x0 : Vec Ideal S1024x1024 .f32) (x1 : Vec Ideal S1024x512 .bf16) (j : S1024x512.Idx) :
    (sout0_A_0 c i a3 h3 a4 h4 a5 h5 a6 h6 g0 g1 g2 x0 x1 j : EReal) = k0_pay1 x0 x1 j := by
  unfold sout0_A_0
  rw [View.read_writes_eq_canon _ _ _ (scover0_A_0 c i a3 h3 a4 h4 a5 h5 a6 h6 g0 g1 g2 x0 x1)]
  unfold kernelRun0_A
  dsimp only
  rw [View.canon_unit_zero two_zeros]
  unfold k0_pay2
  simp only [View.readAt_eq_ld, h3.read_unread, h4.read_unread, h6.read_unread, View.ld_unit_zero (S := S1024x1024) two_zeros, View.ld_unit_zero (S := S1024x512) two_zeros, shapeCast_self]

theorem later_block (c : Dev nD) (i : grid0.Coords) (a3 : Memref sig .tc .vmem S1024x1024 .f32) (h3 : a3.IsWhole) (a4 : Memref sig .tc .vmem S1024x512 .bf16) (h4 : a4.IsWhole)
    (a5 : Memref sig .tc .vmem S1024x512 .f32) (h5 : a5.IsWhole) (a6 : Memref sig .tc .vmem S1024x512 .f32) (h6 : a6.IsWhole) (g0 : ¬cond0_0 i) (g1 : cond0_1 i) (g2 : ¬cond0_2 i)
    (x0 : Vec Ideal S1024x1024 .f32) (x1 : Vec Ideal S1024x512 .bf16) (xs : Vec Ideal S1024x512 .f32) (j : S1024x512.Idx) :
    (sout0_B_0 c i a3 h3 a4 h4 a5 h5 a6 h6 g0 g1 g2 x0 x1 xs j : EReal) = xs j + k0_pay1 x0 x1 j := by
  unfold sout0_B_0
  rw [View.read_writes_eq_canon _ _ _ (scover0_B_0 c i a3 h3 a4 h4 a5 h5 a6 h6 g0 g1 g2 x0 x1 xs)]
  unfold kernelRun0_B
  dsimp only
  rw [View.canon_unit_zero two_zeros]
  unfold k0_pay3
  simp only [View.readAt_eq_ld, h3.read_unread, h4.read_unread, h6.read_unread, View.ld_unit_zero (S := S1024x1024) two_zeros, View.ld_unit_zero (S := S1024x512) two_zeros, shapeCast_self]
  rfl

theorem last_block (c : Dev nD) (i : grid0.Coords) (a3 : Memref sig .tc .vmem S1024x1024 .f32) (h3 : a3.IsWhole) (a4 : Memref sig .tc .vmem S1024x512 .bf16) (h4 : a4.IsWhole)
    (a5 : Memref sig .tc .vmem S1024x512 .f32) (h5 : a5.IsWhole) (a6 : Memref sig .tc .vmem S1024x512 .f32) (h6 : a6.IsWhole) (g0 : ¬cond0_0 i) (g1 : cond0_1 i) (g2 : cond0_2 i)
    (x0 : Vec Ideal S1024x1024 .f32) (x1 : Vec Ideal S1024x512 .bf16) (xs : Vec Ideal S1024x512 .f32) (j : S1024x512.Idx) :
    (out0_C_2 c i a3 h3 a4 h4 a5 h5 a6 h6 g0 g1 g2 x0 x1 xs j : EReal) = xs j + k0_pay1 x0 x1 j := by
  unfold out0_C_2
  rw [View.read_writes_eq_canon _ _ _ (cover0_C_2 c i a3 h3 a4 h4 a5 h5 a6 h6 g0 g1 g2 x0 x1 xs)]
  unfold kernelRun0_C
  dsimp only
  sl_unfold_words
  rw [View.canon_unit_zero two_zeros, View.readCov_unit_zero (S := S1024x512) _ two_zeros]
  unfold k0_pay3
  simp only [View.readAt_eq_ld, h3.read_unread, h4.read_unread, h6.read_unread, View.ld_unit_zero (S := S1024x1024) two_zeros, View.ld_unit_zero (S := S1024x512) two_zeros, shapeCast_self]
  rfl

variable (m : (ℓ : Loc nD τ sig) → Buf (Elt Ideal) ℓ) (c : Dev nD)

/-- The gates' weights, read from the launch. -/
def wOf : Fin 1024 → Fin 3072 → EReal := fun a b => m ((c.tc : Thread nD τ).loc main_arg0) (ix2 a b)

/-- The gradient of the gates, read from the launch. -/
def dyOf : Fin 2048 → Fin 3072 → EReal := fun a b => m ((c.tc : Thread nD τ).loc main_arg1) (ix2 a b)

theorem V_w (a : Fin 3072) (b : Fin 1024) : (V m c main_v1 : S3072x1024.Idx → EReal) (ix2 a b) = wOf m c b a := by
  show (StableHlo.after hostOps0 (fun b => m (c, b)) (Proc.devRef .tc main_v1) : S3072x1024.Idx → EReal) (ix2 a b) = _
  after_results
  exact congrArg (m ((c.tc : Thread nD τ).loc main_arg0) : S1024x3072.Idx → EReal) (funext fun q => by fin_cases q <;> rfl)

/-- The array that the call leaves. -/
def G (c : Dev nD) : S2048x1024.Idx → EReal := fun i => ∑ r : Fin 3072, term (dyOf m c) (wOf m c) (i 0) (i 1) r

theorem places : ∀ t : Fin grid0.N, win0_0.index t 0 = t.val / 6 ∧ win0_0.index t 1 = t.val % 3 ∧ win0_1.index t 0 = t.val % 3 ∧ win0_1.index t 1 = t.val / 3 % 2
    ∧ win0_2.index t 0 = t.val / 6 ∧ win0_2.index t 1 = t.val / 3 % 2 := by decide +kernel

/-- Point s + k of a tile whose points start at s gives the part of the sum of the columns' block k. -/
theorem point_part (s k : ℕ) (hs : s % 3 = 0) (hk : k < 3) (hn : s + k < cfg0.N) (p : Fin 2048) (q : Fin 1024) (z : S1024x512.Idx)
    (h0 : p.val = s / 6 * 1024 + (z 0).val) (h1 : q.val = s / 3 % 2 * 512 + (z 1).val) :
    (k0_pay1 (iblk m c 0 ⟨s + k, hn⟩) (iblk m c 1 ⟨s + k, hn⟩) z : EReal) = ∑ b : Fin 1024, term (dyOf m c) (wOf m c) p q (gate ⟨k, hk⟩ b) := by
  obtain ⟨p0, p1, p2, p3, -⟩ := places ⟨s + k, hn⟩
  dsimp only at p0 p1 p2 p3
  rw [pay_apply]
  refine Finset.sum_congr rfl fun b _ => ?_
  have e0 : ((cfg0.win 0).blk ⟨s + k, hn⟩).view.emb (ix2 (z 0) b) = ix2 p (gate ⟨k, hk⟩ b) := by
    funext a; apply Fin.ext
    match a with
    | ⟨0, _⟩ => show win0_0.index ⟨s + k, hn⟩ 0 * 1024 + 1 * (z 0).val = p.val; omega
    | ⟨1, _⟩ => show win0_0.index ⟨s + k, hn⟩ 1 * 1024 + 1 * b.val = k * 1024 + b.val; omega
  have e1 : ((cfg0.win 1).blk ⟨s + k, hn⟩).view.emb (ix2 b (z 1)) = ix2 (gate ⟨k, hk⟩ b) q := by
    funext a; apply Fin.ext
    match a with
    | ⟨0, _⟩ => show win0_1.index ⟨s + k, hn⟩ 0 * 1024 + 1 * b.val = k * 1024 + b.val; omega
    | ⟨1, _⟩ => show win0_1.index ⟨s + k, hn⟩ 1 * 512 + 1 * (z 1).val = q.val; omega
  exact congrArg₂ (· * ·) ((congrArg (V m c main_arg1 : S2048x3072.Idx → EReal) e0).trans (congrFun (V_main_arg1 m c) _))
    ((congrArg (V m c main_v1 : S3072x1024.Idx → EReal) e1).trans (V_w m c _ _))

/-- What a point leaves in the carried block: the first its product, the second the sum of both. -/
theorem after_two (s : ℕ) (hs : s % 3 = 0) (hn : s + 1 < cfg0.N) (p : Fin 2048) (q : Fin 1024) (z : S1024x512.Idx)
    (h0 : p.val = s / 6 * 1024 + (z 0).val) (h1 : q.val = s / 3 % 2 * 512 + (z 1).val) :
    ((outsAt0 m c (s + 1) hn).2 z : EReal) = parts 3 1024 rfl (term (dyOf m c) (wOf m c) p q) 2 := by
  have first : ((outsAt0 m c s (Nat.lt_of_succ_lt hn)).2 z : EReal) = parts 3 1024 rfl (term (dyOf m c) (wOf m c) p q) 1 := by
    have e := outsAt0_A m c ⟨s, Nat.lt_of_succ_lt hn⟩ hs (by dsimp only; omega) (by dsimp only; omega)
    refine (congrArg (fun x => (x.2 z : EReal)) e).trans ?_
    dsimp only
    rw [first_block, parts_step _ _ _ _ 0 (by decide)]
    exact (point_part m c s 0 hs (by decide) (Nat.lt_of_succ_lt hn) p q z h0 h1).trans (zero_add _).symm
  have e := outsAt0_B m c ⟨s + 1, hn⟩ (by dsimp only; omega) (by dsimp only; omega) (by dsimp only; omega)
  refine (congrArg (fun x => (x.2 z : EReal)) e).trans ?_
  dsimp only
  rw [later_block, parts_step _ _ _ _ 1 (by decide)]
  exact congrArg₂ (· + ·) first (point_part m c s 1 hs (by decide) hn p q z h0 h1)

/-- The last of three points completes the sum. -/
theorem completed (s : ℕ) (hs : s % 3 = 0) (hn : s + 2 < cfg0.N) (p : Fin 2048) (q : Fin 1024) (z : S1024x512.Idx)
    (h0 : p.val = s / 6 * 1024 + (z 0).val) (h1 : q.val = s / 3 % 2 * 512 + (z 1).val) :
    ((outsAt0 m c (s + 1) (Nat.lt_of_succ_lt hn)).2 z : EReal) + k0_pay1 (iblk m c 0 ⟨s + 2, hn⟩) (iblk m c 1 ⟨s + 2, hn⟩) z
      = ∑ r : Fin 3072, term (dyOf m c) (wOf m c) p q r := by
  rw [after_two m c s hs _ p q z h0 h1, point_part m c s 2 hs (by decide) hn p q z h0 h1]
  exact (parts_step 3 1024 rfl _ 2 (by decide)).symm.trans (parts_all 3 1024 rfl _)

theorem writes_back (t : Fin cfg0.N) (hf : (cfg0.win 2).flush t = true) : (dats m 0 c).flushed 2 t = ((cfg0.win 2).blk t).view.read (Elt Ideal) (G m c) := by
  have hm : t.val % 3 = 2 := (flush0_2 t).mp hf
  obtain ⟨s, hn, hs, rfl⟩ : ∃ (s : ℕ) (hn : s + 2 < cfg0.N), s % 3 = 0 ∧ t = ⟨s + 2, hn⟩ :=
    ⟨t.val - 2, lt_of_eq_of_lt (by omega) t.isLt, by omega, Fin.ext (by dsimp only; omega)⟩
  rw [flushed2_C m c ⟨s + 2, hn⟩ (by dsimp only; omega) (by dsimp only; omega) hm]
  obtain ⟨-, -, -, -, p4, p5⟩ := places ⟨s + 2, hn⟩
  dsimp only at p4 p5
  funext y
  refine (last_block c _ _ _ _ _ _ _ _ _ _ _ _ _ _ _ ((cfg0.win 2).xinj (grid0.coords ⟨s + 2, hn⟩) y)).trans ?_
  have b0 : (((cfg0.win 2).blk ⟨s + 2, hn⟩).view.emb y 0).val = s / 6 * 1024 + ((cfg0.win 2).xinj (grid0.coords ⟨s + 2, hn⟩) y 0).val := by
    show win0_2.index ⟨s + 2, hn⟩ (0 : Fin 2) * 1024 + 1 * (y 0).val = s / 6 * 1024 + (y 0).val; omega
  have b1 : (((cfg0.win 2).blk ⟨s + 2, hn⟩).view.emb y 1).val = s / 3 % 2 * 512 + ((cfg0.win 2).xinj (grid0.coords ⟨s + 2, hn⟩) y 1).val := by
    show win0_2.index ⟨s + 2, hn⟩ (1 : Fin 2) * 512 + 1 * (y 1).val = s / 3 % 2 * 512 + (y 1).val; omega
  exact completed m c s hs hn _ _ _ b0 b1

/-- The array that the call leaves holds the gradient. -/
theorem final : (dats m 0 c).arrAt 2 cfg0.N = G m c :=
  (dats m 0 c).arrAt_eq_of_cover 2 _ (fun t hf => writes_back m c t hf) (fun i => (covered_iff2 i).2 (by
    have h0 : (i 0).val < 2048 := (i 0).isLt
    have h1 : (i 1).val < 1024 := (i 1).isLt
    omega))

end Cert.Kernel9Ideal.Gates

namespace Cert

open Idealize.ShloMosaic Idealize.SL.Sem Cert.Mlp

/-- On every device and from any arguments, the program of the call leaves the same array as the reference's. -/
theorem gates_dh_same : algebraic_Kernel9Ideal_Reference9Ideal (hKernel9Ideal := Cert.Kernel9Ideal.Gen.facts) (hReference9Ideal := Cert.Reference9Ideal.Gen.facts) := by
  intro m ρ m' ρ' _ hargs
  refine ⟨fun c => Cert.Kernel9Ideal.Gates.G m c, ?_, ?_⟩
  · refine (θ_run _ _ _).mono (fun r h c => ?_) (Cert.Kernel9Ideal.Value.run_blocks m ρ)
    obtain ⟨h0, h1⟩ := h c
    exact ⟨h0.trans (Cert.Kernel9Ideal.Gates.final m c), h1⟩
  · refine (θ_run _ _ _).mono (fun r h c => ?_) (Cert.Reference9Ideal.Value.run m' ρ')
    obtain ⟨h0, h1⟩ := h c
    obtain ⟨e0, e1⟩ := hargs c
    refine ⟨h0.trans ?_, h1⟩
    rw [e0, e1]
    exact funext fun i => host_dot Cert.Reference9Ideal.dot_S2048x3072_S1024x3072_S2048x1024_1_1_0_0_n_n rfl rfl _ _ i (fun k => ix2 (i 0) k) (fun k => ix2 (i 1) k)
      (fun k => funext fun q => by fin_cases q <;> rfl) (fun k => funext fun q => by fin_cases q <;> rfl)

end Cert

end
-- ==== Proof.GatesDw.lean ====
/- The gradient of the gates' weights, with their columns as rows: two halves of the rows are added in the carried block, which is
   written back after the second. -/
module

public import proofs.«01_k».proof.Defs
public import proofs.«01_k».proof.Proof.GatesDh
public import proofs.«01_k».proof.Proof.Dwdown
public import proofs.«01_k».proof.Proof.Gen.Kernel10Ideal.Value
public import proofs.«01_k».proof.Proof.Gen.Reference10Ideal.Run
public import Idealize.ShloMosaic.Lib.Pointwise

@[expose] public section

noncomputable section

namespace Cert.Kernel10Ideal.Gates

open Idealize.ShloMosaic Idealize.ShloMosaic.TcCoe Idealize.SL.Sem Cert.Mlp
open Cert.Kernel10Ideal Cert.Kernel10Ideal.Gen Cert.Kernel10Ideal.Value

theorem pay_apply (x0 : Vec Ideal S1024x512 .f32) (x1 : Vec Ideal S1024x512 .bf16) (j : S512x512.Idx) :
    (k0_pay1 x0 x1 j : EReal) = ∑ k : Fin 1024, (x0 (ix2 k (j 0)) : EReal) * x1 (ix2 k (j 1)) := by
  unfold k0_pay1
  simp only [shapeCast_self]
  show (Ideal.matmul dot_S1024x512_S1024x512_S512x512_0_0_1_1_n_n x0 x1 (fun _ => Ideal.ofBits .f32 0x00000000#32) j : EReal) = _
  rw [Ideal.matmul_apply₁_of dot_S1024x512_S1024x512_S512x512_0_0_1_1_n_n rfl rfl x0 x1 _ j (fun k => ix2 k (j 0)) (fun k => ix2 k (j 1))
    (fun k => funext fun a => by fin_cases a <;> rfl) (fun k => funext fun a => by fin_cases a <;> rfl), Ideal.ofBits_zero_f32, zero_add]
  rfl

/-- The first half: the carried block holds the product of the point's blocks. -/
theorem first_half (c : Dev nD) (i : grid0.Coords) (a3 : Memref sig .tc .vmem S1024x512 .f32) (h3 : a3.IsWhole) (a4 : Memref sig .tc .vmem S1024x512 .bf16) (h4 : a4.IsWhole)
    (a5 : Memref sig .tc .vmem S512x512 .bf16) (h5 : a5.IsWhole) (a6 : Memref sig .tc .vmem S512x512 .f32) (h6 : a6.IsWhole) (g0 : cond0_0 i) (g1 : ¬cond0_1 i) (g2 : ¬cond0_2 i)
    (x0 : Vec Ideal S1024x512 .f32) (x1 : Vec Ideal S1024x512 .bf16) :
    sout0_A_0 c i a3 h3 a4 h4 a5 h5 a6 h6 g0 g1 g2 x0 x1 = k0_pay1 x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero two_zeros]
  unfold k0_pay2
  simp only [View.readAt_eq_ld, h3.read_unread, h4.read_unread, View.ld_unit_zero (S := S1024x512) two_zeros, shapeCast_self]

/-- The second half: what is written back is the carried block and the product of the point's blocks. -/
theorem second_half (c : Dev nD) (i : grid0.Coords) (a3 : Memref sig .tc .vmem S1024x512 .f32) (h3 : a3.IsWhole) (a4 : Memref sig .tc .vmem S1024x512 .bf16) (h4 : a4.IsWhole)
    (a5 : Memref sig .tc .vmem S512x512 .bf16) (h5 : a5.IsWhole) (a6 : Memref sig .tc .vmem S512x512 .f32) (h6 : a6.IsWhole) (g0 : ¬cond0_0 i) (g1 : cond0_1 i) (g2 : cond0_2 i)
    (x0 : Vec Ideal S1024x512 .f32) (x1 : Vec Ideal S1024x512 .bf16) (xs : Vec Ideal S512x512 .f32) (j : S512x512.Idx) :
    (out0_B_2 c i a3 h3 a4 h4 a5 h5 a6 h6 g0 g1 g2 x0 x1 xs j : EReal) = xs j + k0_pay1 x0 x1 j := by
  unfold out0_B_2
  rw [View.read_writes_eq_canon _ _ _ (cover0_B_2 c i a3 h3 a4 h4 a5 h5 a6 h6 g0 g1 g2 x0 x1 xs)]
  unfold kernelRun0_B
  dsimp only
  sl_unfold_words
  rw [View.canon_unit_zero two_zeros, View.readCov_unit_zero (S := S512x512) _ two_zeros]
  unfold k0_pay4 k0_pay3
  simp only [View.readAt_eq_ld, h3.read_unread, h4.read_unread, h6.read_unread, View.ld_unit_zero (S := S1024x512) two_zeros, View.ld_unit_zero (S := S512x512) two_zeros, shapeCast_self]
  rfl

variable (m : (ℓ : Loc nD τ sig) → Buf (Elt Ideal) ℓ) (c : Dev nD)

/-- The layer's normed input, read from the launch. -/
def hOf : Fin 2048 → Fin 1024 → EReal := fun a b => m ((c.tc : Thread nD τ).loc main_arg0) (ix2 a b)

/-- The gradient of the gates, read from the launch. -/
def dyOf : Fin 2048 → Fin 3072 → EReal := fun a b => m ((c.tc : Thread nD τ).loc main_arg1) (ix2 a b)

theorem V_h : (V m c main_v0 : S2048x1024.Idx → EReal) = m ((c.tc : Thread nD τ).loc main_arg0) := by
  show StableHlo.after hostOps0 (fun b => m (c, b)) (Proc.devRef .tc main_v0) = _
  after_results
  rfl

/-- The array that the call leaves. -/
def G (c : Dev nD) : S3072x1024.Idx → EReal := fun i => ∑ k : Fin 2048, dyOf m c k (i 0) * hOf m c k (i 1)

theorem places : ∀ t : Fin grid0.N, win0_0.index t 0 = t.val % 2 ∧ win0_0.index t 1 = t.val / 4 ∧ win0_1.index t 0 = t.val % 2 ∧ win0_1.index t 1 = t.val / 2 % 2
    ∧ win0_2.index t 0 = t.val / 4 ∧ win0_2.index t 1 = t.val / 2 % 2 := by decide +kernel

/-- A point's product is a half of the sum at the block's place, the half that the point's number names. -/
theorem point_half (t s : Fin cfg0.N) (hs : s.val / 2 = t.val / 2) (p : Fin 3072) (q : Fin 1024) (z : S512x512.Idx)
    (h0 : p.val = t.val / 4 * 512 + (z 0).val) (h1 : q.val = t.val / 2 % 2 * 512 + (z 1).val) :
    (k0_pay1 (iblk m c 0 s) (iblk m c 1 s) z : EReal) = ∑ k : Fin 1024,
      (fun r : Fin 2048 => dyOf m c r p * hOf m c r q) ⟨s.val % 2 * 1024 + k.val, by omega⟩ := by
  obtain ⟨p0, p1, p2, p3, p4, p5⟩ := places s
  rw [pay_apply]
  refine Finset.sum_congr rfl fun k _ => ?_
  have e0 : ((cfg0.win 0).blk s).view.emb (ix2 k (z 0)) = ix2 (⟨s.val % 2 * 1024 + k.val, by omega⟩ : Fin 2048) p := by
    funext a; apply Fin.ext
    match a with
    | ⟨0, _⟩ => show win0_0.index s 0 * 1024 + 1 * k.val = s.val % 2 * 1024 + k.val; omega
    | ⟨1, _⟩ => show win0_0.index s 1 * 512 + 1 * (z 0).val = p.val; omega
  have e1 : ((cfg0.win 1).blk s).view.emb (ix2 k (z 1)) = ix2 (⟨s.val % 2 * 1024 + k.val, by omega⟩ : Fin 2048) q := by
    funext a; apply Fin.ext
    match a with
    | ⟨0, _⟩ => show win0_1.index s 0 * 1024 + 1 * k.val = s.val % 2 * 1024 + k.val; omega
    | ⟨1, _⟩ => show win0_1.index s 1 * 512 + 1 * (z 1).val = q.val; omega
  exact congrArg₂ (· * ·) ((congrArg (V m c main_arg1 : S2048x3072.Idx → EReal) e0).trans (congrFun (V_main_arg1 m c) _))
    ((congrArg (V m c main_v0 : S2048x1024.Idx → EReal) e1).trans (congrFun (V_h m c) _))

theorem writes_back (t : Fin cfg0.N) (hf : (cfg0.win 2).flush t = true) : (dats m 0 c).flushed 2 t = ((cfg0.win 2).blk t).view.read (Elt Ideal) (G m c) := by
  have hm : t.val % 2 = 1 := (flush0_2 t).mp hf
  have hlt : t.val - 1 < cfg0.N := Nat.lt_of_le_of_lt (Nat.sub_le _ _) t.isLt
  rw [flushed2_B m c t (by omega) hm hm]
  have hA := outsAt0_A m c ⟨t.val - 1, hlt⟩ (by dsimp only; omega) (by dsimp only; omega) (by dsimp only; omega)
  rw [first_half] at hA
  rw [show outsAt0 m c (t.val - 1) (Nat.lt_of_le_of_lt (Nat.sub_le _ _) t.isLt) = _ from hA]
  obtain ⟨p0, p1, p2, p3, p4, p5⟩ := places t
  funext y
  refine (second_half c _ _ _ _ _ _ _ _ _ _ _ _ _ _ _ ((cfg0.win 2).xinj (grid0.coords t) y)).trans ?_
  have b0 : (((cfg0.win 2).blk t).view.emb y 0).val = t.val / 4 * 512 + ((cfg0.win 2).xinj (grid0.coords t) y 0).val := by
    show win0_2.index t (0 : Fin 2) * 512 + 1 * (y 0).val = t.val / 4 * 512 + (y 0).val; omega
  have b1 : (((cfg0.win 2).blk t).view.emb y 1).val = t.val / 2 % 2 * 512 + ((cfg0.win 2).xinj (grid0.coords t) y 1).val := by
    show win0_2.index t (1 : Fin 2) * 512 + 1 * (y 1).val = t.val / 2 % 2 * 512 + (y 1).val; omega
  refine (congrArg₂ (· + ·) (point_half m c t ⟨t.val - 1, hlt⟩ (by dsimp only; omega) _ _ _ b0 b1) (point_half m c t t rfl _ _ _ b0 b1)).trans ?_
  show _ = G m c (((cfg0.win 2).blk t).view.emb y)
  unfold G
  rw [halves]
  refine congrArg₂ (· + ·) (Finset.sum_congr rfl fun k _ => ?_) (Finset.sum_congr rfl fun k _ => ?_)
  · have e : (⟨(t.val - 1) % 2 * 1024 + k.val, by omega⟩ : Fin 2048) = ⟨k.val, by omega⟩ := Fin.ext (by dsimp only; omega)
    dsimp only
    rw [e]
  · have e : (⟨t.val % 2 * 1024 + k.val, by omega⟩ : Fin 2048) = ⟨1024 + k.val, by omega⟩ := Fin.ext (by dsimp only; omega)
    dsimp only
    rw [e]

/-- The array that the call leaves holds the gradient of the weights' columns. -/
theorem final : (dats m 0 c).arrAt 2 cfg0.N = G m c :=
  (dats m 0 c).arrAt_eq_of_cover 2 _ (fun t hf => writes_back m c t hf) (fun i => (covered_iff2 i).2 (by
    have h0 : (i 0).val < 3072 := (i 0).isLt
    have h1 : (i 1).val < 1024 := (i 1).isLt
    omega))

end Cert.Kernel10Ideal.Gates

namespace Cert.Mlp

open Idealize.ShloMosaic Idealize.SL.Sem

open Cert.Reference10Ideal in
theorem gates_dw_reference (h : FVec Ideal S2048x1024 .f32) (dy : FVec Ideal S2048x3072 .f32)
    (h1 : S3072x1024.Transposes [1, 0] S1024x3072) (h2 : S1024x3072.Transposes [1, 0] S3072x1024) (hl : FTy.bf16.bits < FTy.f32.bits) :
    (truncf (F := Ideal) .bf16 (transpose S3072x1024 [1, 0] (transpose S1024x3072 [1, 0] (Host.dotGeneral dot_S2048x3072_S2048x1024_S3072x1024_0_0_1_1_n_n none dy h) h1) h2) hl : S3072x1024.Idx → EReal)
    = fun i => ∑ k : Fin 2048, dy (ix2 k (i 0)) * h (ix2 k (i 1)) := by
  funext i
  obtain ⟨a, b, rfl⟩ : ∃ (a : Fin 3072) (b : Fin 1024), i = ix2 a b := ⟨i 0, i 1, funext fun q => by fin_cases q <;> rfl⟩
  exact host_dot dot_S2048x3072_S2048x1024_S3072x1024_0_0_1_1_n_n rfl rfl dy h _ (fun k => ix2 k a) (fun k => ix2 k b)
    (fun k => funext fun q => by fin_cases q <;> rfl) (fun k => funext fun q => by fin_cases q <;> rfl)

end Cert.Mlp

namespace Cert

open Idealize.ShloMosaic Idealize.SL.Sem Cert.Mlp

/-- On every device and from any arguments, the program of the call leaves the same array as the reference's. -/
theorem gates_dw_same : algebraic_Kernel10Ideal_Reference10Ideal (hKernel10Ideal := Cert.Kernel10Ideal.Gen.facts) (hReference10Ideal := Cert.Reference10Ideal.Gen.facts) := by
  intro m ρ m' ρ' _ hargs
  refine ⟨fun c => Cert.Kernel10Ideal.Gates.G m c, ?_, ?_⟩
  · refine (θ_run _ _ _).mono (fun r h c => ?_) (Cert.Kernel10Ideal.Value.run_blocks m ρ)
    obtain ⟨h0, h1⟩ := h c
    exact ⟨h0.trans (Cert.Kernel10Ideal.Gates.final m c), h1⟩
  · refine (θ_run _ _ _).mono (fun r h c => ?_) (Cert.Reference10Ideal.Value.run m' ρ')
    obtain ⟨h0, h1⟩ := h c
    obtain ⟨e0, e1⟩ := hargs c
    refine ⟨h0.trans ?_, h1⟩
    rw [e0, e1]
    exact gates_dw_reference _ _ _ _ _

end Cert
-- ==== Proof.OutDa.lean ====
/- The gradient of the output projection's input: each tile is one product of whole rows, through a block that is not carried. -/
module

public import proofs.«01_k».proof.Defs
public import proofs.«01_k».proof.Proof.GatesDw
public import proofs.«01_k».proof.Proof.Gen.Kernel12Ideal.Value
public import proofs.«01_k».proof.Proof.Gen.Reference12Ideal.Run
public import Idealize.ShloMosaic.Lib.Pointwise

@[expose] public section

noncomputable section

namespace Cert.Kernel12Ideal.Out

open Idealize.ShloMosaic Idealize.ShloMosaic.TcCoe Idealize.SL.Sem Cert.Mlp
open Cert.Kernel12Ideal Cert.Kernel12Ideal.Gen Cert.Kernel12Ideal.Value

theorem pay_apply (x0 : Vec Ideal S1024x1024 .f32) (x1 : Vec Ideal S512x1024 .bf16) (j : S1024x512.Idx) :
    (k0_pay1 x0 x1 j : EReal) = ∑ k : Fin 1024, (x0 (ix2 (j 0) k) : EReal) * x1 (ix2 (j 1) k) := by
  unfold k0_pay1
  simp only [shapeCast_self]
  show (Ideal.matmul dot_S1024x1024_S512x1024_S1024x512_1_1_0_0_n_n x0 x1 (fun _ => Ideal.ofBits .f32 0x00000000#32) j : EReal) = _
  rw [Ideal.matmul_apply₁_of dot_S1024x1024_S512x1024_S1024x512_1_1_0_0_n_n rfl rfl x0 x1 _ j (fun k => ix2 (j 0) k) (fun k => ix2 (j 1) k)
    (fun k => funext fun a => by fin_cases a <;> rfl) (fun k => funext fun a => by fin_cases a <;> rfl), Ideal.ofBits_zero_f32, zero_add]
  rfl

/-- What is written back is the product of the point's blocks, read from the block that the point has just stored. -/
theorem stored (c : Dev nD) (i : grid0.Coords) (a3 : Memref sig .tc .vmem S1024x1024 .f32) (h3 : a3.IsWhole) (a4 : Memref sig .tc .vmem S512x1024 .bf16) (h4 : a4.IsWhole)
    (a5 : Memref sig .tc .vmem S1024x512 .f32) (h5 : a5.IsWhole) (a6 : Memref sig .tc .vmem S1024x512 .f32) (h6 : a6.IsWhole) (g0 : cond0_0 i) (g1 : ¬cond0_1 i) (g2 : cond0_2 i)
    (x0 : Vec Ideal S1024x1024 .f32) (x1 : Vec Ideal S512x1024 .bf16) (j : S1024x512.Idx) :
    (out0_A_2 c i a3 h3 a4 h4 a5 h5 a6 h6 g0 g1 g2 x0 x1 j : EReal) = k0_pay1 x0 x1 j := by
  unfold out0_A_2
  rw [View.read_writes_eq_canon _ _ _ (cover0_A_2 c i a3 h3 a4 h4 a5 h5 a6 h6 g0 g1 g2 x0 x1)]
  unfold kernelRun0_A
  dsimp only
  sl_unfold_words
  rw [View.canon_unit_zero two_zeros, View.readCov_unit_zero (S := S1024x512) _ two_zeros]
  unfold k0_pay2
  simp only [View.readAt_eq_ld, h3.read_unread, h4.read_unread, View.ld_unit_zero (S := S1024x1024) two_zeros, View.ld_unit_zero (S := S512x1024) two_zeros, shapeCast_self]

variable (m : (ℓ : Loc nD τ sig) → Buf (Elt Ideal) ℓ) (c : Dev nD)

/-- The gradient of the product, read from the launch. -/
def dyOf : Fin 2048 → Fin 1024 → EReal := fun a b => m ((c.tc : Thread nD τ).loc main_arg1) (ix2 a b)

/-- The weights, read from the launch. -/
def wOf : Fin 1024 → Fin 1024 → EReal := fun a b => m ((c.tc : Thread nD τ).loc main_arg0) (ix2 a b)

theorem V_w : (V m c main_v0 : S1024x1024.Idx → EReal) = m ((c.tc : Thread nD τ).loc main_arg0) := by
  show StableHlo.after hostOps0 (fun b => m (c, b)) (Proc.devRef .tc main_v0) = _
  after_results
  rfl

/-- The array that the call leaves. -/
def G (c : Dev nD) : S2048x1024.Idx → EReal := fun i => ∑ k : Fin 1024, dyOf m c (i 0) k * wOf m c (i 1) k

theorem places : ∀ t : Fin grid0.N, win0_0.index t 0 = t.val / 2 ∧ win0_0.index t 1 = 0 ∧ win0_1.index t 0 = t.val % 2 ∧ win0_1.index t 1 = 0
    ∧ win0_2.index t 0 = t.val / 2 ∧ win0_2.index t 1 = t.val % 2 := by decide +kernel

theorem point_value (t : Fin cfg0.N) (p : Fin 2048) (q : Fin 1024) (z : S1024x512.Idx)
    (h0 : p.val = t.val / 2 * 1024 + (z 0).val) (h1 : q.val = t.val % 2 * 512 + (z 1).val) :
    (k0_pay1 (iblk m c 0 t) (iblk m c 1 t) z : EReal) = ∑ k : Fin 1024, dyOf m c p k * wOf m c q k := by
  obtain ⟨p0, p1, p2, p3, -⟩ := places t
  rw [pay_apply]
  refine Finset.sum_congr rfl fun k _ => ?_
  have e0 : ((cfg0.win 0).blk t).view.emb (ix2 (z 0) k) = ix2 p k := by
    funext a; apply Fin.ext
    match a with
    | ⟨0, _⟩ => show win0_0.index t 0 * 1024 + 1 * (z 0).val = p.val; omega
    | ⟨1, _⟩ => show win0_0.index t 1 * 1024 + 1 * k.val = k.val; omega
  have e1 : ((cfg0.win 1).blk t).view.emb (ix2 (z 1) k) = ix2 q k := by
    funext a; apply Fin.ext
    match a with
    | ⟨0, _⟩ => show win0_1.index t 0 * 512 + 1 * (z 1).val = q.val; omega
    | ⟨1, _⟩ => show win0_1.index t 1 * 1024 + 1 * k.val = k.val; omega
  exact congrArg₂ (· * ·) ((congrArg (V m c main_arg1 : S2048x1024.Idx → EReal) e0).trans (congrFun (V_main_arg1 m c) _))
    ((congrArg (V m c main_v0 : S1024x1024.Idx → EReal) e1).trans (congrFun (V_w m c) _))

theorem writes_back (t : Fin cfg0.N) : (dats m 0 c).flushed 2 t = ((cfg0.win 2).blk t).view.read (Elt Ideal) (G m c) := by
  rw [flushed2_A]
  obtain ⟨-, -, -, -, p4, p5⟩ := places t
  funext y
  refine (stored c _ _ _ _ _ _ _ _ _ _ _ _ _ _ ((cfg0.win 2).xinj (grid0.coords t) y)).trans ?_
  have b0 : (((cfg0.win 2).blk t).view.emb y 0).val = t.val / 2 * 1024 + ((cfg0.win 2).xinj (grid0.coords t) y 0).val := by
    show win0_2.index t (0 : Fin 2) * 1024 + 1 * (y 0).val = t.val / 2 * 1024 + (y 0).val; omega
  have b1 : (((cfg0.win 2).blk t).view.emb y 1).val = t.val % 2 * 512 + ((cfg0.win 2).xinj (grid0.coords t) y 1).val := by
    show win0_2.index t (1 : Fin 2) * 512 + 1 * (y 1).val = t.val % 2 * 512 + (y 1).val; omega
  exact point_value m c t _ _ _ b0 b1

theorem point_lt (i : S2048x1024.Idx) : 2 * ((i 0).val / 1024) + (i 1).val / 512 < cfg0.N := by
  have h0 : (i 0).val < 2048 := (i 0).isLt
  have h1 : (i 1).val < 1024 := (i 1).isLt
  exact lt_of_lt_of_eq (show _ < 4 by omega) N_0.symm

theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  refine ⟨⟨_, point_lt i⟩, (by decide +kernel : ∀ t : Fin grid0.N, win0_2.flush t = true) _, ?_⟩
  obtain ⟨-, -, -, -, p4, p5⟩ := places ⟨_, point_lt i⟩
  show i ∈ ((View.whole main_v1).slice (win0_2.rect ⟨_, point_lt i⟩)).set
  rw [View.set_slice_whole, Rect.mem_set_unit]
  intro a
  match a with
  | ⟨0, _⟩ => show win0_2.index _ (0 : Fin 2) * 1024 ≤ (i 0).val ∧ (i 0).val < win0_2.index _ (0 : Fin 2) * 1024 + 1024; rw [p4]; dsimp only; omega
  | ⟨1, _⟩ => show win0_2.index _ (1 : Fin 2) * 512 ≤ (i 1).val ∧ (i 1).val < win0_2.index _ (1 : Fin 2) * 512 + 512; rw [p5]; dsimp only; omega

/-- The array that the call leaves holds the gradient. -/
theorem final : (dats m 0 c).arrAt 2 cfg0.N = G m c := (dats m 0 c).arrAt_eq_of_cover 2 _ (fun t _ => writes_back m c t) covered

end Cert.Kernel12Ideal.Out

namespace Cert

open Idealize.ShloMosaic Idealize.SL.Sem Cert.Mlp

/-- On every device and from any arguments, the program of the call leaves the same array as the reference's. -/
theorem out_da_same : algebraic_Kernel12Ideal_Reference12Ideal (hKernel12Ideal := Cert.Kernel12Ideal.Gen.facts) (hReference12Ideal := Cert.Reference12Ideal.Gen.facts) := by
  intro m ρ m' ρ' _ hargs
  refine ⟨fun c => Cert.Kernel12Ideal.Out.G m c, ?_, ?_⟩
  · refine (θ_run _ _ _).mono (fun r h c => ?_) (Cert.Kernel12Ideal.Value.run_blocks m ρ)
    obtain ⟨h0, h1⟩ := h c
    exact ⟨h0.trans (Cert.Kernel12Ideal.Out.final m c), h1⟩
  · refine (θ_run _ _ _).mono (fun r h c => ?_) (Cert.Reference12Ideal.Value.run m' ρ')
    obtain ⟨h0, h1⟩ := h c
    obtain ⟨e0, e1⟩ := hargs c
    refine ⟨h0.trans ?_, h1⟩
    rw [e0, e1]
    exact funext fun i => host_dot Cert.Reference12Ideal.dot_S2048x1024_S1024x1024_S2048x1024_1_1_0_0_n_n rfl rfl _ _ i (fun k => ix2 (i 0) k) (fun k => ix2 (i 1) k)
      (fun k => funext fun q => by fin_cases q <;> rfl) (fun k => funext fun q => by fin_cases q <;> rfl)

end Cert

end
-- ==== Proof.Out.lean ====
/- The output projection: each tile is one product of whole rows and columns, added to the residual's tile. -/
module

public import proofs.«01_k».proof.Defs
public import proofs.«01_k».proof.Proof.OutDa
public import proofs.«01_k».proof.Proof.Gen.Kernel11Ideal.Value
public import proofs.«01_k».proof.Proof.Gen.Reference11Ideal.Run
public import Idealize.ShloMosaic.Lib.Pointwise

@[expose] public section

noncomputable section

namespace Cert.Kernel11Ideal.Out

open Idealize.ShloMosaic Idealize.ShloMosaic.TcCoe Idealize.SL.Sem Cert.Mlp
open Cert.Kernel11Ideal Cert.Kernel11Ideal.Gen Cert.Kernel11Ideal.Value

theorem pay_apply (x0 : Vec Ideal S1024x1024 .f32) (x1 : Vec Ideal S1024x512 .bf16) (j : S1024x512.Idx) :
    (k0_pay1 x0 x1 j : EReal) = ∑ k : Fin 1024, (x0 (ix2 (j 0) k) : EReal) * x1 (ix2 k (j 1)) := by
  unfold k0_pay1
  simp only [shapeCast_self]
  show (Ideal.matmul dot_S1024x1024_S1024x512_S1024x512_1_0_0_1_n_n x0 x1 (fun _ => Ideal.ofBits .f32 0x00000000#32) j : EReal) = _
  rw [Ideal.matmul_apply₁_of dot_S1024x1024_S1024x512_S1024x512_1_0_0_1_n_n rfl rfl x0 x1 _ j (fun k => ix2 (j 0) k) (fun k => ix2 k (j 1))
    (fun k => funext fun a => by fin_cases a <;> rfl) (fun k => funext fun a => by fin_cases a <;> rfl), Ideal.ofBits_zero_f32, zero_add]
  rfl

/-- What is written back is the product of the point's blocks, read from the block that the point has just stored, and the residual's block. -/
theorem stored (c : Dev nD) (i : grid0.Coords) (a3 : Memref sig .tc .vmem S1024x1024 .f32) (h3 : a3.IsWhole) (a4 : Memref sig .tc .vmem S1024x512 .bf16) (h4 : a4.IsWhole)
    (a5 : Memref sig .tc .vmem S1024x512 .f32) (h5 : a5.IsWhole) (a6 : Memref sig .tc .vmem S1024x512 .f32) (h6 : a6.IsWhole) (a7 : Memref sig .tc .vmem S1024x512 .f32) (h7 : a7.IsWhole) (g0 : cond0_0 i) (g1 : ¬cond0_1 i) (g2 : cond0_2 i)
    (x0 : Vec Ideal S1024x1024 .f32) (x1 : Vec Ideal S1024x512 .bf16) (x2 : Vec Ideal S1024x512 .f32) (j : S1024x512.Idx) :
    (out0_A_3 c i a3 h3 a4 h4 a5 h5 a6 h6 a7 h7 g0 g1 g2 x0 x1 x2 j : EReal) = k0_pay1 x0 x1 j + x2 j := by
  unfold out0_A_3
  rw [View.read_writes_eq_canon _ _ _ (cover0_A_3 c i a3 h3 a4 h4 a5 h5 a6 h6 a7 h7 g0 g1 g2 x0 x1 x2)]
  unfold kernelRun0_A
  dsimp only
  sl_unfold_words
  rw [View.canon_unit_zero two_zeros, View.readCov_unit_zero (S := S1024x512) _ two_zeros]
  unfold k0_pay4 k0_pay2
  simp only [View.readAt_eq_ld, h3.read_unread, h4.read_unread, h5.read_unread, View.ld_unit_zero (S := S1024x1024) two_zeros, View.ld_unit_zero (S := S1024x512) two_zeros, shapeCast_self]
  rfl

variable (m : (ℓ : Loc nD τ sig) → Buf (Elt Ideal) ℓ) (c : Dev nD)

/-- The residual, read from the launch. -/
def xOf : Fin 2048 → Fin 1024 → EReal := fun a b => m ((c.tc : Thread nD τ).loc main_arg0) (ix2 a b)

/-- The merged branches, read from the launch. -/
def aOf : Fin 2048 → Fin 1024 → EReal := fun a b => m ((c.tc : Thread nD τ).loc main_arg1) (ix2 a b)

/-- The weights, read from the launch. -/
def wOf : Fin 1024 → Fin 1024 → EReal := fun a b => m ((c.tc : Thread nD τ).loc main_arg2) (ix2 a b)

theorem V_w : (V m c main_v0 : S1024x1024.Idx → EReal) = m ((c.tc : Thread nD τ).loc main_arg2) := by
  show StableHlo.after hostOps0 (fun b => m (c, b)) (Proc.devRef .tc main_v0) = _
  after_results
  rfl

/-- The array that the call leaves. -/
def G (c : Dev nD) : S2048x1024.Idx → EReal := fun i => xOf m c (i 0) (i 1) + ∑ k : Fin 1024, aOf m c (i 0) k * wOf m c k (i 1)

theorem places : ∀ t : Fin grid0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 ∧ win0_3.index t 0 = t.val / 2 ∧ win0_3.index t 1 = t.val % 2 := by decide +kernel

theorem point_value (t : Fin cfg0.N) (p : Fin 2048) (q : Fin 1024) (z : S1024x512.Idx)
    (h0 : p.val = t.val / 2 * 1024 + (z 0).val) (h1 : q.val = t.val % 2 * 512 + (z 1).val) :
    (k0_pay1 (iblk m c 0 t) (iblk m c 1 t) z : EReal) + (iblk m c 2 t : Vec Ideal S1024x512 .f32) z = xOf m c p q + ∑ k : Fin 1024, aOf m c p k * wOf m c k q := by
  obtain ⟨p0, p1, p2, p3, p4, p5, -⟩ := places t
  rw [pay_apply, add_comm]
  have e2 : ((cfg0.win 2).blk t).view.emb z = ix2 p q := by
    funext a; apply Fin.ext
    match a with
    | ⟨0, _⟩ => show win0_2.index t 0 * 1024 + 1 * (z 0).val = p.val; omega
    | ⟨1, _⟩ => show win0_2.index t 1 * 512 + 1 * (z 1).val = q.val; omega
  refine congrArg₂ (· + ·) ((congrArg (V m c main_arg0 : S2048x1024.Idx → EReal) e2).trans (congrFun (V_main_arg0 m c) _)) (Finset.sum_congr rfl fun k _ => ?_)
  have e0 : ((cfg0.win 0).blk t).view.emb (ix2 (z 0) k) = ix2 p k := by
    funext a; apply Fin.ext
    match a with
    | ⟨0, _⟩ => show win0_0.index t 0 * 1024 + 1 * (z 0).val = p.val; omega
    | ⟨1, _⟩ => show win0_0.index t 1 * 1024 + 1 * k.val = k.val; omega
  have e1 : ((cfg0.win 1).blk t).view.emb (ix2 k (z 1)) = ix2 k q := by
    funext a; apply Fin.ext
    match a with
    | ⟨0, _⟩ => show win0_1.index t 0 * 1024 + 1 * k.val = k.val; omega
    | ⟨1, _⟩ => show win0_1.index t 1 * 512 + 1 * (z 1).val = q.val; omega
  exact congrArg₂ (· * ·) ((congrArg (V m c main_arg1 : S2048x1024.Idx → EReal) e0).trans (congrFun (V_main_arg1 m c) _))
    ((congrArg (V m c main_v0 : S1024x1024.Idx → EReal) e1).trans (congrFun (V_w m c) _))

theorem writes_back (t : Fin cfg0.N) : (dats m 0 c).flushed 3 t = ((cfg0.win 3).blk t).view.read (Elt Ideal) (G m c) := by
  rw [flushed3_A]
  obtain ⟨-, -, -, -, -, -, p6, p7⟩ := places t
  funext y
  refine (stored c _ _ _ _ _ _ _ _ _ _ _ _ _ _ _ _ _ ((cfg0.win 3).xinj (grid0.coords t) y)).trans ?_
  have b0 : (((cfg0.win 3).blk t).view.emb y 0).val = t.val / 2 * 1024 + ((cfg0.win 3).xinj (grid0.coords t) y 0).val := by
    show win0_3.index t (0 : Fin 2) * 1024 + 1 * (y 0).val = t.val / 2 * 1024 + (y 0).val; omega
  have b1 : (((cfg0.win 3).blk t).view.emb y 1).val = t.val % 2 * 512 + ((cfg0.win 3).xinj (grid0.coords t) y 1).val := by
    show win0_3.index t (1 : Fin 2) * 512 + 1 * (y 1).val = t.val % 2 * 512 + (y 1).val; omega
  exact point_value m c t _ _ _ b0 b1

theorem point_lt (i : S2048x1024.Idx) : 2 * ((i 0).val / 1024) + (i 1).val / 512 < cfg0.N := by
  have h0 : (i 0).val < 2048 := (i 0).isLt
  have h1 : (i 1).val < 1024 := (i 1).isLt
  exact lt_of_lt_of_eq (show _ < 4 by omega) N_0.symm

theorem covered (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  refine ⟨⟨_, point_lt i⟩, (by decide +kernel : ∀ t : Fin grid0.N, win0_3.flush t = true) _, ?_⟩
  obtain ⟨-, -, -, -, -, -, p4, p5⟩ := places ⟨_, point_lt i⟩
  show i ∈ ((View.whole main_v1).slice (win0_3.rect ⟨_, point_lt i⟩)).set
  rw [View.set_slice_whole, Rect.mem_set_unit]
  intro a
  match a with
  | ⟨0, _⟩ => show win0_3.index _ (0 : Fin 2) * 1024 ≤ (i 0).val ∧ (i 0).val < win0_3.index _ (0 : Fin 2) * 1024 + 1024; rw [p4]; dsimp only; omega
  | ⟨1, _⟩ => show win0_3.index _ (1 : Fin 2) * 512 ≤ (i 1).val ∧ (i 1).val < win0_3.index _ (1 : Fin 2) * 512 + 512; rw [p5]; dsimp only; omega

/-- The array that the call leaves holds the sum. -/
theorem final : (dats m 0 c).arrAt 3 cfg0.N = G m c := (dats m 0 c).arrAt_eq_of_cover 3 _ (fun t _ => writes_back m c t) covered

end Cert.Kernel11Ideal.Out

namespace Cert

open Idealize.ShloMosaic Idealize.SL.Sem Cert.Mlp

/-- On every device and from any arguments, the program of the call leaves the same array as the reference's. -/
theorem out_same : algebraic_Kernel11Ideal_Reference11Ideal (hKernel11Ideal := Cert.Kernel11Ideal.Gen.facts) (hReference11Ideal := Cert.Reference11Ideal.Gen.facts) := by
  intro m ρ m' ρ' _ hargs
  refine ⟨fun c => Cert.Kernel11Ideal.Out.G m c, ?_, ?_⟩
  · refine (θ_run _ _ _).mono (fun r h c => ?_) (Cert.Kernel11Ideal.Value.run_blocks m ρ)
    obtain ⟨h0, h1⟩ := h c
    exact ⟨h0.trans (Cert.Kernel11Ideal.Out.final m c), h1⟩
  · refine (θ_run _ _ _).mono (fun r h c => ?_) (Cert.Reference11Ideal.Value.run m' ρ')
    obtain ⟨h0, h1⟩ := h c
    obtain ⟨e0, e1, e2⟩ := hargs c
    refine ⟨h0.trans ?_, h1⟩
    rw [e0, e1, e2]
    funext i
    obtain ⟨a, b, rfl⟩ : ∃ (a : Fin 2048) (b : Fin 1024), i = ix2 a b := ⟨i 0, i 1, funext fun q => by fin_cases q <;> rfl⟩
    exact congrArg₂ (fun u v : EReal => u + v) rfl (host_dot Cert.Reference11Ideal.dot_S2048x1024_S1024x1024_S2048x1024_1_0_0_1_n_n rfl rfl _ _ (ix2 a b) (fun k => ix2 a k) (fun k => ix2 k b)
      (fun k => funext fun q => by fin_cases q <;> rfl) (fun k => funext fun q => by fin_cases q <;> rfl))

end Cert

end
-- ==== Proof.OutDw.lean ====
/- The gradient of the output projection's weights: two halves of the rows are added in the carried block, which is
   written back after the second. -/
module

public import proofs.«01_k».proof.Defs
public import proofs.«01_k».proof.Proof.Out
public import proofs.«01_k».proof.Proof.Dwdown
public import proofs.«01_k».proof.Proof.Gen.Kernel13Ideal.Value
public import proofs.«01_k».proof.Proof.Gen.Reference13Ideal.Run
public import Idealize.ShloMosaic.Lib.Pointwise

@[expose] public section

noncomputable section

namespace Cert.Kernel13Ideal.Out

open Idealize.ShloMosaic Idealize.ShloMosaic.TcCoe Idealize.SL.Sem Cert.Mlp
open Cert.Kernel13Ideal Cert.Kernel13Ideal.Gen Cert.Kernel13Ideal.Value

theorem pay_apply (x0 : Vec Ideal S1024x512 .f32) (x1 : Vec Ideal S1024x512 .f32) (j : S512x512.Idx) :
    (k0_pay1 x0 x1 j : EReal) = ∑ k : Fin 1024, (x0 (ix2 k (j 0)) : EReal) * x1 (ix2 k (j 1)) := by
  unfold k0_pay1
  show (Ideal.matmul dot_S1024x512_S1024x512_S512x512_0_0_1_1_n_n x0 x1 (fun _ => Ideal.ofBits .f32 0x00000000#32) j : EReal) = _
  rw [Ideal.matmul_apply₁_of dot_S1024x512_S1024x512_S512x512_0_0_1_1_n_n rfl rfl x0 x1 _ j (fun k => ix2 k (j 0)) (fun k => ix2 k (j 1))
    (fun k => funext fun a => by fin_cases a <;> rfl) (fun k => funext fun a => by fin_cases a <;> rfl), Ideal.ofBits_zero_f32, zero_add]
  rfl

/-- The first half: the carried block holds the product of the point's blocks. -/
theorem first_half (c : Dev nD) (i : grid0.Coords) (a3 : Memref sig .tc .vmem S1024x512 .f32) (h3 : a3.IsWhole) (a4 : Memref sig .tc .vmem S1024x512 .f32) (h4 : a4.IsWhole)
    (a5 : Memref sig .tc .vmem S512x512 .bf16) (h5 : a5.IsWhole) (a6 : Memref sig .tc .vmem S512x512 .f32) (h6 : a6.IsWhole) (g0 : cond0_0 i) (g1 : ¬cond0_1 i) (g2 : ¬cond0_2 i)
    (x0 : Vec Ideal S1024x512 .f32) (x1 : Vec Ideal S1024x512 .f32) :
    sout0_A_0 c i a3 h3 a4 h4 a5 h5 a6 h6 g0 g1 g2 x0 x1 = k0_pay1 x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero two_zeros]
  unfold k0_pay2
  simp only [View.readAt_eq_ld, h3.read_unread, h4.read_unread, View.ld_unit_zero (S := S1024x512) two_zeros, shapeCast_self]

/-- The second half: what is written back is the carried block and the product of the point's blocks. -/
theorem second_half (c : Dev nD) (i : grid0.Coords) (a3 : Memref sig .tc .vmem S1024x512 .f32) (h3 : a3.IsWhole) (a4 : Memref sig .tc .vmem S1024x512 .f32) (h4 : a4.IsWhole)
    (a5 : Memref sig .tc .vmem S512x512 .bf16) (h5 : a5.IsWhole) (a6 : Memref sig .tc .vmem S512x512 .f32) (h6 : a6.IsWhole) (g0 : ¬cond0_0 i) (g1 : cond0_1 i) (g2 : cond0_2 i)
    (x0 : Vec Ideal S1024x512 .f32) (x1 : Vec Ideal S1024x512 .f32) (xs : Vec Ideal S512x512 .f32) (j : S512x512.Idx) :
    (out0_B_2 c i a3 h3 a4 h4 a5 h5 a6 h6 g0 g1 g2 x0 x1 xs j : EReal) = xs j + k0_pay1 x0 x1 j := by
  unfold out0_B_2
  rw [View.read_writes_eq_canon _ _ _ (cover0_B_2 c i a3 h3 a4 h4 a5 h5 a6 h6 g0 g1 g2 x0 x1 xs)]
  unfold kernelRun0_B
  dsimp only
  sl_unfold_words
  rw [View.canon_unit_zero two_zeros, View.readCov_unit_zero (S := S512x512) _ two_zeros]
  unfold k0_pay4 k0_pay3
  simp only [View.readAt_eq_ld, h3.read_unread, h4.read_unread, h6.read_unread, View.ld_unit_zero (S := S1024x512) two_zeros, View.ld_unit_zero (S := S512x512) two_zeros, shapeCast_self]
  rfl

variable (m : (ℓ : Loc nD τ sig) → Buf (Elt Ideal) ℓ) (c : Dev nD)

/-- The merged branches, read from the launch. -/
def aOf : Fin 2048 → Fin 1024 → EReal := fun a b => m ((c.tc : Thread nD τ).loc main_arg0) (ix2 a b)

/-- The gradient of the product, read from the launch. -/
def dyOf : Fin 2048 → Fin 1024 → EReal := fun a b => m ((c.tc : Thread nD τ).loc main_arg1) (ix2 a b)

/-- The array that the call leaves. -/
def G (c : Dev nD) : S1024x1024.Idx → EReal := fun i => ∑ k : Fin 2048, aOf m c k (i 0) * dyOf m c k (i 1)

theorem places : ∀ t : Fin grid0.N, win0_0.index t 0 = t.val % 2 ∧ win0_0.index t 1 = t.val / 4 ∧ win0_1.index t 0 = t.val % 2 ∧ win0_1.index t 1 = t.val / 2 % 2
    ∧ win0_2.index t 0 = t.val / 4 ∧ win0_2.index t 1 = t.val / 2 % 2 := by decide +kernel

/-- A point's product is a half of the sum at the block's place, the half that the point's number names. -/
theorem point_half (t s : Fin cfg0.N) (hs : s.val / 2 = t.val / 2) (p : Fin 1024) (q : Fin 1024) (z : S512x512.Idx)
    (h0 : p.val = t.val / 4 * 512 + (z 0).val) (h1 : q.val = t.val / 2 % 2 * 512 + (z 1).val) :
    (k0_pay1 (iblk m c 0 s) (iblk m c 1 s) z : EReal) = ∑ k : Fin 1024,
      (fun r : Fin 2048 => aOf m c r p * dyOf m c r q) ⟨s.val % 2 * 1024 + k.val, by omega⟩ := by
  obtain ⟨p0, p1, p2, p3, p4, p5⟩ := places s
  rw [pay_apply]
  refine Finset.sum_congr rfl fun k _ => ?_
  have e0 : ((cfg0.win 0).blk s).view.emb (ix2 k (z 0)) = ix2 (⟨s.val % 2 * 1024 + k.val, by omega⟩ : Fin 2048) p := by
    funext a; apply Fin.ext
    match a with
    | ⟨0, _⟩ => show win0_0.index s 0 * 1024 + 1 * k.val = s.val % 2 * 1024 + k.val; omega
    | ⟨1, _⟩ => show win0_0.index s 1 * 512 + 1 * (z 0).val = p.val; omega
  have e1 : ((cfg0.win 1).blk s).view.emb (ix2 k (z 1)) = ix2 (⟨s.val % 2 * 1024 + k.val, by omega⟩ : Fin 2048) q := by
    funext a; apply Fin.ext
    match a with
    | ⟨0, _⟩ => show win0_1.index s 0 * 1024 + 1 * k.val = s.val % 2 * 1024 + k.val; omega
    | ⟨1, _⟩ => show win0_1.index s 1 * 512 + 1 * (z 1).val = q.val; omega
  exact congrArg₂ (· * ·) ((congrArg (V m c main_arg0 : S2048x1024.Idx → EReal) e0).trans (congrFun (V_main_arg0 m c) _))
    ((congrArg (V m c main_arg1 : S2048x1024.Idx → EReal) e1).trans (congrFun (V_main_arg1 m c) _))

theorem writes_back (t : Fin cfg0.N) (hf : (cfg0.win 2).flush t = true) : (dats m 0 c).flushed 2 t = ((cfg0.win 2).blk t).view.read (Elt Ideal) (G m c) := by
  have hm : t.val % 2 = 1 := (flush0_2 t).mp hf
  have hlt : t.val - 1 < cfg0.N := Nat.lt_of_le_of_lt (Nat.sub_le _ _) t.isLt
  rw [flushed2_B m c t (by omega) hm hm]
  have hA := outsAt0_A m c ⟨t.val - 1, hlt⟩ (by dsimp only; omega) (by dsimp only; omega) (by dsimp only; omega)
  rw [first_half] at hA
  rw [show outsAt0 m c (t.val - 1) (Nat.lt_of_le_of_lt (Nat.sub_le _ _) t.isLt) = _ from hA]
  obtain ⟨p0, p1, p2, p3, p4, p5⟩ := places t
  funext y
  refine (second_half c _ _ _ _ _ _ _ _ _ _ _ _ _ _ _ ((cfg0.win 2).xinj (grid0.coords t) y)).trans ?_
  have b0 : (((cfg0.win 2).blk t).view.emb y 0).val = t.val / 4 * 512 + ((cfg0.win 2).xinj (grid0.coords t) y 0).val := by
    show win0_2.index t (0 : Fin 2) * 512 + 1 * (y 0).val = t.val / 4 * 512 + (y 0).val; omega
  have b1 : (((cfg0.win 2).blk t).view.emb y 1).val = t.val / 2 % 2 * 512 + ((cfg0.win 2).xinj (grid0.coords t) y 1).val := by
    show win0_2.index t (1 : Fin 2) * 512 + 1 * (y 1).val = t.val / 2 % 2 * 512 + (y 1).val; omega
  refine (congrArg₂ (· + ·) (point_half m c t ⟨t.val - 1, hlt⟩ (by dsimp only; omega) _ _ _ b0 b1) (point_half m c t t rfl _ _ _ b0 b1)).trans ?_
  show _ = G m c (((cfg0.win 2).blk t).view.emb y)
  unfold G
  rw [halves]
  refine congrArg₂ (· + ·) (Finset.sum_congr rfl fun k _ => ?_) (Finset.sum_congr rfl fun k _ => ?_)
  · have e : (⟨(t.val - 1) % 2 * 1024 + k.val, by omega⟩ : Fin 2048) = ⟨k.val, by omega⟩ := Fin.ext (by dsimp only; omega)
    dsimp only
    rw [e]
  · have e : (⟨t.val % 2 * 1024 + k.val, by omega⟩ : Fin 2048) = ⟨1024 + k.val, by omega⟩ := Fin.ext (by dsimp only; omega)
    dsimp only
    rw [e]

/-- The array that the call leaves holds the gradient of the weights. -/
theorem final : (dats m 0 c).arrAt 2 cfg0.N = G m c :=
  (dats m 0 c).arrAt_eq_of_cover 2 _ (fun t hf => writes_back m c t hf) (fun i => (covered_iff2 i).2 (by
    have h0 : (i 0).val < 1024 := (i 0).isLt
    have h1 : (i 1).val < 1024 := (i 1).isLt
    omega))

end Cert.Kernel13Ideal.Out

namespace Cert.Mlp

open Idealize.ShloMosaic Idealize.SL.Sem

open Cert.Reference13Ideal in
theorem out_dw_reference (a dy : FVec Ideal S2048x1024 .f32) (ht : S1024x1024.Transposes [1, 0] S1024x1024) (hl : FTy.bf16.bits < FTy.f32.bits) :
    (truncf (F := Ideal) .bf16 (transpose S1024x1024 [1, 0] (Host.dotGeneral dot_S2048x1024_S2048x1024_S1024x1024_0_0_1_1_n_n none dy a) ht) hl : S1024x1024.Idx → EReal)
    = fun i => ∑ k : Fin 2048, a (ix2 k (i 0)) * dy (ix2 k (i 1)) := by
  funext i
  obtain ⟨p, q, rfl⟩ : ∃ (p q : Fin 1024), i = ix2 p q := ⟨i 0, i 1, funext fun x => by fin_cases x <;> rfl⟩
  refine (host_dot dot_S2048x1024_S2048x1024_S1024x1024_0_0_1_1_n_n rfl rfl dy a _ (fun k => ix2 k q) (fun k => ix2 k p)
    (fun k => funext fun x => by fin_cases x <;> rfl) (fun k => funext fun x => by fin_cases x <;> rfl)).trans ?_
  exact Finset.sum_congr rfl fun k _ => mul_comm _ _

end Cert.Mlp

namespace Cert

open Idealize.ShloMosaic Idealize.SL.Sem Cert.Mlp

/-- On every device and from any arguments, the program of the call leaves the same array as the reference's. -/
theorem out_dw_same : algebraic_Kernel13Ideal_Reference13Ideal (hKernel13Ideal := Cert.Kernel13Ideal.Gen.facts) (hReference13Ideal := Cert.Reference13Ideal.Gen.facts) := by
  intro m ρ m' ρ' _ hargs
  refine ⟨fun c => Cert.Kernel13Ideal.Out.G m c, ?_, ?_⟩
  · refine (θ_run _ _ _).mono (fun r h c => ?_) (Cert.Kernel13Ideal.Value.run_blocks m ρ)
    obtain ⟨h0, h1⟩ := h c
    exact ⟨h0.trans (Cert.Kernel13Ideal.Out.final m c), h1⟩
  · refine (θ_run _ _ _).mono (fun r h c => ?_) (Cert.Reference13Ideal.Value.run m' ρ')
    obtain ⟨h0, h1⟩ := h c
    obtain ⟨e0, e1⟩ := hargs c
    refine ⟨h0.trans ?_, h1⟩
    rw [e0, e1]
    exact out_dw_reference _ _ _ _

end Cert
-- ==== Proof.Mlp.lean ====
/- The runs of the MLP's products, four of its backward pass and two of its forward pass, of the gates' three and of
   the output projection's three: each program ends, with its arguments unchanged and every semaphore zero. -/
module

public import proofs.«01_k».proof.Defs
public import proofs.«01_k».proof.Proof.Dh
public import proofs.«01_k».proof.Proof.Dwdown
public import proofs.«01_k».proof.Proof.Du
public import proofs.«01_k».proof.Proof.Dwup
public import proofs.«01_k».proof.Proof.Up
public import proofs.«01_k».proof.Proof.Down
public import proofs.«01_k».proof.Proof.Gates
public import proofs.«01_k».proof.Proof.GatesDh
public import proofs.«01_k».proof.Proof.GatesDw
public import proofs.«01_k».proof.Proof.Out
public import proofs.«01_k».proof.Proof.OutDa
public import proofs.«01_k».proof.Proof.OutDw
public import proofs.«01_k».proof.Proof.Gen.Kernel2
public import proofs.«01_k».proof.Proof.Gen.Kernel2.Frame
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal.Frame
public import proofs.«01_k».proof.Proof.Gen.Kernel7
public import proofs.«01_k».proof.Proof.Gen.Kernel7.Frame
public import proofs.«01_k».proof.Proof.Gen.Kernel7Ideal.Frame
public import proofs.«01_k».proof.Proof.Gen.Kernel8
public import proofs.«01_k».proof.Proof.Gen.Kernel8.Frame
public import proofs.«01_k».proof.Proof.Gen.Kernel8Ideal.Frame
public import proofs.«01_k».proof.Proof.Gen.Kernel9
public import proofs.«01_k».proof.Proof.Gen.Kernel9.Frame
public import proofs.«01_k».proof.Proof.Gen.Kernel9Ideal.Frame
public import proofs.«01_k».proof.Proof.Gen.Kernel10
public import proofs.«01_k».proof.Proof.Gen.Kernel10.Frame
public import proofs.«01_k».proof.Proof.Gen.Kernel10Ideal.Frame
public import proofs.«01_k».proof.Proof.Gen.Kernel11
public import proofs.«01_k».proof.Proof.Gen.Kernel11.Frame
public import proofs.«01_k».proof.Proof.Gen.Kernel11Ideal.Frame
public import proofs.«01_k».proof.Proof.Gen.Kernel12
public import proofs.«01_k».proof.Proof.Gen.Kernel12.Frame
public import proofs.«01_k».proof.Proof.Gen.Kernel12Ideal.Frame
public import proofs.«01_k».proof.Proof.Gen.Kernel13
public import proofs.«01_k».proof.Proof.Gen.Kernel13.Frame
public import proofs.«01_k».proof.Proof.Gen.Kernel13Ideal.Frame

@[expose] public section

noncomputable section

namespace Cert

open Idealize.ShloMosaic Idealize.SL.Sem

theorem du_frame : quiescent_Kernel2 (hKernel2 := Kernel2.Gen.facts) := fun m ρ _ => Kernel2.Gen.frame m ρ

theorem du_frame_ideal : quiescent_Kernel2Ideal (hKernel2Ideal := Kernel2Ideal.Gen.facts) := fun m ρ _ => Kernel2Ideal.Gen.frame m ρ

theorem du_reference_frame : quiescent_Reference2Ideal (hReference2Ideal := Reference2Ideal.Gen.facts) :=
  fun m ρ _ => (θ_run _ _ _).mono (fun r h => ⟨fun c => (h c).2, sem_eq_zero_of_no_sems (by decide) r.2⟩) (Reference2Ideal.Value.run m ρ)

theorem dwdown_frame : quiescent_Kernel3 (hKernel3 := Kernel3.Gen.facts) := fun m ρ _ => Kernel3.Gen.frame m ρ

theorem dwdown_frame_ideal : quiescent_Kernel3Ideal (hKernel3Ideal := Kernel3Ideal.Gen.facts) := fun m ρ _ => Kernel3Ideal.Gen.frame m ρ

theorem dwdown_reference_frame : quiescent_Reference3Ideal (hReference3Ideal := Reference3Ideal.Gen.facts) :=
  fun m ρ _ => (θ_run _ _ _).mono (fun r h => ⟨fun c => (h c).2, sem_eq_zero_of_no_sems (by decide) r.2⟩) (Reference3Ideal.Value.run m ρ)

theorem dh_frame : quiescent_Kernel4 (hKernel4 := Kernel4.Gen.facts) := fun m ρ _ => Kernel4.Gen.frame m ρ

theorem dh_frame_ideal : quiescent_Kernel4Ideal (hKernel4Ideal := Kernel4Ideal.Gen.facts) := fun m ρ _ => Kernel4Ideal.Gen.frame m ρ

theorem dh_reference_frame : quiescent_Reference4Ideal (hReference4Ideal := Reference4Ideal.Gen.facts) :=
  fun m ρ _ => (θ_run _ _ _).mono (fun r h => ⟨fun c => (h c).2, sem_eq_zero_of_no_sems (by decide) r.2⟩) (Reference4Ideal.Value.run m ρ)

theorem dwup_frame : quiescent_Kernel5 (hKernel5 := Kernel5.Gen.facts) := fun m ρ _ => Kernel5.Gen.frame m ρ

theorem dwup_frame_ideal : quiescent_Kernel5Ideal (hKernel5Ideal := Kernel5Ideal.Gen.facts) := fun m ρ _ => Kernel5Ideal.Gen.frame m ρ

theorem dwup_reference_frame : quiescent_Reference5Ideal (hReference5Ideal := Reference5Ideal.Gen.facts) :=
  fun m ρ _ => (θ_run _ _ _).mono (fun r h => ⟨fun c => (h c).2, sem_eq_zero_of_no_sems (by decide) r.2⟩) (Reference5Ideal.Value.run m ρ)

theorem up_frame : quiescent_Kernel6 (hKernel6 := Kernel6.Gen.facts) := fun m ρ _ => Kernel6.Gen.frame m ρ

theorem up_frame_ideal : quiescent_Kernel6Ideal (hKernel6Ideal := Kernel6Ideal.Gen.facts) := fun m ρ _ => Kernel6Ideal.Gen.frame m ρ

theorem up_reference_frame : quiescent_Reference6Ideal (hReference6Ideal := Reference6Ideal.Gen.facts) :=
  fun m ρ _ => (θ_run _ _ _).mono (fun r h => ⟨fun c => (h c).2.2, sem_eq_zero_of_no_sems (by decide) r.2⟩) (Reference6Ideal.Value.run m ρ)

theorem down_frame : quiescent_Kernel7 (hKernel7 := Kernel7.Gen.facts) := fun m ρ _ => Kernel7.Gen.frame m ρ

theorem down_frame_ideal : quiescent_Kernel7Ideal (hKernel7Ideal := Kernel7Ideal.Gen.facts) := fun m ρ _ => Kernel7Ideal.Gen.frame m ρ

theorem down_reference_frame : quiescent_Reference7Ideal (hReference7Ideal := Reference7Ideal.Gen.facts) :=
  fun m ρ _ => (θ_run _ _ _).mono (fun r h => ⟨fun c => (h c).2, sem_eq_zero_of_no_sems (by decide) r.2⟩) (Reference7Ideal.Value.run m ρ)

theorem gates_frame : quiescent_Kernel8 (hKernel8 := Kernel8.Gen.facts) := fun m ρ _ => Kernel8.Gen.frame m ρ

theorem gates_frame_ideal : quiescent_Kernel8Ideal (hKernel8Ideal := Kernel8Ideal.Gen.facts) := fun m ρ _ => Kernel8Ideal.Gen.frame m ρ

theorem gates_reference_frame : quiescent_Reference8Ideal (hReference8Ideal := Reference8Ideal.Gen.facts) :=
  fun m ρ _ => (θ_run _ _ _).mono (fun r h => ⟨fun c => (h c).2, sem_eq_zero_of_no_sems (by decide) r.2⟩) (Reference8Ideal.Value.run m ρ)

theorem gates_dh_frame : quiescent_Kernel9 (hKernel9 := Kernel9.Gen.facts) := fun m ρ _ => Kernel9.Gen.frame m ρ

theorem gates_dh_frame_ideal : quiescent_Kernel9Ideal (hKernel9Ideal := Kernel9Ideal.Gen.facts) := fun m ρ _ => Kernel9Ideal.Gen.frame m ρ

theorem gates_dh_reference_frame : quiescent_Reference9Ideal (hReference9Ideal := Reference9Ideal.Gen.facts) :=
  fun m ρ _ => (θ_run _ _ _).mono (fun r h => ⟨fun c => (h c).2, sem_eq_zero_of_no_sems (by decide) r.2⟩) (Reference9Ideal.Value.run m ρ)

theorem gates_dw_frame : quiescent_Kernel10 (hKernel10 := Kernel10.Gen.facts) := fun m ρ _ => Kernel10.Gen.frame m ρ

theorem gates_dw_frame_ideal : quiescent_Kernel10Ideal (hKernel10Ideal := Kernel10Ideal.Gen.facts) := fun m ρ _ => Kernel10Ideal.Gen.frame m ρ

theorem gates_dw_reference_frame : quiescent_Reference10Ideal (hReference10Ideal := Reference10Ideal.Gen.facts) :=
  fun m ρ _ => (θ_run _ _ _).mono (fun r h => ⟨fun c => (h c).2, sem_eq_zero_of_no_sems (by decide) r.2⟩) (Reference10Ideal.Value.run m ρ)

theorem out_frame : quiescent_Kernel11 (hKernel11 := Kernel11.Gen.facts) := fun m ρ _ => Kernel11.Gen.frame m ρ

theorem out_frame_ideal : quiescent_Kernel11Ideal (hKernel11Ideal := Kernel11Ideal.Gen.facts) := fun m ρ _ => Kernel11Ideal.Gen.frame m ρ

theorem out_reference_frame : quiescent_Reference11Ideal (hReference11Ideal := Reference11Ideal.Gen.facts) :=
  fun m ρ _ => (θ_run _ _ _).mono (fun r h => ⟨fun c => (h c).2, sem_eq_zero_of_no_sems (by decide) r.2⟩) (Reference11Ideal.Value.run m ρ)

theorem out_da_frame : quiescent_Kernel12 (hKernel12 := Kernel12.Gen.facts) := fun m ρ _ => Kernel12.Gen.frame m ρ

theorem out_da_frame_ideal : quiescent_Kernel12Ideal (hKernel12Ideal := Kernel12Ideal.Gen.facts) := fun m ρ _ => Kernel12Ideal.Gen.frame m ρ

theorem out_da_reference_frame : quiescent_Reference12Ideal (hReference12Ideal := Reference12Ideal.Gen.facts) :=
  fun m ρ _ => (θ_run _ _ _).mono (fun r h => ⟨fun c => (h c).2, sem_eq_zero_of_no_sems (by decide) r.2⟩) (Reference12Ideal.Value.run m ρ)

theorem out_dw_frame : quiescent_Kernel13 (hKernel13 := Kernel13.Gen.facts) := fun m ρ _ => Kernel13.Gen.frame m ρ

theorem out_dw_frame_ideal : quiescent_Kernel13Ideal (hKernel13Ideal := Kernel13Ideal.Gen.facts) := fun m ρ _ => Kernel13Ideal.Gen.frame m ρ

theorem out_dw_reference_frame : quiescent_Reference13Ideal (hReference13Ideal := Reference13Ideal.Gen.facts) :=
  fun m ρ _ => (θ_run _ _ _).mono (fun r h => ⟨fun c => (h c).2, sem_eq_zero_of_no_sems (by decide) r.2⟩) (Reference13Ideal.Value.run m ρ)

end Cert

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bits
public import proofs.«01_k».proof.Proof.RefRun
public import proofs.«01_k».proof.Proof.Value
public import proofs.«01_k».proof.Proof.Mlp

@[expose] public section

noncomputable section

namespace Cert.Proof

open Idealize.ShloMosaic Idealize.SL.Sem

theorem kernel_frame : Cert.quiescent_Kernel (hKernel := Cert.Kernel.Gen.facts) :=
  Cert.KernelIdeal.Scan.kernel_eq.mp Cert.KernelIdeal.Scan.frameBits

theorem kernelIdeal_frame : Cert.quiescent_KernelIdeal (hKernelIdeal := Cert.KernelIdeal.Gen.facts) :=
  fun m ρ _ => Cert.KernelIdeal.Scan.frame_run m ρ

theorem kernelIdeal_frame_finite : Cert.quiescent_KernelIdeal_pre_finite (hKernelIdeal := Cert.KernelIdeal.Gen.facts) (hPre_finite := Cert.Scan.finite_facts) :=
  fun m ρ _ => Cert.KernelIdeal.Scan.frame_run m ρ

theorem reference_frame : Cert.quiescent_ReferenceIdeal (hReferenceIdeal := Cert.ReferenceIdeal.Gen.facts) :=
  fun m ρ _ => Cert.ReferenceIdeal.Scan.frame_run m ρ

theorem reference_frame_finite : Cert.quiescent_ReferenceIdeal_pre_finite (hReferenceIdeal := Cert.ReferenceIdeal.Gen.facts) (hPre_finite := Cert.Scan.finite_facts) :=
  fun m ρ _ => Cert.ReferenceIdeal.Scan.frame_run m ρ

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts, Cert.Scan.finite_facts,
    kernel_frame, kernelIdeal_frame, kernelIdeal_frame_finite, reference_frame, reference_frame_finite,
    Cert.du_frame, Cert.du_frame_ideal, Cert.du_reference_frame,
    Cert.dwdown_frame, Cert.dwdown_frame_ideal, Cert.dwdown_reference_frame,
    Cert.dh_frame, Cert.dh_frame_ideal, Cert.dh_reference_frame,
    Cert.dwup_frame, Cert.dwup_frame_ideal, Cert.dwup_reference_frame,
    Cert.up_frame, Cert.up_frame_ideal, Cert.up_reference_frame,
    Cert.down_frame, Cert.down_frame_ideal, Cert.down_reference_frame,
    Cert.gates_frame, Cert.gates_frame_ideal, Cert.gates_reference_frame,
    Cert.gates_dh_frame, Cert.gates_dh_frame_ideal, Cert.gates_dh_reference_frame,
    Cert.gates_dw_frame, Cert.gates_dw_frame_ideal, Cert.gates_dw_reference_frame,
    Cert.out_frame, Cert.out_frame_ideal, Cert.out_reference_frame,
    Cert.out_da_frame, Cert.out_da_frame_ideal, Cert.out_da_reference_frame,
    Cert.out_dw_frame, Cert.out_dw_frame_ideal, Cert.out_dw_reference_frame,
    trivial, algebraic, trivial, Cert.du_same, trivial, Cert.dwdown_same, trivial, Cert.dh_same, trivial, Cert.dwup_same,
    trivial, Cert.up_same, trivial, Cert.down_same,
    trivial, Cert.gates_same, trivial, Cert.gates_dh_same, trivial, Cert.gates_dw_same,
    trivial, Cert.out_same, trivial, Cert.out_da_same, trivial, Cert.out_dw_same⟩

end Cert.Proof

end
